-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7)
      ∧ r.2.mem ((c.tc : Thread Cert.Kernel30.nD Cert.Kernel30.τ).loc Cert.Kernel30.main_arg8) = m ((c.tc : Thread Cert.Kernel30.nD Cert.Kernel30.τ).loc Cert.Kernel30.main_arg8)
      ∧ r.2.mem ((c.tc : Thread Cert.Kernel30.nD Cert.Kernel30.τ).loc Cert.Kernel30.main_arg9) = m ((c.tc : Thread Cert.Kernel30.nD Cert.Kernel30.τ).loc Cert.Kernel30.main_arg9)
      ∧ r.2.mem ((c.tc : Thread Cert.Kernel30.nD Cert.Kernel30.τ).loc Cert.Kernel30.main_arg10) = m ((c.tc : Thread Cert.Kernel30.nD Cert.Kernel30.τ).loc Cert.Kernel30.main_arg10)
      ∧ r.2.mem ((c.tc : Thread Cert.Kernel30.nD Cert.Kernel30.τ).loc Cert.Kernel30.main_arg11) = m ((c.tc : Thread Cert.Kernel30.nD Cert.Kernel30.τ).loc Cert.Kernel30.main_arg11)
      ∧ r.2.mem ((c.tc : Thread Cert.Kernel30.nD Cert.Kernel30.τ).loc Cert.Kernel30.main_arg12) = m ((c.tc : Thread Cert.Kernel30.nD Cert.Kernel30.τ).loc Cert.Kernel30.main_arg12)
      ∧ r.2.mem ((c.tc : Thread Cert.Kernel30.nD Cert.Kernel30.τ).loc Cert.Kernel30.main_arg13) = m ((c.tc : Thread Cert.Kernel30.nD Cert.Kernel30.τ).loc Cert.Kernel30.main_arg13)
      ∧ r.2.mem ((c.tc : Thread Cert.Kernel30.nD Cert.Kernel30.τ).loc Cert.Kernel30.main_arg14) = m ((c.tc : Thread Cert.Kernel30.nD Cert.Kernel30.τ).loc Cert.Kernel30.main_arg14)
      ∧ r.2.mem ((c.tc : Thread Cert.Kernel30.nD Cert.Kernel30.τ).loc Cert.Kernel30.main_arg15) = m ((c.tc : Thread Cert.Kernel30.nD Cert.Kernel30.τ).loc Cert.Kernel30.main_arg15)
      ∧ r.2.mem ((c.tc : Thread Cert.Kernel30.nD Cert.Kernel30.τ).loc Cert.Kernel30.main_arg16) = m ((c.tc : Thread Cert.Kernel30.nD Cert.Kernel30.τ).loc Cert.Kernel30.main_arg16)
      ∧ r.2.mem ((c.tc : Thread Cert.Kernel30.nD Cert.Kernel30.τ).loc Cert.Kernel30.main_arg17) = m ((c.tc : Thread Cert.Kernel30.nD Cert.Kernel30.τ).loc Cert.Kernel30.main_arg17)
      ∧ r.2.mem ((c.tc : Thread Cert.Kernel30.nD Cert.Kernel30.τ).loc Cert.Kernel30.main_arg18) = m ((c.tc : Thread Cert.Kernel30.nD Cert.Kernel30.τ).loc Cert.Kernel30.main_arg18))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
      ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
      ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
      ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10)
      ∧ r.2.mem ((c.tc : Thread Cert.Kernel30Ideal.nD Cert.Kernel30Ideal.τ).loc Cert.Kernel30Ideal.main_arg11) = m ((c.tc : Thread Cert.Kernel30Ideal.nD Cert.Kernel30Ideal.τ).loc Cert.Kernel30Ideal.main_arg11)
      ∧ r.2.mem ((c.tc : Thread Cert.Kernel30Ideal.nD Cert.Kernel30Ideal.τ).loc Cert.Kernel30Ideal.main_arg12) = m ((c.tc : Thread Cert.Kernel30Ideal.nD Cert.Kernel30Ideal.τ).loc Cert.Kernel30Ideal.main_arg12)
      ∧ r.2.mem ((c.tc : Thread Cert.Kernel30Ideal.nD Cert.Kernel30Ideal.τ).loc Cert.Kernel30Ideal.main_arg13) = m ((c.tc : Thread Cert.Kernel30Ideal.nD Cert.Kernel30Ideal.τ).loc Cert.Kernel30Ideal.main_arg13)
      ∧ r.2.mem ((c.tc : Thread Cert.Kernel30Ideal.nD Cert.Kernel30Ideal.τ).loc Cert.Kernel30Ideal.main_arg14) = m ((c.tc : Thread Cert.Kernel30Ideal.nD Cert.Kernel30Ideal.τ).loc Cert.Kernel30Ideal.main_arg14)
      ∧ r.2.mem ((c.tc : Thread Cert.Kernel30Ideal.nD Cert.Kernel30Ideal.τ).loc Cert.Kernel30Ideal.main_arg15) = m ((c.tc : Thread Cert.Kernel30Ideal.nD Cert.Kernel30Ideal.τ).loc Cert.Kernel30Ideal.main_arg15)
      ∧ r.2.mem ((c.tc : Thread Cert.Kernel30Ideal.nD Cert.Kernel30Ideal.τ).loc Cert.Kernel30Ideal.main_arg16) = m ((c.tc : Thread Cert.Kernel30Ideal.nD Cert.Kernel30Ideal.τ).loc Cert.Kernel30Ideal.main_arg16)
      ∧ r.2.mem ((c.tc : Thread Cert.Kernel30Ideal.nD Cert.Kernel30Ideal.τ).loc Cert.Kernel30Ideal.main_arg17) = m ((c.tc : Thread Cert.Kernel30Ideal.nD Cert.Kernel30Ideal.τ).loc Cert.Kernel30Ideal.main_arg17)
      ∧ r.2.mem ((c.tc : Thread Cert.Kernel30Ideal.nD Cert.Kernel30Ideal.τ).loc Cert.Kernel30Ideal.main_arg18) = m ((c.tc : Thread Cert.Kernel30Ideal.nD Cert.Kernel30Ideal.τ).loc Cert.Kernel30Ideal.main_arg18))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8)
      ∧ r.2.mem ((c.tc : Thread Cert.Reference30Ideal.nD Cert.Reference30Ideal.τ).loc Cert.Reference30Ideal.main_arg9) = m ((c.tc : Thread Cert.Reference30Ideal.nD Cert.Reference30Ideal.τ).loc Cert.Reference30Ideal.main_arg9)
      ∧ r.2.mem ((c.tc : Thread Cert.Reference30Ideal.nD Cert.Reference30Ideal.τ).loc Cert.Reference30Ideal.main_arg10) = m ((c.tc : Thread Cert.Reference30Ideal.nD Cert.Reference30Ideal.τ).loc Cert.Reference30Ideal.main_arg10)
      ∧ r.2.mem ((c.tc : Thread Cert.Reference30Ideal.nD Cert.Reference30Ideal.τ).loc Cert.Reference30Ideal.main_arg11) = m ((c.tc : Thread Cert.Reference30Ideal.nD Cert.Reference30Ideal.τ).loc Cert.Reference30Ideal.main_arg11)
      ∧ r.2.mem ((c.tc : Thread Cert.Reference30Ideal.nD Cert.Reference30Ideal.τ).loc Cert.Reference30Ideal.main_arg12) = m ((c.tc : Thread Cert.Reference30Ideal.nD Cert.Reference30Ideal.τ).loc Cert.Reference30Ideal.main_arg12)
      ∧ r.2.mem ((c.tc : Thread Cert.Reference30Ideal.nD Cert.Reference30Ideal.τ).loc Cert.Reference30Ideal.main_arg13) = m ((c.tc : Thread Cert.Reference30Ideal.nD Cert.Reference30Ideal.τ).loc Cert.Reference30Ideal.main_arg13)
      ∧ r.2.mem ((c.tc : Thread Cert.Reference30Ideal.nD Cert.Reference30Ideal.τ).loc Cert.Reference30Ideal.main_arg14) = m ((c.tc : Thread Cert.Reference30Ideal.nD Cert.Reference30Ideal.τ).loc Cert.Reference30Ideal.main_arg14)
      ∧ r.2.mem ((c.tc : Thread Cert.Reference30Ideal.nD Cert.Reference30Ideal.τ).loc Cert.Reference30Ideal.main_arg15) = m ((c.tc : Thread Cert.Reference30Ideal.nD Cert.Reference30Ideal.τ).loc Cert.Reference30Ideal.main_arg15)
      ∧ r.2.mem ((c.tc : Thread Cert.Reference30Ideal.nD Cert.Reference30Ideal.τ).loc Cert.Reference30Ideal.main_arg16) = m ((c.tc : Thread Cert.Reference30Ideal.nD Cert.Reference30Ideal.τ).loc Cert.Reference30Ideal.main_arg16)
      ∧ r.2.mem ((c.tc : Thread Cert.Reference30Ideal.nD Cert.Reference30Ideal.τ).loc Cert.Reference30Ideal.main_arg17) = m ((c.tc : Thread Cert.Reference30Ideal.nD Cert.Reference30Ideal.τ).loc Cert.Reference30Ideal.main_arg17)
      ∧ r.2.mem ((c.tc : Thread Cert.Reference30Ideal.nD Cert.Reference30Ideal.τ).loc Cert.Reference30Ideal.main_arg18) = m ((c.tc : Thread Cert.Reference30Ideal.nD Cert.Reference30Ideal.τ).loc Cert.Reference30Ideal.main_arg18))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v173_0)) (v1 : (c : Dev Cert.KernelIdeal.nD) → Buf (Elt Ideal) ((c.tc : Thread Cert.KernelIdeal.nD Cert.KernelIdeal.τ).loc Cert.KernelIdeal.main_v173_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173_0) = v0 c
          ∧ r.2.mem ((c.tc : Thread Cert.KernelIdeal.nD Cert.KernelIdeal.τ).loc Cert.KernelIdeal.main_v173_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v17)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v9_0)) (v1 : (c : Dev Cert.Kernel19Ideal.nD) → Buf (Elt Ideal) ((c.tc : Thread Cert.Kernel19Ideal.nD Cert.Kernel19Ideal.τ).loc Cert.Kernel19Ideal.main_v9_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v9_0) = v0 c
          ∧ r.2.mem ((c.tc : Thread Cert.Kernel19Ideal.nD Cert.Kernel19Ideal.τ).loc Cert.Kernel19Ideal.main_v9_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_v20) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v8_0)) (v1 : (c : Dev Cert.Kernel21Ideal.nD) → Buf (Elt Ideal) ((c.tc : Thread Cert.Kernel21Ideal.nD Cert.Kernel21Ideal.τ).loc Cert.Kernel21Ideal.main_v8_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v8_0) = v0 c
          ∧ r.2.mem ((c.tc : Thread Cert.Kernel21Ideal.nD Cert.Kernel21Ideal.τ).loc Cert.Kernel21Ideal.main_v8_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v29_0)) (v1 : (c : Dev Cert.Kernel22Ideal.nD) → Buf (Elt Ideal) ((c.tc : Thread Cert.Kernel22Ideal.nD Cert.Kernel22Ideal.τ).loc Cert.Kernel22Ideal.main_v29_1)) (v2 : (c : Dev Cert.Kernel22Ideal.nD) → Buf (Elt Ideal) ((c.tc : Thread Cert.Kernel22Ideal.nD Cert.Kernel22Ideal.τ).loc Cert.Kernel22Ideal.main_v29_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v29_0) = v0 c
          ∧ r.2.mem ((c.tc : Thread Cert.Kernel22Ideal.nD Cert.Kernel22Ideal.τ).loc Cert.Kernel22Ideal.main_v29_1) = v1 c
          ∧ r.2.mem ((c.tc : Thread Cert.Kernel22Ideal.nD Cert.Kernel22Ideal.τ).loc Cert.Kernel22Ideal.main_v29_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v70) = v0 c
          ∧ r.2.mem ((c.tc : Thread Cert.Reference22Ideal.nD Cert.Reference22Ideal.τ).loc Cert.Reference22Ideal.main_v75) = v1 c
          ∧ r.2.mem ((c.tc : Thread Cert.Reference22Ideal.nD Cert.Reference22Ideal.τ).loc Cert.Reference22Ideal.main_v78) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)) (v3 : (c : Dev Cert.Kernel25Ideal.nD) → Buf (Elt Ideal) ((c.tc : Thread Cert.Kernel25Ideal.nD Cert.Kernel25Ideal.τ).loc Cert.Kernel25Ideal.main_v4_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_v4_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_v27) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg1) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)
      ∧ m' ((c.tc : Thread Cert.Reference30Ideal.nD Cert.Reference30Ideal.τ).loc Cert.Reference30Ideal.main_arg8) = m ((c.tc : Thread Cert.Kernel30Ideal.nD Cert.Kernel30Ideal.τ).loc Cert.Kernel30Ideal.main_arg8)
      ∧ m' ((c.tc : Thread Cert.Reference30Ideal.nD Cert.Reference30Ideal.τ).loc Cert.Reference30Ideal.main_arg9) = m ((c.tc : Thread Cert.Kernel30Ideal.nD Cert.Kernel30Ideal.τ).loc Cert.Kernel30Ideal.main_arg9)
      ∧ m' ((c.tc : Thread Cert.Reference30Ideal.nD Cert.Reference30Ideal.τ).loc Cert.Reference30Ideal.main_arg10) = m ((c.tc : Thread Cert.Kernel30Ideal.nD Cert.Kernel30Ideal.τ).loc Cert.Kernel30Ideal.main_arg10)
      ∧ m' ((c.tc : Thread Cert.Reference30Ideal.nD Cert.Reference30Ideal.τ).loc Cert.Reference30Ideal.main_arg11) = m ((c.tc : Thread Cert.Kernel30Ideal.nD Cert.Kernel30Ideal.τ).loc Cert.Kernel30Ideal.main_arg11)
      ∧ m' ((c.tc : Thread Cert.Reference30Ideal.nD Cert.Reference30Ideal.τ).loc Cert.Reference30Ideal.main_arg12) = m ((c.tc : Thread Cert.Kernel30Ideal.nD Cert.Kernel30Ideal.τ).loc Cert.Kernel30Ideal.main_arg12)
      ∧ m' ((c.tc : Thread Cert.Reference30Ideal.nD Cert.Reference30Ideal.τ).loc Cert.Reference30Ideal.main_arg13) = m ((c.tc : Thread Cert.Kernel30Ideal.nD Cert.Kernel30Ideal.τ).loc Cert.Kernel30Ideal.main_arg13)
      ∧ m' ((c.tc : Thread Cert.Reference30Ideal.nD Cert.Reference30Ideal.τ).loc Cert.Reference30Ideal.main_arg14) = m ((c.tc : Thread Cert.Kernel30Ideal.nD Cert.Kernel30Ideal.τ).loc Cert.Kernel30Ideal.main_arg14)
      ∧ m' ((c.tc : Thread Cert.Reference30Ideal.nD Cert.Reference30Ideal.τ).loc Cert.Reference30Ideal.main_arg15) = m ((c.tc : Thread Cert.Kernel30Ideal.nD Cert.Kernel30Ideal.τ).loc Cert.Kernel30Ideal.main_arg15)
      ∧ m' ((c.tc : Thread Cert.Reference30Ideal.nD Cert.Reference30Ideal.τ).loc Cert.Reference30Ideal.main_arg16) = m ((c.tc : Thread Cert.Kernel30Ideal.nD Cert.Kernel30Ideal.τ).loc Cert.Kernel30Ideal.main_arg16)
      ∧ m' ((c.tc : Thread Cert.Reference30Ideal.nD Cert.Reference30Ideal.τ).loc Cert.Reference30Ideal.main_arg17) = m ((c.tc : Thread Cert.Kernel30Ideal.nD Cert.Kernel30Ideal.τ).loc Cert.Kernel30Ideal.main_arg17)
      ∧ m' ((c.tc : Thread Cert.Reference30Ideal.nD Cert.Reference30Ideal.τ).loc Cert.Reference30Ideal.main_arg18) = m ((c.tc : Thread Cert.Kernel30Ideal.nD Cert.Kernel30Ideal.τ).loc Cert.Kernel30Ideal.main_arg18)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)) (v4 : (c : Dev Cert.Kernel30Ideal.nD) → Buf (Elt Ideal) ((c.tc : Thread Cert.Kernel30Ideal.nD Cert.Kernel30Ideal.τ).loc Cert.Kernel30Ideal.main_v0_4)) (v5 : (c : Dev Cert.Kernel30Ideal.nD) → Buf (Elt Ideal) ((c.tc : Thread Cert.Kernel30Ideal.nD Cert.Kernel30Ideal.τ).loc Cert.Kernel30Ideal.main_v0_5)) (v6 : (c : Dev Cert.Kernel30Ideal.nD) → Buf (Elt Ideal) ((c.tc : Thread Cert.Kernel30Ideal.nD Cert.Kernel30Ideal.τ).loc Cert.Kernel30Ideal.main_v0_6)) (v7 : (c : Dev Cert.Kernel30Ideal.nD) → Buf (Elt Ideal) ((c.tc : Thread Cert.Kernel30Ideal.nD Cert.Kernel30Ideal.τ).loc Cert.Kernel30Ideal.main_v0_7)) (v8 : (c : Dev Cert.Kernel30Ideal.nD) → Buf (Elt Ideal) ((c.tc : Thread Cert.Kernel30Ideal.nD Cert.Kernel30Ideal.τ).loc Cert.Kernel30Ideal.main_v0_8)) (v9 : (c : Dev Cert.Kernel30Ideal.nD) → Buf (Elt Ideal) ((c.tc : Thread Cert.Kernel30Ideal.nD Cert.Kernel30Ideal.τ).loc Cert.Kernel30Ideal.main_v0_9)) (v10 : (c : Dev Cert.Kernel30Ideal.nD) → Buf (Elt Ideal) ((c.tc : Thread Cert.Kernel30Ideal.nD Cert.Kernel30Ideal.τ).loc Cert.Kernel30Ideal.main_v0_10)) (v11 : (c : Dev Cert.Kernel30Ideal.nD) → Buf (Elt Ideal) ((c.tc : Thread Cert.Kernel30Ideal.nD Cert.Kernel30Ideal.τ).loc Cert.Kernel30Ideal.main_v0_11)) (v12 : (c : Dev Cert.Kernel30Ideal.nD) → Buf (Elt Ideal) ((c.tc : Thread Cert.Kernel30Ideal.nD Cert.Kernel30Ideal.τ).loc Cert.Kernel30Ideal.main_v0_12)) (v13 : (c : Dev Cert.Kernel30Ideal.nD) → Buf (Elt Ideal) ((c.tc : Thread Cert.Kernel30Ideal.nD Cert.Kernel30Ideal.τ).loc Cert.Kernel30Ideal.main_v0_13)) (v14 : (c : Dev Cert.Kernel30Ideal.nD) → Buf (Elt Ideal) ((c.tc : Thread Cert.Kernel30Ideal.nD Cert.Kernel30Ideal.τ).loc Cert.Kernel30Ideal.main_v0_14)) (v15 : (c : Dev Cert.Kernel30Ideal.nD) → Buf (Elt Ideal) ((c.tc : Thread Cert.Kernel30Ideal.nD Cert.Kernel30Ideal.τ).loc Cert.Kernel30Ideal.main_v0_15)) (v16 : (c : Dev Cert.Kernel30Ideal.nD) → Buf (Elt Ideal) ((c.tc : Thread Cert.Kernel30Ideal.nD Cert.Kernel30Ideal.τ).loc Cert.Kernel30Ideal.main_v0_16)) (v17 : (c : Dev Cert.Kernel30Ideal.nD) → Buf (Elt Ideal) ((c.tc : Thread Cert.Kernel30Ideal.nD Cert.Kernel30Ideal.τ).loc Cert.Kernel30Ideal.main_v0_17)) (v18 : (c : Dev Cert.Kernel30Ideal.nD) → Buf (Elt Ideal) ((c.tc : Thread Cert.Kernel30Ideal.nD Cert.Kernel30Ideal.τ).loc Cert.Kernel30Ideal.main_v0_18)) (v19 : (c : Dev Cert.Kernel30Ideal.nD) → Buf (Elt Ideal) ((c.tc : Thread Cert.Kernel30Ideal.nD Cert.Kernel30Ideal.τ).loc Cert.Kernel30Ideal.main_v0_19)) (v20 : (c : Dev Cert.Kernel30Ideal.nD) → Buf (Elt Ideal) ((c.tc : Thread Cert.Kernel30Ideal.nD Cert.Kernel30Ideal.τ).loc Cert.Kernel30Ideal.main_v0_20)) (v21 : (c : Dev Cert.Kernel30Ideal.nD) → Buf (Elt Ideal) ((c.tc : Thread Cert.Kernel30Ideal.nD Cert.Kernel30Ideal.τ).loc Cert.Kernel30Ideal.main_v0_21)) (v22 : (c : Dev Cert.Kernel30Ideal.nD) → Buf (Elt Ideal) ((c.tc : Thread Cert.Kernel30Ideal.nD Cert.Kernel30Ideal.τ).loc Cert.Kernel30Ideal.main_v0_22)) (v23 : (c : Dev Cert.Kernel30Ideal.nD) → Buf (Elt Ideal) ((c.tc : Thread Cert.Kernel30Ideal.nD Cert.Kernel30Ideal.τ).loc Cert.Kernel30Ideal.main_v0_23)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_v0_4) = v4 c
          ∧ r.2.mem ((c.tc : Thread Cert.Kernel30Ideal.nD Cert.Kernel30Ideal.τ).loc Cert.Kernel30Ideal.main_v0_5) = v5 c
          ∧ r.2.mem ((c.tc : Thread Cert.Kernel30Ideal.nD Cert.Kernel30Ideal.τ).loc Cert.Kernel30Ideal.main_v0_6) = v6 c
          ∧ r.2.mem ((c.tc : Thread Cert.Kernel30Ideal.nD Cert.Kernel30Ideal.τ).loc Cert.Kernel30Ideal.main_v0_7) = v7 c
          ∧ r.2.mem ((c.tc : Thread Cert.Kernel30Ideal.nD Cert.Kernel30Ideal.τ).loc Cert.Kernel30Ideal.main_v0_8) = v8 c
          ∧ r.2.mem ((c.tc : Thread Cert.Kernel30Ideal.nD Cert.Kernel30Ideal.τ).loc Cert.Kernel30Ideal.main_v0_9) = v9 c
          ∧ r.2.mem ((c.tc : Thread Cert.Kernel30Ideal.nD Cert.Kernel30Ideal.τ).loc Cert.Kernel30Ideal.main_v0_10) = v10 c
          ∧ r.2.mem ((c.tc : Thread Cert.Kernel30Ideal.nD Cert.Kernel30Ideal.τ).loc Cert.Kernel30Ideal.main_v0_11) = v11 c
          ∧ r.2.mem ((c.tc : Thread Cert.Kernel30Ideal.nD Cert.Kernel30Ideal.τ).loc Cert.Kernel30Ideal.main_v0_12) = v12 c
          ∧ r.2.mem ((c.tc : Thread Cert.Kernel30Ideal.nD Cert.Kernel30Ideal.τ).loc Cert.Kernel30Ideal.main_v0_13) = v13 c
          ∧ r.2.mem ((c.tc : Thread Cert.Kernel30Ideal.nD Cert.Kernel30Ideal.τ).loc Cert.Kernel30Ideal.main_v0_14) = v14 c
          ∧ r.2.mem ((c.tc : Thread Cert.Kernel30Ideal.nD Cert.Kernel30Ideal.τ).loc Cert.Kernel30Ideal.main_v0_15) = v15 c
          ∧ r.2.mem ((c.tc : Thread Cert.Kernel30Ideal.nD Cert.Kernel30Ideal.τ).loc Cert.Kernel30Ideal.main_v0_16) = v16 c
          ∧ r.2.mem ((c.tc : Thread Cert.Kernel30Ideal.nD Cert.Kernel30Ideal.τ).loc Cert.Kernel30Ideal.main_v0_17) = v17 c
          ∧ r.2.mem ((c.tc : Thread Cert.Kernel30Ideal.nD Cert.Kernel30Ideal.τ).loc Cert.Kernel30Ideal.main_v0_18) = v18 c
          ∧ r.2.mem ((c.tc : Thread Cert.Kernel30Ideal.nD Cert.Kernel30Ideal.τ).loc Cert.Kernel30Ideal.main_v0_19) = v19 c
          ∧ r.2.mem ((c.tc : Thread Cert.Kernel30Ideal.nD Cert.Kernel30Ideal.τ).loc Cert.Kernel30Ideal.main_v0_20) = v20 c
          ∧ r.2.mem ((c.tc : Thread Cert.Kernel30Ideal.nD Cert.Kernel30Ideal.τ).loc Cert.Kernel30Ideal.main_v0_21) = v21 c
          ∧ r.2.mem ((c.tc : Thread Cert.Kernel30Ideal.nD Cert.Kernel30Ideal.τ).loc Cert.Kernel30Ideal.main_v0_22) = v22 c
          ∧ r.2.mem ((c.tc : Thread Cert.Kernel30Ideal.nD Cert.Kernel30Ideal.τ).loc Cert.Kernel30Ideal.main_v0_23) = v23 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
          ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
          ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
          ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10)
          ∧ r.2.mem ((c.tc : Thread Cert.Kernel30Ideal.nD Cert.Kernel30Ideal.τ).loc Cert.Kernel30Ideal.main_arg11) = m ((c.tc : Thread Cert.Kernel30Ideal.nD Cert.Kernel30Ideal.τ).loc Cert.Kernel30Ideal.main_arg11)
          ∧ r.2.mem ((c.tc : Thread Cert.Kernel30Ideal.nD Cert.Kernel30Ideal.τ).loc Cert.Kernel30Ideal.main_arg12) = m ((c.tc : Thread Cert.Kernel30Ideal.nD Cert.Kernel30Ideal.τ).loc Cert.Kernel30Ideal.main_arg12)
          ∧ r.2.mem ((c.tc : Thread Cert.Kernel30Ideal.nD Cert.Kernel30Ideal.τ).loc Cert.Kernel30Ideal.main_arg13) = m ((c.tc : Thread Cert.Kernel30Ideal.nD Cert.Kernel30Ideal.τ).loc Cert.Kernel30Ideal.main_arg13)
          ∧ r.2.mem ((c.tc : Thread Cert.Kernel30Ideal.nD Cert.Kernel30Ideal.τ).loc Cert.Kernel30Ideal.main_arg14) = m ((c.tc : Thread Cert.Kernel30Ideal.nD Cert.Kernel30Ideal.τ).loc Cert.Kernel30Ideal.main_arg14)
          ∧ r.2.mem ((c.tc : Thread Cert.Kernel30Ideal.nD Cert.Kernel30Ideal.τ).loc Cert.Kernel30Ideal.main_arg15) = m ((c.tc : Thread Cert.Kernel30Ideal.nD Cert.Kernel30Ideal.τ).loc Cert.Kernel30Ideal.main_arg15)
          ∧ r.2.mem ((c.tc : Thread Cert.Kernel30Ideal.nD Cert.Kernel30Ideal.τ).loc Cert.Kernel30Ideal.main_arg16) = m ((c.tc : Thread Cert.Kernel30Ideal.nD Cert.Kernel30Ideal.τ).loc Cert.Kernel30Ideal.main_arg16)
          ∧ r.2.mem ((c.tc : Thread Cert.Kernel30Ideal.nD Cert.Kernel30Ideal.τ).loc Cert.Kernel30Ideal.main_arg17) = m ((c.tc : Thread Cert.Kernel30Ideal.nD Cert.Kernel30Ideal.τ).loc Cert.Kernel30Ideal.main_arg17)
          ∧ r.2.mem ((c.tc : Thread Cert.Kernel30Ideal.nD Cert.Kernel30Ideal.τ).loc Cert.Kernel30Ideal.main_arg18) = m ((c.tc : Thread Cert.Kernel30Ideal.nD Cert.Kernel30Ideal.τ).loc Cert.Kernel30Ideal.main_arg18))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_v25) = v4 c
          ∧ r.2.mem ((c.tc : Thread Cert.Reference30Ideal.nD Cert.Reference30Ideal.τ).loc Cert.Reference30Ideal.main_v49) = v5 c
          ∧ r.2.mem ((c.tc : Thread Cert.Reference30Ideal.nD Cert.Reference30Ideal.τ).loc Cert.Reference30Ideal.main_v30) = v6 c
          ∧ r.2.mem ((c.tc : Thread Cert.Reference30Ideal.nD Cert.Reference30Ideal.τ).loc Cert.Reference30Ideal.main_v36) = v7 c
          ∧ r.2.mem ((c.tc : Thread Cert.Reference30Ideal.nD Cert.Reference30Ideal.τ).loc Cert.Reference30Ideal.main_v50) = v8 c
          ∧ r.2.mem ((c.tc : Thread Cert.Reference30Ideal.nD Cert.Reference30Ideal.τ).loc Cert.Reference30Ideal.main_v74) = v9 c
          ∧ r.2.mem ((c.tc : Thread Cert.Reference30Ideal.nD Cert.Reference30Ideal.τ).loc Cert.Reference30Ideal.main_v55) = v10 c
          ∧ r.2.mem ((c.tc : Thread Cert.Reference30Ideal.nD Cert.Reference30Ideal.τ).loc Cert.Reference30Ideal.main_v61) = v11 c
          ∧ r.2.mem ((c.tc : Thread Cert.Reference30Ideal.nD Cert.Reference30Ideal.τ).loc Cert.Reference30Ideal.main_v75) = v12 c
          ∧ r.2.mem ((c.tc : Thread Cert.Reference30Ideal.nD Cert.Reference30Ideal.τ).loc Cert.Reference30Ideal.main_v99) = v13 c
          ∧ r.2.mem ((c.tc : Thread Cert.Reference30Ideal.nD Cert.Reference30Ideal.τ).loc Cert.Reference30Ideal.main_v80) = v14 c
          ∧ r.2.mem ((c.tc : Thread Cert.Reference30Ideal.nD Cert.Reference30Ideal.τ).loc Cert.Reference30Ideal.main_v86) = v15 c
          ∧ r.2.mem ((c.tc : Thread Cert.Reference30Ideal.nD Cert.Reference30Ideal.τ).loc Cert.Reference30Ideal.main_v100) = v16 c
          ∧ r.2.mem ((c.tc : Thread Cert.Reference30Ideal.nD Cert.Reference30Ideal.τ).loc Cert.Reference30Ideal.main_v124) = v17 c
          ∧ r.2.mem ((c.tc : Thread Cert.Reference30Ideal.nD Cert.Reference30Ideal.τ).loc Cert.Reference30Ideal.main_v105) = v18 c
          ∧ r.2.mem ((c.tc : Thread Cert.Reference30Ideal.nD Cert.Reference30Ideal.τ).loc Cert.Reference30Ideal.main_v111) = v19 c
          ∧ r.2.mem ((c.tc : Thread Cert.Reference30Ideal.nD Cert.Reference30Ideal.τ).loc Cert.Reference30Ideal.main_v125) = v20 c
          ∧ r.2.mem ((c.tc : Thread Cert.Reference30Ideal.nD Cert.Reference30Ideal.τ).loc Cert.Reference30Ideal.main_v149) = v21 c
          ∧ r.2.mem ((c.tc : Thread Cert.Reference30Ideal.nD Cert.Reference30Ideal.τ).loc Cert.Reference30Ideal.main_v130) = v22 c
          ∧ r.2.mem ((c.tc : Thread Cert.Reference30Ideal.nD Cert.Reference30Ideal.τ).loc Cert.Reference30Ideal.main_v136) = v23 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8)
          ∧ r.2.mem ((c.tc : Thread Cert.Reference30Ideal.nD Cert.Reference30Ideal.τ).loc Cert.Reference30Ideal.main_arg9) = m' ((c.tc : Thread Cert.Reference30Ideal.nD Cert.Reference30Ideal.τ).loc Cert.Reference30Ideal.main_arg9)
          ∧ r.2.mem ((c.tc : Thread Cert.Reference30Ideal.nD Cert.Reference30Ideal.τ).loc Cert.Reference30Ideal.main_arg10) = m' ((c.tc : Thread Cert.Reference30Ideal.nD Cert.Reference30Ideal.τ).loc Cert.Reference30Ideal.main_arg10)
          ∧ r.2.mem ((c.tc : Thread Cert.Reference30Ideal.nD Cert.Reference30Ideal.τ).loc Cert.Reference30Ideal.main_arg11) = m' ((c.tc : Thread Cert.Reference30Ideal.nD Cert.Reference30Ideal.τ).loc Cert.Reference30Ideal.main_arg11)
          ∧ r.2.mem ((c.tc : Thread Cert.Reference30Ideal.nD Cert.Reference30Ideal.τ).loc Cert.Reference30Ideal.main_arg12) = m' ((c.tc : Thread Cert.Reference30Ideal.nD Cert.Reference30Ideal.τ).loc Cert.Reference30Ideal.main_arg12)
          ∧ r.2.mem ((c.tc : Thread Cert.Reference30Ideal.nD Cert.Reference30Ideal.τ).loc Cert.Reference30Ideal.main_arg13) = m' ((c.tc : Thread Cert.Reference30Ideal.nD Cert.Reference30Ideal.τ).loc Cert.Reference30Ideal.main_arg13)
          ∧ r.2.mem ((c.tc : Thread Cert.Reference30Ideal.nD Cert.Reference30Ideal.τ).loc Cert.Reference30Ideal.main_arg14) = m' ((c.tc : Thread Cert.Reference30Ideal.nD Cert.Reference30Ideal.τ).loc Cert.Reference30Ideal.main_arg14)
          ∧ r.2.mem ((c.tc : Thread Cert.Reference30Ideal.nD Cert.Reference30Ideal.τ).loc Cert.Reference30Ideal.main_arg15) = m' ((c.tc : Thread Cert.Reference30Ideal.nD Cert.Reference30Ideal.τ).loc Cert.Reference30Ideal.main_arg15)
          ∧ r.2.mem ((c.tc : Thread Cert.Reference30Ideal.nD Cert.Reference30Ideal.τ).loc Cert.Reference30Ideal.main_arg16) = m' ((c.tc : Thread Cert.Reference30Ideal.nD Cert.Reference30Ideal.τ).loc Cert.Reference30Ideal.main_arg16)
          ∧ r.2.mem ((c.tc : Thread Cert.Reference30Ideal.nD Cert.Reference30Ideal.τ).loc Cert.Reference30Ideal.main_arg17) = m' ((c.tc : Thread Cert.Reference30Ideal.nD Cert.Reference30Ideal.τ).loc Cert.Reference30Ideal.main_arg17)
          ∧ r.2.mem ((c.tc : Thread Cert.Reference30Ideal.nD Cert.Reference30Ideal.τ).loc Cert.Reference30Ideal.main_arg18) = m' ((c.tc : Thread Cert.Reference30Ideal.nD Cert.Reference30Ideal.τ).loc Cert.Reference30Ideal.main_arg18))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_v20) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v5_0)) (v1 : (c : Dev Cert.Kernel32Ideal.nD) → Buf (Elt Ideal) ((c.tc : Thread Cert.Kernel32Ideal.nD Cert.Kernel32Ideal.τ).loc Cert.Kernel32Ideal.main_v5_1)) (v2 : (c : Dev Cert.Kernel32Ideal.nD) → Buf (Elt Ideal) ((c.tc : Thread Cert.Kernel32Ideal.nD Cert.Kernel32Ideal.τ).loc Cert.Kernel32Ideal.main_v5_2)) (v3 : (c : Dev Cert.Kernel32Ideal.nD) → Buf (Elt Ideal) ((c.tc : Thread Cert.Kernel32Ideal.nD Cert.Kernel32Ideal.τ).loc Cert.Kernel32Ideal.main_v5_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5_0) = v0 c
          ∧ r.2.mem ((c.tc : Thread Cert.Kernel32Ideal.nD Cert.Kernel32Ideal.τ).loc Cert.Kernel32Ideal.main_v5_1) = v1 c
          ∧ r.2.mem ((c.tc : Thread Cert.Kernel32Ideal.nD Cert.Kernel32Ideal.τ).loc Cert.Kernel32Ideal.main_v5_2) = v2 c
          ∧ r.2.mem ((c.tc : Thread Cert.Kernel32Ideal.nD Cert.Kernel32Ideal.τ).loc Cert.Kernel32Ideal.main_v5_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v14) = v0 c
          ∧ r.2.mem ((c.tc : Thread Cert.Reference32Ideal.nD Cert.Reference32Ideal.τ).loc Cert.Reference32Ideal.main_v27) = v1 c
          ∧ r.2.mem ((c.tc : Thread Cert.Reference32Ideal.nD Cert.Reference32Ideal.τ).loc Cert.Reference32Ideal.main_v35) = v2 c
          ∧ r.2.mem ((c.tc : Thread Cert.Reference32Ideal.nD Cert.Reference32Ideal.τ).loc Cert.Reference32Ideal.main_v43) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v8_0)) (v1 : (c : Dev Cert.Kernel33Ideal.nD) → Buf (Elt Ideal) ((c.tc : Thread Cert.Kernel33Ideal.nD Cert.Kernel33Ideal.τ).loc Cert.Kernel33Ideal.main_v8_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v8_0) = v0 c
          ∧ r.2.mem ((c.tc : Thread Cert.Kernel33Ideal.nD Cert.Kernel33Ideal.τ).loc Cert.Kernel33Ideal.main_v8_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v34) = v0 c
          ∧ r.2.mem ((c.tc : Thread Cert.Reference33Ideal.nD Cert.Reference33Ideal.τ).loc Cert.Reference33Ideal.main_v17) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v49) = v0 c
          ∧ r.2.mem ((c.tc : Thread Cert.Reference34Ideal.nD Cert.Reference34Ideal.τ).loc Cert.Reference34Ideal.main_v48) = v1 c
          ∧ r.2.mem ((c.tc : Thread Cert.Reference34Ideal.nD Cert.Reference34Ideal.τ).loc Cert.Reference34Ideal.main_v50) = v2 c
          ∧ r.2.mem ((c.tc : Thread Cert.Reference34Ideal.nD Cert.Reference34Ideal.τ).loc Cert.Reference34Ideal.main_v32) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S4096x1024 : Shape := ⟨2, ![4096, 1024]⟩
abbrev S4096x2048 : Shape := ⟨2, ![4096, 2048]⟩
abbrev S4096x5120 : Shape := ⟨2, ![4096, 5120]⟩
abbrev S1x4096 : Shape := ⟨2, ![1, 4096]⟩
abbrev S1x2048 : Shape := ⟨2, ![1, 2048]⟩
abbrev S4096x11264 : Shape := ⟨2, ![4096, 11264]⟩
abbrev S_ : Shape := ⟨0, ![]⟩

class Facts : Prop where
  concatenates_S4096x1024_S4096x1024_S4096x2048_d1 : Shape.Concatenates [S4096x1024, S4096x1024] S4096x2048 1
  bcast_S_S4096x2048 : S_.BroadcastsInDim S4096x2048 (![] : Fin 0 → Fin S4096x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)

variable [Facts]

def fn_part1 {F : FTy → Type} [FloatOps F] (main_v15 : IVec S4096x2048 1) (main_v18 : IVec S1x2048 1) : IVec S4096x2048 1 :=
  let main_v19 : IVec S4096x2048 1 := broadcastInDim S4096x2048 ![0, 1] bcast_S1x2048_S4096x2048_0_1 main_v18
  let main_v20 : IVec S4096x2048 1 := andi main_v15 main_v19
  main_v20

def fn {F : FTy → Type} [FloatOps F] (main_arg0 : FVec F S4096x1024 .f32) (main_arg1 : FVec F S4096x1024 .f32) (main_arg2 : FVec F S4096x2048 .f32) (main_arg3 : FVec F S4096x2048 .f32) (main_arg4 : FVec F S4096x5120 .f32) (main_arg5 : IVec S1x4096 32) (main_arg6 : FVec F S1x2048 .f32) (main_arg7 : FVec F S4096x2048 .f32) (main_arg8 : FVec F S4096x11264 .bf16) : IVec S4096x2048 1 :=
  let main_v0 : FVec F S4096x2048 .f32 := (fun a b => concatenate S4096x2048 1 [⟨S4096x1024, a⟩, ⟨S4096x1024, b⟩] concatenates_S4096x1024_S4096x1024_S4096x2048_d1) main_arg0 main_arg1
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : IVec S4096x2048 1 := andi main_v3 main_v6
  let main_v8 : FVec F S4096x2048 .f32 := Host.absf main_arg3
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : IVec S4096x2048 1 := andi main_v7 main_v10
  let main_v12 : FVec F S4096x2048 .f32 := Host.absf main_arg7
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_v15 : IVec S4096x2048 1 := andi main_v11 main_v14
  let main_v16 : FVec F S1x2048 .f32 := Host.absf main_arg6
  let main_cst_3 : FVec F S_ .f32 := constant S_ .f32 0x7F800000#32
  let main_v17 : FVec F S1x2048 .f32 := broadcastInDim S1x2048 ![] bcast_S_S1x2048 main_cst_3
  let main_v18 : IVec S1x2048 1 := cmpf .olt main_v16 main_v17
  fn_part1 (F := F) main_v15 main_v18
-- ==== Kernel.lean ====
abbrev S4096x1024 : Shape := ⟨2, ![4096, 1024]⟩
abbrev S4096x2048 : Shape := ⟨2, ![4096, 2048]⟩
abbrev S4096x5120 : Shape := ⟨2, ![4096, 5120]⟩
abbrev S1x4096 : Shape := ⟨2, ![1, 4096]⟩
abbrev S1x2048 : Shape := ⟨2, ![1, 2048]⟩
abbrev S4096x11264 : Shape := ⟨2, ![4096, 11264]⟩
abbrev S4096x1 : Shape := ⟨2, ![4096, 1]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S8x1x1 : Shape := ⟨3, ![8, 1, 1]⟩
abbrev S8x8x128 : Shape := ⟨3, ![8, 8, 128]⟩
abbrev S4096x8x128 : Shape := ⟨3, ![4096, 8, 128]⟩
abbrev S4096x8x256 : Shape := ⟨3, ![4096, 8, 256]⟩
abbrev S4096x8x768 : Shape := ⟨3, ![4096, 8, 768]⟩
abbrev S4096x6144 : Shape := ⟨2, ![4096, 6144]⟩
abbrev S4096 : Shape := ⟨1, ![4096]⟩
abbrev S4096x1x64 : Shape := ⟨3, ![4096, 1, 64]⟩
abbrev S4096x8x64 : Shape := ⟨3, ![4096, 8, 64]⟩
abbrev S4096x4096 : Shape := ⟨2, ![4096, 4096]⟩
abbrev S1x4096x4096 : Shape := ⟨3, ![1, 4096, 4096]⟩
abbrev S8x4096x4096 : Shape := ⟨3, ![8, 4096, 4096]⟩
abbrev S8x256x4096 : Shape := ⟨3, ![8, 256, 4096]⟩
abbrev S16 : Shape := ⟨1, ![16]⟩
abbrev S16x1 : Shape := ⟨2, ![16, 1]⟩
abbrev S16x4096 : Shape := ⟨2, ![16, 4096]⟩
abbrev S1x16x4096 : Shape := ⟨3, ![1, 16, 4096]⟩
abbrev S8x16x4096 : Shape := ⟨3, ![8, 16, 4096]⟩
abbrev S8x16x4096x1 : Shape := ⟨4, ![8, 16, 4096, 1]⟩
abbrev S8x4096x128 : Shape := ⟨3, ![8, 4096, 128]⟩
abbrev S8x1x4096x128 : Shape := ⟨4, ![8, 1, 4096, 128]⟩
abbrev S8x16x4096x128 : Shape := ⟨4, ![8, 16, 4096, 128]⟩
abbrev S8x16x128x256 : Shape := ⟨4, ![8, 16, 128, 256]⟩
abbrev S256x6144 : Shape := ⟨2, ![256, 6144]⟩
abbrev S256x128 : Shape := ⟨2, ![256, 128]⟩
abbrev S256x2048 : Shape := ⟨2, ![256, 2048]⟩
abbrev S8x1x128x256 : Shape := ⟨4, ![8, 1, 128, 256]⟩
abbrev S8x128x256 : Shape := ⟨3, ![8, 128, 256]⟩
abbrev S1x1x1 : Shape := ⟨3, ![1, 1, 1]⟩
abbrev S1x1 : Shape := ⟨2, ![1, 1]⟩
abbrev S256x1 : Shape := ⟨2, ![256, 1]⟩
abbrev S256x256 : Shape := ⟨2, ![256, 256]⟩
abbrev S1x1x128x256 : Shape := ⟨4, ![1, 1, 128, 256]⟩
abbrev S128x256 : Shape := ⟨2, ![128, 256]⟩
abbrev S1x128x256 : Shape := ⟨3, ![1, 128, 256]⟩
abbrev S256 : Shape := ⟨1, ![256]⟩
abbrev S1x256 : Shape := ⟨2, ![1, 256]⟩

abbrev nBuf : Space → Nat
  | .hbm => 244
  | .vmem => 18
  | .smem => 0
  | _ => 0

abbrev hbmTy0_0 (i : Nat) : BufTy := match i % 128 with
  | 0 => ⟨S4096x1024, .f32⟩
  | 1 => ⟨S4096x1024, .f32⟩
  | 2 => ⟨S4096x2048, .f32⟩
  | 3 => ⟨S4096x2048, .f32⟩
  | 4 => ⟨S4096x5120, .f32⟩
  | 5 => ⟨S1x4096, .i32⟩
  | 6 => ⟨S1x2048, .f32⟩
  | 7 => ⟨S4096x2048, .f32⟩
  | 8 => ⟨S4096x11264, .bf16⟩
  | 9 => ⟨S4096x1, .i32⟩
  | 10 => ⟨S4096x1, .f32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x128, .f32⟩
  | 26 => ⟨S4096x64, .f32⟩
  | 27 => ⟨S4096x64, .f32⟩
  | 28 => ⟨S4096x64, .f32⟩
  | 29 => ⟨S4096x128, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S8, .f32⟩
  | 41 => ⟨S8x1x1, .f32⟩
  | 42 => ⟨S8x8x128, .f32⟩
  | 43 => ⟨S4096x8x128, .f32⟩
  | 44 => ⟨S4096x8x128, .f32⟩
  | 45 => ⟨S4096x8x256, .f32⟩
  | 46 => ⟨S4096x8x256, .f32⟩
  | 47 => ⟨S4096x8x768, .f32⟩
  | 48 => ⟨S4096x6144, .f32⟩
  | 49 => ⟨S4096x11264, .f32⟩
  | 50 => ⟨S4096x8x128, .f32⟩
  | 51 => ⟨S4096, .i32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S4096, .f32⟩
  | 61 => ⟨S4096x1, .f32⟩
  | 62 => ⟨S1x64, .f32⟩
  | 63 => ⟨S4096x64, .f32⟩
  | 64 => ⟨S4096x64, .f32⟩
  | 65 => ⟨S4096x64, .f32⟩
  | 66 => ⟨S4096x64, .f32⟩
  | 67 => ⟨S4096x1x64, .f32⟩
  | 68 => ⟨S4096x64, .f32⟩
  | 69 => ⟨S4096x1x64, .f32⟩
  | 70 => ⟨S4096x8x64, .f32⟩
  | 71 => ⟨S4096x8x64, .f32⟩
  | 72 => ⟨S4096x8x64, .f32⟩
  | 73 => ⟨S4096x8x64, .f32⟩
  | 74 => ⟨S4096x8x64, .f32⟩
  | 75 => ⟨S4096x8x64, .f32⟩
  | 76 => ⟨S4096x8x64, .f32⟩
  | 77 => ⟨S4096x8x64, .f32⟩
  | 78 => ⟨S4096x8x64, .f32⟩
  | 79 => ⟨S4096x8x64, .f32⟩
  | 80 => ⟨S4096x8x64, .f32⟩
  | 81 => ⟨S4096x8x64, .f32⟩
  | 82 => ⟨S4096x8x128, .f32⟩
  | 83 => ⟨S4096x8x128, .f32⟩
  | 84 => ⟨S4096, .i32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S4096, .f32⟩
  | 94 => ⟨S4096x1, .f32⟩
  | 95 => ⟨S1x64, .f32⟩
  | 96 => ⟨S4096x64, .f32⟩
  | 97 => ⟨S4096x64, .f32⟩
  | 98 => ⟨S4096x64, .f32⟩
  | 99 => ⟨S4096x64, .f32⟩
  | 100 => ⟨S4096x1x64, .f32⟩
  | 101 => ⟨S4096x64, .f32⟩
  | 102 => ⟨S4096x1x64, .f32⟩
  | 103 => ⟨S4096x8x64, .f32⟩
  | 104 => ⟨S4096x8x64, .f32⟩
  | 105 => ⟨S4096x8x64, .f32⟩
  | 106 => ⟨S4096x8x64, .f32⟩
  | 107 => ⟨S4096x8x64, .f32⟩
  | 108 => ⟨S4096x8x64, .f32⟩
  | 109 => ⟨S4096x8x64, .f32⟩
  | 110 => ⟨S4096x8x64, .f32⟩
  | 111 => ⟨S4096x8x64, .f32⟩
  | 112 => ⟨S4096x8x64, .f32⟩
  | 113 => ⟨S4096x8x64, .f32⟩
  | 114 => ⟨S4096x8x64, .f32⟩
  | 115 => ⟨S4096x8x128, .f32⟩
  | 116 => ⟨S_, .f32⟩
  | 117 => ⟨S4096x8x128, .f32⟩
  | 118 => ⟨S4096x8x128, .f32⟩
  | 119 => ⟨S4096x8x256, .f32⟩
  | 120 => ⟨S4096, .i32⟩
  | 121 => ⟨S1x4096, .i32⟩
  | 122 => ⟨S_, .i32⟩
  | 123 => ⟨S_, .i32⟩
  | 124 => ⟨S1x4096, .i32⟩
  | 125 => ⟨S1x4096, .i32⟩
  | 126 => ⟨S1x4096, .i32⟩
  | 127 => ⟨S_, .i32⟩
  | _ => ⟨S4096x1024, .f32⟩

abbrev hbmTy0_1 (i : Nat) : BufTy := match i % 128 with
  | 0 => ⟨S1x4096, .i32⟩
  | 1 => ⟨S1x4096, .i1⟩
  | 2 => ⟨S1x4096, .i32⟩
  | 3 => ⟨S1x4096, .i32⟩
  | 4 => ⟨S_, .i32⟩
  | 5 => ⟨S1x4096, .i32⟩
  | 6 => ⟨S1x4096, .i1⟩
  | 7 => ⟨S1x4096, .i1⟩
  | 8 => ⟨S_, .i32⟩
  | 9 => ⟨S1x4096, .i32⟩
  | 10 => ⟨S1x4096, .i32⟩
  | 11 => ⟨S1x4096, .i32⟩
  | 12 => ⟨S4096x1, .i32⟩
  | 13 => ⟨S_, .i32⟩
  | 14 => ⟨S_, .i32⟩
  | 15 => ⟨S4096x1, .i32⟩
  | 16 => ⟨S4096x1, .i32⟩
  | 17 => ⟨S4096x1, .i32⟩
  | 18 => ⟨S_, .i32⟩
  | 19 => ⟨S4096x1, .i32⟩
  | 20 => ⟨S4096x1, .i1⟩
  | 21 => ⟨S4096x1, .i32⟩
  | 22 => ⟨S4096x1, .i32⟩
  | 23 => ⟨S_, .i32⟩
  | 24 => ⟨S4096x1, .i32⟩
  | 25 => ⟨S4096x1, .i1⟩
  | 26 => ⟨S4096x1, .i1⟩
  | 27 => ⟨S_, .i32⟩
  | 28 => ⟨S4096x1, .i32⟩
  | 29 => ⟨S4096x1, .i32⟩
  | 30 => ⟨S4096x1, .i32⟩
  | 31 => ⟨S4096x4096, .i32⟩
  | 32 => ⟨S4096x4096, .i32⟩
  | 33 => ⟨S4096x4096, .i1⟩
  | 34 => ⟨S4096x1, .i32⟩
  | 35 => ⟨S1x4096, .i32⟩
  | 36 => ⟨S4096x4096, .i32⟩
  | 37 => ⟨S4096x4096, .i32⟩
  | 38 => ⟨S4096x4096, .i32⟩
  | 39 => ⟨S4096x4096, .i32⟩
  | 40 => ⟨S4096x4096, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S8x1x1, .f32⟩
  | 53 => ⟨S1x4096x4096, .f32⟩
  | 54 => ⟨S8x4096x4096, .f32⟩
  | 55 => ⟨S8x4096x4096, .f32⟩
  | 56 => ⟨S8x4096x4096, .f32⟩
  | 57 => ⟨S8x4096x4096, .f32⟩
  | 58 => ⟨S_, .f32⟩
  | 59 => ⟨S_, .f32⟩
  | 60 => ⟨S8x4096x4096, .i1⟩
  | 61 => ⟨S8x4096x4096, .f32⟩
  | 62 => ⟨S8x4096x4096, .f32⟩
  | 63 => ⟨S8x4096x4096, .f32⟩
  | 64 => ⟨S8x4096x4096, .f32⟩
  | 65 => ⟨S8x256x4096, .f32⟩
  | 66 => ⟨S4096x8x256, .f32⟩
  | 67 => ⟨S4096x2048, .f32⟩
  | 68 => ⟨S16, .i32⟩
  | 69 => ⟨S16x1, .i32⟩
  | 70 => ⟨S_, .i32⟩
  | 71 => ⟨S16x1, .i32⟩
  | 72 => ⟨S16x1, .i32⟩
  | 73 => ⟨S4096, .i32⟩
  | 74 => ⟨S1x4096, .i32⟩
  | 75 => ⟨S_, .i32⟩
  | 76 => ⟨S16x1, .i32⟩
  | 77 => ⟨S16x1, .i32⟩
  | 78 => ⟨S16x4096, .i32⟩
  | 79 => ⟨S16x4096, .i32⟩
  | 80 => ⟨S16x4096, .i32⟩
  | 81 => ⟨S16x4096, .f32⟩
  | 82 => ⟨S16x4096, .i32⟩
  | 83 => ⟨S16x4096, .i32⟩
  | 84 => ⟨S16x4096, .i1⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S8x1x1, .f32⟩
  | 97 => ⟨S1x16x4096, .f32⟩
  | 98 => ⟨S8x16x4096, .f32⟩
  | 99 => ⟨S8x16x4096, .f32⟩
  | 100 => ⟨S8x16x4096, .f32⟩
  | 101 => ⟨S8x16x4096, .f32⟩
  | 102 => ⟨S_, .f32⟩
  | 103 => ⟨S_, .f32⟩
  | 104 => ⟨S8x16x4096, .i1⟩
  | 105 => ⟨S8x16x4096, .f32⟩
  | 106 => ⟨S8x16x4096, .f32⟩
  | 107 => ⟨S8x16x4096x1, .f32⟩
  | 108 => ⟨S8x4096x128, .f32⟩
  | 109 => ⟨S8x1x4096x128, .f32⟩
  | 110 => ⟨S8x16x4096x128, .f32⟩
  | 111 => ⟨S8x16x4096x128, .f32⟩
  | 112 => ⟨S8x16x4096x128, .f32⟩
  | 113 => ⟨S8x16x128x256, .f32⟩
  | 114 => ⟨S4096x11264, .bf16⟩
  | 115 => ⟨S1x2048, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x6144, .f32⟩
  | .local _ .vmem, ⟨1, _⟩ => ⟨S256x6144, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x8x128, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S8x1x128x256, .f32⟩
  | .local _ .vmem, ⟨13, _⟩ => ⟨S8x1x128x256, .f32⟩
  | .local _ .vmem, ⟨14, _⟩ => ⟨S256x6144, .bf16⟩
  | .local _ .vmem, ⟨15, _⟩ => ⟨S256x6144, .bf16⟩
  | .local _ .vmem, ⟨16, _⟩ => ⟨S1x2048, .f32⟩
  | .local _ .vmem, ⟨17, _⟩ => ⟨S8x128x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_8 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_call0_v5 : Ref sig .tc := ⟨.hbm, 128, rfl⟩
abbrev main_call0_v6 : Ref sig .tc := ⟨.hbm, 129, rfl⟩
abbrev main_call0_v7 : Ref sig .tc := ⟨.hbm, 130, rfl⟩
abbrev main_call0_v8 : Ref sig .tc := ⟨.hbm, 131, rfl⟩
abbrev main_call0_c : Ref sig .tc := ⟨.hbm, 132, rfl⟩
abbrev main_call0_v9 : Ref sig .tc := ⟨.hbm, 133, rfl⟩
abbrev main_call0_v10 : Ref sig .tc := ⟨.hbm, 134, rfl⟩
abbrev main_call0_v11 : Ref sig .tc := ⟨.hbm, 135, rfl⟩
abbrev main_call0_c_0 : Ref sig .tc := ⟨.hbm, 136, rfl⟩
abbrev main_call0_v12 : Ref sig .tc := ⟨.hbm, 137, rfl⟩
abbrev main_call0_v13 : Ref sig .tc := ⟨.hbm, 138, rfl⟩
abbrev main_v103 : Ref sig .tc := ⟨.hbm, 139, rfl⟩
abbrev main_v104 : Ref sig .tc := ⟨.hbm, 140, rfl⟩
abbrev main_c_9 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_call1_v3 : Ref sig .tc := ⟨.hbm, 145, rfl⟩
abbrev main_call1_v4 : Ref sig .tc := ⟨.hbm, 146, rfl⟩
abbrev main_call1_v5 : Ref sig .tc := ⟨.hbm, 147, rfl⟩
abbrev main_call1_v6 : Ref sig .tc := ⟨.hbm, 148, rfl⟩
abbrev main_call1_v7 : Ref sig .tc := ⟨.hbm, 149, rfl⟩
abbrev main_call1_v8 : Ref sig .tc := ⟨.hbm, 150, rfl⟩
abbrev main_call1_c : Ref sig .tc := ⟨.hbm, 151, rfl⟩
abbrev main_call1_v9 : Ref sig .tc := ⟨.hbm, 152, rfl⟩
abbrev main_call1_v10 : Ref sig .tc := ⟨.hbm, 153, rfl⟩
abbrev main_call1_v11 : Ref sig .tc := ⟨.hbm, 154, rfl⟩
abbrev main_call1_c_0 : Ref sig .tc := ⟨.hbm, 155, rfl⟩
abbrev main_call1_v12 : Ref sig .tc := ⟨.hbm, 156, rfl⟩
abbrev main_call1_v13 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_10 : Ref sig .tc := ⟨.hbm, 170, rfl⟩
abbrev main_v117 : Ref sig .tc := ⟨.hbm, 171, rfl⟩
abbrev main_v118 : Ref sig .tc := ⟨.hbm, 172, rfl⟩
abbrev main_cst_11 : Ref sig .tc := ⟨.hbm, 173, rfl⟩
abbrev main_v119 : Ref sig .tc := ⟨.hbm, 174, rfl⟩
abbrev main_v120 : Ref sig .tc := ⟨.hbm, 175, rfl⟩
abbrev main_cst_12 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_13 : Ref sig .tc := ⟨.hbm, 186, rfl⟩
abbrev main_call2_v0 : Ref sig .tc := ⟨.hbm, 187, rfl⟩
abbrev main_call2_v1 : Ref sig .tc := ⟨.hbm, 188, rfl⟩
abbrev main_call2_v2 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_c_14 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_c_15 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_16 : Ref sig .tc := ⟨.hbm, 214, rfl⟩
abbrev main_v152 : Ref sig .tc := ⟨.hbm, 215, rfl⟩
abbrev main_v153 : Ref sig .tc := ⟨.hbm, 216, rfl⟩
abbrev main_cst_17 : Ref sig .tc := ⟨.hbm, 217, rfl⟩
abbrev main_v154 : Ref sig .tc := ⟨.hbm, 218, rfl⟩
abbrev main_v155 : Ref sig .tc := ⟨.hbm, 219, rfl⟩
abbrev main_cst_18 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_cst_19 : Ref sig .tc := ⟨.hbm, 230, rfl⟩
abbrev main_call3_v0 : Ref sig .tc := ⟨.hbm, 231, rfl⟩
abbrev main_call3_v1 : Ref sig .tc := ⟨.hbm, 232, rfl⟩
abbrev main_call3_v2 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173_0 : Ref sig .tc := ⟨.hbm, 242, rfl⟩
abbrev main_v173_1 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c0_i32_467 : BitVec 32 := 0#32
  let v1312 : BitVec 1 := Scalar.cmpi .eq arg1 c0_i32_467
  let v1313 : BitVec 32 := Scalar.extui v1312
  let c0_i32_468 : BitVec 32 := 0#32
  let v1314 : BitVec 1 := Scalar.cmpi .ne v1313 c0_i32_468
  v1314

def k0_cond3 (i : grid0.Coords) : BitVec 1 :=
  let arg1 : BitVec 32 := BitVec.ofNat 32 (i 1).val
  let c0_i32_469 : BitVec 32 := 0#32
  let v1315 : BitVec 1 := Scalar.cmpi .sgt arg1 c0_i32_469
  let v1316 : BitVec 32 := Scalar.extui v1315
  let c0_i32_470 : BitVec 32 := 0#32
  let v1317 : BitVec 1 := Scalar.cmpi .ne v1316 c0_i32_470
  v1317

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S4096x1024 : Shape := ⟨2, ![4096, 1024]⟩
abbrev S4096x2048 : Shape := ⟨2, ![4096, 2048]⟩
abbrev S4096x5120 : Shape := ⟨2, ![4096, 5120]⟩
abbrev S1x4096 : Shape := ⟨2, ![1, 4096]⟩
abbrev S1x2048 : Shape := ⟨2, ![1, 2048]⟩
abbrev S4096x11264 : Shape := ⟨2, ![4096, 11264]⟩
abbrev S4096x8x128 : Shape := ⟨3, ![4096, 8, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x8x64 : Shape := ⟨3, ![4096, 8, 64]⟩
abbrev S4096x8x256 : Shape := ⟨3, ![4096, 8, 256]⟩
abbrev S4096x4096 : Shape := ⟨2, ![4096, 4096]⟩
abbrev S8 : Shape := ⟨1, ![8]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S8x256x4096 : Shape := ⟨3, ![8, 256, 4096]⟩
abbrev S4096x8 : Shape := ⟨2, ![4096, 8]⟩
abbrev S4096x8x1 : Shape := ⟨3, ![4096, 8, 1]⟩
abbrev S2048 : Shape := ⟨1, ![2048]⟩
abbrev S8x4096x128 : Shape := ⟨3, ![8, 4096, 128]⟩
abbrev S4096x8x768 : Shape := ⟨3, ![4096, 8, 768]⟩
abbrev S4096x6144 : Shape := ⟨2, ![4096, 6144]⟩

abbrev nBuf : Space → Nat
  | .hbm => 305
  | .vmem => 0
  | .smem => 0
  | _ => 0

abbrev hbmTy0_0 (i : Nat) : BufTy := match i % 128 with
  | 0 => ⟨S4096x1024, .f32⟩
  | 1 => ⟨S4096x1024, .f32⟩
  | 2 => ⟨S4096x2048, .f32⟩
  | 3 => ⟨S4096x2048, .f32⟩
  | 4 => ⟨S4096x5120, .f32⟩
  | 5 => ⟨S1x4096, .i32⟩
  | 6 => ⟨S1x2048, .f32⟩
  | 7 => ⟨S4096x2048, .f32⟩
  | 8 => ⟨S4096x11264, .bf16⟩
  | 9 => ⟨S4096x8x128, .f32⟩
  | 10 => ⟨S4096, .i32⟩
  | 11 => ⟨S64, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S4096, .f32⟩
  | 20 => ⟨S4096x1, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x1x64, .f32⟩
  | 27 => ⟨S4096x64, .f32⟩
  | 28 => ⟨S4096x1x64, .f32⟩
  | 29 => ⟨S4096x8x64, .f32⟩
  | 30 => ⟨S4096x8x64, .f32⟩
  | 31 => ⟨S4096x8x64, .f32⟩
  | 32 => ⟨S4096x8x64, .f32⟩
  | 33 => ⟨S4096x8x64, .f32⟩
  | 34 => ⟨S4096x8x64, .f32⟩
  | 35 => ⟨S4096x8x64, .f32⟩
  | 36 => ⟨S4096x8x64, .f32⟩
  | 37 => ⟨S4096x8x64, .f32⟩
  | 38 => ⟨S4096x8x64, .f32⟩
  | 39 => ⟨S4096x8x64, .f32⟩
  | 40 => ⟨S4096x8x64, .f32⟩
  | 41 => ⟨S4096x8x128, .f32⟩
  | 42 => ⟨S4096x8x128, .f32⟩
  | 43 => ⟨S4096, .i32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S4096, .f32⟩
  | 53 => ⟨S4096x1, .f32⟩
  | 54 => ⟨S1x64, .f32⟩
  | 55 => ⟨S4096x64, .f32⟩
  | 56 => ⟨S4096x64, .f32⟩
  | 57 => ⟨S4096x64, .f32⟩
  | 58 => ⟨S4096x64, .f32⟩
  | 59 => ⟨S4096x1x64, .f32⟩
  | 60 => ⟨S4096x64, .f32⟩
  | 61 => ⟨S4096x1x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x64, .f32⟩
  | 67 => ⟨S4096x8x64, .f32⟩
  | 68 => ⟨S4096x8x64, .f32⟩
  | 69 => ⟨S4096x8x64, .f32⟩
  | 70 => ⟨S4096x8x64, .f32⟩
  | 71 => ⟨S4096x8x64, .f32⟩
  | 72 => ⟨S4096x8x64, .f32⟩
  | 73 => ⟨S4096x8x64, .f32⟩
  | 74 => ⟨S4096x8x128, .f32⟩
  | 75 => ⟨S_, .f32⟩
  | 76 => ⟨S4096x8x128, .f32⟩
  | 77 => ⟨S4096x8x128, .f32⟩
  | 78 => ⟨S4096x8x256, .f32⟩
  | 79 => ⟨S4096, .i32⟩
  | 80 => ⟨S1x4096, .i32⟩
  | 81 => ⟨S_, .i32⟩
  | 82 => ⟨S_, .i32⟩
  | 83 => ⟨S1x4096, .i32⟩
  | 84 => ⟨S1x4096, .i32⟩
  | 85 => ⟨S1x4096, .i32⟩
  | 86 => ⟨S_, .i32⟩
  | 87 => ⟨S1x4096, .i32⟩
  | 88 => ⟨S1x4096, .i1⟩
  | 89 => ⟨S1x4096, .i32⟩
  | 90 => ⟨S1x4096, .i32⟩
  | 91 => ⟨S_, .i32⟩
  | 92 => ⟨S1x4096, .i32⟩
  | 93 => ⟨S1x4096, .i1⟩
  | 94 => ⟨S1x4096, .i1⟩
  | 95 => ⟨S_, .i32⟩
  | 96 => ⟨S1x4096, .i32⟩
  | 97 => ⟨S1x4096, .i32⟩
  | 98 => ⟨S1x4096, .i32⟩
  | 99 => ⟨S4096x1, .i32⟩
  | 100 => ⟨S_, .i32⟩
  | 101 => ⟨S_, .i32⟩
  | 102 => ⟨S4096x1, .i32⟩
  | 103 => ⟨S4096x1, .i32⟩
  | 104 => ⟨S4096x1, .i32⟩
  | 105 => ⟨S_, .i32⟩
  | 106 => ⟨S4096x1, .i32⟩
  | 107 => ⟨S4096x1, .i1⟩
  | 108 => ⟨S4096x1, .i32⟩
  | 109 => ⟨S4096x1, .i32⟩
  | 110 => ⟨S_, .i32⟩
  | 111 => ⟨S4096x1, .i32⟩
  | 112 => ⟨S4096x1, .i1⟩
  | 113 => ⟨S4096x1, .i1⟩
  | 114 => ⟨S_, .i32⟩
  | 115 => ⟨S4096x1, .i32⟩
  | 116 => ⟨S4096x1, .i32⟩
  | 117 => ⟨S4096x1, .i32⟩
  | 118 => ⟨S4096x4096, .i32⟩
  | 119 => ⟨S4096x4096, .i32⟩
  | 120 => ⟨S4096x4096, .i1⟩
  | 121 => ⟨S4096x1, .i32⟩
  | 122 => ⟨S1x4096, .i32⟩
  | 123 => ⟨S4096x4096, .i32⟩
  | 124 => ⟨S4096x4096, .i32⟩
  | 125 => ⟨S4096x4096, .i32⟩
  | 126 => ⟨S4096x4096, .i32⟩
  | 127 => ⟨S4096x4096, .f32⟩
  | _ => ⟨S4096x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S8x1x1, .f32⟩
  | 12 => ⟨S1x4096x4096, .f32⟩
  | 13 => ⟨S8x4096x4096, .f32⟩
  | 14 => ⟨S8x4096x4096, .f32⟩
  | 15 => ⟨S8x4096x4096, .f32⟩
  | 16 => ⟨S8x4096x4096, .f32⟩
  | 17 => ⟨S_, .f32⟩
  | 18 => ⟨S_, .f32⟩
  | 19 => ⟨S8x4096x4096, .i1⟩
  | 20 => ⟨S8x4096x4096, .f32⟩
  | 21 => ⟨S8x4096x4096, .f32⟩
  | 22 => ⟨S8x4096x4096, .f32⟩
  | 23 => ⟨S8x4096x4096, .f32⟩
  | 24 => ⟨S8x256x4096, .f32⟩
  | 25 => ⟨S4096x8x256, .f32⟩
  | 26 => ⟨S_, .f32⟩
  | 27 => ⟨S4096x8, .f32⟩
  | 28 => ⟨S4096x8x1, .f32⟩
  | 29 => ⟨S_, .f32⟩
  | 30 => ⟨S4096x8x1, .f32⟩
  | 31 => ⟨S4096x8x1, .f32⟩
  | 32 => ⟨S4096x8x256, .f32⟩
  | 33 => ⟨S4096x8x256, .f32⟩
  | 34 => ⟨S4096x8x256, .f32⟩
  | 35 => ⟨S_, .f32⟩
  | 36 => ⟨S4096x8x256, .f32⟩
  | 37 => ⟨S4096x8x256, .f32⟩
  | 38 => ⟨S_, .f32⟩
  | 39 => ⟨S4096x8, .f32⟩
  | 40 => ⟨S4096x8x1, .f32⟩
  | 41 => ⟨S_, .f32⟩
  | 42 => ⟨S4096x8x1, .f32⟩
  | 43 => ⟨S4096x8x1, .f32⟩
  | 44 => ⟨S4096x8x256, .f32⟩
  | 45 => ⟨S4096x8x256, .f32⟩
  | 46 => ⟨S_, .f32⟩
  | 47 => ⟨S4096x8x1, .f32⟩
  | 48 => ⟨S4096x8x1, .f32⟩
  | 49 => ⟨S4096x8x1, .f32⟩
  | 50 => ⟨S4096x8x1, .f32⟩
  | 51 => ⟨S_, .f32⟩
  | 52 => ⟨S4096x8x1, .f32⟩
  | 53 => ⟨S4096x8x1, .f32⟩
  | 54 => ⟨S4096x8x256, .f32⟩
  | 55 => ⟨S4096x8x256, .f32⟩
  | 56 => ⟨S4096x2048, .f32⟩
  | 57 => ⟨S4096x2048, .f32⟩
  | 58 => ⟨S4096x2048, .f32⟩
  | 59 => ⟨S4096x2048, .f32⟩
  | 60 => ⟨S4096x2048, .f32⟩
  | 61 => ⟨S_, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S_, .f32⟩
  | 68 => ⟨S4096x2048, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S4096x2048, .f32⟩
  | 75 => ⟨S4096x2048, .f32⟩
  | 76 => ⟨S4096x2048, .f32⟩
  | 77 => ⟨S4096x2048, .f32⟩
  | 78 => ⟨S4096x2048, .f32⟩
  | 79 => ⟨S4096x2048, .f32⟩
  | 80 => ⟨S_, .f32⟩
  | 81 => ⟨S2048, .f32⟩
  | 82 => ⟨S1x2048, .f32⟩
  | 83 => ⟨S4096x2048, .f32⟩
  | 84 => ⟨S4096x2048, .f32⟩
  | 85 => ⟨S4096x8x256, .f32⟩
  | 86 => ⟨S4096x8x256, .f32⟩
  | 87 => ⟨S_, .f32⟩
  | 88 => ⟨S4096x8, .f32⟩
  | 89 => ⟨S4096x8x1, .f32⟩
  | 90 => ⟨S4096x8x256, .f32⟩
  | 91 => ⟨S4096x8x256, .f32⟩
  | 92 => ⟨S4096x8x1, .f32⟩
  | 93 => ⟨S4096x8x256, .f32⟩
  | 94 => ⟨S_, .f32⟩
  | 95 => ⟨S4096x8, .f32⟩
  | 96 => ⟨S4096x8x1, .f32⟩
  | 97 => ⟨S_, .f32⟩
  | 98 => ⟨S4096x8x1, .f32⟩
  | 99 => ⟨S4096x8x1, .f32⟩
  | 100 => ⟨S_, .f32⟩
  | 101 => ⟨S4096x8, .f32⟩
  | 102 => ⟨S4096x8x256, .f32⟩
  | 103 => ⟨S4096x8x256, .f32⟩
  | 104 => ⟨S4096x8x256, .f32⟩
  | 105 => ⟨S_, .f32⟩
  | 106 => ⟨S4096x8, .f32⟩
  | 107 => ⟨S4096x8x1, .f32⟩
  | 108 => ⟨S4096x8x256, .f32⟩
  | 109 => ⟨S4096x8x1, .f32⟩
  | 110 => ⟨S_, .f32⟩
  | 111 => ⟨S4096x8x1, .f32⟩
  | 112 => ⟨S4096x8x1, .f32⟩
  | 113 => ⟨S_, .f32⟩
  | 114 => ⟨S4096x8, .f32⟩
  | 115 => ⟨S4096x8x256, .f32⟩
  | 116 => ⟨S4096x8x256, .f32⟩
  | 117 => ⟨S8x256x4096, .f32⟩
  | 118 => ⟨S8x4096x4096, .f32⟩
  | 119 => ⟨S8x256x4096, .f32⟩
  | 120 => ⟨S4096x8x256, .f32⟩
  | 121 => ⟨S8x4096x4096, .f32⟩
  | 122 => ⟨S8x4096x128, .f32⟩
  | 123 => ⟨S4096x8x128, .f32⟩
  | 124 => ⟨S8x4096x128, .f32⟩
  | 125 => ⟨S4096x8x128, .f32⟩
  | 126 => ⟨S4096x2048, .f32⟩
  | 127 => ⟨S_, .f32⟩
  | _ => ⟨S4096x1024, .f32⟩

abbrev hbmTy0_2 (i : Nat) : BufTy := match i % 128 with
  | 0 => ⟨S4096x8x128, .f32⟩
  | 1 => ⟨S4096x8x128, .f32⟩
  | 2 => ⟨S4096x8x64, .f32⟩
  | 3 => ⟨S4096x8x64, .f32⟩
  | 4 => ⟨S4096x8x64, .f32⟩
  | 5 => ⟨S4096x8x64, .f32⟩
  | 6 => ⟨S4096x8x64, .f32⟩
  | 7 => ⟨S4096x8x64, .f32⟩
  | 8 => ⟨S4096x8x64, .f32⟩
  | 9 => ⟨S4096x8x64, .f32⟩
  | 10 => ⟨S4096x8x64, .f32⟩
  | 11 => ⟨S4096x8x64, .f32⟩
  | 12 => ⟨S4096x8x64, .f32⟩
  | 13 => ⟨S4096x8x64, .f32⟩
  | 14 => ⟨S4096x8x64, .f32⟩
  | 15 => ⟨S_, .f32⟩
  | 16 => ⟨S4096x8x128, .f32⟩
  | 17 => ⟨S_, .f32⟩
  | 18 => ⟨S4096x8x128, .f32⟩
  | 19 => ⟨S4096x8x128, .f32⟩
  | 20 => ⟨S4096x1024, .f32⟩
  | 21 => ⟨S4096x8x64, .f32⟩
  | 22 => ⟨S4096x8x64, .f32⟩
  | 23 => ⟨S4096x8x64, .f32⟩
  | 24 => ⟨S4096x8x64, .f32⟩
  | 25 => ⟨S4096x8x64, .f32⟩
  | 26 => ⟨S4096x8x64, .f32⟩
  | 27 => ⟨S4096x8x64, .f32⟩
  | 28 => ⟨S4096x8x64, .f32⟩
  | 29 => ⟨S4096x8x64, .f32⟩
  | 30 => ⟨S4096x8x64, .f32⟩
  | 31 => ⟨S4096x8x64, .f32⟩
  | 32 => ⟨S4096x8x64, .f32⟩
  | 33 => ⟨S4096x8x64, .f32⟩
  | 34 => ⟨S_, .f32⟩
  | 35 => ⟨S4096x8x128, .f32⟩
  | 36 => ⟨S_, .f32⟩
  | 37 => ⟨S4096x8x128, .f32⟩
  | 38 => ⟨S4096x8x128, .f32⟩
  | 39 => ⟨S4096x1024, .f32⟩
  | 40 => ⟨S4096x8x128, .f32⟩
  | 41 => ⟨S4096x8x128, .f32⟩
  | 42 => ⟨S4096x8x256, .f32⟩
  | 43 => ⟨S4096x8x256, .f32⟩
  | 44 => ⟨S4096x8x768, .f32⟩
  | 45 => ⟨S4096x6144, .f32⟩
  | 46 => ⟨S4096x6144, .bf16⟩
  | 47 => ⟨S4096x5120, .bf16⟩
  | 48 => ⟨S4096x11264, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v67 : Ref sig .tc := ⟨.hbm, 98, rfl⟩
abbrev main_v68 : Ref sig .tc := ⟨.hbm, 99, rfl⟩
abbrev main_c_4 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_c : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_0 : Ref sig .tc := ⟨.hbm, 114, rfl⟩
abbrev main_call1_v12 : Ref sig .tc := ⟨.hbm, 115, rfl⟩
abbrev main_call1_v13 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_5 : Ref sig .tc := ⟨.hbm, 129, rfl⟩
abbrev main_v81 : Ref sig .tc := ⟨.hbm, 130, rfl⟩
abbrev main_v82 : Ref sig .tc := ⟨.hbm, 131, rfl⟩
abbrev main_cst_6 : Ref sig .tc := ⟨.hbm, 132, rfl⟩
abbrev main_v83 : Ref sig .tc := ⟨.hbm, 133, rfl⟩
abbrev main_v84 : Ref sig .tc := ⟨.hbm, 134, rfl⟩
abbrev main_cst_7 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_8 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_9 : Ref sig .tc := ⟨.hbm, 154, rfl⟩
abbrev main_v99 : Ref sig .tc := ⟨.hbm, 155, rfl⟩
abbrev main_v100 : Ref sig .tc := ⟨.hbm, 156, rfl⟩
abbrev main_cst_10 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_11 : Ref sig .tc := ⟨.hbm, 163, rfl⟩
abbrev main_v106 : Ref sig .tc := ⟨.hbm, 164, rfl⟩
abbrev main_v107 : Ref sig .tc := ⟨.hbm, 165, rfl⟩
abbrev main_cst_12 : Ref sig .tc := ⟨.hbm, 166, rfl⟩
abbrev main_v108 : Ref sig .tc := ⟨.hbm, 167, rfl⟩
abbrev main_v109 : Ref sig .tc := ⟨.hbm, 168, rfl⟩
abbrev main_cst_13 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_14 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_15 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_call3_v0 : Ref sig .tc := ⟨.hbm, 187, rfl⟩
abbrev main_call3_v1 : Ref sig .tc := ⟨.hbm, 188, rfl⟩
abbrev main_call3_cst : Ref sig .tc := ⟨.hbm, 189, rfl⟩
abbrev main_call3_v2 : Ref sig .tc := ⟨.hbm, 190, rfl⟩
abbrev main_call3_v3 : Ref sig .tc := ⟨.hbm, 191, rfl⟩
abbrev main_call3_cst_0 : Ref sig .tc := ⟨.hbm, 192, rfl⟩
abbrev main_call3_v4 : Ref sig .tc := ⟨.hbm, 193, rfl⟩
abbrev main_v125_2 : Ref sig .tc := ⟨.hbm, 194, rfl⟩
abbrev main_call3_cst_1 : Ref sig .tc := ⟨.hbm, 195, rfl⟩
abbrev main_call3_v6 : Ref sig .tc := ⟨.hbm, 196, rfl⟩
abbrev main_call3_v7 : Ref sig .tc := ⟨.hbm, 197, rfl⟩
abbrev main_v125_1 : Ref sig .tc := ⟨.hbm, 198, rfl⟩
abbrev main_v125_0 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_call4_v0 : Ref sig .tc := ⟨.hbm, 203, rfl⟩
abbrev main_call4_v1 : Ref sig .tc := ⟨.hbm, 204, rfl⟩
abbrev main_call4_v2 : Ref sig .tc := ⟨.hbm, 205, rfl⟩
abbrev main_v129 : Ref sig .tc := ⟨.hbm, 206, rfl⟩
abbrev main_v130 : Ref sig .tc := ⟨.hbm, 207, rfl⟩
abbrev main_cst_16 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_17 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_18 : Ref sig .tc := ⟨.hbm, 222, rfl⟩
abbrev main_v143 : Ref sig .tc := ⟨.hbm, 223, rfl⟩
abbrev main_v144 : Ref sig .tc := ⟨.hbm, 224, rfl⟩
abbrev main_cst_19 : Ref sig .tc := ⟨.hbm, 225, rfl⟩
abbrev main_v145 : Ref sig .tc := ⟨.hbm, 226, rfl⟩
abbrev main_v146 : Ref sig .tc := ⟨.hbm, 227, rfl⟩
abbrev main_cst_20 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_21 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_22 : Ref sig .tc := ⟨.hbm, 238, rfl⟩
abbrev main_v155 : Ref sig .tc := ⟨.hbm, 239, rfl⟩
abbrev main_v156 : Ref sig .tc := ⟨.hbm, 240, rfl⟩
abbrev main_cst_23 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_cst_24 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_cst_25 : Ref sig .tc := ⟨.hbm, 271, rfl⟩
abbrev main_v185 : Ref sig .tc := ⟨.hbm, 272, rfl⟩
abbrev main_cst_26 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_cst_27 : Ref sig .tc := ⟨.hbm, 290, rfl⟩
abbrev main_v202 : Ref sig .tc := ⟨.hbm, 291, rfl⟩
abbrev main_cst_28 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 30
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x2048, .bf16⟩
  | .hbm, ⟨28, _⟩ => ⟨S8192x2048, .bf16⟩
  | .hbm, ⟨29, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel3.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S4096x1024 : Shape := ⟨2, ![4096, 1024]⟩
abbrev S1024x1024 : Shape := ⟨2, ![1024, 1024]⟩

abbrev nBuf : Space → Nat
  | .hbm => 30
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | .hbm, ⟨28, _⟩ => ⟨S4096x2048, .bf16⟩
  | .hbm, ⟨29, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 39
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | .hbm, ⟨28, _⟩ => ⟨S2048x8192, .bf16⟩
  | .hbm, ⟨29, _⟩ => ⟨S2048x2048, .bf16⟩
  | .hbm, ⟨30, _⟩ => ⟨S2048x2048, .bf16⟩
  | .hbm, ⟨31, _⟩ => ⟨S2048x2048, .bf16⟩
  | .hbm, ⟨32, _⟩ => ⟨S2048x2048, .bf16⟩
  | .hbm, ⟨33, _⟩ => ⟨S1x2048x2048, .bf16⟩
  | .hbm, ⟨34, _⟩ => ⟨S1x2048x2048, .bf16⟩
  | .hbm, ⟨35, _⟩ => ⟨S1x2048x2048, .bf16⟩
  | .hbm, ⟨36, _⟩ => ⟨S1x2048x2048, .bf16⟩
  | .hbm, ⟨37, _⟩ => ⟨S4x2048x2048, .bf16⟩
  | .hbm, ⟨38, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 30
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x2048, .bf16⟩
  | .hbm, ⟨28, _⟩ => ⟨S4096x8192, .bf16⟩
  | .hbm, ⟨29, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .f32⟩
  | .hbm, ⟨24, _⟩ => ⟨S2048x8192, .f32⟩
  | .hbm, ⟨25, _⟩ => ⟨S2048x8192, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048x2048, .bf16⟩
  | .hbm, ⟨30, _⟩ => ⟨S1x2048x2048, .bf16⟩
  | .hbm, ⟨31, _⟩ => ⟨S1x2048x2048, .bf16⟩
  | .hbm, ⟨32, _⟩ => ⟨S1x2048x2048, .bf16⟩
  | .hbm, ⟨33, _⟩ => ⟨S1x2048x2048, .bf16⟩
  | .hbm, ⟨34, _⟩ => ⟨S4x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8192, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S1x2048x2048, .bf16⟩
  | .hbm, ⟨9, _⟩ => ⟨S1x2048x2048, .bf16⟩
  | .hbm, ⟨10, _⟩ => ⟨S1x2048x2048, .bf16⟩
  | .hbm, ⟨11, _⟩ => ⟨S1x2048x2048, .bf16⟩
  | .hbm, ⟨12, _⟩ => ⟨S4x2048x2048, .bf16⟩
  | .hbm, ⟨13, _⟩ => ⟨S4096x8192, .f32⟩
  | .hbm, ⟨14, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S8192x2048, .bf16⟩
  | .hbm, ⟨11, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x11328 : Shape := ⟨2, ![2048, 11328]⟩
abbrev S2048x11264 : Shape := ⟨2, ![2048, 11264]⟩
abbrev S11264x2048 : Shape := ⟨2, ![11264, 2048]⟩
abbrev S4096x11264 : Shape := ⟨2, ![4096, 11264]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x2048, .bf16⟩
  | .hbm, ⟨3, _⟩ => ⟨S2048x11264, .f32⟩
  | .hbm, ⟨4, _⟩ => ⟨S11264x2048, .f32⟩
  | .hbm, ⟨5, _⟩ => ⟨S11264x2048, .bf16⟩
  | .hbm, ⟨6, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x11328 : Shape := ⟨2, ![2048, 11328]⟩
abbrev S4096x11328 : Shape := ⟨2, ![4096, 11328]⟩
abbrev S4096x11264 : Shape := ⟨2, ![4096, 11264]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x2048 : Shape := ⟨2, ![4096, 2048]⟩
abbrev S2048x11328 : Shape := ⟨2, ![2048, 11328]⟩
abbrev S4096x11328 : Shape := ⟨2, ![4096, 11328]⟩
abbrev S4096x11264 : Shape := ⟨2, ![4096, 11264]⟩
abbrev S11264x2048 : Shape := ⟨2, ![11264, 2048]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x11264, .f32⟩
  | .hbm, ⟨4, _⟩ => ⟨S4096x11264, .bf16⟩
  | .hbm, ⟨5, _⟩ => ⟨S4096x2048, .bf16⟩
  | .hbm, ⟨6, _⟩ => ⟨S11264x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x11328 : Shape := ⟨2, ![2048, 11328]⟩
abbrev S4096x11328 : Shape := ⟨2, ![4096, 11328]⟩
abbrev S11328x2048 : Shape := ⟨2, ![11328, 2048]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x11328, .f32⟩
  | .hbm, ⟨4, _⟩ => ⟨S11328x2048, .f32⟩
  | .hbm, ⟨5, _⟩ => ⟨S2048x11328, .f32⟩
  | .hbm, ⟨6, _⟩ => ⟨S2048x11264, .f32⟩
  | .hbm, ⟨7, _⟩ => ⟨S11264x2048, .f32⟩
  | .hbm, ⟨8, _⟩ => ⟨S11264x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x11328 : Shape := ⟨2, ![2048, 11328]⟩
abbrev S4096x11328 : Shape := ⟨2, ![4096, 11328]⟩
abbrev S2048x64 : Shape := ⟨2, ![2048, 64]⟩
abbrev S_ : Shape := ⟨0, ![]⟩
abbrev S2048x128 : Shape := ⟨2, ![2048, 128]⟩
abbrev S128x2048 : Shape := ⟨2, ![128, 2048]⟩
abbrev S4096x64 : Shape := ⟨2, ![4096, 64]⟩
abbrev S4096x128 : Shape := ⟨2, ![4096, 128]⟩
abbrev S4096x11264 : Shape := ⟨2, ![4096, 11264]⟩
abbrev S2048x11264 : Shape := ⟨2, ![2048, 11264]⟩
abbrev S11264x2048 : Shape := ⟨2, ![11264, 2048]⟩
abbrev S1024x2816 : Shape := ⟨2, ![1024, 2816]⟩
abbrev S2816x1024 : Shape := ⟨2, ![2816, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 20
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S2048x64, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S128x2048, .f32⟩
  | .hbm, ⟨8, _⟩ => ⟨S128x2048, .bf16⟩
  | .hbm, ⟨9, _⟩ => ⟨S4096x64, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x128, .bf16⟩
  | .hbm, ⟨14, _⟩ => ⟨S4096x11264, .f32⟩
  | .hbm, ⟨15, _⟩ => ⟨S4096x11264, .bf16⟩
  | .hbm, ⟨16, _⟩ => ⟨S2048x11264, .f32⟩
  | .hbm, ⟨17, _⟩ => ⟨S11264x2048, .f32⟩
  | .hbm, ⟨18, _⟩ => ⟨S11264x2048, .bf16⟩
  | .hbm, ⟨19, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S4096x2048 : Shape := ⟨2, ![4096, 2048]⟩
abbrev S2048x11328 : Shape := ⟨2, ![2048, 11328]⟩
abbrev S4096x11328 : Shape := ⟨2, ![4096, 11328]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x11328, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 28
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | .hbm, ⟨26, _⟩ => ⟨S2048x2048, .bf16⟩
  | .hbm, ⟨27, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel15.lean ====
abbrev S4096x512 : Shape := ⟨2, ![4096, 512]⟩
abbrev S512x3072 : Shape := ⟨2, ![512, 3072]⟩
abbrev S4096x3072 : Shape := ⟨2, ![4096, 3072]⟩
abbrev S4096x16x192 : Shape := ⟨3, ![4096, 16, 192]⟩
abbrev S_ : Shape := ⟨0, ![]⟩
abbrev S4096x16x256 : Shape := ⟨3, ![4096, 16, 256]⟩
abbrev S4096x4096 : Shape := ⟨2, ![4096, 4096]⟩
abbrev S512x16x192 : Shape := ⟨3, ![512, 16, 192]⟩
abbrev S512x16x256 : Shape := ⟨3, ![512, 16, 256]⟩
abbrev S512x4096 : Shape := ⟨2, ![512, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 16
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x3072, .f32⟩
  | .hbm, ⟨3, _⟩ => ⟨S4096x16x192, .f32⟩
  | .hbm, ⟨4, _⟩ => ⟨S_, .i32⟩
  | .hbm, ⟨5, _⟩ => ⟨S_, .f32⟩
  | .hbm, ⟨6, _⟩ => ⟨S4096x16x256, .f32⟩
  | .hbm, ⟨7, _⟩ => ⟨S4096x4096, .f32⟩
  | .hbm, ⟨8, _⟩ => ⟨S4096x4096, .bf16⟩
  | .hbm, ⟨9, _⟩ => ⟨S512x16x192, .f32⟩
  | .hbm, ⟨10, _⟩ => ⟨S_, .i32⟩
  | .hbm, ⟨11, _⟩ => ⟨S_, .f32⟩
  | .hbm, ⟨12, _⟩ => ⟨S512x16x256, .f32⟩
  | .hbm, ⟨13, _⟩ => ⟨S512x4096, .f32⟩
  | .hbm, ⟨14, _⟩ => ⟨S512x4096, .bf16⟩
  | .hbm, ⟨15, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S512x3072 : Shape := ⟨2, ![512, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x3072, .f32⟩
  | .hbm, ⟨3, _⟩ => ⟨S4096x3072, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S4096x512 : Shape := ⟨2, ![4096, 512]⟩
abbrev S512x3072 : Shape := ⟨2, ![512, 3072]⟩
abbrev S4096x3072 : Shape := ⟨2, ![4096, 3072]⟩
abbrev S4096x16x192 : Shape := ⟨3, ![4096, 16, 192]⟩
abbrev S_ : Shape := ⟨0, ![]⟩
abbrev S4096x16x256 : Shape := ⟨3, ![4096, 16, 256]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x3072, .f32⟩
  | .hbm, ⟨3, _⟩ => ⟨S4096x512, .bf16⟩
  | .hbm, ⟨4, _⟩ => ⟨S4096x16x192, .f32⟩
  | .hbm, ⟨5, _⟩ => ⟨S_, .i32⟩
  | .hbm, ⟨6, _⟩ => ⟨S_, .f32⟩
  | .hbm, ⟨7, _⟩ => ⟨S4096x16x256, .f32⟩
  | .hbm, ⟨8, _⟩ => ⟨S4096x4096, .f32⟩
  | .hbm, ⟨9, _⟩ => ⟨S4096x4096, .bf16⟩
  | .hbm, ⟨10, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x3072 : Shape := ⟨2, ![512, 3072]⟩
abbrev S4096x3072 : Shape := ⟨2, ![4096, 3072]⟩
abbrev S3072x512 : Shape := ⟨2, ![3072, 512]⟩
abbrev S512x16x192 : Shape := ⟨3, ![512, 16, 192]⟩
abbrev S_ : Shape := ⟨0, ![]⟩
abbrev S512x16x64 : Shape := ⟨3, ![512, 16, 64]⟩
abbrev S512x16x256 : Shape := ⟨3, ![512, 16, 256]⟩
abbrev S512x4096 : Shape := ⟨2, ![512, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x3072, .f32⟩
  | .hbm, ⟨2, _⟩ => ⟨S4096x3072, .f32⟩
  | .hbm, ⟨3, _⟩ => ⟨S4096x3072, .f32⟩
  | .hbm, ⟨4, _⟩ => ⟨S3072x512, .f32⟩
  | .hbm, ⟨5, _⟩ => ⟨S512x3072, .f32⟩
  | .hbm, ⟨6, _⟩ => ⟨S512x3072, .bf16⟩
  | .hbm, ⟨7, _⟩ => ⟨S512x16x192, .bf16⟩
  | .hbm, ⟨8, _⟩ => ⟨S_, .bf16⟩
  | .hbm, ⟨9, _⟩ => ⟨S512x16x64, .bf16⟩
  | .hbm, ⟨10, _⟩ => ⟨S512x16x256, .bf16⟩
  | .hbm, ⟨11, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel17.lean ====
abbrev S4096x512 : Shape := ⟨2, ![4096, 512]⟩
abbrev S512x4096 : Shape := ⟨2, ![512, 4096]⟩
abbrev S4096x4096 : Shape := ⟨2, ![4096, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .bf16⟩
  | .hbm, ⟨4, _⟩ => ⟨S512x4096, .bf16⟩
  | .hbm, ⟨5, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S4096x512 : Shape := ⟨2, ![4096, 512]⟩
abbrev S512x4096 : Shape := ⟨2, ![512, 4096]⟩
abbrev S4096x4096 : Shape := ⟨2, ![4096, 4096]⟩
abbrev S4096x1024 : Shape := ⟨2, ![4096, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x512, .bf16⟩
  | .hbm, ⟨4, _⟩ => ⟨S4096x4096, .bf16⟩
  | .hbm, ⟨5, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x4096, .f32⟩
  | .hbm, ⟨2, _⟩ => ⟨S4096x4096, .f32⟩
  | .hbm, ⟨3, _⟩ => ⟨S4096x4096, .f32⟩
  | .hbm, ⟨4, _⟩ => ⟨S4096x512, .f32⟩
  | .hbm, ⟨5, _⟩ => ⟨S512x4096, .f32⟩
  | .hbm, ⟨6, _⟩ => ⟨S512x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x6144 : Shape := ⟨2, ![4096, 6144]⟩
abbrev S4096x2048 : Shape := ⟨2, ![4096, 2048]⟩
abbrev S4096x1024 : Shape := ⟨2, ![4096, 1024]⟩
abbrev S2048x2048 : Shape := ⟨2, ![2048, 2048]⟩
abbrev S4096x11264 : Shape := ⟨2, ![4096, 11264]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 20
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x11264, .f32⟩
  | .hbm, ⟨13, _⟩ => ⟨S4096x2048, .bf16⟩
  | .hbm, ⟨14, _⟩ => ⟨S2048x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S4096x2048, .bf16⟩
  | .hbm, ⟨19, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c6_i32 : BitVec 32 := 6#32
  let v1 : BitVec 32 := Scalar.addi c6_i32 v0
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c7_i32 : BitVec 32 := 7#32
  let v1 : BitVec 32 := Scalar.addi c7_i32 v0
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference19Ideal.lean ====
abbrev S4096x6144 : Shape := ⟨2, ![4096, 6144]⟩
abbrev S4096x2048 : Shape := ⟨2, ![4096, 2048]⟩
abbrev S4096x1024 : Shape := ⟨2, ![4096, 1024]⟩
abbrev S2048x2048 : Shape := ⟨2, ![2048, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | .hbm, ⟨32, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S16x4096x128 : Shape := ⟨3, ![16, 4096, 128]⟩
abbrev S1024x2048 : Shape := ⟨2, ![1024, 2048]⟩
abbrev S1024x1024 : Shape := ⟨2, ![1024, 1024]⟩
abbrev S8x1024x128 : Shape := ⟨3, ![8, 1024, 128]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S16x4096x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x1024x128, .f32⟩
  | .local _ .vmem, ⟨9, _⟩ => ⟨S8x1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference20Ideal.lean ====
abbrev S4096x2048 : Shape := ⟨2, ![4096, 2048]⟩
abbrev S2048x2048 : Shape := ⟨2, ![2048, 2048]⟩
abbrev S4096x16x128 : Shape := ⟨3, ![4096, 16, 128]⟩
abbrev S_ : Shape := ⟨0, ![]⟩
abbrev S4096x16 : Shape := ⟨2, ![4096, 16]⟩
abbrev S16x4096 : Shape := ⟨2, ![16, 4096]⟩
abbrev S16x4096x1 : Shape := ⟨3, ![16, 4096, 1]⟩
abbrev S16x4096x128 : Shape := ⟨3, ![16, 4096, 128]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S_, .f32⟩
  | .hbm, ⟨8, _⟩ => ⟨S4096x16, .f32⟩
  | .hbm, ⟨9, _⟩ => ⟨S4096x2048, .bf16⟩
  | .hbm, ⟨10, _⟩ => ⟨S16x4096, .f32⟩
  | .hbm, ⟨11, _⟩ => ⟨S16x4096x1, .f32⟩
  | .hbm, ⟨12, _⟩ => ⟨S16x4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel21.lean ====
abbrev S4096x6144 : Shape := ⟨2, ![4096, 6144]⟩
abbrev S4096x2048 : Shape := ⟨2, ![4096, 2048]⟩
abbrev S4096x1024 : Shape := ⟨2, ![4096, 1024]⟩
abbrev S2048x2048 : Shape := ⟨2, ![2048, 2048]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x11264, .f32⟩
  | .hbm, ⟨12, _⟩ => ⟨S4096x2048, .bf16⟩
  | .hbm, ⟨13, _⟩ => ⟨S2048x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c6_i32 : BitVec 32 := 6#32
  let v1 : BitVec 32 := Scalar.addi c6_i32 v0
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c7_i32 : BitVec 32 := 7#32
  let v1 : BitVec 32 := Scalar.addi c7_i32 v0
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference21Ideal.lean ====
abbrev S4096x6144 : Shape := ⟨2, ![4096, 6144]⟩
abbrev S4096x2048 : Shape := ⟨2, ![4096, 2048]⟩
abbrev S4096x1024 : Shape := ⟨2, ![4096, 1024]⟩
abbrev S2048x2048 : Shape := ⟨2, ![2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel22.lean ====
abbrev S4096x512 : Shape := ⟨2, ![4096, 512]⟩
abbrev S512x3072 : Shape := ⟨2, ![512, 3072]⟩
abbrev S512x4096 : Shape := ⟨2, ![512, 4096]⟩
abbrev S4096x64 : Shape := ⟨2, ![4096, 64]⟩
abbrev S1x4096 : Shape := ⟨2, ![1, 4096]⟩
abbrev S512x16x192 : Shape := ⟨3, ![512, 16, 192]⟩
abbrev S_ : Shape := ⟨0, ![]⟩
abbrev S512x16x256 : Shape := ⟨3, ![512, 16, 256]⟩
abbrev S4096x128 : Shape := ⟨2, ![4096, 128]⟩
abbrev S4096x1 : Shape := ⟨2, ![4096, 1]⟩
abbrev S32 : Shape := ⟨1, ![32]⟩
abbrev S1x32 : Shape := ⟨2, ![1, 32]⟩
abbrev S4096x32 : Shape := ⟨2, ![4096, 32]⟩
abbrev S4096x4096 : Shape := ⟨2, ![4096, 4096]⟩
abbrev S4096x2048 : Shape := ⟨2, ![4096, 2048]⟩
abbrev S512x512 : Shape := ⟨2, ![512, 512]⟩
abbrev S512x1024 : Shape := ⟨2, ![512, 1024]⟩
abbrev S512x128 : Shape := ⟨2, ![512, 128]⟩

abbrev nBuf : Space → Nat
  | .hbm => 45
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x3072, .f32⟩
  | .hbm, ⟨3, _⟩ => ⟨S512x4096, .f32⟩
  | .hbm, ⟨4, _⟩ => ⟨S4096x64, .f32⟩
  | .hbm, ⟨5, _⟩ => ⟨S1x4096, .i32⟩
  | .hbm, ⟨6, _⟩ => ⟨S4096x512, .bf16⟩
  | .hbm, ⟨7, _⟩ => ⟨S4096x512, .bf16⟩
  | .hbm, ⟨8, _⟩ => ⟨S512x16x192, .f32⟩
  | .hbm, ⟨9, _⟩ => ⟨S_, .i32⟩
  | .hbm, ⟨10, _⟩ => ⟨S_, .f32⟩
  | .hbm, ⟨11, _⟩ => ⟨S512x16x256, .f32⟩
  | .hbm, ⟨12, _⟩ => ⟨S512x4096, .f32⟩
  | .hbm, ⟨13, _⟩ => ⟨S512x4096, .bf16⟩
  | .hbm, ⟨14, _⟩ => ⟨S512x4096, .bf16⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x1, .i32⟩
  | .hbm, ⟨19, _⟩ => ⟨S4096x1, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S_, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x128, .f32⟩
  | .hbm, ⟨37, _⟩ => ⟨S4096x32, .f32⟩
  | .hbm, ⟨38, _⟩ => ⟨S4096x32, .f32⟩
  | .hbm, ⟨39, _⟩ => ⟨S4096x128, .f32⟩
  | .hbm, ⟨40, _⟩ => ⟨S4096x32, .f32⟩
  | .hbm, ⟨41, _⟩ => ⟨S4096x128, .f32⟩
  | .hbm, ⟨42, _⟩ => ⟨S4096x4096, .bf16⟩
  | .hbm, ⟨43, _⟩ => ⟨S4096x4096, .bf16⟩
  | .hbm, ⟨44, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S4096x512 : Shape := ⟨2, ![4096, 512]⟩
abbrev S512x3072 : Shape := ⟨2, ![512, 3072]⟩
abbrev S512x4096 : Shape := ⟨2, ![512, 4096]⟩
abbrev S4096x64 : Shape := ⟨2, ![4096, 64]⟩
abbrev S1x4096 : Shape := ⟨2, ![1, 4096]⟩
abbrev S4096 : Shape := ⟨1, ![4096]⟩
abbrev S4096x3072 : Shape := ⟨2, ![4096, 3072]⟩
abbrev S4096x16x192 : Shape := ⟨3, ![4096, 16, 192]⟩
abbrev S4096x4096 : Shape := ⟨2, ![4096, 4096]⟩
abbrev S4096x16x256 : Shape := ⟨3, ![4096, 16, 256]⟩
abbrev S4096x1x64 : Shape := ⟨3, ![4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x64 : Shape := ⟨3, ![4096, 16, 64]⟩
abbrev S4096x16x128 : Shape := ⟨3, ![4096, 16, 128]⟩
abbrev S4096x16x32 : Shape := ⟨3, ![4096, 16, 32]⟩
abbrev S4096x2048 : Shape := ⟨2, ![4096, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x3072, .f32⟩
  | .hbm, ⟨3, _⟩ => ⟨S512x4096, .f32⟩
  | .hbm, ⟨4, _⟩ => ⟨S4096x64, .f32⟩
  | .hbm, ⟨5, _⟩ => ⟨S1x4096, .i32⟩
  | .hbm, ⟨6, _⟩ => ⟨S4096, .i32⟩
  | .hbm, ⟨7, _⟩ => ⟨S4096x3072, .f32⟩
  | .hbm, ⟨8, _⟩ => ⟨S4096x16x192, .f32⟩
  | .hbm, ⟨9, _⟩ => ⟨S4096x4096, .f32⟩
  | .hbm, ⟨10, _⟩ => ⟨S4096x16x256, .f32⟩
  | .hbm, ⟨11, _⟩ => ⟨S4096x1x64, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1x32, .f32⟩
  | .hbm, ⟨28, _⟩ => ⟨S4096x32, .f32⟩
  | .hbm, ⟨29, _⟩ => ⟨S4096x1x32, .f32⟩
  | .hbm, ⟨30, _⟩ => ⟨S4096x1x32, .f32⟩
  | .hbm, ⟨31, _⟩ => ⟨S4096x1x32, .f32⟩
  | .hbm, ⟨32, _⟩ => ⟨S4096x1x32, .f32⟩
  | .hbm, ⟨33, _⟩ => ⟨S4096x1x32, .f32⟩
  | .hbm, ⟨34, _⟩ => ⟨S4096x1x32, .f32⟩
  | .hbm, ⟨35, _⟩ => ⟨S4096x1x32, .f32⟩
  | .hbm, ⟨36, _⟩ => ⟨S4096x1x32, .f32⟩
  | .hbm, ⟨37, _⟩ => ⟨S4096x1x32, .f32⟩
  | .hbm, ⟨38, _⟩ => ⟨S4096x1x64, .f32⟩
  | .hbm, ⟨39, _⟩ => ⟨S4096x16x64, .f32⟩
  | .hbm, ⟨40, _⟩ => ⟨S4096x16x128, .f32⟩
  | .hbm, ⟨41, _⟩ => ⟨S_, .f32⟩
  | .hbm, ⟨42, _⟩ => ⟨S4096x16x128, .f32⟩
  | .hbm, ⟨43, _⟩ => ⟨S4096x16x128, .f32⟩
  | .hbm, ⟨44, _⟩ => ⟨S4096x16x64, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S4096, .f32⟩
  | .hbm, ⟨54, _⟩ => ⟨S4096x1, .f32⟩
  | .hbm, ⟨55, _⟩ => ⟨S1x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x1x32, .f32⟩
  | .hbm, ⟨61, _⟩ => ⟨S4096x32, .f32⟩
  | .hbm, ⟨62, _⟩ => ⟨S4096x1x32, .f32⟩
  | .hbm, ⟨63, _⟩ => ⟨S4096x16x32, .f32⟩
  | .hbm, ⟨64, _⟩ => ⟨S4096x16x32, .f32⟩
  | .hbm, ⟨65, _⟩ => ⟨S4096x16x32, .f32⟩
  | .hbm, ⟨66, _⟩ => ⟨S4096x16x32, .f32⟩
  | .hbm, ⟨67, _⟩ => ⟨S4096x16x32, .f32⟩
  | .hbm, ⟨68, _⟩ => ⟨S4096x16x32, .f32⟩
  | .hbm, ⟨69, _⟩ => ⟨S4096x16x32, .f32⟩
  | .hbm, ⟨70, _⟩ => ⟨S4096x16x32, .f32⟩
  | .hbm, ⟨71, _⟩ => ⟨S4096x16x32, .f32⟩
  | .hbm, ⟨72, _⟩ => ⟨S4096x16x32, .f32⟩
  | .hbm, ⟨73, _⟩ => ⟨S4096x16x32, .f32⟩
  | .hbm, ⟨74, _⟩ => ⟨S4096x16x32, .f32⟩
  | .hbm, ⟨75, _⟩ => ⟨S4096x16x64, .f32⟩
  | .hbm, ⟨76, _⟩ => ⟨S_, .f32⟩
  | .hbm, ⟨77, _⟩ => ⟨S4096x16x64, .f32⟩
  | .hbm, ⟨78, _⟩ => ⟨S4096x16x64, .f32⟩
  | .hbm, ⟨79, _⟩ => ⟨S_, .f32⟩
  | .hbm, ⟨80, _⟩ => ⟨S4096x16x64, .f32⟩
  | .hbm, ⟨81, _⟩ => ⟨S4096x16x256, .f32⟩
  | .hbm, ⟨82, _⟩ => ⟨S4096x4096, .f32⟩
  | .hbm, ⟨83, _⟩ => ⟨S4096x4096, .bf16⟩
  | .hbm, ⟨84, _⟩ => ⟨S4096x16x128, .f32⟩
  | .hbm, ⟨85, _⟩ => ⟨S_, .f32⟩
  | .hbm, ⟨86, _⟩ => ⟨S4096x16x64, .f32⟩
  | .hbm, ⟨87, _⟩ => ⟨S4096x16x256, .f32⟩
  | .hbm, ⟨88, _⟩ => ⟨S4096x4096, .f32⟩
  | .hbm, ⟨89, _⟩ => ⟨S4096x4096, .bf16⟩
  | .hbm, ⟨90, _⟩ => ⟨S4096x16x128, .f32⟩
  | .hbm, ⟨91, _⟩ => ⟨S4096x2048, .f32⟩
  | .hbm, ⟨92, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_4 : Ref sig .tc := ⟨.hbm, 76, rfl⟩
abbrev main_v65 : Ref sig .tc := ⟨.hbm, 77, rfl⟩
abbrev main_v66 : Ref sig .tc := ⟨.hbm, 78, rfl⟩
abbrev main_cst_5 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩

abbrev nD : Nat := 1
abbrev τ : Topo := Topo.v7x

variable {F : FTy → Type} [FloatOps F]
-- ==== Kernel23.lean ====
abbrev S4096x2048 : Shape := ⟨2, ![4096, 2048]⟩
abbrev S2048x11328 : Shape := ⟨2, ![2048, 11328]⟩
abbrev S2048x64 : Shape := ⟨2, ![2048, 64]⟩
abbrev S_ : Shape := ⟨0, ![]⟩
abbrev S2048x128 : Shape := ⟨2, ![2048, 128]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S128x2048, .f32⟩
  | .hbm, ⟨7, _⟩ => ⟨S128x2048, .bf16⟩
  | .hbm, ⟨8, _⟩ => ⟨S4096x2048, .bf16⟩
  | .hbm, ⟨9, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2048 : Shape := ⟨2, ![4096, 2048]⟩
abbrev S2048x11328 : Shape := ⟨2, ![2048, 11328]⟩
abbrev S4096x11328 : Shape := ⟨2, ![4096, 11328]⟩
abbrev S4096x64 : Shape := ⟨2, ![4096, 64]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S4096x2048 : Shape := ⟨2, ![4096, 2048]⟩
abbrev S2048x11328 : Shape := ⟨2, ![2048, 11328]⟩
abbrev S4096x11328 : Shape := ⟨2, ![4096, 11328]⟩
abbrev S4096x64 : Shape := ⟨2, ![4096, 64]⟩
abbrev S_ : Shape := ⟨0, ![]⟩
abbrev S4096x128 : Shape := ⟨2, ![4096, 128]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x64, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S4096x128, .bf16⟩
  | .hbm, ⟨8, _⟩ => ⟨S4096x2048, .bf16⟩
  | .hbm, ⟨9, _⟩ => ⟨S128x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x2048 : Shape := ⟨2, ![4096, 2048]⟩
abbrev S2048x11328 : Shape := ⟨2, ![2048, 11328]⟩
abbrev S4096x11328 : Shape := ⟨2, ![4096, 11328]⟩
abbrev S11328x2048 : Shape := ⟨2, ![11328, 2048]⟩
abbrev S2048x64 : Shape := ⟨2, ![2048, 64]⟩
abbrev S64x2048 : Shape := ⟨2, ![64, 2048]⟩
abbrev S_ : Shape := ⟨0, ![]⟩
abbrev S128x2048 : Shape := ⟨2, ![128, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11328, .f32⟩
  | .hbm, ⟨2, _⟩ => ⟨S4096x11328, .f32⟩
  | .hbm, ⟨3, _⟩ => ⟨S4096x11328, .f32⟩
  | .hbm, ⟨4, _⟩ => ⟨S11328x2048, .f32⟩
  | .hbm, ⟨5, _⟩ => ⟨S2048x11328, .f32⟩
  | .hbm, ⟨6, _⟩ => ⟨S2048x64, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S128x2048, .f32⟩
  | .hbm, ⟨11, _⟩ => ⟨S128x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S2048x2832 : Shape := ⟨2, ![2048, 2832]⟩
abbrev S2832x2048 : Shape := ⟨2, ![2832, 2048]⟩
abbrev S2832x128 : Shape := ⟨2, ![2832, 128]⟩

abbrev nBuf : Space → Nat
  | .hbm => 12
  | .vmem => 16
  | .smem => 0
  | _ => 0

abbrev bufTy : (tb : Table) → Fin (tcTables nBuf tb) → BufTy
  | .hbm, ⟨0, _⟩ => ⟨S2048x2832, .f32⟩
  | .hbm, ⟨1, _⟩ => ⟨S2048x2832, .f32⟩
  | .hbm, ⟨2, _⟩ => ⟨S2048x2832, .f32⟩
  | .hbm, ⟨3, _⟩ => ⟨S2048x2832, .f32⟩
  | .hbm, ⟨4, _⟩ => ⟨S2832x2048, .f32⟩
  | .hbm, ⟨5, _⟩ => ⟨S2832x2048, .f32⟩
  | .hbm, ⟨6, _⟩ => ⟨S2832x2048, .f32⟩
  | .hbm, ⟨7, _⟩ => ⟨S2832x2048, .f32⟩
  | .hbm, ⟨8, _⟩ => ⟨S2832x2048, .f32⟩
  | .hbm, ⟨9, _⟩ => ⟨S2832x2048, .f32⟩
  | .hbm, ⟨10, _⟩ => ⟨S2832x2048, .f32⟩
  | .hbm, ⟨11, _⟩ => ⟨S2832x2048, .f32⟩
  | .local _ .vmem, ⟨0, _⟩ => ⟨S2832x128, .f32⟩
  | .local _ .vmem, ⟨1, _⟩ => ⟨S2832x128, .f32⟩
  | .local _ .vmem, ⟨2, _⟩ => ⟨S2832x128, .f32⟩
  | .local _ .vmem, ⟨3, _⟩ => ⟨S2832x128, .f32⟩
  | .local _ .vmem, ⟨4, _⟩ => ⟨S2832x128, .f32⟩
  | .local _ .vmem, ⟨5, _⟩ => ⟨S2832x128, .f32⟩
  | .local _ .vmem, ⟨6, _⟩ => ⟨S2832x128, .f32⟩
  | .local _ .vmem, ⟨7, _⟩ => ⟨S2832x128, .f32⟩
  | .local _ .vmem, ⟨8, _⟩ => ⟨S2832x128, .f32⟩
  | .local _ .vmem, ⟨9, _⟩ => ⟨S2832x128, .f32⟩
  | .local _ .vmem, ⟨10, _⟩ => ⟨S2832x128, .f32⟩
  | .local _ .vmem, ⟨11, _⟩ => ⟨S2832x128, .f32⟩
  | .local _ .vmem, ⟨12, _⟩ => ⟨S2832x128, .f32⟩
  | .local _ .vmem, ⟨13, _⟩ => ⟨S2832x128, .f32⟩
  | .local _ .vmem, ⟨14, _⟩ => ⟨S2832x128, .f32⟩
  | .local _ .vmem, ⟨15, _⟩ => ⟨S2832x128, .f32⟩
  | _, _ => ⟨S2048x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2832x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2832x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2832x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2832x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2832x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2832x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S2048x2832 : Shape := ⟨2, ![2048, 2832]⟩
abbrev S2832x2048 : Shape := ⟨2, ![2832, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2832, .f32⟩
  | .hbm, ⟨1, _⟩ => ⟨S2048x2832, .f32⟩
  | .hbm, ⟨2, _⟩ => ⟨S2048x2832, .f32⟩
  | .hbm, ⟨3, _⟩ => ⟨S2048x2832, .f32⟩
  | .hbm, ⟨4, _⟩ => ⟨S2832x2048, .f32⟩
  | .hbm, ⟨5, _⟩ => ⟨S_, .f32⟩
  | .hbm, ⟨6, _⟩ => ⟨S2048x2832, .f32⟩
  | .hbm, ⟨7, _⟩ => ⟨S2048x2832, .f32⟩
  | .hbm, ⟨8, _⟩ => ⟨S_, .f32⟩
  | .hbm, ⟨9, _⟩ => ⟨S2048x2832, .f32⟩
  | .hbm, ⟨10, _⟩ => ⟨S2048x2832, .f32⟩
  | .hbm, ⟨11, _⟩ => ⟨S2048x2832, .f32⟩
  | .hbm, ⟨12, _⟩ => ⟨S_, .f32⟩
  | .hbm, ⟨13, _⟩ => ⟨S2048x2832, .f32⟩
  | .hbm, ⟨14, _⟩ => ⟨S2048x2832, .f32⟩
  | .hbm, ⟨15, _⟩ => ⟨S2048x2832, .f32⟩
  | .hbm, ⟨16, _⟩ => ⟨S_, .f32⟩
  | .hbm, ⟨17, _⟩ => ⟨S2048x2832, .f32⟩
  | .hbm, ⟨18, _⟩ => ⟨S2048x2832, .f32⟩
  | .hbm, ⟨19, _⟩ => ⟨S2048x2832, .f32⟩
  | .hbm, ⟨20, _⟩ => ⟨S_, .f32⟩
  | .hbm, ⟨21, _⟩ => ⟨S2048x2832, .f32⟩
  | .hbm, ⟨22, _⟩ => ⟨S2048x2832, .f32⟩
  | .hbm, ⟨23, _⟩ => ⟨S_, .f32⟩
  | .hbm, ⟨24, _⟩ => ⟨S2048x2832, .f32⟩
  | .hbm, ⟨25, _⟩ => ⟨S2048x2832, .f32⟩
  | .hbm, ⟨26, _⟩ => ⟨S2048x2832, .f32⟩
  | .hbm, ⟨27, _⟩ => ⟨S_, .f32⟩
  | .hbm, ⟨28, _⟩ => ⟨S2048x2832, .f32⟩
  | .hbm, ⟨29, _⟩ => ⟨S2048x2832, .f32⟩
  | .hbm, ⟨30, _⟩ => ⟨S2048x2832, .f32⟩
  | .hbm, ⟨31, _⟩ => ⟨S_, .f32⟩
  | .hbm, ⟨32, _⟩ => ⟨S2048x2832, .f32⟩
  | .hbm, ⟨33, _⟩ => ⟨S2048x2832, .f32⟩
  | .hbm, ⟨34, _⟩ => ⟨S2048x2832, .f32⟩
  | .hbm, ⟨35, _⟩ => ⟨S_, .f32⟩
  | .hbm, ⟨36, _⟩ => ⟨S2048x2832, .f32⟩
  | .hbm, ⟨37, _⟩ => ⟨S2048x2832, .f32⟩
  | .hbm, ⟨38, _⟩ => ⟨S2832x2048, .f32⟩
  | .hbm, ⟨39, _⟩ => ⟨S2832x2048, .f32⟩
  | .hbm, ⟨40, _⟩ => ⟨S2832x2048, .f32⟩
  | _, _ => ⟨S2048x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel26.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel26Ideal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S512x768, .f32⟩
  | .hbm, ⟨7, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel27Ideal.lean ====
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S512x768, .f32⟩
  | .hbm, ⟨5, _⟩ => ⟨S512x768, .f32⟩
  | .hbm, ⟨6, _⟩ => ⟨S512x768, .f32⟩
  | .hbm, ⟨7, _⟩ => ⟨S512x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S512x768 : Shape := ⟨2, ![512, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S512x768, .f32⟩
  | .hbm, ⟨3, _⟩ => ⟨S512x768, .f32⟩
  | .hbm, ⟨4, _⟩ => ⟨S_, .f32⟩
  | .hbm, ⟨5, _⟩ => ⟨S512x768, .f32⟩
  | .hbm, ⟨6, _⟩ => ⟨S512x768, .f32⟩
  | .hbm, ⟨7, _⟩ => ⟨S_, .f32⟩
  | .hbm, ⟨8, _⟩ => ⟨S512x768, .f32⟩
  | .hbm, ⟨9, _⟩ => ⟨S512x768, .f32⟩
  | .hbm, ⟨10, _⟩ => ⟨S512x768, .f32⟩
  | .hbm, ⟨11, _⟩ => ⟨S_, .f32⟩
  | .hbm, ⟨12, _⟩ => ⟨S512x768, .f32⟩
  | .hbm, ⟨13, _⟩ => ⟨S512x768, .f32⟩
  | .hbm, ⟨14, _⟩ => ⟨S512x768, .f32⟩
  | .hbm, ⟨15, _⟩ => ⟨S_, .f32⟩
  | .hbm, ⟨16, _⟩ => ⟨S512x768, .f32⟩
  | .hbm, ⟨17, _⟩ => ⟨S512x768, .f32⟩
  | .hbm, ⟨18, _⟩ => ⟨S512x768, .f32⟩
  | .hbm, ⟨19, _⟩ => ⟨S_, .f32⟩
  | .hbm, ⟨20, _⟩ => ⟨S512x768, .f32⟩
  | .hbm, ⟨21, _⟩ => ⟨S512x768, .f32⟩
  | .hbm, ⟨22, _⟩ => ⟨S_, .f32⟩
  | .hbm, ⟨23, _⟩ => ⟨S512x768, .f32⟩
  | .hbm, ⟨24, _⟩ => ⟨S512x768, .f32⟩
  | .hbm, ⟨25, _⟩ => ⟨S512x768, .f32⟩
  | .hbm, ⟨26, _⟩ => ⟨S_, .f32⟩
  | .hbm, ⟨27, _⟩ => ⟨S512x768, .f32⟩
  | .hbm, ⟨28, _⟩ => ⟨S512x768, .f32⟩
  | .hbm, ⟨29, _⟩ => ⟨S512x768, .f32⟩
  | .hbm, ⟨30, _⟩ => ⟨S_, .f32⟩
  | .hbm, ⟨31, _⟩ => ⟨S512x768, .f32⟩
  | .hbm, ⟨32, _⟩ => ⟨S512x768, .f32⟩
  | .hbm, ⟨33, _⟩ => ⟨S512x768, .f32⟩
  | .hbm, ⟨34, _⟩ => ⟨S_, .f32⟩
  | .hbm, ⟨35, _⟩ => ⟨S512x768, .f32⟩
  | .hbm, ⟨36, _⟩ => ⟨S512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel28Ideal.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference28Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x9344 : Shape := ⟨2, ![1, 9344]⟩
abbrev S1x2048 : Shape := ⟨2, ![1, 2048]⟩
abbrev S1x512 : Shape := ⟨2, ![1, 512]⟩

abbrev nBuf : Space → Nat
  | .hbm => 43
  | .vmem => 43
  | .smem => 0
  | _ => 0

abbrev bufTy : (tb : Table) → Fin (tcTables nBuf tb) → BufTy
  | .hbm, ⟨0, _⟩ => ⟨S1x9344, .f32⟩
  | .hbm, ⟨1, _⟩ => ⟨S1x2048, .f32⟩
  | .hbm, ⟨2, _⟩ => ⟨S1x2048, .f32⟩
  | .hbm, ⟨3, _⟩ => ⟨S1x512, .f32⟩
  | .hbm, ⟨4, _⟩ => ⟨S1x512, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x512, .f32⟩
  | .hbm, ⟨10, _⟩ => ⟨S1x512, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x512, .f32⟩
  | .hbm, ⟨16, _⟩ => ⟨S1x512, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .local _ .vmem, ⟨0, _⟩ => ⟨S1x9344, .f32⟩
  | .local _ .vmem, ⟨1, _⟩ => ⟨S1x2048, .f32⟩
  | .local _ .vmem, ⟨2, _⟩ => ⟨S1x2048, .f32⟩
  | .local _ .vmem, ⟨3, _⟩ => ⟨S1x512, .f32⟩
  | .local _ .vmem, ⟨4, _⟩ => ⟨S1x512, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x512, .f32⟩
  | .local _ .vmem, ⟨10, _⟩ => ⟨S1x512, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x512, .f32⟩
  | .local _ .vmem, ⟨16, _⟩ => ⟨S1x512, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x2048, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S1x2048, .f32⟩
  | .local _ .vmem, ⟨40, _⟩ => ⟨S1x2048, .f32⟩
  | .local _ .vmem, ⟨41, _⟩ => ⟨S1x2048, .f32⟩
  | .local _ .vmem, ⟨42, _⟩ => ⟨S1x2048, .f32⟩
  | _, _ => ⟨S1x9344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev main_v0_8 : Ref sig .tc := ⟨.hbm, 27, rfl⟩
abbrev main_v0_9 : Ref sig .tc := ⟨.hbm, 28, rfl⟩
abbrev main_v0_10 : Ref sig .tc := ⟨.hbm, 29, rfl⟩
abbrev main_v0_11 : Ref sig .tc := ⟨.hbm, 30, rfl⟩
abbrev main_v0_12 : Ref sig .tc := ⟨.hbm, 31, rfl⟩
abbrev main_v0_13 : Ref sig .tc := ⟨.hbm, 32, rfl⟩
abbrev main_v0_14 : Ref sig .tc := ⟨.hbm, 33, rfl⟩
abbrev main_v0_15 : Ref sig .tc := ⟨.hbm, 34, rfl⟩
abbrev main_v0_16 : Ref sig .tc := ⟨.hbm, 35, rfl⟩
abbrev main_v0_17 : Ref sig .tc := ⟨.hbm, 36, rfl⟩
abbrev main_v0_18 : Ref sig .tc := ⟨.hbm, 37, rfl⟩
abbrev main_v0_19 : Ref sig .tc := ⟨.hbm, 38, rfl⟩
abbrev main_v0_20 : Ref sig .tc := ⟨.hbm, 39, rfl⟩
abbrev main_v0_21 : Ref sig .tc := ⟨.hbm, 40, rfl⟩
abbrev main_v0_22 : Ref sig .tc := ⟨.hbm, 41, rfl⟩
abbrev main_v0_23 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42

abbrev nD : Nat := 1
abbrev τ : Topo := Topo.v7x

variable {F : FTy → Type} [FloatOps F]

abbrev grid0 : Pipeline.Grid := .none

abbrev stage0_0 : Fin 1 → Memref sig .tc .vmem S1x9344 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x2048 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x2048 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x2048 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x2048 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x2048 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
-- ==== Reference30Ideal.lean ====
abbrev S1x9344 : Shape := ⟨2, ![1, 9344]⟩
abbrev S1x2048 : Shape := ⟨2, ![1, 2048]⟩
abbrev S1x512 : Shape := ⟨2, ![1, 512]⟩
abbrev S_ : Shape := ⟨0, ![]⟩

abbrev nBuf : Space → Nat
  | .hbm => 223
  | .vmem => 0
  | .smem => 0
  | _ => 0

abbrev hbmTy0_0 (i : Nat) : BufTy := match i % 128 with
  | 0 => ⟨S1x9344, .f32⟩
  | 1 => ⟨S1x2048, .f32⟩
  | 2 => ⟨S1x2048, .f32⟩
  | 3 => ⟨S1x512, .f32⟩
  | 4 => ⟨S1x512, .f32⟩
  | 5 => ⟨S1x2048, .f32⟩
  | 6 => ⟨S1x2048, .f32⟩
  | 7 => ⟨S1x2048, .f32⟩
  | 8 => ⟨S1x2048, .f32⟩
  | 9 => ⟨S1x512, .f32⟩
  | 10 => ⟨S1x512, .f32⟩
  | 11 => ⟨S1x2048, .f32⟩
  | 12 => ⟨S1x2048, .f32⟩
  | 13 => ⟨S1x2048, .f32⟩
  | 14 => ⟨S1x2048, .f32⟩
  | 15 => ⟨S1x512, .f32⟩
  | 16 => ⟨S1x512, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S_, .f32⟩
  | 39 => ⟨S1x2048, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S_, .f32⟩
  | 58 => ⟨S1x2048, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x512, .f32⟩
  | 88 => ⟨S_, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S1x512, .f32⟩
  | 114 => ⟨S_, .f32⟩
  | 115 => ⟨S1x512, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x9344, .f32⟩

abbrev hbmTy0_1 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S1x2048, .f32⟩
  | 28 => ⟨S_, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S1x2048, .f32⟩
  | 73 => ⟨S_, .f32⟩
  | 74 => ⟨S1x2048, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | _ => ⟨S1x9344, .f32⟩

abbrev hbmTy (i : Nat) : BufTy := match i / 128 with
  | 0 => hbmTy0_0 i
  | 1 => hbmTy0_1 i
  | _ => ⟨S1x9344, .f32⟩

abbrev bufTy : (tb : Table) → Fin (tcTables nBuf tb) → BufTy
  | .hbm, ⟨i, _⟩ => hbmTy i
  | _, _ => ⟨S1x9344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_10 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_12 : Ref sig .tc := ⟨.hbm, 69, rfl⟩
abbrev main_v37 : Ref sig .tc := ⟨.hbm, 70, rfl⟩
abbrev main_v38 : Ref sig .tc := ⟨.hbm, 71, rfl⟩
abbrev main_cst_13 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_15 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_16 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_17 : Ref sig .tc := ⟨.hbm, 88, rfl⟩
abbrev main_v51 : Ref sig .tc := ⟨.hbm, 89, rfl⟩
abbrev main_v52 : Ref sig .tc := ⟨.hbm, 90, rfl⟩
abbrev main_cst_18 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_19 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_20 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_21 : Ref sig .tc := ⟨.hbm, 103, rfl⟩
abbrev main_v62 : Ref sig .tc := ⟨.hbm, 104, rfl⟩
abbrev main_v63 : Ref sig .tc := ⟨.hbm, 105, rfl⟩
abbrev main_cst_22 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_23 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_24 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_25 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_26 : Ref sig .tc := ⟨.hbm, 122, rfl⟩
abbrev main_v76 : Ref sig .tc := ⟨.hbm, 123, rfl⟩
abbrev main_v77 : Ref sig .tc := ⟨.hbm, 124, rfl⟩
abbrev main_cst_27 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_28 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_29 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_30 : Ref sig .tc := ⟨.hbm, 137, rfl⟩
abbrev main_v87 : Ref sig .tc := ⟨.hbm, 138, rfl⟩
abbrev main_v88 : Ref sig .tc := ⟨.hbm, 139, rfl⟩
abbrev main_cst_31 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_32 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_33 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_34 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_35 : Ref sig .tc := ⟨.hbm, 156, rfl⟩
abbrev main_v101 : Ref sig .tc := ⟨.hbm, 157, rfl⟩
abbrev main_v102 : Ref sig .tc := ⟨.hbm, 158, rfl⟩
abbrev main_cst_36 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_37 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_38 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_39 : Ref sig .tc := ⟨.hbm, 171, rfl⟩
abbrev main_v112 : Ref sig .tc := ⟨.hbm, 172, rfl⟩
abbrev main_v113 : Ref sig .tc := ⟨.hbm, 173, rfl⟩
abbrev main_cst_40 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_41 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_42 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_43 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_44 : Ref sig .tc := ⟨.hbm, 190, rfl⟩
abbrev main_v126 : Ref sig .tc := ⟨.hbm, 191, rfl⟩
abbrev main_v127 : Ref sig .tc := ⟨.hbm, 192, rfl⟩
abbrev main_cst_45 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_46 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_47 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_48 : Ref sig .tc := ⟨.hbm, 205, rfl⟩
abbrev main_v137 : Ref sig .tc := ⟨.hbm, 206, rfl⟩
abbrev main_v138 : Ref sig .tc := ⟨.hbm, 207, rfl⟩
abbrev main_cst_49 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_cst_50 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_51 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_cst_52 : Ref sig .tc := ⟨.hbm, 220, rfl⟩
abbrev main_v148 : Ref sig .tc := ⟨.hbm, 221, rfl⟩
abbrev main_v149 : Ref sig .tc := ⟨.hbm, 222, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel32.lean ====
abbrev S4096x6144 : Shape := ⟨2, ![4096, 6144]⟩
abbrev S4096x2048 : Shape := ⟨2, ![4096, 2048]⟩
abbrev S4096x1024 : Shape := ⟨2, ![4096, 1024]⟩
abbrev S1x512 : Shape := ⟨2, ![1, 512]⟩
abbrev S4096x11264 : Shape := ⟨2, ![4096, 11264]⟩
abbrev S4096x512 : Shape := ⟨2, ![4096, 512]⟩
abbrev S4096x1 : Shape := ⟨2, ![4096, 1]⟩
abbrev S512x1024 : Shape := ⟨2, ![512, 1024]⟩
abbrev S512x512 : Shape := ⟨2, ![512, 512]⟩
abbrev S512x1 : Shape := ⟨2, ![512, 1]⟩
abbrev S512 : Shape := ⟨1, ![512]⟩

abbrev nBuf : Space → Nat
  | .hbm => 15
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S1x512, .f32⟩
  | .hbm, ⟨5, _⟩ => ⟨S1x512, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x11264, .f32⟩
  | .hbm, ⟨11, _⟩ => ⟨S4096x512, .bf16⟩
  | .hbm, ⟨12, _⟩ => ⟨S4096x512, .bf16⟩
  | .hbm, ⟨13, _⟩ => ⟨S4096x1, .f32⟩
  | .hbm, ⟨14, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S4096x6144 : Shape := ⟨2, ![4096, 6144]⟩
abbrev S4096x2048 : Shape := ⟨2, ![4096, 2048]⟩
abbrev S4096x1024 : Shape := ⟨2, ![4096, 1024]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S1x512, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .bf16⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel33.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference33Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel34.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_20 : BitVec 32 := 0#32
  let v46 : BitVec 1 := Scalar.cmpi .ne v45 c0_i32_20
  v46

def k0_cond2 (i : grid0.Coords) : BitVec 1 :=
  let arg0 : BitVec 32 := BitVec.ofNat 32 (i 0).val
  let c0_i32_21 : BitVec 32 := 0#32
  let v47 : BitVec 1 := Scalar.cmpi .sgt arg0 c0_i32_21
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x1, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Head.lean ====
module

public import proofs.«01_k».proof.Proof.Gen.KernelIdeal.Value
public import Idealize.ShloMosaic.PureOps.Ideal
public import Idealize.ShloMosaic.Lib.Tactic
public import Idealize.ShloMosaic.Lib.Pointwise
public import Idealize.ShloMosaic.Lib.Pipeline.ValueKit

/-!
The vector computation of one head in one block of 256 rows, written once as functions of the
loaded tiles: the rotated queries and keys, the decay weights, the normalised output, the gradient
that reaches the retention, and the tile products.
-/

@[expose] public section

set_option maxRecDepth 16384

noncomputable section

open Idealize.ShloMosaic Idealize.ShloMosaic.TcCoe Idealize.ShloMosaic.Tactic Idealize.SL.Sem

namespace Cert.KernelIdeal.Head

open Cert.KernelIdeal Cert.KernelIdeal.Gen

/-- A 256×128 tile of numbers. -/
abbrev T128 := FVec Ideal S256x128 .f32
/-- A 256×256 tile of numbers. -/
abbrev T256 := FVec Ideal S256x256 .f32
/-- A 128×256 tile of numbers. -/
abbrev TS := FVec Ideal S128x256 .f32
/-- A column of 256 numbers. -/
abbrev TC := FVec Ideal S256x1 .f32

/-- The rotary embedding of a tile. -/
def rot (C S X : T128) : T128 :=
  addf (mulf (shapeCast S256x128 X shapeCasts_S256x128_S256x128) (shapeCast S256x128 C shapeCasts_S256x128_S256x128))
    (mulf (dynamicRotate 1 64#32 none (shapeCast S256x128 X shapeCasts_S256x128_S256x128) rotates_S256x128_d1)
      (shapeCast S256x128 S shapeCasts_S256x128_S256x128))

/-- The scaled rotary embedding of the keys. -/
def krot (C S X : T128) : T128 :=
  mulf (rot C S X) (broadcast S256x128 (Scalar.ofBits .f32 0x3DB504F3#32))

/-- The transpose of the rotary embedding. -/
def unrot (C S X : T128) : T128 :=
  addf (mulf X (shapeCast S256x128 C shapeCasts_S256x128_S256x128))
    (dynamicRotate 1 64#32 none (mulf X (shapeCast S256x128 S shapeCasts_S256x128_S256x128)) rotates_S256x128_d1)

/-- The logarithm of the head's decay. -/
def lgam (L : FVec Ideal S1x1x1 .f32) : FVec Ideal S1x1 .f32 := shapeCast S1x1 L shapeCasts_S1x1x1_S1x1

/-- The row number of each row. -/
def rowPos : TC := sitofp .f32 (iota .tc S256x1 32 [0] iota_S256x1_d0_w32)

/-- The decay from the block's start to each row. -/
def qdec (L : FVec Ideal S1x1x1 .f32) : TC :=
  exp (mulf (broadcastTo S256x1 (lgam L) broadcasts_S1x1_S256x1) (addf rowPos (broadcast S256x1 (Scalar.ofBits .f32 0x3F800000#32))))

/-- The decay from each row to the block's end. -/
def kdec (L : FVec Ideal S1x1x1 .f32) : TC :=
  exp (mulf (broadcastTo S256x1 (lgam L) broadcasts_S1x1_S256x1) (subf (broadcast S256x1 (Scalar.ofBits .f32 0x437F0000#32)) rowPos))

/-- The decay over a whole block. -/
def cdec (L : FVec Ideal S1x1x1 .f32) : FVec Ideal S1x1 .f32 :=
  exp (mulf (lgam L) (broadcast S1x1 (Scalar.ofBits .f32 0x43800000#32)))

/-- The output less its mean over the head. -/
def centred (Y : T256) : T256 :=
  subf (shapeCast S256x256 Y shapeCasts_S256x256_S256x256)
    (broadcastTo S256x256 (divf (shapeCast S256x1 (multiReduction .add [1] S256 (shapeCast S256x256 Y shapeCasts_S256x256_S256x256) 0x00000000#32 reduces_S256x256_S256 (.inl rfl) rfl) shapeCasts_S256_S256x1)
      (broadcast S256x1 (Scalar.ofBits .f32 0x43800000#32))) broadcasts_S256x1_S256x256)

/-- The reciprocal standard deviation over the head. -/
def rstd (Y : T256) : TC :=
  rsqrt (addf (divf (shapeCast S256x1 (multiReduction .add [1] S256 (mulf (centred Y) (centred Y)) 0x00000000#32 reduces_S256x256_S256 (.inl rfl) rfl) shapeCasts_S256_S256x1)
    (broadcast S256x1 (Scalar.ofBits .f32 0x43800000#32))) (broadcast S256x1 (Scalar.ofBits .f32 0x358637BD#32)))

/-- The normalised output. -/
def normed (Y : T256) : T256 := mulf (centred Y) (broadcastTo S256x256 (rstd Y) broadcasts_S256x1_S256x256)

/-- The logistic function of the gate. -/
def sg (G : T256) : T256 :=
  divf (broadcast S256x256 (Scalar.ofBits .f32 0x3F800000#32))
    (addf (broadcast S256x256 (Scalar.ofBits .f32 0x3F800000#32))
      (exp (subf (broadcast S256x256 (Scalar.ofBits .f32 0x00000000#32)) (shapeCast S256x256 G shapeCasts_S256x256_S256x256))))

/-- The incoming gradient times the gate. -/
def gated (G D : T256) : T256 := mulf D (mulf (shapeCast S256x256 G shapeCasts_S256x256_S256x256) (sg G))

/-- The gradient of the gate. -/
def dgate (Y : T256) (N : FVec Ideal S1x256 .f32) (G D : T256) : T256 :=
  mulf (mulf D (mulf (normed Y) (broadcastTo S256x256 N broadcasts_S1x256_S256x256)))
    (mulf (sg G) (addf (broadcast S256x256 (Scalar.ofBits .f32 0x3F800000#32))
      (mulf (shapeCast S256x256 G shapeCasts_S256x256_S256x256)
        (subf (broadcast S256x256 (Scalar.ofBits .f32 0x3F800000#32)) (sg G)))))

/-- The mean over the columns, as a column. -/
def rowMean (X : T256) : TC :=
  divf (shapeCast S256x1 (multiReduction .add [1] S256 X 0x00000000#32 reduces_S256x256_S256 (.inl rfl) rfl) shapeCasts_S256_S256x1)
    (broadcast S256x1 (Scalar.ofBits .f32 0x43800000#32))

/-- The gradient of the normalised output. -/
def dnorm (N : FVec Ideal S1x256 .f32) (G D : T256) : T256 :=
  mulf (gated G D) (broadcastTo S256x256 N broadcasts_S1x256_S256x256)

/-- The gradient of the retention's output. -/
def dout (Y : T256) (N : FVec Ideal S1x256 .f32) (G D : T256) : T256 :=
  mulf (broadcastTo S256x256 (rstd Y) broadcasts_S256x1_S256x256)
    (subf (subf (dnorm N G D) (broadcastTo S256x256 (rowMean (dnorm N G D)) broadcasts_S256x1_S256x256))
      (mulf (normed Y) (broadcastTo S256x256 (rowMean (mulf (dnorm N G D) (normed Y))) broadcasts_S256x1_S256x256)))

/-- The block's part of the gradient of the gain. -/
def gpart (Y G D : T256) : FVec Ideal S1x256 .f32 :=
  shapeCast S1x256 (multiReduction .add [0] S256 (mulf (gated G D) (normed Y)) 0x00000000#32 reduces_S256x256_S256_2 (.inl rfl) rfl) shapeCasts_S256_S1x256

/-- The floor of a nonnegative entry divided by 64, as the signed division computes it. -/
def chunk (x : IVec S256x256 32) : IVec S256x256 32 :=
  select (andi (cmpi .ne (subi (extui 32 (cmpi .sgt x (broadcast S256x256 0#32)) natLt_1_32) (extui 32 (cmpi .slt x (broadcast S256x256 0#32)) natLt_1_32))
      (broadcast S256x256 (Scalar.subi (Scalar.extui (Scalar.cmpi .sgt 64#32 0#32)) (Scalar.extui (Scalar.cmpi .slt 64#32 0#32)) : BitVec 32)))
      (cmpi .ne (remsi x (broadcast S256x256 64#32)) (broadcast S256x256 0#32)))
    (subi (divsi x (broadcast S256x256 64#32)) (broadcast S256x256 1#32)) (divsi x (broadcast S256x256 64#32))

/-- The decay between the rows of a block. -/
def decay (L : FVec Ideal S1x1x1 .f32) : T256 :=
  select (cmpi .sle (chunk (iota .tc S256x256 32 [1] iota_S256x256_d1_w32)) (chunk (iota .tc S256x256 32 [0] iota_S256x256_d0_w32)))
    (exp (mulf (broadcastTo S256x256 (lgam L) broadcasts_S1x1_S256x256)
      (sitofp .f32 (absi (subi (iota .tc S256x256 32 [0] iota_S256x256_d0_w32) (iota .tc S256x256 32 [1] iota_S256x256_d1_w32))))))
    (broadcast S256x256 (Scalar.ofBits .f32 0x00000000#32))

/-- A 256×128 tile in the narrow format. -/
def n128 (X : T128) : FVec Ideal S256x128 .bf16 := truncf .bf16 X bitsLt_bf16_f32
/-- A 256×256 tile in the narrow format. -/
def n256 (X : T256) : FVec Ideal S256x256 .bf16 := truncf .bf16 X bitsLt_bf16_f32
/-- A 128×256 tile in the narrow format. -/
def nS (X : TS) : FVec Ideal S128x256 .bf16 := truncf .bf16 X bitsLt_bf16_f32

/-- The products of queries and keys. -/
def aTile (Q K : T128) : T256 :=
  matmul dot_S256x128_S256x128_S256x256_1_1_0_0_n_n none (n128 Q) (n128 K) (constant S256x256 .f32 0x00000000#32)

/-- The products of the rows of two 256×256 tiles. -/
def bTile (O V : T256) : T256 :=
  matmul dot_S256x256_S256x256_S256x256_1_1_0_0_n_n none (n256 O) (n256 V) (constant S256x256 .f32 0x00000000#32)

/-- Rows against a state. -/
def sTile (O : T256) (S : TS) : T128 :=
  matmul dot_S256x256_S128x256_S256x128_1_1_0_0_n_n none (n256 O) (nS S) (constant S256x128 .f32 0x00000000#32)

/-- The gradient of the rotated queries. -/
def dqTile (L : FVec Ideal S1x1x1 .f32) (K : T128) (O V : T256) (S : TS) : T128 :=
  addf (matmul dot_S256x256_S256x128_S256x128_1_0_0_1_n_n none (n256 (mulf (bTile O V) (decay L))) (n128 K) (constant S256x128 .f32 0x00000000#32))
    (mulf (sTile O S) (broadcastTo S256x128 (qdec L) broadcasts_S256x1_S256x128))

/-- The gradient of the rotated keys. -/
def dkTile (L : FVec Ideal S1x1x1 .f32) (Q : T128) (O V : T256) (Z : TS) : T128 :=
  mulf (addf (matmul dot_S256x256_S256x128_S256x128_0_0_1_1_n_n none (n256 (mulf (bTile O V) (decay L))) (n128 Q) (constant S256x128 .f32 0x00000000#32))
    (mulf (sTile V Z) (broadcastTo S256x128 (kdec L) broadcasts_S256x1_S256x128)))
    (broadcast S256x128 (Scalar.ofBits .f32 0x3DB504F3#32))

/-- The gradient of the values. -/
def dvTile (L : FVec Ideal S1x1x1 .f32) (Q K : T128) (O : T256) (Z : TS) : T256 :=
  addf (matmul dot_S256x256_S256x256_S256x256_0_0_1_1_n_n none (n256 (mulf (aTile Q K) (decay L))) (n256 O) (constant S256x256 .f32 0x00000000#32))
    (matmul dot_S256x128_S128x256_S256x256_1_0_0_1_n_n none
      (n128 (mulf K (broadcastTo S256x128 (kdec L) broadcasts_S256x1_S256x128))) (nS Z) (constant S256x256 .f32 0x00000000#32))

/-- The gradient of the state, one block further. -/
def zTile (L : FVec Ideal S1x1x1 .f32) (Q : T128) (O : T256) (Z : TS) : TS :=
  addf (mulf Z (broadcastTo S128x256 (cdec L) broadcasts_S1x1_S128x256))
    (matmul dot_S256x128_S256x256_S128x256_0_0_1_1_n_n none
      (n128 (mulf Q (broadcastTo S256x128 (qdec L) broadcasts_S256x1_S256x128))) (n256 O) (constant S128x256 .f32 0x00000000#32))

end Cert.KernelIdeal.Head
-- ==== Proof.Reals.lean ====
module

public import Idealize.ShloMosaic.PureOps.Ideal
public import Mathlib.Tactic.Ring
public import Mathlib.Tactic.FieldSimp
public import Mathlib.Tactic.Linarith

/-!
The backward pass of one retention head over the real numbers, as formulas over all 4096 rows, and
the equations that compute it block by block: 16 blocks of 256 rows, a state carried forwards and a
gradient of the state carried backwards.
-/

@[expose] public section

noncomputable section

namespace Cert.Retention

/-- The row `i` of block `b`. -/
def row (b : Fin 16) (i : Fin 256) : Fin 4096 := ⟨256 * b.1 + i.1, by omega⟩

/-- The column half a head away. -/
def turn (d : Fin 128) : Fin 128 := ⟨(d.1 + 128 - 64) % 128, Nat.mod_lt _ (by decide)⟩

/-- What one head reads: the rotary tables, the logarithm of its decay, the scale of the keys, the
norm's epsilon, its rows of queries, keys, values and gates, the incoming gradient and the gain. -/
structure HeadData where
  c : Fin 4096 → Fin 128 → ℝ
  s : Fin 4096 → Fin 128 → ℝ
  lg : ℝ
  sc : ℝ
  eps : ℝ
  q : Fin 4096 → Fin 128 → ℝ
  k : Fin 4096 → Fin 128 → ℝ
  v : Fin 4096 → Fin 256 → ℝ
  g : Fin 4096 → Fin 256 → ℝ
  D : Fin 4096 → Fin 256 → ℝ
  N : Fin 256 → ℝ

namespace HeadData

variable (H : HeadData)

/-- The rotated queries. -/
def rq (n : Fin 4096) (d : Fin 128) : ℝ := H.q n d * H.c n d + H.q n (turn d) * H.s n d

/-- The rotated and scaled keys. -/
def rk (n : Fin 4096) (d : Fin 128) : ℝ := (H.k n d * H.c n d + H.k n (turn d) * H.s n d) * H.sc

/-- The transpose of the rotation. -/
def unrot (x : Fin 4096 → Fin 128 → ℝ) (n : Fin 4096) (d : Fin 128) : ℝ :=
  x n d * H.c n d + x n (turn d) * H.s n (turn d)

/-- The weight of row `m` in the output of row `n`. -/
def W (n m : Fin 4096) : ℝ :=
  if m.1 / 64 ≤ n.1 / 64 then Real.exp (H.lg * (((n.1 : ℤ) - (m.1 : ℤ)).natAbs : ℝ)) else 0

/-- The products of queries and keys. -/
def A (n m : Fin 4096) : ℝ := ∑ d, H.rq n d * H.rk m d

/-- The retention's output. -/
def y (n : Fin 4096) (e : Fin 256) : ℝ := ∑ m, (H.A n m * H.W n m) * H.v m e

/-- The mean over a head's columns. -/
def mean (x : Fin 256 → ℝ) : ℝ := (∑ e, x e) * (1 / 256)

/-- The output less its mean. -/
def ctr (n : Fin 4096) (e : Fin 256) : ℝ := H.y n e - mean (H.y n)

/-- The variance with epsilon. -/
def var (n : Fin 4096) : ℝ := mean (fun e => H.ctr n e * H.ctr n e) + H.eps

/-- The reciprocal standard deviation. -/
def rst (n : Fin 4096) : ℝ := (Real.sqrt (H.var n))⁻¹

/-- The normalised output. -/
def ryn (n : Fin 4096) (e : Fin 256) : ℝ := H.ctr n e * H.rst n

/-- The logistic function of the gate. -/
def sgm (n : Fin 4096) (e : Fin 256) : ℝ := 1 * (1 / (1 + Real.exp (-H.g n e)))

/-- The incoming gradient times the gate. -/
def gt (n : Fin 4096) (e : Fin 256) : ℝ := H.D n e * (H.g n e * H.sgm n e)

/-- The gradient of the gate. -/
def dg (n : Fin 4096) (e : Fin 256) : ℝ :=
  (H.D n e * (H.ryn n e * H.N e)) * (H.sgm n e * (1 + H.g n e * (1 - H.sgm n e)))

/-- The gradient of the normalised output. -/
def dn (n : Fin 4096) (e : Fin 256) : ℝ := H.gt n e * H.N e

/-- The gradient of the retention's output. -/
def dy (n : Fin 4096) (e : Fin 256) : ℝ :=
  H.rst n * (H.dn n e - mean (H.dn n) - H.ryn n e * mean (fun e => H.dn n e * H.ryn n e))

/-- The products of output gradients and values. -/
def B (n m : Fin 4096) : ℝ := ∑ e, H.dy n e * H.v m e

/-- The gradient of the values. -/
def dv (m : Fin 4096) (e : Fin 256) : ℝ := ∑ n, (H.A n m * H.W n m) * H.dy n e

/-- The gradient of the rotated queries. -/
def dq (n : Fin 4096) (d : Fin 128) : ℝ := ∑ m, (H.B n m * H.W n m) * H.rk m d

/-- The gradient of the rotated keys. -/
def dk (m : Fin 4096) (d : Fin 128) : ℝ := (∑ n, (H.B n m * H.W n m) * H.rq n d) * H.sc

/-- The gradient of the gain. -/
def dN (e : Fin 256) : ℝ := ∑ n, H.gt n e * H.ryn n e

/-- The state before block `b`. -/
def SP (b : Fin 16) (d : Fin 128) (e : Fin 256) : ℝ :=
  ∑ m : Fin 4096, ((if m.1 < 256 * b.1 then Real.exp (H.lg * ((256 * b.1 : ℕ) - 1 - (m.1 : ℝ))) else 0) * H.rk m d) * H.v m e

/-- The decay from a block's start. -/
def qd (i : Fin 256) : ℝ := Real.exp (H.lg * ((i.1 : ℝ) + 1))

/-- The decay to a block's end. -/
def kd (i : Fin 256) : ℝ := Real.exp (H.lg * (255 - (i.1 : ℝ)))

/-- The decay over a block. -/
def cd : ℝ := Real.exp (H.lg * 256)

/-- The weights inside a block. -/
def w (i j : Fin 256) : ℝ :=
  if j.1 / 64 ≤ i.1 / 64 then Real.exp (H.lg * (((i.1 : ℤ) - (j.1 : ℤ)).natAbs : ℝ)) else 0

/-- What block `b` adds to the gradient of the state before it. -/
def dst (b : Fin 16) (d : Fin 128) (e : Fin 256) : ℝ := ∑ i, (H.rq (row b i) d * H.qd i) * H.dy (row b i) e

/-- The gradient of the state after `p` blocks have been taken from the last one downwards. -/
def DS (p : ℕ) (d : Fin 128) (e : Fin 256) : ℝ :=
  ∑ n : Fin 4096, (if 4096 ≤ n.1 + 256 * p then Real.exp (H.lg * ((n.1 : ℝ) + 256 * (p : ℝ) - 4096 + 1)) else 0) * H.rq n d * H.dy n e

/-- The sum over all rows is the sum over blocks of the sums over their rows. -/
theorem sum_rows (f : Fin 4096 → ℝ) : ∑ n, f n = ∑ b : Fin 16, ∑ i : Fin 256, f (row b i) := by
  rw [← Finset.sum_product', Finset.univ_product_univ]
  refine (Fintype.sum_equiv (finProdFinEquiv (m := 16) (n := 256)) _ _ fun p => ?_).symm
  congr 1
  apply Fin.ext
  simp [row, finProdFinEquiv]
  omega

theorem W_same (b : Fin 16) (i j : Fin 256) : H.W (row b i) (row b j) = H.w i j := by
  unfold W w row
  have h : (256 * b.1 + j.1) / 64 ≤ (256 * b.1 + i.1) / 64 ↔ j.1 / 64 ≤ i.1 / 64 := by omega
  have h' : (((256 * b.1 + i.1 : ℕ) : ℤ) - ((256 * b.1 + j.1 : ℕ) : ℤ)) = (i.1 : ℤ) - (j.1 : ℤ) := by push_cast; ring
  simp only [h, h']

theorem W_later (n m : Fin 4096) (b : Fin 16) (i : Fin 256) (hn : n = row b i) (c : Fin 16) (j : Fin 256) (hm : m = row c j)
    (h : b < c) : H.W n m = 0 := by
  subst hn hm
  have h : b.1 < c.1 := h
  unfold W row
  rw [if_neg]
  simp only
  omega

theorem W_earlier (b : Fin 16) (i : Fin 256) (c : Fin 16) (j : Fin 256) (h : c < b) :
    H.W (row b i) (row c j) = Real.exp (H.lg * ((256 * b.1 : ℕ) - 1 - ((row c j).1 : ℝ))) * H.qd i := by
  have h : c.1 < b.1 := h
  unfold W row qd
  rw [if_pos (by simp only; omega), ← Real.exp_add]
  congr 1
  have : ((((256 * b.1 + i.1 : ℕ) : ℤ) - ((256 * c.1 + j.1 : ℕ) : ℤ)).natAbs : ℝ) = ((256 * b.1 + i.1 : ℕ) : ℝ) - ((256 * c.1 + j.1 : ℕ) : ℝ) := by
    rw [Nat.cast_natAbs, abs_of_nonneg (by omega)]; push_cast; ring
  rw [this]; push_cast; ring

theorem W_earlier' (b : Fin 16) (i : Fin 256) (c : Fin 16) (j : Fin 256) (h : c < b) :
    H.W (row b i) (row c j) = H.kd j * Real.exp (H.lg * (((row b i).1 : ℝ) + 256 * ((15 - c.1 : ℕ) : ℝ) - 4096 + 1)) := by
  have h : c.1 < b.1 := h
  unfold W row kd
  rw [if_pos (by simp only; omega), ← Real.exp_add]
  congr 1
  have : ((((256 * b.1 + i.1 : ℕ) : ℤ) - ((256 * c.1 + j.1 : ℕ) : ℤ)).natAbs : ℝ) = ((256 * b.1 + i.1 : ℕ) : ℝ) - ((256 * c.1 + j.1 : ℕ) : ℝ) := by
    rw [Nat.cast_natAbs, abs_of_nonneg (by omega)]; push_cast; ring
  rw [this, Nat.cast_sub (by omega)]; push_cast; ring

/-- A weighted sum over all earlier and equal rows is the block's own part and the state's part. -/
theorem split_q (b : Fin 16) (i : Fin 256) (f : Fin 4096 → ℝ) :
    ∑ m, f m * H.W (row b i) m
      = (∑ j, f (row b j) * H.w i j)
        + (∑ m : Fin 4096, f m * (if m.1 < 256 * b.1 then Real.exp (H.lg * ((256 * b.1 : ℕ) - 1 - (m.1 : ℝ))) else 0)) * H.qd i := by
  have e : ∀ c : Fin 16, ∑ j, f (row c j) * H.W (row b i) (row c j)
      = (if c = b then ∑ j, f (row b j) * H.w i j else 0)
        + (∑ j, f (row c j) * (if (row c j).1 < 256 * b.1 then Real.exp (H.lg * ((256 * b.1 : ℕ) - 1 - ((row c j).1 : ℝ))) else 0)) * H.qd i := by
    intro c
    rcases lt_trichotomy c b with h | h | h
    · rw [if_neg (ne_of_lt h), zero_add, Finset.sum_mul]
      refine Finset.sum_congr rfl fun j _ => ?_
      have h' : c.1 < b.1 := h
      rw [H.W_earlier b i c j h, if_pos (by simp only [row]; omega)]; ring
    · subst h
      rw [if_pos rfl]
      have : ∀ j, ¬ ((row c j).1 < 256 * c.1) := fun j => by simp only [row]; omega
      simp only [W_same, this, if_false, mul_zero, Finset.sum_const_zero, zero_mul, add_zero]
    · have h' : b.1 < c.1 := h
      rw [if_neg (ne_of_gt h)]
      have : ∀ j, ¬ ((row c j).1 < 256 * b.1) := fun j => by simp only [row]; omega
      simp only [this, if_false, mul_zero, Finset.sum_const_zero, zero_mul, add_zero]
      exact Finset.sum_eq_zero fun j _ => by rw [H.W_later _ _ b i rfl c j rfl h, mul_zero]
  rw [sum_rows, sum_rows (fun m => f m * _), Finset.sum_congr rfl fun c _ => e c, Finset.sum_add_distrib,
    Finset.sum_ite_eq' , if_pos (Finset.mem_univ _), ← Finset.sum_mul]

/-- A weighted sum over all later and equal rows is the block's own part and the carried gradient's part. -/
theorem split_k (b : Fin 16) (j : Fin 256) (f : Fin 4096 → ℝ) :
    ∑ n, f n * H.W n (row b j)
      = (∑ i, f (row b i) * H.w i j)
        + H.kd j * ∑ n : Fin 4096, f n * (if 4096 ≤ n.1 + 256 * (15 - b.1) then Real.exp (H.lg * ((n.1 : ℝ) + 256 * ((15 - b.1 : ℕ) : ℝ) - 4096 + 1)) else 0) := by
  have e : ∀ c : Fin 16, ∑ i, f (row c i) * H.W (row c i) (row b j)
      = (if c = b then ∑ i, f (row b i) * H.w i j else 0)
        + H.kd j * ∑ i, f (row c i) * (if 4096 ≤ (row c i).1 + 256 * (15 - b.1) then Real.exp (H.lg * (((row c i).1 : ℝ) + 256 * ((15 - b.1 : ℕ) : ℝ) - 4096 + 1)) else 0) := by
    intro c
    rcases lt_trichotomy c b with h | h | h
    · have h' : c.1 < b.1 := h
      rw [if_neg (ne_of_lt h)]
      have : ∀ i, ¬ (4096 ≤ (row c i).1 + 256 * (15 - b.1)) := fun i => by simp only [row]; omega
      simp only [this, if_false, mul_zero, Finset.sum_const_zero, add_zero]
      exact Finset.sum_eq_zero fun i _ => by rw [H.W_later _ _ c i rfl b j rfl h, mul_zero]
    · subst h
      rw [if_pos rfl]
      have : ∀ i, ¬ (4096 ≤ (row c i).1 + 256 * (15 - c.1)) := fun i => by simp only [row]; omega
      simp only [W_same, this, if_false, mul_zero, Finset.sum_const_zero, add_zero]
    · rw [if_neg (ne_of_gt h), zero_add, Finset.mul_sum]
      refine Finset.sum_congr rfl fun i _ => ?_
      have h' : b.1 < c.1 := h
      rw [H.W_earlier' c i b j h, if_pos (by simp only [row]; omega)]; ring
  conv_rhs => rw [sum_rows]
  rw [sum_rows, Finset.sum_congr rfl fun c _ => e c, Finset.sum_add_distrib,
    Finset.sum_ite_eq' , if_pos (Finset.mem_univ _), ← Finset.mul_sum]

/-- The gradient of the queries, block by block. -/
theorem dq_block (b : Fin 16) (i : Fin 256) (d : Fin 128) :
    H.dq (row b i) d = (∑ j, (H.B (row b i) (row b j) * H.w i j) * H.rk (row b j) d)
      + (∑ e, H.dy (row b i) e * H.SP b d e) * H.qd i := by
  have e : ∑ e, H.dy (row b i) e * H.SP b d e
      = ∑ m : Fin 4096, H.B (row b i) m * H.rk m d * (if m.1 < 256 * b.1 then Real.exp (H.lg * ((256 * b.1 : ℕ) - 1 - (m.1 : ℝ))) else 0) := by
    simp only [SP, B, Finset.mul_sum, Finset.sum_mul]
    rw [Finset.sum_comm]
    refine Finset.sum_congr rfl fun m _ => Finset.sum_congr rfl fun e _ => ?_
    ring
  rw [e]
  have := H.split_q b i fun m => H.B (row b i) m * H.rk m d
  rw [← Finset.sum_congr rfl fun j _ => (by ring : H.B (row b i) (row b j) * H.rk (row b j) d * H.w i j = _), ← this]
  unfold dq
  refine Finset.sum_congr rfl fun m _ => by ring

/-- The gradient of the values, block by block. -/
theorem dv_block (b : Fin 16) (j : Fin 256) (e : Fin 256) :
    H.dv (row b j) e = (∑ i, (H.A (row b i) (row b j) * H.w i j) * H.dy (row b i) e)
      + ∑ d, (H.rk (row b j) d * H.kd j) * H.DS (15 - b.1) d e := by
  have e' : ∑ d, (H.rk (row b j) d * H.kd j) * H.DS (15 - b.1) d e
      = H.kd j * ∑ n : Fin 4096, (H.A n (row b j) * H.dy n e) * (if 4096 ≤ n.1 + 256 * (15 - b.1) then Real.exp (H.lg * ((n.1 : ℝ) + 256 * ((15 - b.1 : ℕ) : ℝ) - 4096 + 1)) else 0) := by
    simp only [DS, A, Finset.mul_sum, Finset.sum_mul]
    rw [Finset.sum_comm]
    refine Finset.sum_congr rfl fun m _ => Finset.sum_congr rfl fun e _ => ?_
    ring
  rw [e']
  have := H.split_k b j fun n => H.A n (row b j) * H.dy n e
  rw [← Finset.sum_congr rfl fun i _ => (by ring : H.A (row b i) (row b j) * H.dy (row b i) e * H.w i j = _), ← this]
  unfold dv
  refine Finset.sum_congr rfl fun m _ => by ring

/-- The gradient of the keys, block by block. -/
theorem dk_block (b : Fin 16) (j : Fin 256) (d : Fin 128) :
    H.dk (row b j) d = ((∑ i, (H.B (row b i) (row b j) * H.w i j) * H.rq (row b i) d)
      + (∑ e, H.v (row b j) e * H.DS (15 - b.1) d e) * H.kd j) * H.sc := by
  have e' : (∑ e, H.v (row b j) e * H.DS (15 - b.1) d e) * H.kd j
      = H.kd j * ∑ n : Fin 4096, (H.B n (row b j) * H.rq n d) * (if 4096 ≤ n.1 + 256 * (15 - b.1) then Real.exp (H.lg * ((n.1 : ℝ) + 256 * ((15 - b.1 : ℕ) : ℝ) - 4096 + 1)) else 0) := by
    rw [mul_comm]
    congr 1
    simp only [DS, B, Finset.mul_sum, Finset.sum_mul]
    rw [Finset.sum_comm]
    refine Finset.sum_congr rfl fun m _ => Finset.sum_congr rfl fun e _ => ?_
    ring
  rw [e']
  have := H.split_k b j fun n => H.B n (row b j) * H.rq n d
  rw [← Finset.sum_congr rfl fun i _ => (by ring : H.B (row b i) (row b j) * H.rq (row b i) d * H.w i j = _), ← this]
  unfold dk
  congr 1
  refine Finset.sum_congr rfl fun m _ => by ring

theorem DS_zero (d : Fin 128) (e : Fin 256) : H.DS 0 d e = 0 := by
  unfold DS
  refine Finset.sum_eq_zero fun n _ => ?_
  rw [if_neg (by omega)]; ring

/-- The carried gradient gathers one more block. -/
theorem DS_succ (b : Fin 16) (d : Fin 128) (e : Fin 256) :
    H.DS (15 - b.1 + 1) d e = H.DS (15 - b.1) d e * H.cd + H.dst b d e := by
  unfold DS dst
  have hp : ((15 - b.1 : ℕ) : ℝ) = 15 - (b.1 : ℝ) := by rw [Nat.cast_sub (by omega)]; norm_num
  have hp' : ((15 - b.1 + 1 : ℕ) : ℝ) = 16 - (b.1 : ℝ) := by push_cast; rw [hp]; ring
  conv_rhs => rw [sum_rows]
  rw [sum_rows, Finset.sum_mul]
  have e : ∀ c : Fin 16, ∑ i, (if 4096 ≤ (row c i).1 + 256 * (15 - b.1 + 1) then Real.exp (H.lg * (((row c i).1 : ℝ) + 256 * ((15 - b.1 + 1 : ℕ) : ℝ) - 4096 + 1)) else 0) * H.rq (row c i) d * H.dy (row c i) e
      = (∑ i, (if 4096 ≤ (row c i).1 + 256 * (15 - b.1) then Real.exp (H.lg * (((row c i).1 : ℝ) + 256 * ((15 - b.1 : ℕ) : ℝ) - 4096 + 1)) else 0) * H.rq (row c i) d * H.dy (row c i) e) * H.cd
        + (if c = b then ∑ i, (H.rq (row b i) d * H.qd i) * H.dy (row b i) e else 0) := by
    intro c
    rcases lt_trichotomy c b with h | h | h
    · have h' : c.1 < b.1 := h
      rw [if_neg (ne_of_lt h)]
      have h1 : ∀ i, ¬ (4096 ≤ (row c i).1 + 256 * (15 - b.1)) := fun i => by simp only [row]; omega
      have h2 : ∀ i, ¬ (4096 ≤ (row c i).1 + 256 * (15 - b.1 + 1)) := fun i => by simp only [row]; omega
      simp only [h1, h2, if_false, zero_mul, Finset.sum_const_zero, add_zero]
    · subst h
      rw [if_pos rfl]
      have h1 : ∀ i, ¬ (4096 ≤ (row c i).1 + 256 * (15 - c.1)) := fun i => by simp only [row]; omega
      have h2 : ∀ i, (4096 ≤ (row c i).1 + 256 * (15 - c.1 + 1)) := fun i => by simp only [row]; omega
      simp only [h1, h2, if_false, if_true, zero_mul, Finset.sum_const_zero, zero_add]
      refine Finset.sum_congr rfl fun i _ => ?_
      rw [hp', qd, show H.lg * (((row c i).1 : ℝ) + 256 * (16 - (c.1 : ℝ)) - 4096 + 1) = H.lg * ((i.1 : ℝ) + 1) by
        simp only [row]; push_cast; ring]
      ring
    · have h' : b.1 < c.1 := h
      rw [if_neg (ne_of_gt h), add_zero, Finset.sum_mul]
      refine Finset.sum_congr rfl fun i _ => ?_
      rw [if_pos (by simp only [row]; omega), if_pos (by simp only [row]; omega), hp, hp', cd,
        show H.lg * (((row c i).1 : ℝ) + 256 * (16 - (b.1 : ℝ)) - 4096 + 1)
          = H.lg * (((row c i).1 : ℝ) + 256 * (15 - (b.1 : ℝ)) - 4096 + 1) + H.lg * 256 by ring, Real.exp_add]
      ring
  rw [Finset.sum_congr rfl fun c _ => e c, Finset.sum_add_distrib, Finset.sum_ite_eq', if_pos (Finset.mem_univ _)]

theorem mean_ctr (n : Fin 4096) : ∑ e, H.ctr n e = 0 := by
  simp only [ctr, mean, Finset.sum_sub_distrib, Finset.sum_const, Finset.card_univ, Fintype.card_fin, nsmul_eq_mul]
  push_cast; ring

theorem var_pos (h : 0 < H.eps) (n : Fin 4096) : 0 < H.var n := by
  unfold var mean
  have : 0 ≤ ∑ e, H.ctr n e * H.ctr n e := Finset.sum_nonneg fun e _ => mul_self_nonneg _
  positivity

theorem rst_sq (h : 0 < H.eps) (n : Fin 4096) : H.rst n * H.rst n = (H.var n)⁻¹ := by
  unfold rst
  rw [← mul_inv, Real.mul_self_sqrt (H.var_pos h n).le]

/-- The gradient of the retention's output, as the derivative of the mean, the variance and the quotient one by one. -/
theorem dy_chain (h : 0 < H.eps) (n : Fin 4096) (e : Fin 256) :
    (H.dn n e * H.rst n
      + (((∑ x, H.ctr n x * H.dn n x) * (-(1 / 2) * (H.rst n * (1 / H.var n)))) * (1 / 256)) * (2 * H.ctr n e))
      + ((∑ x, -(H.dn n x * H.rst n))
        + ∑ x, -((((∑ x, H.ctr n x * H.dn n x) * (-(1 / 2) * (H.rst n * (1 / H.var n)))) * (1 / 256)) * (2 * H.ctr n x))) * (1 / 256)
    = H.dy n e := by
  have h0 : ∑ x, -((((∑ x, H.ctr n x * H.dn n x) * (-(1 / 2) * (H.rst n * (1 / H.var n)))) * (1 / 256)) * (2 * H.ctr n x)) = 0 := by
    rw [Finset.sum_neg_distrib, ← Finset.mul_sum, ← Finset.mul_sum, H.mean_ctr]; ring
  have h1 : ∑ x, -(H.dn n x * H.rst n) = -((∑ x, H.dn n x) * H.rst n) := by
    rw [Finset.sum_neg_distrib, Finset.sum_mul]
  have h2 : ∑ x, H.dn n x * H.ryn n x = (∑ x, H.ctr n x * H.dn n x) * H.rst n := by
    rw [Finset.sum_mul]; refine Finset.sum_congr rfl fun x _ => by rw [ryn]; ring
  have h3 : 1 / H.var n = H.rst n * H.rst n := by rw [H.rst_sq h, one_div]
  rw [h0, h1, h3, dy, mean, mean, h2, ryn]
  ring

/-- The gradient of the gain, block by block. -/
theorem dN_block (e : Fin 256) : H.dN e = ∑ b : Fin 16, ∑ i, H.gt (row b i) e * H.ryn (row b i) e := sum_rows _

end HeadData

end Cert.Retention
-- ==== Proof.Tile.lean ====
module

public import proofs.«01_k».proof.Proof.Head
public import proofs.«01_k».proof.Proof.Reals

/-!
What the tiles of one head in one block hold, entry by entry, when the loaded tiles hold the rows of
that block: the entries are those of the formulas over all rows.
-/

@[expose] public section

set_option maxRecDepth 16384

noncomputable section

open Idealize.ShloMosaic Idealize.ShloMosaic.TcCoe Idealize.ShloMosaic.Tactic Idealize.SL.Sem

namespace Cert.Retention

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The number of columns of a head's values. -/
theorem bits_256 : Ideal.ofBits FTy.f32 0x43800000#32 = ((256 : ℝ) : EReal) := by
  simp [Ideal.ofBits, Ideal.ieee, -EReal.coe_mul]; norm_num

/-- The last row of a block. -/
theorem bits_255 : Ideal.ofBits FTy.f32 0x437F0000#32 = ((255 : ℝ) : EReal) := by
  simp [Ideal.ofBits, Ideal.ieee, -EReal.coe_mul]; norm_num

theorem div_256 (x : ℝ) : Ideal.div (x : EReal) (Ideal.ofBits FTy.f32 0x43800000#32) = ((x * (1 / 256) : ℝ) : EReal) := by
  rw [bits_256, Ideal.div_coe (by norm_num), EReal.coe_mul]

theorem rsqrt_pos {x : ℝ} (h : 0 < x) : Ideal.rsqrt (x : EReal) = (((Real.sqrt x)⁻¹ : ℝ) : EReal) := by
  rw [Ideal.rsqrt_coe, if_neg (not_lt.mpr h.le), if_neg (ne_of_gt h)]

theorem toInt_ofNat (n : Nat) (h : n < 2 ^ 31) : (BitVec.ofNat 32 n).toInt = (n : ℤ) := by
  rw [BitVec.toInt_eq_toNat_of_lt] <;> simp <;> omega

end Cert.Retention

namespace Cert.KernelIdeal.Head

open Cert.KernelIdeal Cert.KernelIdeal.Gen Cert.Retention

/-- The loaded tiles of one head hold the rows of block `b`. -/
structure Reads (H : HeadData) (b : Fin 16) (C S Q K : T128) (V G Y D : T256) (L : FVec Ideal S1x1x1 .f32)
    (N : FVec Ideal S1x256 .f32) : Prop where
  c : ∀ i d, C (ix2 i d) = ((H.c (row b i) d : ℝ) : EReal)
  s : ∀ i d, S (ix2 i d) = ((H.s (row b i) d : ℝ) : EReal)
  q : ∀ i d, Q (ix2 i d) = ((H.q (row b i) d : ℝ) : EReal)
  k : ∀ i d, K (ix2 i d) = ((H.k (row b i) d : ℝ) : EReal)
  v : ∀ i e, V (ix2 i e) = ((H.v (row b i) e : ℝ) : EReal)
  g : ∀ i e, G (ix2 i e) = ((H.g (row b i) e : ℝ) : EReal)
  y : ∀ i e, Y (ix2 i e) = ((H.y (row b i) e : ℝ) : EReal)
  D : ∀ i e, D (ix2 i e) = ((H.D (row b i) e : ℝ) : EReal)
  lg : L (ix3 0 0 0) = ((H.lg : ℝ) : EReal)
  N : ∀ e, N (ix2 0 e) = ((H.N e : ℝ) : EReal)
  sc : Ideal.ofBits FTy.f32 0x3DB504F3#32 = ((H.sc : ℝ) : EReal)
  eps : Ideal.ofBits FTy.f32 0x358637BD#32 = ((H.eps : ℝ) : EReal)
  eps_pos : 0 < H.eps

theorem chunk_word : ∀ j : Fin 256,
    Scalar.select
      (IntOp.andi
        (IntOp.cmpi CmpIPredicate.ne
          (IntOp.subi (BitVec.setWidth 32 (IntOp.cmpi CmpIPredicate.sgt (BitVec.ofNat 32 j.1) 0#32))
            (BitVec.setWidth 32 (IntOp.cmpi CmpIPredicate.slt (BitVec.ofNat 32 j.1) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.1) 64#32) 0#32))
      (IntOp.subi (IntOp.divsi ArithUnit.vector (BitVec.ofNat 32 j.1) 64#32) 1#32)
      (IntOp.divsi ArithUnit.vector (BitVec.ofNat 32 j.1) 64#32) = BitVec.ofNat 32 (j.1 / 64) := by
  decide +kernel

theorem chunk_le : ∀ a b : Fin 4, IntOp.cmpi CmpIPredicate.sle (BitVec.ofNat 32 a.1) (BitVec.ofNat 32 b.1) = if a.1 ≤ b.1 then 1#1 else 0#1 := by
  decide +kernel

theorem dist_word : ∀ i j : Fin 256,
    (IntOp.absi (IntOp.subi (BitVec.ofNat 32 i.1) (BitVec.ofNat 32 j.1))).toInt = (((i.1 : ℤ) - (j.1 : ℤ)).natAbs : ℤ) := by
  decide +kernel

variable {H : HeadData} {b : Fin 16} {C S Q K : T128} {V G Y D : T256} {L : FVec Ideal S1x1x1 .f32} {N : FVec Ideal S1x256 .f32}

namespace Reads

variable (r : Reads H b C S Q K V G Y D L N)

theorem decay_apply (r : Reads H b C S Q K V G Y D L N) (i j : Fin 256) : decay L (ix2 i j) = ((H.w i j : ℝ) : EReal) := by
  pointwise [decay, chunk, lgam]
  rw [chunk_word, chunk_word, chunk_le ⟨j.1 / 64, by omega⟩ ⟨i.1 / 64, by omega⟩, r.lg]
  unfold HeadData.w
  by_cases h : j.1 / 64 ≤ i.1 / 64
  · simp only [h, if_true]
    show Ideal.exp (((H.lg : ℝ) : EReal) * (((IntOp.absi (IntOp.subi (BitVec.ofNat 32 i.1) (BitVec.ofNat 32 j.1))).toInt : ℝ) : EReal)) = _
    rw [dist_word, ← EReal.coe_mul, Ideal.exp_coe, Int.cast_natCast]
  · simp only [h, if_false]
    rfl

theorem qdec_apply (r : Reads H b C S Q K V G Y D L N) (i : Fin 256) : qdec L (ix2 i 0) = ((H.qd i : ℝ) : EReal) := by
  pointwise [qdec, rowPos, lgam]
  show Ideal.exp (L (ix3 0 0 0) * ((((BitVec.ofNat 32 i.1).toInt : ℝ) : EReal) + 1)) = _
  rw [r.lg, toInt_ofNat _ (by omega), Int.cast_natCast, ← EReal.coe_one, ← EReal.coe_add, ← EReal.coe_mul, Ideal.exp_coe]
  rfl

theorem kdec_apply (r : Reads H b C S Q K V G Y D L N) (i : Fin 256) : kdec L (ix2 i 0) = ((H.kd i : ℝ) : EReal) := by
  pointwise [kdec, rowPos, lgam]
  show Ideal.exp (L (ix3 0 0 0) * (Ideal.ofBits FTy.f32 0x437F0000#32 - (((BitVec.ofNat 32 i.1).toInt : ℝ) : EReal))) = _
  rw [r.lg, bits_255, toInt_ofNat _ (by omega), Int.cast_natCast, ← EReal.coe_sub, ← EReal.coe_mul, Ideal.exp_coe]
  rfl

theorem cdec_apply (r : Reads H b C S Q K V G Y D L N) : cdec L (ix2 0 0) = ((H.cd : ℝ) : EReal) := by
  pointwise [cdec, lgam]
  rw [r.lg, bits_256, ← EReal.coe_mul, Ideal.exp_coe]
  rfl

theorem rot_q (r : Reads H b C S Q K V G Y D L N) (i : Fin 256) (d : Fin 128) : rot C S Q (ix2 i d) = ((H.rq (row b i) d : ℝ) : EReal) := by
  pointwise [rot]
  simp only [r.q, r.c, r.s, ← EReal.coe_mul, ← EReal.coe_add]
  rfl

theorem rot_k (r : Reads H b C S Q K V G Y D L N) (i : Fin 256) (d : Fin 128) : krot C S K (ix2 i d) = ((H.rk (row b i) d : ℝ) : EReal) := by
  pointwise [krot, rot]
  simp only [r.k, r.c, r.s, r.sc, ← EReal.coe_mul, ← EReal.coe_add]
  rfl

theorem unrot_apply (r : Reads H b C S Q K V G Y D L N) {X : T128} {x : Fin 4096 → Fin 128 → ℝ}
    (hX : ∀ i d, X (ix2 i d) = ((x (row b i) d : ℝ) : EReal)) (i : Fin 256) (d : Fin 128) :
    unrot C S X (ix2 i d) = ((H.unrot x (row b i) d : ℝ) : EReal) := by
  pointwise [unrot]
  simp only [hX, r.c, r.s, ← EReal.coe_mul, ← EReal.coe_add]
  rfl

theorem centred_apply (r : Reads H b C S Q K V G Y D L N) (i e : Fin 256) : centred Y (ix2 i e) = ((H.ctr (row b i) e : ℝ) : EReal) := by
  pointwise [centred]
  simp only [r.y, coe_sum, div_256, ← EReal.coe_sub]
  rfl

theorem rstd_apply (r : Reads H b C S Q K V G Y D L N) (i : Fin 256) : rstd Y (ix2 i 0) = ((H.rst (row b i) : ℝ) : EReal) := by
  pointwise [rstd]
  simp only [r.centred_apply, ← EReal.coe_mul, coe_sum, div_256, r.eps, ← EReal.coe_add]
  exact rsqrt_pos (H.var_pos r.eps_pos _)

theorem normed_apply (r : Reads H b C S Q K V G Y D L N) (i e : Fin 256) : normed Y (ix2 i e) = ((H.ryn (row b i) e : ℝ) : EReal) := by
  pointwise [normed]
  rw [r.centred_apply, r.rstd_apply, ← EReal.coe_mul]
  rfl

theorem sg_apply (r : Reads H b C S Q K V G Y D L N) (i e : Fin 256) : sg G (ix2 i e) = ((H.sgm (row b i) e : ℝ) : EReal) := by
  pointwise [sg]
  have h : (0 : EReal) - ((H.g (row b i) e : ℝ) : EReal) = ((-H.g (row b i) e : ℝ) : EReal) := by
    rw [← EReal.coe_zero, ← EReal.coe_sub, zero_sub]
  rw [r.g, h, Ideal.exp_coe, ← EReal.coe_one, ← EReal.coe_add, Ideal.div_coe (by positivity), ← EReal.coe_mul]
  rfl

theorem gated_apply (r : Reads H b C S Q K V G Y D L N) (i e : Fin 256) : gated G D (ix2 i e) = ((H.gt (row b i) e : ℝ) : EReal) := by
  pointwise [gated]
  rw [r.sg_apply, r.g, r.D, ← EReal.coe_mul, ← EReal.coe_mul]
  rfl

theorem dgate_apply (r : Reads H b C S Q K V G Y D L N) (i e : Fin 256) : dgate Y N G D (ix2 i e) = ((H.dg (row b i) e : ℝ) : EReal) := by
  pointwise [dgate]
  simp only [r.sg_apply, r.g, r.D, r.N, r.normed_apply, ← EReal.coe_one, ← EReal.coe_sub, ← EReal.coe_mul, ← EReal.coe_add]
  rfl

theorem dnorm_apply (r : Reads H b C S Q K V G Y D L N) (i e : Fin 256) : dnorm N G D (ix2 i e) = ((H.dn (row b i) e : ℝ) : EReal) := by
  pointwise [dnorm]
  rw [r.gated_apply, r.N, ← EReal.coe_mul]
  rfl

theorem rowMean_apply {X : T256} {x : Fin 256 → Fin 256 → ℝ} (hX : ∀ i e, X (ix2 i e) = ((x i e : ℝ) : EReal)) (i : Fin 256) :
    rowMean X (ix2 i 0) = ((HeadData.mean (x i) : ℝ) : EReal) := by
  pointwise [rowMean]
  simp only [hX, coe_sum, div_256]
  rfl

theorem dout_apply (r : Reads H b C S Q K V G Y D L N) (i e : Fin 256) : dout Y N G D (ix2 i e) = ((H.dy (row b i) e : ℝ) : EReal) := by
  have h1 := rowMean_apply (x := fun i e => H.dn (row b i) e) r.dnorm_apply i
  have h2 := rowMean_apply (X := mulf (dnorm N G D) (normed Y)) (x := fun i e => H.dn (row b i) e * H.ryn (row b i) e)
    (fun i e => by pointwise []; rw [r.dnorm_apply, r.normed_apply, ← EReal.coe_mul]) i
  pointwise [dout]
  rw [h1, h2, r.rstd_apply, r.dnorm_apply, r.normed_apply, ← EReal.coe_sub, ← EReal.coe_mul, ← EReal.coe_sub, ← EReal.coe_mul]
  rfl

theorem gpart_apply (r : Reads H b C S Q K V G Y D L N) (e : Fin 256) :
    gpart Y G D (ix2 0 e) = ((∑ i, H.gt (row b i) e * H.ryn (row b i) e : ℝ) : EReal) := by
  pointwise [gpart]
  simp only [r.gated_apply, r.normed_apply, ← EReal.coe_mul, coe_sum]

theorem aTile_apply (r : Reads H b C S Q K V G Y D L N) (i j : Fin 256) :
    aTile (rot C S Q) (krot C S K) (ix2 i j) = ((H.A (row b i) (row b j) : ℝ) : EReal) := by
  pointwise [aTile, n128]
  simp only [r.rot_q, r.rot_k, ← EReal.coe_mul, coe_sum]
  rfl

theorem bTile_apply (r : Reads H b C S Q K V G Y D L N) (i j : Fin 256) :
    bTile (dout Y N G D) V (ix2 i j) = ((H.B (row b i) (row b j) : ℝ) : EReal) := by
  pointwise [bTile, n256]
  simp only [r.dout_apply, r.v, ← EReal.coe_mul, coe_sum]
  rfl

/-- The gradient of the queries' rows. -/
theorem dq_apply (r : Reads H b C S Q K V G Y D L N) {St : TS} (hS : ∀ d e, St (ix2 d e) = ((H.SP b d e : ℝ) : EReal)) (i : Fin 256) (d : Fin 128) :
    unrot C S (dqTile L (krot C S K) (dout Y N G D) V St) (ix2 i d) = ((H.unrot H.dq (row b i) d : ℝ) : EReal) := by
  refine r.unrot_apply (fun i d => ?_) i d
  pointwise [dqTile, sTile, n128, n256, nS]
  simp only [r.bTile_apply, r.decay_apply, r.rot_k, r.dout_apply, r.qdec_apply, hS, ← EReal.coe_mul, coe_sum, ← EReal.coe_add]
  rw [H.dq_block]

/-- The gradient of the keys' rows. -/
theorem dk_apply (r : Reads H b C S Q K V G Y D L N) {Z : TS} (hZ : ∀ d e, Z (ix2 d e) = ((H.DS (15 - b.1) d e : ℝ) : EReal)) (i : Fin 256) (d : Fin 128) :
    unrot C S (dkTile L (rot C S Q) (dout Y N G D) V Z) (ix2 i d) = ((H.unrot H.dk (row b i) d : ℝ) : EReal) := by
  refine r.unrot_apply (fun i d => ?_) i d
  pointwise [dkTile, sTile, n128, n256, nS]
  simp only [r.bTile_apply, r.decay_apply, r.rot_q, r.v, r.kdec_apply, hZ, r.sc, ← EReal.coe_mul, coe_sum, ← EReal.coe_add]
  rw [H.dk_block]

/-- The gradient of the values' rows. -/
theorem dv_apply (r : Reads H b C S Q K V G Y D L N) {Z : TS} (hZ : ∀ d e, Z (ix2 d e) = ((H.DS (15 - b.1) d e : ℝ) : EReal)) (i e : Fin 256) :
    dvTile L (rot C S Q) (krot C S K) (dout Y N G D) Z (ix2 i e) = ((H.dv (row b i) e : ℝ) : EReal) := by
  pointwise [dvTile, n128, n256, nS]
  simp only [r.aTile_apply, r.decay_apply, r.rot_k, r.dout_apply, r.kdec_apply, hZ, ← EReal.coe_mul, coe_sum, ← EReal.coe_add]
  rw [H.dv_block]

/-- The gradient of the state that the block hands on. -/
theorem z_apply (r : Reads H b C S Q K V G Y D L N) {Z : TS} (hZ : ∀ d e, Z (ix2 d e) = ((H.DS (15 - b.1) d e : ℝ) : EReal)) (d : Fin 128) (e : Fin 256) :
    zTile L (rot C S Q) (dout Y N G D) Z (ix2 d e) = ((H.DS (15 - b.1 + 1) d e : ℝ) : EReal) := by
  pointwise [zTile, n128, n256, nS]
  simp only [r.rot_q, r.dout_apply, r.qdec_apply, r.cdec_apply, hZ, ← EReal.coe_mul, coe_sum, ← EReal.coe_add]
  rw [H.DS_succ]
  rfl

end Reads

end Cert.KernelIdeal.Head
-- ==== Proof.Tables.lean ====
module

public import proofs.«01_k».proof.Proof.Tile

/-!
The tables computed before the blocks are entered: the rotary angles, the rotated queries and keys,
the logarithms of the decays, the weights between rows and the weights of the saved states, each as
one function of arrays and each read entry by entry.
-/

@[expose] public section

set_option maxRecDepth 16384

noncomputable section

open Idealize.ShloMosaic Idealize.ShloMosaic.TcCoe Idealize.ShloMosaic.Tactic Idealize.SL.Sem

namespace Cert.Retention

/-- The arguments of the step as real numbers. -/
structure Rows where
  q : Fin 4096 → Fin 1024 → ℝ
  k : Fin 4096 → Fin 1024 → ℝ
  v : Fin 4096 → Fin 2048 → ℝ
  g : Fin 4096 → Fin 2048 → ℝ
  D : Fin 4096 → Fin 2048 → ℝ
  pos : Fin 4096 → ℝ
  gain : Fin 2048 → ℝ

/-- The rotary angle of column `i` at a position. -/
def angle (p : ℝ) (i : ℕ) : ℝ := p * Real.rpow 10000 (-(i : ℝ) * (1 / 64))

/-- The logarithm of the decay of head `h`. -/
def logGamma (h : ℕ) : ℝ := Real.log (1 - Real.rpow 2 (-5 - (h : ℝ)))

/-- The scale of the keys. -/
def scale : ℝ := (Ideal.ofBits FTy.f32 0x3DB504F3#32).toReal

/-- The norm's epsilon. -/
def epsilon : ℝ := (Ideal.ofBits FTy.f32 0x358637BD#32).toReal

/-- What head `h` reads. -/
def Rows.head (R : Rows) (h : Fin 8) : HeadData where
  c n d := Real.cos (angle (R.pos n) (d.1 % 64))
  s n d := if d.1 < 64 then -Real.sin (angle (R.pos n) d.1) else Real.sin (angle (R.pos n) (d.1 - 64))
  lg := logGamma h.1
  sc := scale
  eps := epsilon
  q n d := R.q n ⟨128 * h.1 + d.1, by omega⟩
  k n d := R.k n ⟨128 * h.1 + d.1, by omega⟩
  v n e := R.v n ⟨256 * h.1 + e.1, by omega⟩
  g n e := R.g n ⟨256 * h.1 + e.1, by omega⟩
  D n e := R.D n ⟨256 * h.1 + e.1, by omega⟩
  N e := R.gain ⟨256 * h.1 + e.1, by omega⟩

theorem scale_coe : Ideal.ofBits FTy.f32 0x3DB504F3#32 = ((scale : ℝ) : EReal) := by
  simp [scale, Ideal.ofBits, Ideal.ieee, -EReal.coe_mul]

theorem epsilon_coe : Ideal.ofBits FTy.f32 0x358637BD#32 = ((epsilon : ℝ) : EReal) := by
  simp [epsilon, Ideal.ofBits, Ideal.ieee, -EReal.coe_mul]

theorem epsilon_pos : 0 < epsilon := by
  simp [epsilon, Ideal.ofBits, Ideal.ieee, -EReal.coe_mul]

theorem bits_64 : Ideal.ofBits FTy.f32 0x42800000#32 = ((64 : ℝ) : EReal) := by
  simp [Ideal.ofBits, Ideal.ieee, -EReal.coe_mul]; norm_num
theorem bits_10000 : Ideal.ofBits FTy.f32 0x461C4000#32 = ((10000 : ℝ) : EReal) := by
  simp [Ideal.ofBits, Ideal.ieee, -EReal.coe_mul]; norm_num
theorem bits_2 : Ideal.ofBits FTy.f32 0x40000000#32 = ((2 : ℝ) : EReal) := by
  simp [Ideal.ofBits, Ideal.ieee, -EReal.coe_mul]; norm_num
theorem bits_neg5 : Ideal.ofBits FTy.f32 0xC0A00000#32 = ((-5 : ℝ) : EReal) := by
  simp [Ideal.ofBits, Ideal.ieee, -EReal.coe_mul]; norm_num

end Cert.Retention

namespace Cert.KernelIdeal.Tables

open Cert.KernelIdeal Cert.KernelIdeal.Gen Cert.Retention

/-- The rotary angles of a column of positions. -/
def angT (X : FVec Ideal S4096x1 .f32) : FVec Ideal S4096x64 .f32 :=
  mulf (broadcastInDim S4096x64 ![0, 1] bcast_S4096x1_S4096x64_0_1 X)
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The positions as a column. -/
def posT (P : IVec S1x4096 32) : FVec Ideal S4096x1 .f32 :=
  broadcastInDim S4096x1 ![0] bcast_S4096_S4096x1_0 (sitofp .f32 (shapeCast S4096 P shapeCasts_S1x4096_S4096))

/-- The positions as a column, recast before they become numbers. -/
def posT' (P : IVec S1x4096 32) : FVec Ideal S4096x1 .f32 := sitofp .f32 (shapeCast S4096x1 P shapeCasts_S1x4096_S4096x1)

/-- The rotary embedding of all heads. -/
def ropeT (A : FVec Ideal S4096x64 .f32) (X : FVec Ideal S4096x8x128 .f32) : FVec Ideal S4096x8x128 .f32 :=
  concatenate S4096x8x128 2
    [⟨S4096x8x64, (subf
      (mulf (extractStridedSlice S4096x8x64 ![0, 0, 0] X slices_S4096x8x128_S4096x8x64_0_0_0)
        (broadcastInDim S4096x8x64 ![0, 1, 2] bcast_S4096x1x64_S4096x8x64_0_1_2 (broadcastInDim S4096x1x64 ![0, 2] bcast_S4096x64_S4096x1x64_0_2 (Host.cos A))))
      (mulf (extractStridedSlice S4096x8x64 ![0, 0, 64] X slices_S4096x8x128_S4096x8x64_0_0_64)
        (broadcastInDim S4096x8x64 ![0, 1, 2] bcast_S4096x1x64_S4096x8x64_0_1_2 (broadcastInDim S4096x1x64 ![0, 2] bcast_S4096x64_S4096x1x64_0_2 (Host.sin A)))) : FVec Ideal S4096x8x64 .f32)⟩,
     ⟨S4096x8x64, (addf
      (mulf (extractStridedSlice S4096x8x64 ![0, 0, 64] X slices_S4096x8x128_S4096x8x64_0_0_64)
        (broadcastInDim S4096x8x64 ![0, 1, 2] bcast_S4096x1x64_S4096x8x64_0_1_2 (broadcastInDim S4096x1x64 ![0, 2] bcast_S4096x64_S4096x1x64_0_2 (Host.cos A))))
      (mulf (extractStridedSlice S4096x8x64 ![0, 0, 0] X slices_S4096x8x128_S4096x8x64_0_0_0)
        (broadcastInDim S4096x8x64 ![0, 1, 2] bcast_S4096x1x64_S4096x8x64_0_1_2 (broadcastInDim S4096x1x64 ![0, 2] bcast_S4096x64_S4096x1x64_0_2 (Host.sin A)))) : FVec Ideal S4096x8x64 .f32)⟩]
    concatenates_S4096x8x64_S4096x8x64_S4096x8x128_d2

/-- The rotary embedding of the keys, scaled. -/
def kropeT (A : FVec Ideal S4096x64 .f32) (X : FVec Ideal S4096x8x128 .f32) : FVec Ideal S4096x8x128 .f32 :=
  mulf (ropeT A X) (broadcastInDim S4096x8x128 ![] bcast_S_S4096x8x128 (constant S_ .f32 0x3DB504F3#32))

/-- The logarithms of the decays. -/
def lgT : FVec Ideal S8 .f32 :=
  Host.log (subf (broadcastInDim S8 ![] bcast_S_S8 (constant S_ .f32 0x3F800000#32))
    (Host.powf (broadcastInDim S8 ![] bcast_S_S8 (constant S_ .f32 0x40000000#32))
      (subf (broadcastInDim S8 ![] bcast_S_S8 (constant S_ .f32 0xC0A00000#32)) (sitofp .f32 (iotaInDim S8 32 0)))))

/-- The chunk of each column. -/
def chunkC : IVec S1x4096 32 :=
  select (andi (cmpi .ne (signi (broadcastInDim S1x4096 ![1] bcast_S4096_S1x4096_1 (iotaInDim S4096 32 0)))
        (broadcastInDim S1x4096 ![] bcast_S_S1x4096 (signi (constantI S_ 32 64#32))))
      (cmpi .ne (Host.remsi (broadcastInDim S1x4096 ![1] bcast_S4096_S1x4096_1 (iotaInDim S4096 32 0))
          (broadcastInDim S1x4096 ![] bcast_S_S1x4096 (constantI S_ 32 64#32)))
        (broadcastInDim S1x4096 ![] bcast_S_S1x4096 (constantI S_ 32 0#32))))
    (subi (Host.divsi (broadcastInDim S1x4096 ![1] bcast_S4096_S1x4096_1 (iotaInDim S4096 32 0))
        (broadcastInDim S1x4096 ![] bcast_S_S1x4096 (constantI S_ 32 64#32)))
      (broadcastInDim S1x4096 ![] bcast_S_S1x4096 (constantI S_ 32 1#32)))
    (Host.divsi (broadcastInDim S1x4096 ![1] bcast_S4096_S1x4096_1 (iotaInDim S4096 32 0))
      (broadcastInDim S1x4096 ![] bcast_S_S1x4096 (constantI S_ 32 64#32)))

/-- The chunk of each row. -/
def chunkR : IVec S4096x1 32 :=
  select (andi (cmpi .ne (signi (broadcastInDim S4096x1 ![0] bcast_S4096_S4096x1_0 (iotaInDim S4096 32 0)))
        (broadcastInDim S4096x1 ![] bcast_S_S4096x1 (signi (constantI S_ 32 64#32))))
      (cmpi .ne (Host.remsi (broadcastInDim S4096x1 ![0] bcast_S4096_S4096x1_0 (iotaInDim S4096 32 0))
          (broadcastInDim S4096x1 ![] bcast_S_S4096x1 (constantI S_ 32 64#32)))
        (broadcastInDim S4096x1 ![] bcast_S_S4096x1 (constantI S_ 32 0#32))))
    (subi (Host.divsi (broadcastInDim S4096x1 ![0] bcast_S4096_S4096x1_0 (iotaInDim S4096 32 0))
        (broadcastInDim S4096x1 ![] bcast_S_S4096x1 (constantI S_ 32 64#32)))
      (broadcastInDim S4096x1 ![] bcast_S_S4096x1 (constantI S_ 32 1#32)))
    (Host.divsi (broadcastInDim S4096x1 ![0] bcast_S4096_S4096x1_0 (iotaInDim S4096 32 0))
      (broadcastInDim S4096x1 ![] bcast_S_S4096x1 (constantI S_ 32 64#32)))

/-- The distance of two rows. -/
def distT : FVec Ideal S4096x4096 .f32 :=
  sitofp .f32 (absi (subi
    (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))))

/-- The weights between rows. -/
def weightT : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 chunkC)
        (broadcastInDim S4096x4096 ![0, 1] bcast_S4096x1_S4096x4096_0_1 chunkR)))
    (Host.exp (mulf
      (broadcastInDim S8x4096x4096 ![0, 1, 2] bcast_S8x1x1_S8x4096x4096_0_1_2 (broadcastInDim S8x1x1 ![0] bcast_S8_S8x1x1_0 lgT))
      (broadcastInDim S8x4096x4096 ![0, 1, 2] bcast_S1x4096x4096_S8x4096x4096_0_1_2 (broadcastInDim S1x4096x4096 ![1, 2] bcast_S4096x4096_S1x4096x4096_1_2 distT))))
    (broadcastInDim S8x4096x4096 ![] bcast_S_S8x4096x4096 (constant S_ .f32 0x00000000#32))

/-- The retention of all heads. -/
def yT (Q K : FVec Ideal S4096x8x128 .f32) (X : FVec Ideal S4096x8x256 .f32) : FVec Ideal S4096x8x256 .f32 :=
  transpose S4096x8x256 [2, 0, 1] (Host.dotGeneral dot_S4096x8x256_S8x4096x4096_S8x256x4096_0_2_2_1_1_0 none X
    (mulf (Host.dotGeneral dot_S4096x8x128_S4096x8x128_S8x4096x4096_2_2_0_0_1_1 none Q K) weightT)) transposes_S8x256x4096_S4096x8x256_2_0_1

theorem angT_apply (X : FVec Ideal S4096x1 .f32) (p : Fin 4096 → ℝ) (hX : ∀ n, X (ix2 n 0) = ((p n : ℝ) : EReal)) (n : Fin 4096) (i : Fin 64) :
    angT X (ix2 n i) = ((angle (p n) i.1 : ℝ) : EReal) := by
  pointwise [angT]
  show X (ix2 n 0) * Ideal.pow (Ideal.ofBits FTy.f32 0x461C4000#32)
    (Ideal.div (-(((BitVec.ofNat 32 i.1).toInt : ℝ) : EReal)) (Ideal.ofBits FTy.f32 0x42800000#32)) = _
  rw [hX, bits_10000, bits_64, toInt_ofNat _ (by omega), Int.cast_natCast, ← EReal.coe_neg, Ideal.div_coe (by norm_num), ← EReal.coe_mul,
    Ideal.pow_coe_coe, ← EReal.coe_mul]
  rfl

theorem posT_apply (P : IVec S1x4096 32) (n : Fin 4096) : posT P (ix2 n 0) = (((P (ix2 0 n)).toInt : ℝ) : EReal) := by
  pointwise [posT]
  rfl

theorem posT'_apply (P : IVec S1x4096 32) (n : Fin 4096) : posT' P (ix2 n 0) = (((P (ix2 0 n)).toInt : ℝ) : EReal) := by
  pointwise [posT']
  rfl

theorem lgT_apply (h : Fin 8) : lgT (ix1 h) = ((logGamma h.1 : ℝ) : EReal) := by
  pointwise [lgT]
  show Ideal.log (1 - Ideal.pow (Ideal.ofBits FTy.f32 0x40000000#32)
    (Ideal.ofBits FTy.f32 0xC0A00000#32 - (((BitVec.ofNat 32 h.1).toInt : ℝ) : EReal))) = _
  have hp : Real.rpow 2 (-5 - (h.1 : ℝ)) < 1 := by
    refine Real.rpow_lt_one_of_one_lt_of_neg (by norm_num) ?_
    have : (0 : ℝ) ≤ (h.1 : ℝ) := Nat.cast_nonneg _
    linarith
  rw [bits_2, bits_neg5, toInt_ofNat _ (by omega), Int.cast_natCast, ← EReal.coe_sub, Ideal.pow_coe_coe, ← EReal.coe_one, ← EReal.coe_sub,
    Ideal.log_coe, if_neg (by linarith)]
  rfl

/-- Division of a number by 64, rounded down. -/
def chunkWord (w : BitVec 32) : BitVec 32 :=
  Scalar.select
    (IntOp.andi
      (IntOp.cmpi CmpIPredicate.ne (if w = 0 then (0 : BitVec 32) else if w.msb = true then -1 else 1)
        (if (64#32 : BitVec 32) = 0 then (0 : BitVec 32) else if (64#32 : BitVec 32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

theorem chunk_word : ∀ j : Fin 4096, chunkWord (BitVec.ofNat 32 j.1) = BitVec.ofNat 32 (j.1 / 64) := by
  decide +kernel

theorem sle_word : ∀ a b : Fin 64, IntOp.cmpi CmpIPredicate.sle (BitVec.ofNat 32 a.1) (BitVec.ofNat 32 b.1) = if a.1 ≤ b.1 then 1#1 else 0#1 := by
  decide +kernel

theorem dist_word (n m : Fin 4096) :
    (IntOp.absi (IntOp.subi (BitVec.ofNat 32 n.1) (BitVec.ofNat 32 m.1))).toInt = (((n.1 : ℤ) - (m.1 : ℤ)).natAbs : ℤ) := by
  unfold IntOp.absi IntOp.subi
  by_cases h : m.1 ≤ n.1
  · have e : BitVec.ofNat 32 n.1 - BitVec.ofNat 32 m.1 = BitVec.ofNat 32 (n.1 - m.1) := by
      apply BitVec.eq_of_toNat_eq
      simp only [BitVec.toNat_sub, BitVec.toNat_ofNat]
      omega
    rw [e, if_neg, toInt_ofNat _ (by omega)]
    · omega
    · rw [BitVec.msb_eq_decide]
      simp only [BitVec.toNat_ofNat, decide_eq_true_eq]
      omega
  · have e : BitVec.ofNat 32 n.1 - BitVec.ofNat 32 m.1 = -BitVec.ofNat 32 (m.1 - n.1) := by
      apply BitVec.eq_of_toNat_eq
      simp only [BitVec.toNat_sub, BitVec.toNat_neg, BitVec.toNat_ofNat]
      omega
    rw [e, if_pos, BitVec.neg_neg, toInt_ofNat _ (by omega)]
    · omega
    · rw [BitVec.msb_eq_decide]
      simp only [BitVec.toNat_neg, BitVec.toNat_ofNat, decide_eq_true_eq]
      omega

theorem weightT_apply (R : Rows) (h : Fin 8) (n m : Fin 4096) : weightT (ix3 h n m) = (((R.head h).W n m : ℝ) : EReal) := by
  pointwise [weightT, distT, chunkC, chunkR]
  show Scalar.select (IntOp.cmpi CmpIPredicate.sle (chunkWord (BitVec.ofNat 32 m.1)) (chunkWord (BitVec.ofNat 32 n.1)))
    (Ideal.exp (lgT (ix1 h) * (((IntOp.absi (IntOp.subi (BitVec.ofNat 32 n.1) (BitVec.ofNat 32 m.1))).toInt : ℝ) : EReal))) (0 : EReal) = _
  rw [chunk_word, chunk_word, sle_word ⟨m.1 / 64, by omega⟩ ⟨n.1 / 64, by omega⟩, lgT_apply]
  unfold HeadData.W
  by_cases h' : m.1 / 64 ≤ n.1 / 64
  · simp only [h', if_true]
    show Ideal.exp (((logGamma h.1 : ℝ) : EReal) * (((IntOp.absi (IntOp.subi (BitVec.ofNat 32 n.1) (BitVec.ofNat 32 m.1))).toInt : ℝ) : EReal)) = _
    rw [dist_word, ← EReal.coe_mul, Ideal.exp_coe, Int.cast_natCast]
    rfl
  · simp only [h', if_false]
    rfl

theorem ropeT_apply (H : HeadData) (p : Fin 4096 → ℝ) (hc : ∀ n d, H.c n d = Real.cos (angle (p n) (d.1 % 64)))
    (hs : ∀ n d, H.s n d = if d.1 < 64 then -Real.sin (angle (p n) d.1) else Real.sin (angle (p n) (d.1 - 64)))
    (A : FVec Ideal S4096x64 .f32) (hA : ∀ n i, A (ix2 n i) = ((angle (p n) i.1 : ℝ) : EReal))
    (X : FVec Ideal S4096x8x128 .f32) (h : Fin 8) (x : Fin 4096 → Fin 128 → ℝ) (hX : ∀ n d, X (ix3 n h d) = ((x n d : ℝ) : EReal))
    (n : Fin 4096) (d : Fin 128) :
    ropeT A X (ix3 n h d) = ((x n d * H.c n d + x n (turn d) * H.s n d : ℝ) : EReal) := by
  pointwise [ropeT]
  simp only [hX, hA, Ideal.cos_coe, Ideal.sin_coe, ← EReal.coe_mul, ← EReal.coe_sub, ← EReal.coe_add, hc, hs]
  by_cases h' : d.1 < 64
  · have ht : turn d = ⟨64 + d.1, by omega⟩ := Fin.ext (by show (d.1 + 128 - 64) % 128 = 64 + d.1; omega)
    rw [dif_pos h', if_pos h', ht, Nat.mod_eq_of_lt h']
    congr 1; ring
  · have ht : turn d = ⟨d.1 - 64, by omega⟩ := Fin.ext (by show (d.1 + 128 - 64) % 128 = d.1 - 64; omega)
    have hd : (⟨64 + (d.1 - 64), by omega⟩ : Fin 128) = d := Fin.ext (by show 64 + (d.1 - 64) = d.1; omega)
    rw [dif_neg h', if_neg h', ht, hd, show d.1 % 64 = d.1 - 64 by omega]

theorem yT_apply (R : Rows) (h : Fin 8) (Q K : FVec Ideal S4096x8x128 .f32) (X : FVec Ideal S4096x8x256 .f32)
    (hQ : ∀ n d, Q (ix3 n h d) = (((R.head h).rq n d : ℝ) : EReal)) (hK : ∀ n d, K (ix3 n h d) = (((R.head h).rk n d : ℝ) : EReal))
    (hX : ∀ n e, X (ix3 n h e) = (((R.head h).v n e : ℝ) : EReal)) (n : Fin 4096) (e : Fin 256) :
    yT Q K X (ix3 n h e) = (((R.head h).y n e : ℝ) : EReal) := by
  pointwise [yT]
  simp only [hQ, hK, hX, weightT_apply R, ← EReal.coe_mul, coe_sum]
  unfold HeadData.y HeadData.A
  congr 1
  exact Finset.sum_congr rfl fun m _ => mul_comm _ _

end Cert.KernelIdeal.Tables
-- ==== Proof.Body.lean ====
module

public import proofs.«01_k».proof.Proof.Tile

/-!
One block of the kernel: the tiles it loads for each head, and what it leaves in its result blocks
and in the carried gradient of the states.
-/

@[expose] public section

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen Cert.Retention Cert.KernelIdeal.Head

/-- The queries of head `h`. -/
def ldQ (X : Vec Ideal S256x6144 .f32) (h : Fin 8) : T128 :=
  View.ld X (Rect.unit ![0, 768 * h.1] ![256, 128] (by intro a; fin_cases a <;> simp <;> omega))
/-- The keys of head `h`. -/
def ldK (X : Vec Ideal S256x6144 .f32) (h : Fin 8) : T128 :=
  View.ld X (Rect.unit ![0, 768 * h.1 + 128] ![256, 128] (by intro a; fin_cases a <;> simp <;> omega))
/-- The values of head `h`. -/
def ldV (X : Vec Ideal S256x6144 .f32) (h : Fin 8) : T256 :=
  shapeCast S256x256 (View.ld X (Rect.unit ![0, 768 * h.1 + 256] ![256, 256] (by intro a; fin_cases a <;> simp <;> omega)) : Vec Ideal S256x256 .f32) shapeCasts_S256x256_S256x256
/-- The gate of head `h`. -/
def ldG (X : Vec Ideal S256x6144 .f32) (h : Fin 8) : T256 :=
  View.ld X (Rect.unit ![0, 768 * h.1 + 512] ![256, 256] (by intro a; fin_cases a <;> simp <;> omega))
/-- The logarithm of the decay of head `h`. -/
def ldL (X : Vec Ideal S8x8x128 .f32) (h : Fin 8) : FVec Ideal S1x1x1 .f32 :=
  View.ld X (Rect.unit ![h.1, 0, 0] ![1, 1, 1] (by intro a; fin_cases a <;> simp <;> omega))
/-- The gain of head `h`. -/
def ldN (X : Vec Ideal S1x2048 .f32) (h : Fin 8) : FVec Ideal S1x256 .f32 :=
  View.ld X (Rect.unit ![0, 256 * h.1] ![1, 256] (by intro a; fin_cases a <;> simp <;> omega))
/-- The columns of head `h` of an array with 256 columns for each head. -/
def ldY (X : Vec Ideal S256x2048 .f32) (h : Fin 8) : T256 :=
  View.ld X (Rect.unit ![0, 256 * h.1] ![256, 256] (by intro a; fin_cases a <;> simp <;> omega))
/-- The saved state of head `h`. -/
def ldS (X : Vec Ideal S8x1x128x256 .f32) (h : Fin 8) : TS :=
  shapeCast S128x256 (View.ld X (Rect.unit ![h.1, 0, 0, 0] ![1, 1, 128, 256] (by intro a; fin_cases a <;> simp <;> omega)) : Vec Ideal S1x1x128x256 .f32) shapeCasts_S1x1x128x256_S128x256
/-- The carried gradient of the state of head `h`. -/
def ldZ (X : Vec Ideal S8x128x256 .f32) (h : Fin 8) : TS :=
  shapeCast S128x256 (View.ld X (Rect.unit ![h.1, 0, 0] ![1, 128, 256] (by intro a; fin_cases a <;> simp <;> omega)) : Vec Ideal S1x128x256 .f32) shapeCasts_S1x128x256_S128x256

variable (m : (ℓ : Loc nD τ sig) → Buf (Elt Ideal) ℓ)

/-- The tiles loaded at point `t` hold the rows of block `b` of each head. -/
def BlockReads (hd : Fin 8 → HeadData) (b : Fin 16) (c : Dev nD) (t : Fin cfg0.N) : Prop :=
  ∀ h : Fin 8, Reads (hd h) b (iblk m c 1 t) (iblk m c 2 t) (ldQ (X0_0 m c t) h) (ldK (X0_0 m c t) h) (ldV (X0_0 m c t) h)
    (ldG (X0_0 m c t) h) (ldY (iblk m c 5 t) h) (ldY (iblk m c 6 t) h) (ldL (iblk m c 3 t) h) (ldN (iblk m c 4 t) h)

/-- The columns of one head in the rows of gradients: those of the queries, the keys, the values and the gate. -/
def headRow (H : HeadData) (n : Fin 4096) (r : ℕ) : ℝ :=
  if h : r < 128 then H.unrot H.dq n ⟨r, h⟩
  else if h : r < 256 then H.unrot H.dk n ⟨r - 128, by omega⟩
  else if h : r < 512 then H.dv n ⟨r - 256, by omega⟩
  else H.dg n ⟨(r - 512) % 256, Nat.mod_lt _ (by decide)⟩

/-- The rows of gradients of all heads side by side. -/
def gradRow (hd : Fin 8 → HeadData) (n : Fin 4096) (j : ℕ) : ℝ := headRow (hd ⟨j / 768 % 8, Nat.mod_lt _ (by decide)⟩) n (j % 768)

theorem gradRow_q (hd : Fin 8 → HeadData) (n : Fin 4096) (h : Fin 8) (d : Fin 128) (j : ℕ) (hj : j = 768 * h.1 + d.1) :
    gradRow hd n j = (hd h).unrot (hd h).dq n d := by
  have h1 : j / 768 % 8 = h.1 := by omega
  have h2 : j % 768 = d.1 := by omega
  simp only [gradRow, headRow, h1, h2, d.2, dif_pos]

theorem gradRow_k (hd : Fin 8 → HeadData) (n : Fin 4096) (h : Fin 8) (d : Fin 128) (j : ℕ) (hj : j = 768 * h.1 + 128 + d.1) :
    gradRow hd n j = (hd h).unrot (hd h).dk n d := by
  have h1 : j / 768 % 8 = h.1 := by omega
  have h2 : j % 768 = 128 + d.1 := by omega
  simp only [gradRow, headRow, h1, h2]
  rw [dif_neg (by omega), dif_pos (by omega)]
  congr 1
  exact Fin.ext (by simp)

theorem gradRow_v (hd : Fin 8 → HeadData) (n : Fin 4096) (h : Fin 8) (d : Fin 256) (j : ℕ) (hj : j = 768 * h.1 + 256 + d.1) :
    gradRow hd n j = (hd h).dv n d := by
  have h1 : j / 768 % 8 = h.1 := by omega
  have h2 : j % 768 = 256 + d.1 := by omega
  simp only [gradRow, headRow, h1, h2]
  rw [dif_neg (by omega), dif_neg (by omega), dif_pos (by omega)]
  congr 1
  exact Fin.ext (by simp)

theorem gradRow_g (hd : Fin 8 → HeadData) (n : Fin 4096) (h : Fin 8) (d : Fin 256) (j : ℕ) (hj : j = 768 * h.1 + 512 + d.1) :
    gradRow hd n j = (hd h).dg n d := by
  have h1 : j / 768 % 8 = h.1 := by omega
  have h2 : j % 768 = 512 + d.1 := by omega
  simp only [gradRow, headRow, h1, h2]
  rw [dif_neg (by omega), dif_neg (by omega), dif_neg (by omega)]
  congr 1
  exact Fin.ext (by simp)

end Cert.KernelIdeal.Body
-- ==== Proof.Blocks.lean ====
module

public import proofs.«01_k».proof.Proof.Body
public import Idealize.ShloMosaic.Lib.Pipeline.ReadBack

/-!
The block of each grid point: the carried gradient of the states and the sum for the gain, read head
by head from what the point before left.
-/

@[expose] public section

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen Cert.Retention Cert.KernelIdeal.Head
variable (m : (ℓ : Loc nD τ sig) → Buf (Elt Ideal) ℓ)

theorem ldZ_apply (X : Vec Ideal S8x128x256 .f32) (h : Fin 8) (d : Fin 128) (e : Fin 256) : ldZ X h (ix2 d e) = X (ix3 h d e) := by
  have gen : ∀ W : Vec Ideal S1x128x256 .f32, shapeCast S128x256 W shapeCasts_S1x128x256_S128x256 (ix2 d e) = W (ix3 0 d e) := by
    intro W; pointwise []
  refine (gen _).trans (View.ld_unit_apply_of X _ _ _ _ _ fun a => ?_)
  fin_cases a <;> simp

variable {m}
theorem z_piece {hd : Fin 8 → HeadData} {b : Fin 16} {c : Dev nD} {t : Fin cfg0.N} (r : BlockReads m hd b c t)
    {Z : Vec Ideal S8x128x256 .f32} (hZ : ∀ h d e, Z (ix3 h d e) = (((hd h).DS (15 - b.1) d e : ℝ) : EReal))
    (k : Fin 8) (x : S1x128x256.Idx) (h : Fin 8) (d : Fin 128) (e : Fin 256) (h0 : h.1 = k.1) (h1 : d.1 = (x 1).1) (h2 : e.1 = (x 2).1) :
    shapeCast S1x128x256 (zTile (ldL (iblk m c 3 t) k) (rot (iblk m c 1 t) (iblk m c 2 t) (ldQ (X0_0 m c t) k))
      (dout (ldY (iblk m c 5 t) k) (ldN (iblk m c 4 t) k) (ldG (X0_0 m c t) k) (ldY (iblk m c 6 t) k)) (ldZ Z k)) shapeCasts_S128x256_S1x128x256 x
    = (((hd h).DS (15 - b.1 + 1) d e : ℝ) : EReal) := by
  obtain rfl : h = k := Fin.ext h0
  obtain rfl : x = ix3 0 d e := by
    funext a; fin_cases a
    · exact Subsingleton.elim (α := Fin 1) _ _
    · exact Fin.ext h1.symm
    · exact Fin.ext h2.symm
  have := (r h).z_apply (Z := ldZ Z h) (fun d e => (ldZ_apply Z h d e).trans (hZ h d e)) d e
  rw [← this]
  pointwise []

variable (m)
theorem scratch_B (hd : Fin 8 → HeadData) (b : Fin 16) (c : Dev nD) (t : Fin cfg0.N) (h0 : ¬t.val % 16 = 0) (h2 : 1 ≤ t.val)
    (r : BlockReads m hd b c t)
    (hZ : ∀ h d e, (outsAt0 m c (t.val - 1) (by omega)).2.2 (ix3 h d e) = (((hd h).DS (15 - b.1) d e : ℝ) : EReal)) :
    ∀ h d e, (outsAt0 m c t.val t.isLt).2.2 (ix3 h d e) = (((hd h).DS (15 - b.1 + 1) d e : ℝ) : EReal) := by
  intro h d e
  rw [outsAt0_B m c t h0 h0 h2]
  frame_out
  simp only [read_unread_whole]
  canon_tiles x hx
  · exact z_piece r hZ 7 x h d e (by have := x0_lt; change h.1 = 7; change h.1 = 7 + (x 0).1 at hx0; omega) hx1 hx2
  · exact z_piece r hZ 6 x h d e (by have := x0_lt; change h.1 = 6; change h.1 = 6 + (x 0).1 at hx0; omega) hx1 hx2
  · exact z_piece r hZ 5 x h d e (by have := x0_lt; change h.1 = 5; change h.1 = 5 + (x 0).1 at hx0; omega) hx1 hx2
  · exact z_piece r hZ 4 x h d e (by have := x0_lt; change h.1 = 4; change h.1 = 4 + (x 0).1 at hx0; omega) hx1 hx2
  · exact z_piece r hZ 3 x h d e (by have := x0_lt; change h.1 = 3; change h.1 = 3 + (x 0).1 at hx0; omega) hx1 hx2
  · exact z_piece r hZ 2 x h d e (by have := x0_lt; change h.1 = 2; change h.1 = 2 + (x 0).1 at hx0; omega) hx1 hx2
  · exact z_piece r hZ 1 x h d e (by have := x0_lt; change h.1 = 1; change h.1 = 1 + (x 0).1 at hx0; omega) hx1 hx2
  · exact z_piece r hZ 0 x h d e (by have := x0_lt; change h.1 = 0; change h.1 = (x 0).1 at hx0; omega) hx1 hx2

theorem emb0 (k : Fin 8) (inb) (x : S1x128x256.Idx) :
    ((Rect.unit (s := S8x128x256) ![k.1, 0, 0] ![1, 128, 256] inb).emb x 0).1 = k.1 := by
  have h := Rect.idx_unit_val (s := S8x128x256) ![k.1, 0, 0] ![1, 128, 256] inb x 0
  have h' : (x 0).1 < 1 := (x 0).2
  exact h.trans (by show k.1 + (x 0).1 = k.1; omega)

theorem emb1 (k : ℕ) (inb) (x : S1x128x256.Idx) :
    ((Rect.unit (s := S8x128x256) ![k, 0, 0] ![1, 128, 256] inb).emb x 1).1 = (x 1).1 :=
  (Rect.idx_unit_val (s := S8x128x256) ![k, 0, 0] ![1, 128, 256] inb x 1).trans (Nat.zero_add _)

theorem emb2 (k : ℕ) (inb) (x : S1x128x256.Idx) :
    ((Rect.unit (s := S8x128x256) ![k, 0, 0] ![1, 128, 256] inb).emb x 2).1 = (x 2).1 :=
  (Rect.idx_unit_val (s := S8x128x256) ![k, 0, 0] ![1, 128, 256] inb x 2).trans (Nat.zero_add _)

theorem pay5_apply (h) (d) (e) : (k0_pay5 (F := Ideal)) (ix3 h d e) = ((0 : ℝ) : EReal) := by
  pointwise [k0_pay5]
  rfl

/-- The carried state after block `b`, at every head and index. -/
def zAfter (hd : Fin 8 → HeadData) (b : Fin 16) : Vec Ideal S8x128x256 .f32 := fun y =>
  (((hd (y 0)).DS (15 - b.1 + 1) (y 1) (y 2) : ℝ) : EReal)

theorem cover8 (p0 p1 p2 p3 p4 p5 p6 p7 : Vec Ideal S1x128x256 .f32) (y : S8x128x256.Idx) :
    ∃ p ∈ ([
      ⟨Rect.unit ![7, 0, 0] ![1, 128, 256] inb_S8x128x256_S1x128x256_7_0_0, p7⟩,
      ⟨Rect.unit ![6, 0, 0] ![1, 128, 256] inb_S8x128x256_S1x128x256_6_0_0, p6⟩,
      ⟨Rect.unit ![5, 0, 0] ![1, 128, 256] inb_S8x128x256_S1x128x256_5_0_0, p5⟩,
      ⟨Rect.unit ![4, 0, 0] ![1, 128, 256] inb_S8x128x256_S1x128x256_4_0_0, p4⟩,
      ⟨Rect.unit ![3, 0, 0] ![1, 128, 256] inb_S8x128x256_S1x128x256_3_0_0, p3⟩,
      ⟨Rect.unit ![2, 0, 0] ![1, 128, 256] inb_S8x128x256_S1x128x256_2_0_0, p2⟩,
      ⟨Rect.unit ![1, 0, 0] ![1, 128, 256] inb_S8x128x256_S1x128x256_1_0_0, p1⟩,
      ⟨Rect.unit ![0, 0, 0] ![1, 128, 256] inb_S8x128x256_S1x128x256_0_0_0, p0⟩] : List (View.Piece (Elt Ideal) S8x128x256 .f32)), y ∈ p.1.set :=
  View.cover_of_tiledL _ ![1, 128, 256] (by sl_kernel_rfl) y

theorem scratch_A (hd : Fin 8 → HeadData) (b : Fin 16) (c : Dev nD) (t : Fin cfg0.N) (h0 : t.val % 16 = 0) (h2 : ¬1 ≤ t.val)
    (hb : 15 - b.1 = 0) (r : BlockReads m hd b c t) :
    ∀ h d e, (outsAt0 m c t.val t.isLt).2.2 (ix3 h d e) = (((hd h).DS (15 - b.1 + 1) d e : ℝ) : EReal) := by
  intro h d e
  rw [outsAt0_A m c t h0 h0 h2]
  frame_out
  simp (disch := decide) only [View.readCov_fill]
  have hZ : ∀ h d e, (k0_pay5 (F := Ideal)) (ix3 h d e) = (((hd h).DS (15 - b.1) d e : ℝ) : EReal) := by
    intro h d e
    rw [hb, HeadData.DS_zero]
    exact pay5_apply h d e
  refine View.canon_append_of_piecesOf (Val := Elt Ideal) (e := EltTy.f32) (zAfter hd b) [_] [_, _, _, _, _, _, _, _] ⟨?_, ?_, ?_, ?_, ?_, ?_, ?_, ?_, trivial⟩ (ix3 h d e) ?_
  · exact fun x => z_piece r hZ 7 x _ _ _ (emb0 7 inb_S8x128x256_S1x128x256_7_0_0 x)
      (emb1 7 inb_S8x128x256_S1x128x256_7_0_0 x) (emb2 7 inb_S8x128x256_S1x128x256_7_0_0 x)
  · exact fun x => z_piece r hZ 6 x _ _ _ (emb0 6 inb_S8x128x256_S1x128x256_6_0_0 x)
      (emb1 6 inb_S8x128x256_S1x128x256_6_0_0 x) (emb2 6 inb_S8x128x256_S1x128x256_6_0_0 x)
  · exact fun x => z_piece r hZ 5 x _ _ _ (emb0 5 inb_S8x128x256_S1x128x256_5_0_0 x)
      (emb1 5 inb_S8x128x256_S1x128x256_5_0_0 x) (emb2 5 inb_S8x128x256_S1x128x256_5_0_0 x)
  · exact fun x => z_piece r hZ 4 x _ _ _ (emb0 4 inb_S8x128x256_S1x128x256_4_0_0 x)
      (emb1 4 inb_S8x128x256_S1x128x256_4_0_0 x) (emb2 4 inb_S8x128x256_S1x128x256_4_0_0 x)
  · exact fun x => z_piece r hZ 3 x _ _ _ (emb0 3 inb_S8x128x256_S1x128x256_3_0_0 x)
      (emb1 3 inb_S8x128x256_S1x128x256_3_0_0 x) (emb2 3 inb_S8x128x256_S1x128x256_3_0_0 x)
  · exact fun x => z_piece r hZ 2 x _ _ _ (emb0 2 inb_S8x128x256_S1x128x256_2_0_0 x)
      (emb1 2 inb_S8x128x256_S1x128x256_2_0_0 x) (emb2 2 inb_S8x128x256_S1x128x256_2_0_0 x)
  · exact fun x => z_piece r hZ 1 x _ _ _ (emb0 1 inb_S8x128x256_S1x128x256_1_0_0 x)
      (emb1 1 inb_S8x128x256_S1x128x256_1_0_0 x) (emb2 1 inb_S8x128x256_S1x128x256_1_0_0 x)
  · exact fun x => z_piece r hZ 0 x _ _ _ (emb0 0 inb_S8x128x256_S1x128x256_0_0_0 x)
      (emb1 0 inb_S8x128x256_S1x128x256_0_0_0 x) (emb2 0 inb_S8x128x256_S1x128x256_0_0_0 x)
  · exact cover8 _ _ _ _ _ _ _ _ _

/-- The eight heads' parts of the gradient of the gain, side by side. -/
def gAll (P : Fin 8 → FVec Ideal S1x256 .f32) : FVec Ideal S1x2048 .f32 :=
  concatenate S1x2048 1 [⟨S1x256, P 0⟩, ⟨S1x256, P 1⟩, ⟨S1x256, P 2⟩, ⟨S1x256, P 3⟩, ⟨S1x256, P 4⟩, ⟨S1x256, P 5⟩, ⟨S1x256, P 6⟩, ⟨S1x256, P 7⟩]
    concatenates_S1x256_S1x256_S1x256_S1x256_S1x256_S1x256_S1x256_S1x256_S1x2048_d1

theorem gAll_apply (P : Fin 8 → FVec Ideal S1x256 .f32) (h : Fin 8) (e : Fin 256) (j : Fin 2048) (hj : j.1 = 256 * h.1 + e.1) :
    gAll P (ix2 0 j) = P h (ix2 0 e) := by
  refine concatenate_ofFn_apply (s₁ := S1x256) (t := S1x2048) 1 P _ rfl 256 rfl (ix2 0 j) h ?_ (ix2 0 e) ?_ ?_
  · show j.1 / 256 = h.1
    omega
  · show e.1 = j.1 % 256
    omega
  · intro b hb
    fin_cases b
    · rfl
    · exact absurd rfl hb

/-- What a block adds to the gradient of the gain. -/
def gBlock (c : Dev nD) (t : Fin cfg0.N) : FVec Ideal S1x2048 .f32 :=
  gAll fun h => gpart (ldY (iblk m c 5 t) h) (ldG (X0_0 m c t) h) (ldY (iblk m c 6 t) h)

theorem out9_A (c : Dev nD) (t : Fin cfg0.N) (h0 : t.val % 16 = 0) (h2 : ¬1 ≤ t.val) :
    (outsAt0 m c t.val t.isLt).2.1 = gBlock m c t := by
  rw [outsAt0_A m c t h0 h0 h2]
  frame_out
  rfl

theorem out9_B (c : Dev nD) (t : Fin cfg0.N) (h0 : ¬t.val % 16 = 0) (h2 : 1 ≤ t.val) (j : Fin 2048) :
    (outsAt0 m c t.val t.isLt).2.1 (ix2 0 j) = (outsAt0 m c (t.val - 1) (by omega)).2.1 (ix2 0 j) + gBlock m c t (ix2 0 j) := by
  rw [outsAt0_B m c t h0 h0 h2]
  frame_out
  generalize (outsAt0 m c (t.val - 1) _).2.1 = Z
  have : ∀ (Z A : FVec Ideal S1x2048 .f32) (j : Fin 2048), addf (shapeCast S1x2048 Z shapeCasts_S1x2048_S1x2048) A (ix2 0 j) = Z (ix2 0 j) + A (ix2 0 j) := by
    intro Z A j; pointwise []
  exact this Z (gBlock m c t) j
end Cert.KernelIdeal.Body
-- ==== Proof.Rows.lean ====
module

public import proofs.«01_k».proof.Proof.Blocks

/-!
The rows of gradients that one block of the kernel writes: for each head the gradients of the
queries, the keys, the values and the gate.
-/

@[expose] public section

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen Cert.Retention Cert.KernelIdeal.Head

variable {m : (ℓ : Loc nD τ sig) → Buf (Elt Ideal) ℓ}

theorem dk_piece {hd : Fin 8 → HeadData} {b : Fin 16} {c : Dev nD} {t : Fin cfg0.N} (r : BlockReads m hd b c t)
    {Z : Vec Ideal S8x128x256 .f32} (hZ : ∀ h d e, Z (ix3 h d e) = (((hd h).DS (15 - b.1) d e : ℝ) : EReal))
    (k : Fin 8) (x : S256x128.Idx) (i : Fin 256) (j : ℕ) (h0 : i.1 = (x 0).1) (h1 : j = 768 * k.1 + 128 + (x 1).1) :
    unrot (iblk m c 1 t) (iblk m c 2 t) (dkTile (ldL (iblk m c 3 t) k) (rot (iblk m c 1 t) (iblk m c 2 t) (ldQ (X0_0 m c t) k)) (dout (ldY (iblk m c 5 t) k) (ldN (iblk m c 4 t) k) (ldG (X0_0 m c t) k) (ldY (iblk m c 6 t) k)) (ldV (X0_0 m c t) k) (ldZ Z k)) x = ((gradRow hd (row b i) j : ℝ) : EReal) := by
  obtain ⟨i', d, rfl⟩ : ∃ (i' : Fin 256) (d : Fin 128), x = ix2 i' d := ⟨x 0, x 1, by funext a; fin_cases a <;> rfl⟩
  obtain rfl : i = i' := Fin.ext h0
  rw [gradRow_k hd _ k d j h1]
  exact (r k).dk_apply (fun d e => (ldZ_apply Z k d e).trans (hZ k d e)) i d

theorem dq_piece {hd : Fin 8 → HeadData} {b : Fin 16} {c : Dev nD} {t : Fin cfg0.N} (r : BlockReads m hd b c t)
    (hS : ∀ h d e, ldS (iblk m c 7 t) h (ix2 d e) = (((hd h).SP b d e : ℝ) : EReal))
    (k : Fin 8) (x : S256x128.Idx) (i : Fin 256) (j : ℕ) (h0 : i.1 = (x 0).1) (h1 : j = 768 * k.1 + (x 1).1) :
    unrot (iblk m c 1 t) (iblk m c 2 t) (dqTile (ldL (iblk m c 3 t) k) (krot (iblk m c 1 t) (iblk m c 2 t) (ldK (X0_0 m c t) k)) (dout (ldY (iblk m c 5 t) k) (ldN (iblk m c 4 t) k) (ldG (X0_0 m c t) k) (ldY (iblk m c 6 t) k)) (ldV (X0_0 m c t) k) (ldS (iblk m c 7 t) k)) x = ((gradRow hd (row b i) j : ℝ) : EReal) := by
  obtain ⟨i', d, rfl⟩ : ∃ (i' : Fin 256) (d : Fin 128), x = ix2 i' d := ⟨x 0, x 1, by funext a; fin_cases a <;> rfl⟩
  obtain rfl : i = i' := Fin.ext h0
  rw [gradRow_q hd _ k d j h1]
  exact (r k).dq_apply (hS k) i d

theorem dv_piece {hd : Fin 8 → HeadData} {b : Fin 16} {c : Dev nD} {t : Fin cfg0.N} (r : BlockReads m hd b c t)
    {Z : Vec Ideal S8x128x256 .f32} (hZ : ∀ h d e, Z (ix3 h d e) = (((hd h).DS (15 - b.1) d e : ℝ) : EReal))
    (k : Fin 8) (x : S256x256.Idx) (i : Fin 256) (j : ℕ) (h0 : i.1 = (x 0).1) (h1 : j = 768 * k.1 + 256 + (x 1).1) :
    dvTile (ldL (iblk m c 3 t) k) (rot (iblk m c 1 t) (iblk m c 2 t) (ldQ (X0_0 m c t) k)) (krot (iblk m c 1 t) (iblk m c 2 t) (ldK (X0_0 m c t) k)) (dout (ldY (iblk m c 5 t) k) (ldN (iblk m c 4 t) k) (ldG (X0_0 m c t) k) (ldY (iblk m c 6 t) k)) (ldZ Z k) x = ((gradRow hd (row b i) j : ℝ) : EReal) := by
  obtain ⟨i', d, rfl⟩ : ∃ (i' : Fin 256) (d : Fin 256), x = ix2 i' d := ⟨x 0, x 1, by funext a; fin_cases a <;> rfl⟩
  obtain rfl : i = i' := Fin.ext h0
  rw [gradRow_v hd _ k d j h1]
  exact (r k).dv_apply (fun d e => (ldZ_apply Z k d e).trans (hZ k d e)) i d

theorem dg_piece {hd : Fin 8 → HeadData} {b : Fin 16} {c : Dev nD} {t : Fin cfg0.N} (r : BlockReads m hd b c t)
    (k : Fin 8) (x : S256x256.Idx) (i : Fin 256) (j : ℕ) (h0 : i.1 = (x 0).1) (h1 : j = 768 * k.1 + 512 + (x 1).1) :
    dgate (ldY (iblk m c 5 t) k) (ldN (iblk m c 4 t) k) (ldG (X0_0 m c t) k) (ldY (iblk m c 6 t) k) x = ((gradRow hd (row b i) j : ℝ) : EReal) := by
  obtain ⟨i', d, rfl⟩ : ∃ (i' : Fin 256) (d : Fin 256), x = ix2 i' d := ⟨x 0, x 1, by funext a; fin_cases a <;> rfl⟩
  obtain rfl : i = i' := Fin.ext h0
  rw [gradRow_g hd _ k d j h1]
  exact (r k).dgate_apply i d

variable (m)

set_option maxHeartbeats 4000000 in
theorem out8_A (hd : Fin 8 → HeadData) (b : Fin 16) (c : Dev nD) (t : Fin cfg0.N) (h0 : t.val % 16 = 0) (h2 : ¬1 ≤ t.val)
    (hb : 15 - b.1 = 0) (r : BlockReads m hd b c t)
    (hS : ∀ h d e, ldS (iblk m c 7 t) h (ix2 d e) = (((hd h).SP b d e : ℝ) : EReal)) (i : Fin 256) (j : Fin 6144) :
    (outsAt0 m c t.val t.isLt).1 (ix2 i j) = ((gradRow hd (row b i) j.1 : ℝ) : EReal) := by
  rw [outsAt0_A m c t h0 h0 h2]
  frame_out
  simp (disch := decide) only [View.readCov_fill]
  have hZ : ∀ h d e, (k0_pay5 (F := Ideal)) (ix3 h d e) = (((hd h).DS (15 - b.1) d e : ℝ) : EReal) := by
    intro h d e
    rw [hb, HeadData.DS_zero]
    exact pay5_apply h d e
  canon_tiles x hx using View.cover_of_tiledBy _ ![256, 128] (by sl_kernel_rfl) _
  · exact dk_piece r hZ 7 x i j.1 hx0 hx1
  · exact dq_piece r hS 7 x i j.1 hx0 hx1
  · exact dv_piece r hZ 7 x i j.1 hx0 hx1
  · exact dk_piece r hZ 6 x i j.1 hx0 hx1
  · exact dq_piece r hS 6 x i j.1 hx0 hx1
  · exact dv_piece r hZ 6 x i j.1 hx0 hx1
  · exact dk_piece r hZ 5 x i j.1 hx0 hx1
  · exact dq_piece r hS 5 x i j.1 hx0 hx1
  · exact dv_piece r hZ 5 x i j.1 hx0 hx1
  · exact dk_piece r hZ 4 x i j.1 hx0 hx1
  · exact dq_piece r hS 4 x i j.1 hx0 hx1
  · exact dv_piece r hZ 4 x i j.1 hx0 hx1
  · exact dk_piece r hZ 3 x i j.1 hx0 hx1
  · exact dq_piece r hS 3 x i j.1 hx0 hx1
  · exact dv_piece r hZ 3 x i j.1 hx0 hx1
  · exact dk_piece r hZ 2 x i j.1 hx0 hx1
  · exact dq_piece r hS 2 x i j.1 hx0 hx1
  · exact dv_piece r hZ 2 x i j.1 hx0 hx1
  · exact dk_piece r hZ 1 x i j.1 hx0 hx1
  · exact dq_piece r hS 1 x i j.1 hx0 hx1
  · exact dv_piece r hZ 1 x i j.1 hx0 hx1
  · exact dk_piece r hZ 0 x i j.1 hx0 hx1
  · exact dq_piece r hS 0 x i j.1 hx0 (hx1.trans (Nat.zero_add _).symm)
  · exact dv_piece r hZ 0 x i j.1 hx0 hx1
  · exact dg_piece r 7 x i j.1 hx0 hx1
  · exact dg_piece r 6 x i j.1 hx0 hx1
  · exact dg_piece r 5 x i j.1 hx0 hx1
  · exact dg_piece r 4 x i j.1 hx0 hx1
  · exact dg_piece r 3 x i j.1 hx0 hx1
  · exact dg_piece r 2 x i j.1 hx0 hx1
  · exact dg_piece r 1 x i j.1 hx0 hx1
  · exact dg_piece r 0 x i j.1 hx0 hx1

set_option maxHeartbeats 4000000 in
theorem out8_B (hd : Fin 8 → HeadData) (b : Fin 16) (c : Dev nD) (t : Fin cfg0.N) (h0 : ¬t.val % 16 = 0) (h2 : 1 ≤ t.val)
    (r : BlockReads m hd b c t)
    (hZ : ∀ h d e, (outsAt0 m c (t.val - 1) (by omega)).2.2 (ix3 h d e) = (((hd h).DS (15 - b.1) d e : ℝ) : EReal))
    (hS : ∀ h d e, ldS (iblk m c 7 t) h (ix2 d e) = (((hd h).SP b d e : ℝ) : EReal)) (i : Fin 256) (j : Fin 6144) :
    (outsAt0 m c t.val t.isLt).1 (ix2 i j) = ((gradRow hd (row b i) j.1 : ℝ) : EReal) := by
  rw [outsAt0_B m c t h0 h0 h2]
  frame_out
  simp only [read_unread_whole]
  canon_tiles x hx using View.cover_of_tiledBy _ ![256, 128] (by sl_kernel_rfl) _
  · exact dk_piece r hZ 7 x i j.1 hx0 hx1
  · exact dq_piece r hS 7 x i j.1 hx0 hx1
  · exact dv_piece r hZ 7 x i j.1 hx0 hx1
  · exact dk_piece r hZ 6 x i j.1 hx0 hx1
  · exact dq_piece r hS 6 x i j.1 hx0 hx1
  · exact dv_piece r hZ 6 x i j.1 hx0 hx1
  · exact dk_piece r hZ 5 x i j.1 hx0 hx1
  · exact dq_piece r hS 5 x i j.1 hx0 hx1
  · exact dv_piece r hZ 5 x i j.1 hx0 hx1
  · exact dk_piece r hZ 4 x i j.1 hx0 hx1
  · exact dq_piece r hS 4 x i j.1 hx0 hx1
  · exact dv_piece r hZ 4 x i j.1 hx0 hx1
  · exact dk_piece r hZ 3 x i j.1 hx0 hx1
  · exact dq_piece r hS 3 x i j.1 hx0 hx1
  · exact dv_piece r hZ 3 x i j.1 hx0 hx1
  · exact dk_piece r hZ 2 x i j.1 hx0 hx1
  · exact dq_piece r hS 2 x i j.1 hx0 hx1
  · exact dv_piece r hZ 2 x i j.1 hx0 hx1
  · exact dk_piece r hZ 1 x i j.1 hx0 hx1
  · exact dq_piece r hS 1 x i j.1 hx0 hx1
  · exact dv_piece r hZ 1 x i j.1 hx0 hx1
  · exact dk_piece r hZ 0 x i j.1 hx0 hx1
  · exact dq_piece r hS 0 x i j.1 hx0 (hx1.trans (Nat.zero_add _).symm)
  · exact dv_piece r hZ 0 x i j.1 hx0 hx1
  · exact dg_piece r 7 x i j.1 hx0 hx1
  · exact dg_piece r 6 x i j.1 hx0 hx1
  · exact dg_piece r 5 x i j.1 hx0 hx1
  · exact dg_piece r 4 x i j.1 hx0 hx1
  · exact dg_piece r 3 x i j.1 hx0 hx1
  · exact dg_piece r 2 x i j.1 hx0 hx1
  · exact dg_piece r 1 x i j.1 hx0 hx1
  · exact dg_piece r 0 x i j.1 hx0 hx1

end Cert.KernelIdeal.Body
-- ==== Proof.Sweep.lean ====
module

public import proofs.«01_k».proof.Proof.Rows

/-!
The kernel over its whole grid: the blocks are taken from the last to the first, the gradient of the
states is carried from each to the next, the gradient of the gain is added up.
-/

@[expose] public section

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen Cert.Retention Cert.KernelIdeal.Head

variable (m : (ℓ : Loc nD τ sig) → Buf (Elt Ideal) ℓ)

/-- The block of rows taken at a grid point. -/
def blkOf (t : Fin cfg0.N) : Fin 16 := ⟨15 - t.1, by omega⟩

theorem lt16 (t : Fin cfg0.N) : t.1 < 16 := t.isLt

/-- Every grid point finds the rows of its block and the state before it. -/
structure Fed (hd : Fin 8 → HeadData) (c : Dev nD) : Prop where
  reads : ∀ t, BlockReads m hd (blkOf t) c t
  states : ∀ t h d e, ldS (iblk m c 7 t) h (ix2 d e) = (((hd h).SP (blkOf t) d e : ℝ) : EReal)

variable {m} {hd : Fin 8 → HeadData} {c : Dev nD}

theorem carried (f : Fed m hd c) : ∀ (n : ℕ) (hn : n < cfg0.N) (h d e),
    (outsAt0 m c n hn).2.2 (ix3 h d e) = (((hd h).DS (n + 1) d e : ℝ) : EReal)
  | 0, hn => fun h d e => by
    have := scratch_A m hd (blkOf ⟨0, hn⟩) c ⟨0, hn⟩ rfl (Nat.not_succ_le_zero 0) rfl (f.reads _) h d e
    exact this
  | n + 1, hn => fun h d e => by
    have hlt := lt16 ⟨n + 1, hn⟩
    simp only at hlt
    have e1 : 15 - (blkOf ⟨n + 1, hn⟩).1 = n + 1 := by simp only [blkOf]; omega
    have := scratch_B m hd (blkOf ⟨n + 1, hn⟩) c ⟨n + 1, hn⟩ (by simp only; omega) (by simp) (f.reads _)
      (fun h d e => by rw [e1]; exact carried f n (by omega) h d e) h d e
    rw [e1] at this
    exact this

theorem rows (f : Fed m hd c) (t : Fin cfg0.N) (i : Fin 256) (j : Fin 6144) :
    (outsAt0 m c t.val t.isLt).1 (ix2 i j) = ((gradRow hd (row (blkOf t) i) j.1 : ℝ) : EReal) := by
  have hlt := lt16 t
  by_cases h : t.val = 0
  · exact out8_A m hd (blkOf t) c t (by rw [h]) (by omega) (by simp only [blkOf]; omega) (f.reads t) (f.states t) i j
  · have e1 : 15 - (blkOf t).1 = t.val - 1 + 1 := by simp only [blkOf]; omega
    exact out8_B m hd (blkOf t) c t (by omega) (by omega) (f.reads t)
      (fun h d e => by rw [e1]; exact carried f (t.val - 1) (by omega) h d e) (f.states t) i j

theorem gBlock_apply (f : Fed m hd c) (t : Fin cfg0.N) (h : Fin 8) (e : Fin 256) (j : Fin 2048) (hj : j.1 = 256 * h.1 + e.1) :
    gBlock m c t (ix2 0 j) = ((∑ i, (hd h).gt (row (blkOf t) i) e * (hd h).ryn (row (blkOf t) i) e : ℝ) : EReal) :=
  (gAll_apply _ h e j hj).trans ((f.reads t h).gpart_apply e)

theorem gains (f : Fed m hd c) (t : Fin cfg0.N) (ht : t.val + 1 = cfg0.N) (h : Fin 8) (e : Fin 256) (j : Fin 2048) (hj : j.1 = 256 * h.1 + e.1) :
    (outsAt0 m c t.val t.isLt).2.1 (ix2 0 j) = (((hd h).dN e : ℝ) : EReal) := by
  have key := Pipeline.eq_sum_fin_of_reset_step_apply_last (N := cfg0.N) (ι := Fin 2048) (M := EReal)
    (fun n hn j => (outsAt0 m c n hn).2.1 (ix2 0 j)) 16 (fun _ => 0) (fun t j => gBlock m c t (ix2 0 j))
    (fun t h0 j => by
      have hlt := lt16 t
      simp only [zero_add]
      rw [out9_A m c t h0 (by omega)])
    (fun t h0 j => out9_B m c t h0 (by have := lt16 t; omega) j) (by decide) t ht j
  rw [key, zero_add, (hd h).dN_block]
  simp only [gBlock_apply f _ h e j hj]
  rw [coe_sum]
  congr 1
  exact Fintype.sum_equiv Fin.revPerm _ _ fun t => by
    have : blkOf t = Fin.revPerm t := Fin.ext (by show 15 - t.1 = 16 - (t.1 + 1); omega)
    rw [this]

theorem idx8 : ∀ t : Fin grid0.N, win0_8.index t 0 = 15 - t.1 ∧ win0_8.index t 1 = 0 := by decide +kernel

/-- The first result: the rows of gradients, and the argument's own columns after them. -/
def rowsOut (hd : Fin 8 → HeadData) (A : Vec Ideal S4096x11264 .bf16) : Vec Ideal S4096x11264 .bf16 := fun i =>
  if (i 1).1 < 6144 then ((gradRow hd (i 0) (i 1).1 : ℝ) : EReal) else A i

theorem array8 (f : Fed m hd c) : (dats m 0 c).arrAt 8 cfg0.N = rowsOut hd (V m c main_v173_0) := by
  refine (dats m 0 c).arrAt_eq_of_coversWhere 8 (fun i : S4096x11264.Idx => ((gradRow hd (i 0) (i 1).1 : ℝ) : EReal))
    (P := fun i : S4096x11264.Idx => (i 1).1 < 6144) (fun β => β (1 : Fin _) < 1)
    (by decide +kernel) (fun t hf y => ?_) (fun j => by blk_simp [Pipeline.Window.cell_apply]; omega)
  blk_simp
  rw [after0_8]
  have e0 := (idx8 t).1
  have e1 := (idx8 t).2
  have hy0 : (y 0).1 < 256 := ((cfg0.win 8).xinj (cfg0.grid.coords t) y (0 : Fin 2)).2
  have hy1 : (y 1).1 < 6144 := ((cfg0.win 8).xinj (cfg0.grid.coords t) y (1 : Fin 2)).2
  have hx : (cfg0.win 8).xinj (cfg0.grid.coords t) y = ix2 (⟨(y 0).1, hy0⟩ : Fin 256) (⟨(y 1).1, hy1⟩ : Fin 6144) := by
    funext a; fin_cases a <;> rfl
  rw [hx]
  refine (rows f t _ _).trans ?_
  have hr : row (blkOf t) ⟨(y 0).1, hy0⟩ = (win0_8.blk t).view.emb y 0 := Fin.ext (by
    have : ((win0_8.blk t).view.emb y 0).1 = win0_8.index t 0 * 256 + (y 0).1 := by blk_simp
    rw [this, e0]
    simp only [row, blkOf]
    omega)
  rw [hr, e1, Nat.zero_mul, Nat.zero_add]

/-- The second result: the gradient of the gain. -/
def gainOut (hd : Fin 8 → HeadData) : Vec Ideal S1x2048 .f32 := fun i =>
  (((hd ⟨(i 1).1 / 256, by have : (i 1).1 < 2048 := (i 1).2; omega⟩).dN ⟨(i 1).1 % 256, Nat.mod_lt _ (by decide)⟩ : ℝ) : EReal)

theorem array9 (f : Fed m hd c) : (dats m 0 c).arrAt 9 cfg0.N = gainOut hd := by
  refine (dats m 0 c).arrAt_eq_of_after_last 9 ⟨15, by decide⟩ (by decide +kernel) _ fun j => ?_
  have hj0 : j 0 = (0 : Fin 1) := Subsingleton.elim (α := Fin 1) _ _
  have hj1 : (j 1).1 < 2048 := (j 1).2
  refine (congrFun (after0_9 m c ⟨15, by decide⟩) _).trans ?_
  have hx : (fun a => ⟨(j a).1, (by decide +kernel : (cfg0.win 9).WholeAt ⟨15, by decide⟩).lt_size j a⟩ : (cfg0.win 9).block.Idx) = ix2 (0 : Fin 1) (⟨(j 1).1, hj1⟩ : Fin 2048) := by
    funext a; fin_cases a
    · exact Fin.ext (congrArg Fin.val hj0)
    · rfl
  rw [hx]
  refine (gains f ⟨15, by decide⟩ rfl ⟨(j 1).1 / 256, by omega⟩ ⟨(j 1).1 % 256, Nat.mod_lt _ (by decide)⟩ _ (by simp only; omega)).trans ?_
  rfl

end Cert.KernelIdeal.Body
-- ==== Proof.Saved.lean ====
module

public import proofs.«01_k».proof.Proof.Tables
public import proofs.«01_k».proof.Proof.Sweep

/-!
The arrays the kernel's blocks are cut from: the rotary tables over full heads, the logarithms of
the decays, the projections side by side, the retention's output and the states before each block.
-/

@[expose] public section

set_option maxRecDepth 16384

noncomputable section

open Idealize.ShloMosaic Idealize.ShloMosaic.TcCoe Idealize.ShloMosaic.Tactic Idealize.SL.Sem

namespace Cert.KernelIdeal.Tables

open Cert.KernelIdeal Cert.KernelIdeal.Gen Cert.Retention

/-- The cosines over a full head. -/
def cosT (A : FVec Ideal S4096x64 .f32) : FVec Ideal S4096x128 .f32 :=
  concatenate S4096x128 1 [⟨S4096x64, (Host.cos A : FVec Ideal S4096x64 .f32)⟩, ⟨S4096x64, (Host.cos A : FVec Ideal S4096x64 .f32)⟩] concatenates_S4096x64_S4096x64_S4096x128_d1

/-- The signed sines over a full head. -/
def sinT (A : FVec Ideal S4096x64 .f32) : FVec Ideal S4096x128 .f32 :=
  concatenate S4096x128 1 [⟨S4096x64, (Host.negf (Host.sin A) : FVec Ideal S4096x64 .f32)⟩, ⟨S4096x64, (Host.sin A : FVec Ideal S4096x64 .f32)⟩] concatenates_S4096x64_S4096x64_S4096x128_d1

/-- The logarithms of the decays, one tile for each head. -/
def lgamT : FVec Ideal S8x8x128 .f32 :=
  broadcastInDim S8x8x128 ![0, 1, 2] bcast_S8x1x1_S8x8x128_0_1_2 (broadcastInDim S8x1x1 ![0] bcast_S8_S8x1x1_0 lgT)

/-- Queries or keys by head. -/
def headsQ (X : FVec Ideal S4096x1024 .f32) : FVec Ideal S4096x8x128 .f32 := shapeCast S4096x8x128 X shapeCasts_S4096x1024_S4096x8x128

/-- Values or gates by head. -/
def headsV (X : FVec Ideal S4096x2048 .f32) : FVec Ideal S4096x8x256 .f32 := shapeCast S4096x8x256 X shapeCasts_S4096x2048_S4096x8x256

/-- The projections side by side, head by head, and the other columns after them. -/
def projT (Q K : FVec Ideal S4096x1024 .f32) (X G : FVec Ideal S4096x2048 .f32) (T : FVec Ideal S4096x5120 .f32) : FVec Ideal S4096x11264 .f32 :=
  concatenate S4096x11264 1 [⟨S4096x6144, (shapeCast S4096x6144
    (concatenate S4096x8x768 2 [⟨S4096x8x128, headsQ Q⟩, ⟨S4096x8x128, headsQ K⟩, ⟨S4096x8x256, headsV X⟩, ⟨S4096x8x256, headsV G⟩]
      concatenates_S4096x8x128_S4096x8x128_S4096x8x256_S4096x8x256_S4096x8x768_d2) shapeCasts_S4096x8x768_S4096x6144 : FVec Ideal S4096x6144 .f32)⟩, ⟨S4096x5120, T⟩]
    concatenates_S4096x6144_S4096x5120_S4096x11264_d1

/-- The first row of each block. -/
def startT : IVec S16x1 32 :=
  muli (broadcastInDim S16x1 ![] bcast_S_S16x1 (constantI S_ 32 256#32)) (broadcastInDim S16x1 ![0] bcast_S16_S16x1_0 (iotaInDim S16 32 0))

/-- The row number along a row of numbers. -/
def colT : IVec S1x4096 32 := broadcastInDim S1x4096 ![1] bcast_S4096_S1x4096_1 (iotaInDim S4096 32 0)

/-- The weight of each row in the state before each block. -/
def seenT : FVec Ideal S8x16x4096 .f32 :=
  select (broadcastInDim S8x16x4096 ![1, 2] bcast_S16x4096_S8x16x4096_1_2
      (cmpi .slt (broadcastInDim S16x4096 ![0, 1] bcast_S1x4096_S16x4096_0_1 colT) (broadcastInDim S16x4096 ![0, 1] bcast_S16x1_S16x4096_0_1 startT)))
    (Host.exp (mulf
      (broadcastInDim S8x16x4096 ![0, 1, 2] bcast_S8x1x1_S8x16x4096_0_1_2 (broadcastInDim S8x1x1 ![0] bcast_S8_S8x1x1_0 lgT))
      (broadcastInDim S8x16x4096 ![0, 1, 2] bcast_S1x16x4096_S8x16x4096_0_1_2 (broadcastInDim S1x16x4096 ![1, 2] bcast_S16x4096_S1x16x4096_1_2
        (sitofp .f32 (subi
          (broadcastInDim S16x4096 ![0, 1] bcast_S16x1_S16x4096_0_1 (subi startT (broadcastInDim S16x1 ![] bcast_S_S16x1 (constantI S_ 32 1#32))))
          (broadcastInDim S16x4096 ![0, 1] bcast_S1x4096_S16x4096_0_1 colT)))))))
    (broadcastInDim S8x16x4096 ![] bcast_S_S8x16x4096 (constant S_ .f32 0x00000000#32))

/-- The state before each block. -/
def stateT (K : FVec Ideal S4096x8x128 .f32) (X : FVec Ideal S4096x8x256 .f32) : FVec Ideal S8x16x128x256 .f32 :=
  Host.dotGeneral dot_S8x16x4096x128_S4096x8x256_S8x16x128x256_2_0_13_2_0_1 none
    (mulf
      (broadcastInDim S8x16x4096x128 ![0, 1, 2, 3] bcast_S8x16x4096x1_S8x16x4096x128_0_1_2_3 (broadcastInDim S8x16x4096x1 ![0, 1, 2] bcast_S8x16x4096_S8x16x4096x1_0_1_2 seenT))
      (broadcastInDim S8x16x4096x128 ![0, 1, 2, 3] bcast_S8x1x4096x128_S8x16x4096x128_0_1_2_3
        (broadcastInDim S8x1x4096x128 ![0, 2, 3] bcast_S8x4096x128_S8x1x4096x128_0_2_3 (transpose S8x4096x128 [1, 0, 2] K transposes_S4096x8x128_S8x4096x128_1_0_2)))) X

theorem cosT_apply (A : FVec Ideal S4096x64 .f32) (p : Fin 4096 → ℝ) (hA : ∀ n i, A (ix2 n i) = ((angle (p n) i.1 : ℝ) : EReal)) (n : Fin 4096) (d : Fin 128) :
    cosT A (ix2 n d) = ((Real.cos (angle (p n) (d.1 % 64)) : ℝ) : EReal) := by
  pointwise [cosT]
  simp only [hA, Ideal.cos_coe]
  split
  · rw [Nat.mod_eq_of_lt (by assumption)]
  · rw [show d.1 % 64 = d.1 - 64 by omega]

theorem sinT_apply (A : FVec Ideal S4096x64 .f32) (p : Fin 4096 → ℝ) (hA : ∀ n i, A (ix2 n i) = ((angle (p n) i.1 : ℝ) : EReal)) (n : Fin 4096) (d : Fin 128) :
    sinT A (ix2 n d) = ((if d.1 < 64 then -Real.sin (angle (p n) d.1) else Real.sin (angle (p n) (d.1 - 64)) : ℝ) : EReal) := by
  pointwise [sinT]
  simp only [hA, Ideal.sin_coe, ← EReal.coe_neg]
  split <;> rfl

theorem lgamT_apply (h a : Fin 8) (b : Fin 128) : lgamT (ix3 h a b) = ((logGamma h.1 : ℝ) : EReal) := by
  pointwise [lgamT]
  exact lgT_apply h

theorem headsQ_apply (X : FVec Ideal S4096x1024 .f32) (n : Fin 4096) (h : Fin 8) (d : Fin 128) :
    headsQ X (ix3 n h d) = X (ix2 n ⟨128 * h.1 + d.1, by omega⟩) := by
  pointwise [headsQ]
  simp only [Nat.mul_comm]

theorem headsV_apply (X : FVec Ideal S4096x2048 .f32) (n : Fin 4096) (h : Fin 8) (d : Fin 256) :
    headsV X (ix3 n h d) = X (ix2 n ⟨256 * h.1 + d.1, by omega⟩) := by
  pointwise [headsV]
  simp only [Nat.mul_comm]

section
variable (Q K : FVec Ideal S4096x1024 .f32) (X G : FVec Ideal S4096x2048 .f32) (T : FVec Ideal S4096x5120 .f32) (n : Fin 4096) (h : Fin 8)

theorem projT_q (d : Fin 128) : projT Q K X G T (ix2 n ⟨768 * h.1 + d.1, by omega⟩) = Q (ix2 n ⟨128 * h.1 + d.1, by omega⟩) := by
  refine Eq.trans ?_ (headsQ_apply Q n h d)
  pointwise [projT]
  rw [dif_pos (by omega), dif_pos (by omega)]
  exact congrArg (fun x => headsQ Q (ix3 n h x)) (Fin.ext (by simp only; omega))

theorem projT_k (d : Fin 128) : projT Q K X G T (ix2 n ⟨768 * h.1 + 128 + d.1, by omega⟩) = K (ix2 n ⟨128 * h.1 + d.1, by omega⟩) := by
  refine Eq.trans ?_ (headsQ_apply K n h d)
  pointwise [projT]
  rw [dif_pos (by omega), dif_neg (by omega), dif_pos (by omega)]
  exact congrArg (fun x => headsQ K (ix3 n h x)) (Fin.ext (by simp only; omega))

theorem projT_v (d : Fin 256) : projT Q K X G T (ix2 n ⟨768 * h.1 + 256 + d.1, by omega⟩) = X (ix2 n ⟨256 * h.1 + d.1, by omega⟩) := by
  refine Eq.trans ?_ (headsV_apply X n h d)
  pointwise [projT]
  rw [dif_pos (by omega), dif_neg (by omega), dif_neg (by omega), dif_pos (by omega)]
  exact congrArg (fun x => headsV X (ix3 n h x)) (Fin.ext (by simp only; omega))

theorem projT_g (d : Fin 256) : projT Q K X G T (ix2 n ⟨768 * h.1 + 512 + d.1, by omega⟩) = G (ix2 n ⟨256 * h.1 + d.1, by omega⟩) := by
  refine Eq.trans ?_ (headsV_apply G n h d)
  pointwise [projT]
  rw [dif_pos (by omega), dif_neg (by omega), dif_neg (by omega), dif_neg (by omega)]
  exact congrArg (fun x => headsV G (ix3 n h x)) (Fin.ext (by simp only; omega))

end

theorem start_word (b : Fin 16) : IntOp.muli 256#32 (BitVec.ofNat 32 b.1) = BitVec.ofNat 32 (256 * b.1) := by
  revert b; decide +kernel

theorem slt_word (a b : ℕ) (ha : a < 2 ^ 31) (hb : b < 2 ^ 31) :
    IntOp.cmpi CmpIPredicate.slt (BitVec.ofNat 32 a) (BitVec.ofNat 32 b) = if a < b then 1#1 else 0#1 := by
  have e : (BitVec.ofNat 32 a).slt (BitVec.ofNat 32 b) = decide (a < b) := by
    rw [BitVec.slt, toInt_ofNat a ha, toInt_ofNat b hb]
    simp
  unfold IntOp.cmpi
  simp only [e]
  by_cases h : a < b <;> simp [h]

theorem ago_word (b : Fin 16) (n : Fin 4096) :
    (IntOp.subi (IntOp.subi (BitVec.ofNat 32 (256 * b.1)) 1#32) (BitVec.ofNat 32 n.1)).toInt = (256 * b.1 : ℤ) - 1 - n.1 := by
  unfold IntOp.subi
  rw [BitVec.toInt_sub, BitVec.toInt_sub, toInt_ofNat (256 * b.1) (by omega), toInt_ofNat 1 (by omega), toInt_ofNat n.1 (by omega)]
  simp only [Int.bmod]
  omega

theorem seenT_apply (h : Fin 8) (b : Fin 16) (n : Fin 4096) :
    seenT (ix3 h b n) = ((if n.1 < 256 * b.1 then Real.exp (logGamma h.1 * ((256 * b.1 : ℕ) - 1 - (n.1 : ℝ))) else 0 : ℝ) : EReal) := by
  pointwise [seenT, startT, colT]
  rw [start_word, slt_word _ _ (by omega) (by omega), lgT_apply]
  by_cases h' : n.1 < 256 * b.1
  · simp only [h', if_true]
    show Ideal.exp (((logGamma h.1 : ℝ) : EReal) * (((IntOp.subi (IntOp.subi (BitVec.ofNat 32 (256 * b.1)) 1#32) (BitVec.ofNat 32 n.1)).toInt : ℝ) : EReal)) = _
    rw [ago_word, ← EReal.coe_mul, Ideal.exp_coe]
    push_cast
    rfl
  · simp only [h', if_false]
    rfl

theorem stateT_apply (R : Rows) (h : Fin 8) (K : FVec Ideal S4096x8x128 .f32) (X : FVec Ideal S4096x8x256 .f32)
    (hK : ∀ n d, K (ix3 n h d) = (((R.head h).rk n d : ℝ) : EReal)) (hX : ∀ n e, X (ix3 n h e) = (((R.head h).v n e : ℝ) : EReal))
    (b : Fin 16) (d : Fin 128) (e : Fin 256) : stateT K X (ix4 h b d e) = (((R.head h).SP b d e : ℝ) : EReal) := by
  pointwise [stateT]
  simp only [hK, hX, seenT_apply, ← EReal.coe_mul, coe_sum]
  rfl

/-- The arguments are the real numbers of `R`. -/
structure Holds (R : Rows) (aq ak : FVec Ideal S4096x1024 .f32) (av ag : FVec Ideal S4096x2048 .f32) (ap : IVec S1x4096 32)
    (aN : FVec Ideal S1x2048 .f32) (aD : FVec Ideal S4096x2048 .f32) : Prop where
  q : ∀ n j, aq (ix2 n j) = ((R.q n j : ℝ) : EReal)
  k : ∀ n j, ak (ix2 n j) = ((R.k n j : ℝ) : EReal)
  v : ∀ n j, av (ix2 n j) = ((R.v n j : ℝ) : EReal)
  g : ∀ n j, ag (ix2 n j) = ((R.g n j : ℝ) : EReal)
  D : ∀ n j, aD (ix2 n j) = ((R.D n j : ℝ) : EReal)
  pos : ∀ n, (((ap (ix2 0 n)).toInt : ℝ) : EReal) = ((R.pos n : ℝ) : EReal)
  gain : ∀ j, aN (ix2 0 j) = ((R.gain j : ℝ) : EReal)

namespace Holds

variable {R : Rows} {aq ak : FVec Ideal S4096x1024 .f32} {av ag : FVec Ideal S4096x2048 .f32} {ap : IVec S1x4096 32}
  {aN : FVec Ideal S1x2048 .f32} {aD : FVec Ideal S4096x2048 .f32}

theorem ang (r : Holds R aq ak av ag ap aN aD) (n : Fin 4096) (i : Fin 64) : angT (posT ap) (ix2 n i) = ((angle (R.pos n) i.1 : ℝ) : EReal) :=
  angT_apply _ _ (fun n => (posT_apply ap n).trans (r.pos n)) n i

theorem ang' (r : Holds R aq ak av ag ap aN aD) (n : Fin 4096) (i : Fin 64) : angT (posT' ap) (ix2 n i) = ((angle (R.pos n) i.1 : ℝ) : EReal) :=
  angT_apply _ _ (fun n => (posT'_apply ap n).trans (r.pos n)) n i

theorem rq (r : Holds R aq ak av ag ap aN aD) (h : Fin 8) (n : Fin 4096) (d : Fin 128) :
    ropeT (angT (posT ap)) (headsQ aq) (ix3 n h d) = (((R.head h).rq n d : ℝ) : EReal) :=
  ropeT_apply (R.head h) R.pos (fun _ _ => rfl) (fun _ _ => rfl) _ r.ang _ h (R.head h).q (fun n d => (headsQ_apply aq n h d).trans (r.q _ _)) n d

theorem rk (r : Holds R aq ak av ag ap aN aD) (h : Fin 8) (n : Fin 4096) (d : Fin 128) :
    kropeT (angT (posT ap)) (headsQ ak) (ix3 n h d) = (((R.head h).rk n d : ℝ) : EReal) := by
  pointwise [kropeT]
  rw [ropeT_apply (R.head h) R.pos (fun _ _ => rfl) (fun _ _ => rfl) _ r.ang _ h (R.head h).k (fun n d => (headsQ_apply ak n h d).trans (r.k _ _)) n d,
    scale_coe, ← EReal.coe_mul]
  rfl

theorem heads_v (r : Holds R aq ak av ag ap aN aD) (h : Fin 8) (n : Fin 4096) (e : Fin 256) :
    headsV av (ix3 n h e) = (((R.head h).v n e : ℝ) : EReal) := (headsV_apply av n h e).trans (r.v _ _)

theorem y (r : Holds R aq ak av ag ap aN aD) (h : Fin 8) (n : Fin 4096) (e : Fin 256) :
    yT (ropeT (angT (posT ap)) (headsQ aq)) (kropeT (angT (posT ap)) (headsQ ak)) (headsV av) (ix3 n h e) = (((R.head h).y n e : ℝ) : EReal) :=
  yT_apply R h _ _ _ (r.rq h) (r.rk h) (r.heads_v h) n e

theorem state (r : Holds R aq ak av ag ap aN aD) (h : Fin 8) (b : Fin 16) (d : Fin 128) (e : Fin 256) :
    stateT (kropeT (angT (posT ap)) (headsQ ak)) (headsV av) (ix4 h b d e) = (((R.head h).SP b d e : ℝ) : EReal) :=
  stateT_apply R h _ _ (r.rk h) (r.heads_v h) b d e

end Holds

theorem merge_apply (Y : FVec Ideal S4096x8x256 .f32) (n : Fin 4096) (h : Fin 8) (e : Fin 256) :
    shapeCast S4096x2048 Y shapeCasts_S4096x8x256_S4096x2048 (ix2 n ⟨256 * h.1 + e.1, by omega⟩) = Y (ix3 n h e) := by
  pointwise []

variable (m : (ℓ : Loc nD τ sig) → Buf (Elt Ideal) ℓ) (c : Dev nD)

theorem read_cos : V m c main_v14 = cosT (angT (posT' (m (c, main_arg5)))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

theorem read_sin : V m c main_v18 = sinT (angT (posT' (m (c, main_arg5)))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

theorem read_lg : V m c main_v28 = lgamT := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

theorem read_proj : V m c main_v35 = projT (m (c, main_arg0)) (m (c, main_arg1)) (m (c, main_arg2)) (m (c, main_arg3)) (m (c, main_arg4)) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

theorem read_y : V m c main_v135 = shapeCast S4096x2048 (yT (ropeT (angT (posT (m (c, main_arg5)))) (headsQ (m (c, main_arg0))))
    (kropeT (angT (posT (m (c, main_arg5)))) (headsQ (m (c, main_arg1)))) (headsV (m (c, main_arg2)))) shapeCasts_S4096x8x256_S4096x2048 := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

theorem read_state : V m c main_v172 = stateT (kropeT (angT (posT (m (c, main_arg5)))) (headsQ (m (c, main_arg1)))) (headsV (m (c, main_arg2))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Tables
-- ==== Proof.Finite.lean ====
module

public import proofs.«01_k».proof.Defs
public import proofs.«01_k».proof.Proof.Saved

/-!
The condition on the arguments: every entry of the arrays of numbers is finite. Read at each entry it
gives the real numbers the arrays hold.
-/

@[expose] public section

set_option maxRecDepth 16384

noncomputable section

open Idealize.ShloMosaic Idealize.ShloMosaic.TcCoe Idealize.ShloMosaic.Tactic Idealize.SL.Sem

namespace Cert.Pre_finite

open Cert.Retention Cert.KernelIdeal.Tables

instance facts : Facts where
  concatenates_S4096x1024_S4096x1024_S4096x2048_d1 := by decide
  bcast_S_S4096x2048 := by decide
  bcast_S_S1x2048 := by decide
  bcast_S1x2048_S4096x2048_0_1 := by decide

theorem both_one : ∀ a b : BitVec 1, IntOp.andi a b = 1#1 → a = 1#1 ∧ b = 1#1 := by decide

theorem of_one {p : Prop} [Decidable p] (h : BitVec.ofBool (decide p) = 1#1) : p := by
  by_contra hp
  rw [decide_eq_false hp] at h
  exact absurd h (by decide)

theorem bits_inf : Ideal.ofBits FTy.f32 0x7F800000#32 = (⊤ : EReal) := by
  simp [Ideal.ofBits, Ideal.ieee]

/-- An entry whose size is below infinity is the real number it holds. -/
theorem real_of_lt (x : Ideal .f32) (h : BitVec.ofBool (decide (FloatOps.absf x < Ideal.ofBits FTy.f32 0x7F800000#32)) = 1#1) :
    (x : EReal) = ((EReal.toReal x : ℝ) : EReal) := by
  have h' := of_one h
  rw [bits_inf] at h'
  have h2 : max (x : EReal) (-x) < ⊤ := h'
  refine (EReal.coe_toReal ?_ ?_).symm
  · rintro rfl
    simp at h2
  · rintro rfl
    simp at h2

/-- The real numbers the arrays hold. -/
def rows (aq ak : FVec Ideal S4096x1024 .f32) (av ag : FVec Ideal S4096x2048 .f32) (ap : IVec S1x4096 32)
    (aN : FVec Ideal S1x2048 .f32) (aD : FVec Ideal S4096x2048 .f32) : Rows where
  q n j := EReal.toReal (aq (ix2 n j))
  k n j := EReal.toReal (ak (ix2 n j))
  v n j := EReal.toReal (av (ix2 n j))
  g n j := EReal.toReal (ag (ix2 n j))
  D n j := EReal.toReal (aD (ix2 n j))
  pos n := ((ap (ix2 0 n)).toInt : ℝ)
  gain j := EReal.toReal (aN (ix2 0 j))

variable (aq ak : FVec Ideal S4096x1024 .f32) (av ag : FVec Ideal S4096x2048 .f32) (ar : FVec Ideal S4096x5120 .f32) (ap : IVec S1x4096 32)
    (aN : FVec Ideal S1x2048 .f32) (aD : FVec Ideal S4096x2048 .f32) (a8 : FVec Ideal S4096x11264 .bf16)

/-- The entry of the queries and keys side by side. -/
def pair (n : Fin 4096) (j : Fin 2048) : EReal :=
  if h : j.1 < 1024 then aq (ix2 n ⟨j.1, h⟩) else ak (ix2 n ⟨j.1 - 1024, by omega⟩)

theorem entry (h : fn aq ak av ag ar ap aN aD a8 = fun _ => 1#1) (n : Fin 4096) (j : Fin 2048) :
    pair aq ak n j = ((EReal.toReal (pair aq ak n j) : ℝ) : EReal) ∧ av (ix2 n j) = ((EReal.toReal (av (ix2 n j)) : ℝ) : EReal)
    ∧ ag (ix2 n j) = ((EReal.toReal (ag (ix2 n j)) : ℝ) : EReal) ∧ aD (ix2 n j) = ((EReal.toReal (aD (ix2 n j)) : ℝ) : EReal)
    ∧ aN (ix2 0 j) = ((EReal.toReal (aN (ix2 0 j)) : ℝ) : EReal) := by
  have := congrFun h (ix2 n j)
  revert this
  pointwise [fn, fn_part1]
  intro h
  obtain ⟨h, h5⟩ := both_one _ _ h
  obtain ⟨h, h4⟩ := both_one _ _ h
  obtain ⟨h, h3⟩ := both_one _ _ h
  obtain ⟨h1, h2⟩ := both_one _ _ h
  exact ⟨real_of_lt _ h1, real_of_lt _ h2, real_of_lt _ h3, real_of_lt _ h4, real_of_lt _ h5⟩

theorem holds (h : fn aq ak av ag ar ap aN aD a8 = fun _ => 1#1) : Holds (rows aq ak av ag ap aN aD) aq ak av ag ap aN aD where
  q n j := by
    have hp : pair aq ak n ⟨j.1, by omega⟩ = aq (ix2 n j) := dif_pos j.2
    have := (entry aq ak av ag ar ap aN aD a8 h n ⟨j.1, by omega⟩).1
    rwa [hp] at this
  k n j := by
    have hp : pair aq ak n ⟨1024 + j.1, by omega⟩ = ak (ix2 n j) :=
      (dif_neg (by simp only; omega)).trans (congrArg (fun x => ak (ix2 n x)) (Fin.ext (by show 1024 + j.1 - 1024 = j.1; omega)))
    have := (entry aq ak av ag ar ap aN aD a8 h n ⟨1024 + j.1, by omega⟩).1
    rwa [hp] at this
  v n j := (entry aq ak av ag ar ap aN aD a8 h n j).2.1
  g n j := (entry aq ak av ag ar ap aN aD a8 h n j).2.2.1
  D n j := (entry aq ak av ag ar ap aN aD a8 h n j).2.2.2.1
  pos _ := rfl
  gain j := (entry aq ak av ag ar ap aN aD a8 h 0 j).2.2.2.2

end Cert.Pre_finite
-- ==== Proof.Feed.lean ====
module

public import proofs.«01_k».proof.Proof.Saved

/-!
What every grid point finds in its blocks: the rows of the arguments, of the rotary tables and of
the retention's output, and the state before its block.
-/

@[expose] public section

set_option maxRecDepth 16384

noncomputable section

open Idealize.ShloMosaic Idealize.ShloMosaic.TcCoe Idealize.ShloMosaic.Tactic Idealize.SL.Sem

namespace Cert.KernelIdeal.Body

open Cert.KernelIdeal Cert.KernelIdeal.Gen Cert.Retention Cert.KernelIdeal.Head Cert.KernelIdeal.Tables

variable (m : (ℓ : Loc nD τ sig) → Buf (Elt Ideal) ℓ) (c : Dev nD) (t : Fin cfg0.N)

theorem idx0 : ∀ t : Fin grid0.N, win0_0.index t 0 = 15 - t.1 ∧ win0_0.index t 1 = 0 := by decide +kernel
theorem idx1 : ∀ t : Fin grid0.N, win0_1.index t 0 = 15 - t.1 ∧ win0_1.index t 1 = 0 := by decide +kernel
theorem idx2 : ∀ t : Fin grid0.N, win0_2.index t 0 = 15 - t.1 ∧ win0_2.index t 1 = 0 := by decide +kernel
theorem idx3 : ∀ t : Fin grid0.N, win0_3.index t 0 = 0 ∧ win0_3.index t 1 = 0 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 15 - t.1 ∧ win0_5.index t 1 = 0 := by decide +kernel
theorem idx6 : ∀ t : Fin grid0.N, win0_6.index t 0 = 15 - t.1 ∧ win0_6.index t 1 = 0 := by decide +kernel
theorem idx7 : ∀ t : Fin grid0.N, win0_7.index t 0 = 0 ∧ win0_7.index t 1 = 15 - t.1 ∧ win0_7.index t 2 = 0 ∧ win0_7.index t 3 = 0 := by decide +kernel

theorem blk1 (i : Fin 256) (d : Fin 128) : iblk m c 1 t (ix2 i d) = V m c main_v14 (ix2 (row (blkOf t) i) d) := by
  blk_ext [iblk, idx1 t, row, blkOf]

theorem blk2 (i : Fin 256) (d : Fin 128) : iblk m c 2 t (ix2 i d) = V m c main_v18 (ix2 (row (blkOf t) i) d) := by
  blk_ext [iblk, idx2 t, row, blkOf]

theorem blk3 (h a : Fin 8) (d : Fin 128) : iblk m c 3 t (ix3 h a d) = V m c main_v28 (ix3 h a d) := by
  blk_ext [iblk, idx3 t]

theorem blk4 (j : Fin 2048) : iblk m c 4 t (ix2 0 j) = V m c main_arg6 (ix2 0 j) := by
  blk_ext [iblk, idx4 t]

theorem blk5 (i : Fin 256) (j : Fin 2048) : iblk m c 5 t (ix2 i j) = V m c main_v135 (ix2 (row (blkOf t) i) j) := by
  blk_ext [iblk, idx5 t, row, blkOf]

theorem blk6 (i : Fin 256) (j : Fin 2048) : iblk m c 6 t (ix2 i j) = V m c main_arg7 (ix2 (row (blkOf t) i) j) := by
  blk_ext [iblk, idx6 t, row, blkOf]

theorem blk7 (h : Fin 8) (d : Fin 128) (e : Fin 256) : iblk m c 7 t (ix4 h 0 d e) = V m c main_v172 (ix4 h (blkOf t) d e) := by
  blk_ext [iblk, idx7 t, blkOf]

theorem blk0 (i : Fin 256) (j : Fin 6144) : X0_0 m c t (ix2 i j) = V m c main_v35 (ix2 (row (blkOf t) i) ⟨j.1, by omega⟩) := by
  unfold X0_0 Pipeline.Window.fill
  rw [dif_pos (moved0_0 t _)]
  blk_ext [iblk, idx0 t, row, blkOf]

theorem ldQ_apply (X : Vec Ideal S256x6144 .f32) (h : Fin 8) (i : Fin 256) (d : Fin 128) :
    ldQ X h (ix2 i d) = X (ix2 i ⟨768 * h.1 + d.1, by omega⟩) :=
  View.ld_unit_apply_of X _ _ _ _ _ fun a => by fin_cases a <;> simp

theorem ldK_apply (X : Vec Ideal S256x6144 .f32) (h : Fin 8) (i : Fin 256) (d : Fin 128) :
    ldK X h (ix2 i d) = X (ix2 i ⟨768 * h.1 + 128 + d.1, by omega⟩) :=
  View.ld_unit_apply_of X _ _ _ _ _ fun a => by fin_cases a <;> simp

theorem ldV_apply (X : Vec Ideal S256x6144 .f32) (h : Fin 8) (i e : Fin 256) :
    ldV X h (ix2 i e) = X (ix2 i ⟨768 * h.1 + 256 + e.1, by omega⟩) := by
  have gen : ∀ W : Vec Ideal S256x256 .f32, shapeCast S256x256 W shapeCasts_S256x256_S256x256 (ix2 i e) = W (ix2 i e) := by
    intro W; pointwise []
  exact (gen _).trans (View.ld_unit_apply_of X _ _ _ _ _ fun a => by fin_cases a <;> simp)

theorem ldG_apply (X : Vec Ideal S256x6144 .f32) (h : Fin 8) (i e : Fin 256) :
    ldG X h (ix2 i e) = X (ix2 i ⟨768 * h.1 + 512 + e.1, by omega⟩) :=
  View.ld_unit_apply_of X _ _ _ _ _ fun a => by fin_cases a <;> simp

theorem ldY_apply (X : Vec Ideal S256x2048 .f32) (h : Fin 8) (i e : Fin 256) :
    ldY X h (ix2 i e) = X (ix2 i ⟨256 * h.1 + e.1, by omega⟩) :=
  View.ld_unit_apply_of X _ _ _ _ _ fun a => by fin_cases a <;> simp

theorem ldN_apply (X : Vec Ideal S1x2048 .f32) (h : Fin 8) (e : Fin 256) :
    ldN X h (ix2 0 e) = X (ix2 0 ⟨256 * h.1 + e.1, by omega⟩) :=
  View.ld_unit_apply_of X _ _ _ _ _ fun a => by fin_cases a <;> simp

theorem ldL_apply (X : Vec Ideal S8x8x128 .f32) (h : Fin 8) : ldL X h (ix3 0 0 0) = X (ix3 h 0 0) :=
  View.ld_unit_apply_of X _ _ _ _ _ fun a => by fin_cases a <;> simp

theorem ldS_apply (X : Vec Ideal S8x1x128x256 .f32) (h : Fin 8) (d : Fin 128) (e : Fin 256) : ldS X h (ix2 d e) = X (ix4 h 0 d e) := by
  have gen : ∀ W : Vec Ideal S1x1x128x256 .f32, shapeCast S128x256 W shapeCasts_S1x1x128x256_S128x256 (ix2 d e) = W (ix4 0 0 d e) := by
    intro W; pointwise []
  exact (gen _).trans (View.ld_unit_apply_of X _ _ _ _ _ fun a => by fin_cases a <;> simp)

/-- When the arguments are real numbers every grid point finds its rows and the state before them. -/
theorem fed {R : Rows} (r : Holds R (m (c, main_arg0)) (m (c, main_arg1)) (m (c, main_arg2)) (m (c, main_arg3)) (m (c, main_arg5))
    (m (c, main_arg6)) (m (c, main_arg7))) : Fed m R.head c where
  reads t h :=
    { c := fun i d => (blk1 m c t i d).trans ((congrFun (read_cos m c) _).trans (cosT_apply _ _ r.ang' _ _))
      s := fun i d => (blk2 m c t i d).trans ((congrFun (read_sin m c) _).trans (sinT_apply _ _ r.ang' _ _))
      q := fun i d => (ldQ_apply _ h i d).trans ((blk0 m c t i _).trans ((congrFun (read_proj m c) _).trans ((projT_q _ _ _ _ _ _ h d).trans (r.q _ _))))
      k := fun i d => (ldK_apply _ h i d).trans ((blk0 m c t i _).trans ((congrFun (read_proj m c) _).trans ((projT_k _ _ _ _ _ _ h d).trans (r.k _ _))))
      v := fun i e => (ldV_apply _ h i e).trans ((blk0 m c t i _).trans ((congrFun (read_proj m c) _).trans ((projT_v _ _ _ _ _ _ h e).trans (r.v _ _))))
      g := fun i e => (ldG_apply _ h i e).trans ((blk0 m c t i _).trans ((congrFun (read_proj m c) _).trans ((projT_g _ _ _ _ _ _ h e).trans (r.g _ _))))
      y := fun i e => (ldY_apply _ h i e).trans ((blk5 m c t i _).trans ((congrFun (read_y m c) _).trans ((merge_apply _ _ h e).trans (r.y h _ e))))
      D := fun i e => (ldY_apply _ h i e).trans ((blk6 m c t i _).trans ((congrFun (V_main_arg7 m c) _).trans (r.D _ _)))
      lg := (ldL_apply _ h).trans ((blk3 m c t h 0 0).trans ((congrFun (read_lg m c) _).trans (lgamT_apply h 0 0)))
      N := fun e => (ldN_apply _ h e).trans ((blk4 m c t _).trans ((congrFun (V_main_arg6 m c) _).trans (r.gain _)))
      sc := scale_coe
      eps := epsilon_coe
      eps_pos := epsilon_pos }
  states t h d e := (ldS_apply _ h d e).trans ((blk7 m c t h d e).trans ((congrFun (read_state m c) _).trans (r.state h _ d e)))

end Cert.KernelIdeal.Body
-- ==== Proof.Stages.lean ====
module

public import proofs.«01_k».proof.Proof.Saved
public import proofs.«01_k».proof.Proof.Gen.ReferenceIdeal.Run

/-!
The reference, stage by stage, each stage one function of arrays read entry by entry: the norm over
a head, the gate, the derivative of the norm, the gradients of queries, keys and values.
-/

@[expose] public section

set_option maxRecDepth 16384

noncomputable section

open Idealize.ShloMosaic Idealize.ShloMosaic.TcCoe Idealize.ShloMosaic.Tactic Idealize.SL.Sem

namespace Cert.ReferenceIdeal.Stages

open Cert.ReferenceIdeal Cert.ReferenceIdeal.Gen Cert.Retention
open Cert.KernelIdeal.Tables (Holds weightT)

/-- All heads' columns of values. -/
abbrev T3 := FVec Ideal S4096x8x256 .f32
/-- All heads' columns of queries. -/
abbrev Q3 := FVec Ideal S4096x8x128 .f32
/-- One number for each row and head. -/
abbrev C3 := FVec Ideal S4096x8x1 .f32
/-- A head for every pair of rows. -/
abbrev P3 := FVec Ideal S8x4096x4096 .f32
/-- The values side by side. -/
abbrev T2 := FVec Ideal S4096x2048 .f32
/-- The gain. -/
abbrev N2 := FVec Ideal S1x2048 .f32

/-- One number for each row and head, repeated over the head's columns. -/
def wide (X : C3) : T3 := broadcastInDim S4096x8x256 ![0, 1, 2] bcast_S4096x8x1_S4096x8x256_0_1_2 X
/-- The sums over a head's columns. -/
def sums (X : T3) : FVec Ideal S4096x8 .f32 := Host.reduceAdd X (constant S_ .f32 0x00000000#32) reducesTo_S4096x8x256_S4096x8_d2 h_S_
/-- The mean over a head's columns. -/
def meanT (X : T3) : C3 :=
  Host.divf (broadcastInDim S4096x8x1 ![0, 1] bcast_S4096x8_S4096x8x1_0_1 (sums X)) (broadcastInDim S4096x8x1 ![] bcast_S_S4096x8x1 (constant S_ .f32 0x43800000#32))
/-- The output less its mean. -/
def ctrT (Y : T3) : T3 := subf Y (wide (meanT Y))
/-- The variance with epsilon. -/
def varT (Y : T3) : C3 := addf (meanT (mulf (ctrT Y) (ctrT Y))) (broadcastInDim S4096x8x1 ![] bcast_S_S4096x8x1 (constant S_ .f32 0x358637BD#32))
/-- The reciprocal standard deviation. -/
def rstT (Y : T3) : C3 := Host.rsqrt (varT Y)
/-- The normalised output, heads side by side. -/
def normT (Y : T3) : T2 := shapeCast S4096x2048 (mulf (ctrT Y) (wide (rstT Y))) shapeCasts_S4096x8x256_S4096x2048
/-- The gain for every row. -/
def gains (N : N2) : T2 := broadcastInDim S4096x2048 ![0, 1] bcast_S1x2048_S4096x2048_0_1 N
/-- The number one everywhere. -/
def ones : T2 := broadcastInDim S4096x2048 ![] bcast_S_S4096x2048 (constant S_ .f32 0x3F800000#32)
/-- The logistic function of the gate. -/
def sgmT (G : T2) : T2 := Host.divf ones (addf ones (Host.exp (Host.negf G)))
/-- The incoming gradient times the gate. -/
def gtT (G D : T2) : T2 := mulf D (mulf G (sgmT G))
/-- The gradient of the normalised output. -/
def dnT (G D : T2) (N : N2) : T3 := shapeCast S4096x8x256 (mulf (gtT G D) (gains N)) shapeCasts_S4096x2048_S4096x8x256
/-- The part of the gradient that passes the quotient. -/
def d1T (Y : T3) (G D : T2) (N : N2) : T3 := mulf (dnT G D N) (wide (rstT Y))
/-- The part of the gradient that passes the variance. -/
def d2T (Y : T3) (G D : T2) (N : N2) : T3 :=
  mulf (broadcastInDim S4096x8x256 ![0, 1] bcast_S4096x8_S4096x8x256_0_1 (Host.reduceAdd
      (Host.divf (mulf (shapeCast S4096x8x1 (sums (mulf (ctrT Y) (dnT G D N))) shapeCasts_S4096x8_S4096x8x1)
          (mulf (broadcastInDim S4096x8x1 ![] bcast_S_S4096x8x1 (constant S_ .f32 0xBF000000#32)) (Host.divf (rstT Y) (varT Y))))
        (broadcastInDim S4096x8x1 ![] bcast_S_S4096x8x1 (constant S_ .f32 0x43800000#32)))
      (constant S_ .f32 0x00000000#32) reducesTo_S4096x8x1_S4096x8_d2 h_S_))
    (mulf (broadcastInDim S4096x8x256 ![] bcast_S_S4096x8x256 (constant S_ .f32 0x40000000#32)) (ctrT Y))
/-- The gradient of the retention's output. -/
def dyT (Y : T3) (G D : T2) (N : N2) : FVec Ideal S8x256x4096 .f32 :=
  transpose S8x256x4096 [1, 2, 0] (addf (addf (d1T Y G D N) (d2T Y G D N))
    (broadcastInDim S4096x8x256 ![0, 1] bcast_S4096x8_S4096x8x256_0_1 (Host.reduceAdd
      (Host.divf (addf (shapeCast S4096x8x1 (sums (Host.negf (d1T Y G D N))) shapeCasts_S4096x8_S4096x8x1)
          (shapeCast S4096x8x1 (sums (Host.negf (d2T Y G D N))) shapeCasts_S4096x8_S4096x8x1))
        (broadcastInDim S4096x8x1 ![] bcast_S_S4096x8x1 (constant S_ .f32 0x43800000#32)))
      (constant S_ .f32 0x00000000#32) reducesTo_S4096x8x1_S4096x8_d2 h_S_))) transposes_S4096x8x256_S8x256x4096_1_2_0
/-- The weighted products of queries and keys. -/
def awT (Q K : Q3) : P3 := mulf (Host.dotGeneral dot_S4096x8x128_S4096x8x128_S8x4096x4096_2_2_0_0_1_1 none Q K) weightT
/-- The weighted products of output gradients and values. -/
def bwT (E : FVec Ideal S8x256x4096 .f32) (X : T3) : P3 := mulf (Host.dotGeneral dot_S8x256x4096_S4096x8x256_S8x4096x4096_1_2_2_0_0_1 none E X) weightT
/-- The gradient of the rotated queries. -/
def dqT (B : P3) (K : Q3) : Q3 :=
  transpose S4096x8x128 [1, 0, 2] (Host.dotGeneral dot_S8x4096x4096_S4096x8x128_S8x4096x128_2_0_1_2_0_1 none B K) transposes_S8x4096x128_S4096x8x128_1_0_2
/-- The gradient of the rotated keys. -/
def dkT (B : P3) (Q : Q3) : Q3 :=
  mulf (transpose S4096x8x128 [1, 0, 2] (Host.dotGeneral dot_S8x4096x4096_S4096x8x128_S8x4096x128_1_0_2_2_0_1 none B Q) transposes_S8x4096x128_S4096x8x128_1_0_2)
    (broadcastInDim S4096x8x128 ![] bcast_S_S4096x8x128 (constant S_ .f32 0x3DB504F3#32))
/-- The gradient of the values. -/
def dvT (E : FVec Ideal S8x256x4096 .f32) (P : P3) : T3 :=
  transpose S4096x8x256 [2, 0, 1] (Host.dotGeneral dot_S8x256x4096_S8x4096x4096_S8x256x4096_2_1_1_2_0_0 none E P) transposes_S8x256x4096_S4096x8x256_2_0_1
/-- The gradient of the gate, heads side by side. -/
def dgT (Y : T3) (G D : T2) (N : N2) : T2 :=
  addf (mulf (mulf (mulf (normT Y) (gains N)) D) (sgmT G))
    (mulf (mulf G (mulf (mulf (normT Y) (gains N)) D)) (mulf (sgmT G) (subf ones (sgmT G))))
/-- The first half of a head's columns. -/
def lo (X : Q3) : FVec Ideal S4096x8x64 .f32 := extractStridedSlice S4096x8x64 ![0, 0, 0] X slices_S4096x8x128_S4096x8x64_0_0_0
/-- The second half of a head's columns. -/
def hi (X : Q3) : FVec Ideal S4096x8x64 .f32 := extractStridedSlice S4096x8x64 ![0, 0, 64] X slices_S4096x8x128_S4096x8x64_0_0_64
/-- A table over rows and half a head's columns, for every head. -/
def allHeads (A : FVec Ideal S4096x64 .f32) : FVec Ideal S4096x8x64 .f32 :=
  broadcastInDim S4096x8x64 ![0, 1, 2] bcast_S4096x1x64_S4096x8x64_0_1_2 (broadcastInDim S4096x1x64 ![0, 2] bcast_S4096x64_S4096x1x64_0_2 A)
/-- The transpose of the rotary embedding. -/
def backT (A : FVec Ideal S4096x64 .f32) (X : Q3) : Q3 :=
  addf (pad S4096x8x128 ![0, 0, 64] ![0, 0, 0] ![0, 0, 0] (addf (mulf (hi X) (allHeads (Host.cos A))) (mulf (Host.negf (lo X)) (allHeads (Host.sin A))) : FVec Ideal S4096x8x64 .f32)
      (constant S_ .f32 0x00000000#32) pads_S4096x8x64_S4096x8x128_000_000_6400 h_S_)
    (pad S4096x8x128 ![0, 0, 0] ![0, 0, 64] ![0, 0, 0] (addf (mulf (hi X) (allHeads (Host.sin A))) (mulf (lo X) (allHeads (Host.cos A))) : FVec Ideal S4096x8x64 .f32)
      (constant S_ .f32 0x00000000#32) pads_S4096x8x64_S4096x8x128_000_000_0640 h_S_)
/-- The gradients of a head side by side, all heads side by side, with the columns of `A` after them. -/
def packT (Q K : Q3) (X : T3) (G : T2) (A : FVec Ideal S4096x11264 .bf16) : FVec Ideal S4096x11264 .bf16 :=
  concatenate S4096x11264 1 [⟨S4096x6144, (truncf .bf16 (shapeCast S4096x6144 (concatenate S4096x8x768 2
      [⟨S4096x8x128, (shapeCast S4096x8x128 (shapeCast S4096x1024 Q shapeCasts_S4096x8x128_S4096x1024) shapeCasts_S4096x1024_S4096x8x128 : FVec Ideal S4096x8x128 .f32)⟩,
       ⟨S4096x8x128, (shapeCast S4096x8x128 (shapeCast S4096x1024 K shapeCasts_S4096x8x128_S4096x1024) shapeCasts_S4096x1024_S4096x8x128 : FVec Ideal S4096x8x128 .f32)⟩,
       ⟨S4096x8x256, (shapeCast S4096x8x256 (shapeCast S4096x2048 X shapeCasts_S4096x8x256_S4096x2048) shapeCasts_S4096x2048_S4096x8x256 : FVec Ideal S4096x8x256 .f32)⟩,
       ⟨S4096x8x256, (shapeCast S4096x8x256 G shapeCasts_S4096x2048_S4096x8x256 : FVec Ideal S4096x8x256 .f32)⟩]
      concatenates_S4096x8x128_S4096x8x128_S4096x8x256_S4096x8x256_S4096x8x768_d2 : FVec Ideal S4096x8x768 .f32) shapeCasts_S4096x8x768_S4096x6144 : FVec Ideal S4096x6144 .f32) bitsLt_bf16_f32)⟩,
    ⟨S4096x5120, (extractStridedSlice S4096x5120 ![0, 6144] A slices_S4096x11264_S4096x5120_0_6144 : FVec Ideal S4096x5120 .bf16)⟩]
    concatenates_S4096x6144_S4096x5120_S4096x11264_d1
/-- The gradient of the gain. -/
def dNT (Y : T3) (G D : T2) : N2 :=
  shapeCast S1x2048 (Host.reduceAdd (mulf (normT Y) (gtT G D)) (constant S_ .f32 0x00000000#32) reducesTo_S4096x2048_S2048_d0 h_S_) shapeCasts_S2048_S1x2048

theorem div_real (x : ℝ) {y : ℝ} (h : y ≠ 0) : Ideal.div (x : EReal) (y : EReal) = ((x * (1 / y) : ℝ) : EReal) := by
  rw [Ideal.div_coe h, EReal.coe_mul]

theorem bits_neg_half : Ideal.ofBits FTy.f32 0xBF000000#32 = ((-(1 / 2) : ℝ) : EReal) := by
  simp [Ideal.ofBits, Ideal.ieee, -EReal.coe_mul]; norm_num

variable {R : Rows} {h : Fin 8}

section norm
variable {Y : T3} (hY : ∀ n e, Y (ix3 n h e) = (((R.head h).y n e : ℝ) : EReal))
include hY

theorem ctrT_apply (n : Fin 4096) (e : Fin 256) : ctrT Y (ix3 n h e) = (((R.head h).ctr n e : ℝ) : EReal) := by
  pointwise [ctrT, wide, meanT, sums]
  simp only [hY, coe_sum, div_256, ← EReal.coe_sub]
  rfl

theorem varT_apply (n : Fin 4096) : varT Y (ix3 n h 0) = (((R.head h).var n : ℝ) : EReal) := by
  pointwise [varT, meanT, sums]
  simp only [ctrT_apply hY, coe_sum, div_256, epsilon_coe, ← EReal.coe_mul, ← EReal.coe_add]
  rfl

theorem rstT_apply (n : Fin 4096) : rstT Y (ix3 n h 0) = (((R.head h).rst n : ℝ) : EReal) := by
  pointwise [rstT]
  rw [varT_apply hY, rsqrt_pos ((R.head h).var_pos epsilon_pos n)]
  rfl

theorem normT_apply (n : Fin 4096) (e : Fin 256) : normT Y (ix2 n ⟨256 * h.1 + e.1, by omega⟩) = (((R.head h).ryn n e : ℝ) : EReal) := by
  pointwise [normT, wide]
  rw [ctrT_apply hY, rstT_apply hY, ← EReal.coe_mul]
  rfl

end norm

section gate
variable {G D : T2} {N : N2} (hG : ∀ n e, G (ix2 n ⟨256 * h.1 + e.1, by omega⟩) = (((R.head h).g n e : ℝ) : EReal))
  (hD : ∀ n e, D (ix2 n ⟨256 * h.1 + e.1, by omega⟩) = (((R.head h).D n e : ℝ) : EReal))
  (hN : ∀ e, N (ix2 0 ⟨256 * h.1 + e.1, by omega⟩) = (((R.head h).N e : ℝ) : EReal))
include hG

theorem sgmT_apply (n : Fin 4096) (e : Fin 256) : sgmT G (ix2 n ⟨256 * h.1 + e.1, by omega⟩) = (((R.head h).sgm n e : ℝ) : EReal) := by
  pointwise [sgmT, ones]
  have hp : (1 + Real.exp (-(R.head h).g n e) : ℝ) ≠ 0 := ne_of_gt (by positivity)
  rw [hG, ← EReal.coe_neg, Ideal.exp_coe, ← EReal.coe_one, ← EReal.coe_add, div_real _ hp]
  rfl

include hD
theorem gtT_apply (n : Fin 4096) (e : Fin 256) : gtT G D (ix2 n ⟨256 * h.1 + e.1, by omega⟩) = (((R.head h).gt n e : ℝ) : EReal) := by
  pointwise [gtT]
  rw [hG, hD, sgmT_apply hG, ← EReal.coe_mul, ← EReal.coe_mul]
  rfl

include hN
theorem dnT_apply (n : Fin 4096) (e : Fin 256) : dnT G D N (ix3 n h e) = (((R.head h).dn n e : ℝ) : EReal) := by
  pointwise [dnT, gains]
  simp only [Nat.mul_comm h.1 256]
  rw [gtT_apply hG hD, hN, ← EReal.coe_mul]
  rfl

variable {Y : T3} (hY : ∀ n e, Y (ix3 n h e) = (((R.head h).y n e : ℝ) : EReal))
include hY

theorem d1T_apply (n : Fin 4096) (e : Fin 256) : d1T Y G D N (ix3 n h e) = (((R.head h).dn n e * (R.head h).rst n : ℝ) : EReal) := by
  pointwise [d1T, wide]
  rw [dnT_apply hG hD hN, rstT_apply hY, ← EReal.coe_mul]

theorem d2T_apply (n : Fin 4096) (e : Fin 256) : d2T Y G D N (ix3 n h e) =
    (((((∑ x, (R.head h).ctr n x * (R.head h).dn n x) * (-(1 / 2) * ((R.head h).rst n * (1 / (R.head h).var n)))) * (1 / 256)) * (2 * (R.head h).ctr n e) : ℝ) : EReal) := by
  pointwise [d2T, sums]
  simp only [Finset.univ_unique, Finset.sum_singleton, Fin.default_eq_zero, Fin.isValue]
  rw [rstT_apply hY, varT_apply hY, div_real _ (ne_of_gt ((R.head h).var_pos epsilon_pos n)), bits_neg_half, bits_2, ctrT_apply hY]
  simp only [ctrT_apply hY, dnT_apply hG hD hN, ← EReal.coe_mul, coe_sum, div_256]

theorem dyT_apply (n : Fin 4096) (e : Fin 256) : dyT Y G D N (ix3 h e n) = (((R.head h).dy n e : ℝ) : EReal) := by
  pointwise [dyT, sums]
  simp only [Finset.univ_unique, Finset.sum_singleton, Fin.default_eq_zero, Fin.isValue]
  simp only [d1T_apply hG hD hN hY, d2T_apply hG hD hN hY, ← EReal.coe_neg, ← EReal.coe_add, coe_sum, div_256]
  rw [(R.head h).dy_chain epsilon_pos]

theorem dgT_apply (n : Fin 4096) (e : Fin 256) : dgT Y G D N (ix2 n ⟨256 * h.1 + e.1, by omega⟩) = (((R.head h).dg n e : ℝ) : EReal) := by
  pointwise [dgT, gains, ones]
  rw [normT_apply hY, hN, hD, hG, sgmT_apply hG]
  simp only [← EReal.coe_one, ← EReal.coe_mul, ← EReal.coe_sub, ← EReal.coe_add]
  congr 1
  unfold HeadData.dg
  ring

end gate

theorem dNT_apply {Y : T3} {G D : T2} (hY : ∀ n e, Y (ix3 n h e) = (((R.head h).y n e : ℝ) : EReal))
    (hG : ∀ n e, G (ix2 n ⟨256 * h.1 + e.1, by omega⟩) = (((R.head h).g n e : ℝ) : EReal))
    (hD : ∀ n e, D (ix2 n ⟨256 * h.1 + e.1, by omega⟩) = (((R.head h).D n e : ℝ) : EReal)) (e : Fin 256) :
    dNT Y G D (ix2 0 ⟨256 * h.1 + e.1, by omega⟩) = (((R.head h).dN e : ℝ) : EReal) := by
  pointwise [dNT]
  simp only [normT_apply hY, gtT_apply hG hD, ← EReal.coe_mul, coe_sum]
  congr 1
  exact Finset.sum_congr rfl fun n _ => mul_comm _ _

section products
variable {Q K : Q3} {X : T3} {E : FVec Ideal S8x256x4096 .f32}
  (hQ : ∀ n d, Q (ix3 n h d) = (((R.head h).rq n d : ℝ) : EReal)) (hK : ∀ n d, K (ix3 n h d) = (((R.head h).rk n d : ℝ) : EReal))
  (hX : ∀ n e, X (ix3 n h e) = (((R.head h).v n e : ℝ) : EReal)) (hE : ∀ n e, E (ix3 h e n) = (((R.head h).dy n e : ℝ) : EReal))

include hQ hK in
theorem awT_apply (n m : Fin 4096) : awT Q K (ix3 h n m) = (((R.head h).A n m * (R.head h).W n m : ℝ) : EReal) := by
  pointwise [awT]
  simp only [hQ, hK, Cert.KernelIdeal.Tables.weightT_apply R, ← EReal.coe_mul, coe_sum]
  rfl

include hX hE in
theorem bwT_apply (n m : Fin 4096) : bwT E X (ix3 h n m) = (((R.head h).B n m * (R.head h).W n m : ℝ) : EReal) := by
  pointwise [bwT]
  simp only [hE, hX, Cert.KernelIdeal.Tables.weightT_apply R, ← EReal.coe_mul, coe_sum]
  rfl

include hX hE hK in
theorem dqT_apply (n : Fin 4096) (d : Fin 128) : dqT (bwT E X) K (ix3 n h d) = (((R.head h).dq n d : ℝ) : EReal) := by
  pointwise [dqT]
  simp only [bwT_apply hX hE, hK, ← EReal.coe_mul, coe_sum]
  rfl

include hX hE hQ in
theorem dkT_apply (n : Fin 4096) (d : Fin 128) : dkT (bwT E X) Q (ix3 n h d) = (((R.head h).dk n d : ℝ) : EReal) := by
  pointwise [dkT]
  simp only [bwT_apply hX hE, hQ, scale_coe, ← EReal.coe_mul, coe_sum]
  rfl

include hE hQ hK in
theorem dvT_apply (n : Fin 4096) (e : Fin 256) : dvT E (awT Q K) (ix3 n h e) = (((R.head h).dv n e : ℝ) : EReal) := by
  pointwise [dvT]
  simp only [awT_apply hQ hK, hE, ← EReal.coe_mul, coe_sum]
  congr 1
  exact Finset.sum_congr rfl fun n _ => mul_comm _ _

end products

theorem backT_apply {A : FVec Ideal S4096x64 .f32} (hA : ∀ n i, A (ix2 n i) = ((angle (R.pos n) i.1 : ℝ) : EReal)) {X : Q3}
    (x : Fin 4096 → Fin 128 → ℝ) (hX : ∀ n d, X (ix3 n h d) = ((x n d : ℝ) : EReal)) (n : Fin 4096) (d : Fin 128) :
    backT A X (ix3 n h d) = (((R.head h).unrot x n d : ℝ) : EReal) := by
  pointwise [backT, lo, hi, allHeads]
  simp only [hX, hA, Ideal.cos_coe, Ideal.sin_coe, ← EReal.coe_neg, ← EReal.coe_mul, ← EReal.coe_add]
  unfold HeadData.unrot Rows.head
  simp only
  by_cases h' : d.1 < 64
  · have ht : turn d = ⟨64 + d.1, by omega⟩ := Fin.ext (by show (d.1 + 128 - 64) % 128 = 64 + d.1; omega)
    have hv : ¬64 + d.1 < 64 := by omega
    have hw : 64 + d.1 - 64 = d.1 := by omega
    rw [dif_neg (by omega), dif_pos h', ht, Nat.mod_eq_of_lt h']
    simp only [hv, hw, if_false, zero_add]
    congr 1; ring
  · have ht : turn d = ⟨d.1 - 64, by omega⟩ := Fin.ext (by show (d.1 + 128 - 64) % 128 = d.1 - 64; omega)
    have hd : (⟨64 + (d.1 - 64), by omega⟩ : Fin 128) = d := Fin.ext (by show 64 + (d.1 - 64) = d.1; omega)
    have hv : d.1 - 64 < 64 := by omega
    rw [dif_pos (by omega), dif_neg h', ht, hd, show d.1 % 64 = d.1 - 64 by omega]
    simp only [hv, if_true, add_zero]
    congr 1; ring

theorem packT_apply (Q K : Q3) (X : T3) (G : T2) (A : FVec Ideal S4096x11264 .bf16) (n : Fin 4096) (j : Fin 11264) :
    packT Q K X G A (ix2 n j) = if h : j.1 < 6144 then
      if h1 : j.1 % 768 < 128 then Q (ix3 n ⟨j.1 / 768, by omega⟩ ⟨j.1 % 768, h1⟩)
      else if h2 : j.1 % 768 < 256 then K (ix3 n ⟨j.1 / 768, by omega⟩ ⟨j.1 % 768 - 128, by omega⟩)
      else if h3 : j.1 % 768 < 512 then X (ix3 n ⟨j.1 / 768, by omega⟩ ⟨j.1 % 768 - 256, by omega⟩)
      else G (ix2 n ⟨256 * (j.1 / 768) + (j.1 % 768 - 512), by omega⟩)
    else A (ix2 n j) := by
  pointwise [packT]
  by_cases h : j.1 < 6144
  · rw [dif_pos h, dif_pos h]
    by_cases h1 : j.1 % 768 < 128
    · rw [dif_pos h1, dif_pos h1]
    · rw [dif_neg h1, dif_neg h1]
      by_cases h2 : j.1 % 768 < 256
      · rw [dif_pos (by omega), dif_pos h2]
      · rw [dif_neg (by omega), dif_neg h2]
        by_cases h3 : j.1 % 768 < 512
        · rw [dif_pos (by omega), dif_pos h3]
          exact congrArg (fun x => X (ix3 n ⟨j.1 / 768, by omega⟩ x)) (Fin.ext (by simp only; omega))
        · rw [dif_neg (by omega), dif_neg h3]
          exact congrArg (fun x => G (ix2 n x)) (Fin.ext (by simp only; omega))
  · rw [dif_neg h, dif_neg h]
    exact congrArg (fun x => A (ix2 n x)) (Fin.ext (by simp only; omega))

end Cert.ReferenceIdeal.Stages
-- ==== Proof.Result.lean ====
module

public import proofs.«01_k».proof.Proof.Stages
public import proofs.«01_k».proof.Proof.Sweep

/-!
The reference's two results as functions of its arguments, and their entries as the gradients of the
retention of each head.
-/

@[expose] public section

set_option maxRecDepth 16384

noncomputable section

open Idealize.ShloMosaic Idealize.ShloMosaic.TcCoe Idealize.ShloMosaic.Tactic Idealize.SL.Sem

namespace Cert.ReferenceIdeal.Stages

open Cert.ReferenceIdeal Cert.ReferenceIdeal.Gen Cert.Retention
open Cert.KernelIdeal.Body (rowsOut gainOut gradRow headRow)
open Cert.KernelIdeal.Tables (Holds weightT angT posT ropeT kropeT yT headsQ headsV)

/-- The rotated queries. -/
def queries (aq : FVec Ideal S4096x1024 .f32) (ap : IVec S1x4096 32) : Q3 := ropeT (angT (posT ap)) (headsQ aq)
/-- The rotated and scaled keys. -/
def keys (ak : FVec Ideal S4096x1024 .f32) (ap : IVec S1x4096 32) : Q3 := kropeT (angT (posT ap)) (headsQ ak)
/-- The retention's output. -/
def outs (aq ak : FVec Ideal S4096x1024 .f32) (av : T2) (ap : IVec S1x4096 32) : T3 := yT (queries aq ap) (keys ak ap) (headsV av)
/-- The gradient of the retention's output. -/
def douts (aq ak : FVec Ideal S4096x1024 .f32) (av ag : T2) (ap : IVec S1x4096 32) (aN : N2) (aD : T2) : FVec Ideal S8x256x4096 .f32 :=
  dyT (outs aq ak av ap) ag aD aN

/-- The array of gradients. -/
def gradsT (aq ak : FVec Ideal S4096x1024 .f32) (av ag : T2) (ap : IVec S1x4096 32) (aN : N2) (aD : T2) (a8 : FVec Ideal S4096x11264 .bf16) :
    FVec Ideal S4096x11264 .bf16 :=
  packT (backT (angT (posT ap)) (dqT (bwT (douts aq ak av ag ap aN aD) (headsV av)) (keys ak ap)))
    (backT (angT (posT ap)) (dkT (bwT (douts aq ak av ag ap aN aD) (headsV av)) (queries aq ap)))
    (dvT (douts aq ak av ag ap aN aD) (awT (queries aq ap) (keys ak ap)))
    (dgT (outs aq ak av ap) ag aD aN) a8

/-- The gradient of the gain. -/
def gainT (aq ak : FVec Ideal S4096x1024 .f32) (av ag : T2) (ap : IVec S1x4096 32) (aD : T2) : N2 := dNT (outs aq ak av ap) ag aD

section
variable (V0 : Valuation τ sig (Elt Ideal))

theorem res_q : Value.res_main_v30 V0 = queries (V0 (Proc.devRef .tc main_arg0)) (V0 (Proc.devRef .tc main_arg5)) := rfl
theorem res_k : Value.res_main_v63 V0 = keys (V0 (Proc.devRef .tc main_arg1)) (V0 (Proc.devRef .tc main_arg5)) := rfl
theorem res_dy : Value.res_main_v160 V0 = douts (V0 (Proc.devRef .tc main_arg0)) (V0 (Proc.devRef .tc main_arg1)) (V0 (Proc.devRef .tc main_arg2))
    (V0 (Proc.devRef .tc main_arg3)) (V0 (Proc.devRef .tc main_arg5)) (V0 (Proc.devRef .tc main_arg6)) (V0 (Proc.devRef .tc main_arg7)) := rfl
theorem res_aw : Value.res_main_v96 V0 = awT (queries (V0 (Proc.devRef .tc main_arg0)) (V0 (Proc.devRef .tc main_arg5))) (keys (V0 (Proc.devRef .tc main_arg1)) (V0 (Proc.devRef .tc main_arg5))) := rfl
theorem res_bw : Value.res_main_v164 V0 = bwT (Value.res_main_v160 V0) (headsV (V0 (Proc.devRef .tc main_arg2))) := rfl
theorem res_dq : Value.res_main_v168 V0 = dqT (Value.res_main_v164 V0) (Value.res_main_v63 V0) := rfl
theorem res_dk : Value.res_main_v171 V0 = dkT (Value.res_main_v164 V0) (Value.res_main_v30 V0) := rfl

end

/-- The reference leaves the two results and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v214) = gradsT (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
        (m ((c.tc : Thread nD τ).loc main_arg6)) (m ((c.tc : Thread nD τ).loc main_arg7)) (m ((c.tc : Thread nD τ).loc main_arg8))
      ∧ r.2.mem ((c.tc : Thread nD τ).loc main_v132) = gainT (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_mono (Value.run (F := Ideal) m ρ) fun r h c => ⟨(h c).1.trans rfl, (h c).2.1.trans rfl, (h c).2.2⟩

variable {R : Rows} {aq ak : FVec Ideal S4096x1024 .f32} {av ag : T2} {ap : IVec S1x4096 32} {aN : N2} {aD : T2}

theorem douts_apply (r : Holds R aq ak av ag ap aN aD) (h : Fin 8) (n : Fin 4096) (e : Fin 256) :
    douts aq ak av ag ap aN aD (ix3 h e n) = (((R.head h).dy n e : ℝ) : EReal) :=
  dyT_apply (fun n e => r.g n _) (fun n e => r.D n _) (fun e => r.gain _) (r.y h) n e

theorem grads_eq (r : Holds R aq ak av ag ap aN aD) (a8 : FVec Ideal S4096x11264 .bf16) :
    gradsT aq ak av ag ap aN aD a8 = rowsOut R.head a8 := by
  funext i
  obtain ⟨n, j, rfl⟩ : ∃ (n : Fin 4096) (j : Fin 11264), i = ix2 n j := ⟨i 0, i 1, funext fun k => by fin_cases k <;> rfl⟩
  refine (packT_apply _ _ _ _ _ n j).trans ?_
  show _ = if j.1 < 6144 then ((gradRow R.head n j.1 : ℝ) : EReal) else a8 (ix2 n j)
  by_cases hj : j.1 < 6144
  · rw [dif_pos hj, if_pos hj]
    have hh : (⟨j.1 / 768 % 8, Nat.mod_lt _ (by decide)⟩ : Fin 8) = ⟨j.1 / 768, by omega⟩ := Fin.ext (Nat.mod_eq_of_lt (by omega))
    unfold gradRow headRow
    rw [hh]
    by_cases h1 : j.1 % 768 < 128
    · rw [dif_pos h1, dif_pos h1]
      exact backT_apply r.ang _ (dqT_apply (r.rk _) (r.heads_v _) (douts_apply r _)) n _
    · rw [dif_neg h1, dif_neg h1]
      by_cases h2 : j.1 % 768 < 256
      · rw [dif_pos h2, dif_pos h2]
        exact backT_apply r.ang _ (dkT_apply (r.rq _) (r.heads_v _) (douts_apply r _)) n _
      · rw [dif_neg h2, dif_neg h2]
        by_cases h3 : j.1 % 768 < 512
        · rw [dif_pos h3, dif_pos h3]
          exact dvT_apply (r.rq _) (r.rk _) (douts_apply r _) n _
        · rw [dif_neg h3, dif_neg h3]
          have he : (⟨(j.1 % 768 - 512) % 256, Nat.mod_lt _ (by decide)⟩ : Fin 256) = ⟨j.1 % 768 - 512, by omega⟩ := Fin.ext (Nat.mod_eq_of_lt (by omega))
          rw [he]
          exact dgT_apply (h := ⟨j.1 / 768, by omega⟩) (fun n e => r.g n _) (fun n e => r.D n _) (fun e => r.gain _) (r.y _) n ⟨j.1 % 768 - 512, by omega⟩
  · rw [dif_neg hj, if_neg hj]

theorem gain_eq (r : Holds R aq ak av ag ap aN aD) : gainT aq ak av ag ap aD = gainOut R.head := by
  funext i
  obtain ⟨z, j, rfl⟩ : ∃ (z : Fin 1) (j : Fin 2048), i = ix2 z j := ⟨i 0, i 1, funext fun k => by fin_cases k <;> rfl⟩
  obtain rfl : z = 0 := Subsingleton.elim _ _
  have hj : j = ⟨256 * (j.1 / 256) + j.1 % 256, by omega⟩ := Fin.ext (by show j.1 = 256 * (j.1 / 256) + j.1 % 256; omega)
  refine (congrArg (fun x => gainT aq ak av ag ap aD (ix2 0 x)) hj).trans ?_
  exact dNT_apply (h := ⟨j.1 / 256, by omega⟩) (r.y _) (fun n e => r.g n _) (fun n e => r.D n _) ⟨j.1 % 256, Nat.mod_lt _ (by decide)⟩

end Cert.ReferenceIdeal.Stages
-- ==== Proof.Equation.lean ====
module

public import proofs.«01_k».proof.Proof.Finite
public import proofs.«01_k».proof.Proof.Feed
public import proofs.«01_k».proof.Proof.Result

/-!
The kernel and the reference end with the same two results: the gradients of the retention and the
gradient of its gain.
-/

@[expose] public section

set_option maxRecDepth 16384

noncomputable section

open Idealize.ShloMosaic Idealize.ShloMosaic.TcCoe Idealize.ShloMosaic.Tactic Idealize.SL.Sem

namespace Cert.Equation

open Cert.KernelIdeal.Body (rowsOut gainOut array8 array9)
open Cert.KernelIdeal.Gen (V hostOps0 hostOps0_1 hostOps0_2 hostOps0_3 hostOps0_4 hostOps0_5 hostOps0_6 hostOps0_7 hostOps0_8)
open Cert.KernelIdeal

variable (m : (ℓ : Loc nD τ sig) → Buf (Elt Ideal) ℓ) (c : Dev nD)

/-- The real numbers a device's arguments hold. -/
def rowsAt : Cert.Retention.Rows :=
  Cert.Pre_finite.rows (m (c, main_arg0)) (m (c, main_arg1)) (m (c, main_arg2)) (m (c, main_arg3)) (m (c, main_arg5)) (m (c, main_arg6)) (m (c, main_arg7))

theorem copied : V m c main_v173_0 = m (c, main_arg8) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem fed (h : Pre_KernelIdeal_finite m) : Cert.KernelIdeal.Body.Fed m (rowsAt m c).head c :=
  Cert.KernelIdeal.Body.fed m c (Cert.Pre_finite.holds _ _ _ _ _ _ _ _ _ (h c))

theorem grads (h : Pre_KernelIdeal_finite m) :
    Cert.ReferenceIdeal.Stages.gradsT (m (c, main_arg0)) (m (c, main_arg1)) (m (c, main_arg2)) (m (c, main_arg3)) (m (c, main_arg5))
      (m (c, main_arg6)) (m (c, main_arg7)) (m (c, main_arg8)) = (Gen.dats m 0 c).arrAt 8 cfg0.N :=
  (Cert.ReferenceIdeal.Stages.grads_eq (Cert.Pre_finite.holds _ _ _ _ _ _ _ _ _ (h c)) _).trans
    ((array8 (fed m c h)).trans (congrArg (rowsOut (rowsAt m c).head) (copied m c))).symm

theorem gain (h : Pre_KernelIdeal_finite m) :
    Cert.ReferenceIdeal.Stages.gainT (m (c, main_arg0)) (m (c, main_arg1)) (m (c, main_arg2)) (m (c, main_arg3)) (m (c, main_arg5))
      (m (c, main_arg7)) = (Gen.dats m 0 c).arrAt 9 cfg0.N :=
  (Cert.ReferenceIdeal.Stages.gain_eq (Cert.Pre_finite.holds _ _ _ _ _ _ _ _ _ (h c))).trans (array9 (fed m c h)).symm

theorem algebraic : Cert.algebraic_KernelIdeal_ReferenceIdeal_pre_finite := by
  pair_intro
  · run_from Cert.KernelIdeal.Value.run_blocks m g
  · run_from Cert.ReferenceIdeal.Stages.run m' g'
    · exact grads m c hpre
    · exact gain m c hpre

end Cert.Equation
-- ==== Proof.HiddenGrad.lean ====
module

public import proofs.«01_k».proof.Proof.Gen.Kernel2Ideal.Value
public import proofs.«01_k».proof.Proof.Gen.Reference2Ideal.Run
public import proofs.«01_k».proof.Defs
public import Idealize.ShloMosaic.Lib.Pipeline.ValueKit

/-!
The gradient of the hidden values: the kernel's tiles are tiles of one product, each multiplied by
twice the positive part of the hidden values.
-/

@[expose] public section

set_option maxRecDepth 16384

noncomputable section

open Idealize.ShloMosaic Idealize.ShloMosaic.TcCoe Idealize.ShloMosaic.Tactic Idealize.SL.Sem

namespace Cert.Kernel2Ideal.Product

open Cert.Kernel2Ideal Cert.Kernel2Ideal.Gen

variable (m : (ℓ : Loc nD τ sig) → Buf (Elt Ideal) ℓ)

/-- The hidden values before the positive part is taken. -/
abbrev before (x : FVec Ideal S4096x2048 .f32) (u : FVec Ideal S2048x8192 .f32) : FVec Ideal S4096x8192 .f32 :=
  Host.dotGeneral dot_S4096x2048_S2048x8192_S4096x8192_1_0_0_1_n_n none x u

/-- The gradient of the hidden values. -/
abbrev hiddenGrad (x : FVec Ideal S4096x2048 .f32) (u : FVec Ideal S2048x8192 .f32) (d : FVec Ideal S8192x2048 .f32)
    (G : FVec Ideal S4096x2048 .f32) : FVec Ideal S4096x8192 .f32 :=
  select (cmpf .ogt (Host.dotGeneral dot_S4096x2048_S2048x8192_S4096x8192_1_0_0_1_n_n none x u) (broadcastInDim S4096x8192 ![] bcast_S_S4096x8192 (constant S_ .f32 0x00000000#32)))
    (mulf (Host.dotGeneral dot_S4096x2048_S8192x2048_S4096x8192_1_1_0_0_n_n none G d)
      (mulf (broadcastInDim S4096x8192 ![] bcast_S_S4096x8192 (constant S_ .f32 0x40000000#32))
        (maximumf (Host.dotGeneral dot_S4096x2048_S2048x8192_S4096x8192_1_0_0_1_n_n none x u) (broadcastInDim S4096x8192 ![] bcast_S_S4096x8192 (constant S_ .f32 0x00000000#32)))))
    (broadcastInDim S4096x8192 ![] bcast_S_S4096x8192 (constant S_ .f32 0x00000000#32))

theorem entry_left (c : Dev nD) : V m c main_v15 = (truncf .bf16 (m (c, main_arg3) : FVec Ideal S4096x2048 .f32) bitsLt_bf16_f32 : FVec Ideal S4096x2048 .bf16) := by
  simp only [V, hostOps0, hostOps0_1, hostOps0_2, hostOps0_3, hostOps0_4,
    List.flatten_cons, List.flatten_nil, List.append_nil, List.cons_append, List.nil_append]
  after_results

theorem entry_right (c : Dev nD) : V m c main_v16 = (truncf .bf16 (m (c, main_arg2) : FVec Ideal S8192x2048 .f32) bitsLt_bf16_f32 : FVec Ideal S8192x2048 .bf16) := by
  simp only [V, hostOps0, hostOps0_1, hostOps0_2, hostOps0_3, hostOps0_4,
    List.flatten_cons, List.flatten_nil, List.append_nil, List.cons_append, List.nil_append]
  after_results

theorem entry_hidden (c : Dev nD) : V m c main_v0 = before (m (c, main_arg0)) (m (c, main_arg1)) := by
  simp only [V, hostOps0, hostOps0_1, hostOps0_2, hostOps0_3, hostOps0_4,
    List.flatten_cons, List.flatten_nil, List.append_nil, List.cons_append, List.nil_append]
  after_results

theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- The product multiplied by twice the positive part of the hidden values. -/
abbrev scaled (Z : FVec Ideal S4096x8192 .f32) (G : FVec Ideal S4096x2048 .f32) (d : FVec Ideal S8192x2048 .f32) : FVec Ideal S4096x8192 .bf16 :=
  truncf .bf16 (mulf (Host.dotGeneral dot_S4096x2048_S8192x2048_S4096x8192_1_1_0_0_n_n none G d)
      (mulf (broadcastInDim S4096x8192 ![] bcast_S_S4096x8192 (constant S_ .f32 0x40000000#32))
        (maximumf Z (broadcastInDim S4096x8192 ![] bcast_S_S4096x8192 (constant S_ .f32 0x00000000#32))))) bitsLt_bf16_f32

/-- A tile the kernel writes is that tile of the product. -/
theorem point (c : Dev nD) (t : Fin cfg0.N) (y) : k0_pay1 (iblk m c 0 t) (iblk m c 1 t) (iblk m c 2 t) y
    = scaled (V m c main_v0) (V m c main_v15) (V m c main_v16) (((cfg0.win 3).blk t).view.emb y) := by
  pointwise [k0_pay1, scaled]
  blk_point [iblk, idx t]

theorem scaled_eq (x : FVec Ideal S4096x2048 .f32) (u : FVec Ideal S2048x8192 .f32) (d : FVec Ideal S8192x2048 .f32)
    (G : FVec Ideal S4096x2048 .f32) :
    scaled (Host.dotGeneral dot_S4096x2048_S2048x8192_S4096x8192_1_0_0_1_n_n none x u) G d = truncf .bf16 (hiddenGrad x u d G) bitsLt_bf16_f32 := by
  unfold scaled hiddenGrad
  generalize Host.dotGeneral dot_S4096x2048_S2048x8192_S4096x8192_1_0_0_1_n_n none x u = Z
  generalize Host.dotGeneral dot_S4096x2048_S8192x2048_S4096x8192_1_1_0_0_n_n none G d = A
  funext i
  pointwise []
  split_ifs with h
  · rfl
  · rw [max_eq_right (not_lt.mp h), mul_zero, mul_zero]

theorem final (c : Dev nD) : (dats m 0 c).arrAt 3 (cfgs 0).N
    = truncf .bf16 (hiddenGrad (m (c, main_arg0)) (m (c, main_arg1)) (m (c, main_arg2)) (m (c, main_arg3))) bitsLt_bf16_f32 := by
  have : (dats m 0 c).arrAt 3 (cfgs 0).N = scaled (V m c main_v0) (V m c main_v15) (V m c main_v16) := by
    refine (dats m 0 c).arrAt_eq_of_covers 3 _ (by decide +kernel) fun t _ y => ?_
    blk_simp
    rw [after0_3]; frame_out
    exact point m c t y
  rw [this, entry_left, entry_right, entry_hidden]
  exact scaled_eq _ _ _ _

theorem algebraic : Cert.algebraic_Kernel2Ideal_Reference2Ideal := by
  pair_intro
  · run_from Cert.Kernel2Ideal.Value.run_blocks m g
  · run_from Cert.Reference2Ideal.Value.run m' g'
    exact (final m c).symm

end Cert.Kernel2Ideal.Product
-- ==== Proof.DownWeights.lean ====
module

public import proofs.«01_k».proof.Proof.Gen.Kernel3Ideal.Value
public import proofs.«01_k».proof.Proof.Gen.Reference3Ideal.Run
public import proofs.«01_k».proof.Defs
public import Idealize.ShloMosaic.Lib.Pipeline.ValueKit

/-!
The gradient of the MLP's second weights: the kernel's tiles are tiles of one product.
-/

@[expose] public section

set_option maxRecDepth 16384

noncomputable section

open Idealize.ShloMosaic Idealize.ShloMosaic.TcCoe Idealize.ShloMosaic.Tactic Idealize.SL.Sem

namespace Cert.Kernel3Ideal.Product

open Cert.Kernel3Ideal Cert.Kernel3Ideal.Gen

variable (m : (ℓ : Loc nD τ sig) → Buf (Elt Ideal) ℓ)

/-- The product the reference takes: the squares of the hidden values with the gradient of the output. -/
abbrev product (H : FVec Ideal S4096x8192 .f32) (G : FVec Ideal S4096x2048 .f32) : FVec Ideal S8192x2048 .bf16 :=
  truncf .bf16 (transpose S8192x2048 [1, 0] (Host.dotGeneral Cert.Reference3Ideal.dot_S4096x2048_S4096x8192_S2048x8192_0_0_1_1_n_n none G H)
    Cert.Reference3Ideal.Gen.transposes_S2048x8192_S8192x2048_1_0) bitsLt_bf16_f32

/-- The hidden values. -/
abbrev hidden (x : FVec Ideal S4096x2048 .f32) (u : FVec Ideal S2048x8192 .f32) : FVec Ideal S4096x8192 .f32 :=
  maximumf (Host.dotGeneral dot_S4096x2048_S2048x8192_S4096x8192_1_0_0_1_n_n none x u)
    (broadcastInDim S4096x8192 ![] bcast_S_S4096x8192 (constant S_ .f32 0x00000000#32))

theorem entry_left (c : Dev nD) : V m c main_v15 = (truncf .bf16 (mulf (hidden (m (c, main_arg0)) (m (c, main_arg1))) (hidden (m (c, main_arg0)) (m (c, main_arg1)))) bitsLt_bf16_f32 : FVec Ideal S4096x8192 .bf16) := by
  simp only [V, hostOps0, hostOps0_1, hostOps0_2, hostOps0_3, hostOps0_4,
    List.flatten_cons, List.flatten_nil, List.append_nil, List.cons_append, List.nil_append]
  after_results
  rfl

theorem entry_right (c : Dev nD) : V m c main_v16 = (truncf .bf16 (m (c, main_arg3) : FVec Ideal S4096x2048 .f32) bitsLt_bf16_f32 : FVec Ideal S4096x2048 .bf16) := by
  simp only [V, hostOps0, hostOps0_1, hostOps0_2, hostOps0_3, hostOps0_4,
    List.flatten_cons, List.flatten_nil, List.append_nil, List.cons_append, List.nil_append]
  after_results

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- A tile the kernel writes is that tile of the product. -/
theorem point (c : Dev nD) (t : Fin cfg0.N) (y) : k0_pay1 (iblk m c 0 t) (iblk m c 1 t) y
    = product (V m c main_v15) (V m c main_v16) (((cfg0.win 2).blk t).view.emb y) := by
  pointwise [k0_pay1, product]
  refine Eq.trans ?_ (Fin.sum_fin_congr fun k => mul_comm _ _)
  blk_point [iblk, idx t]

theorem final (c : Dev nD) : (dats m 0 c).arrAt 2 (cfgs 0).N
    = product (mulf (hidden (m (c, main_arg0)) (m (c, main_arg1))) (hidden (m (c, main_arg0)) (m (c, main_arg1)))) (m (c, main_arg3)) := by
  have : (dats m 0 c).arrAt 2 (cfgs 0).N = product (V m c main_v15) (V m c main_v16) := by
    refine (dats m 0 c).arrAt_eq_of_covers 2 _ (by decide +kernel) fun t _ y => ?_
    blk_simp
    rw [after0_2]; frame_out
    exact point m c t y
  rw [this, entry_left, entry_right]
  rfl

theorem algebraic : Cert.algebraic_Kernel3Ideal_Reference3Ideal := by
  pair_intro
  · run_from Cert.Kernel3Ideal.Value.run_blocks m g
  · run_from Cert.Reference3Ideal.Value.run m' g'
    exact (final m c).symm

end Cert.Kernel3Ideal.Product
-- ==== Proof.InputGrad.lean ====
module

public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Lib.Pipeline.ReadBack

/-!
The gradient of the MLP's input: the kernel adds up four products, one for each part the columns of
the first weights are cut into; their sum is one product over all columns.
-/

@[expose] public section

set_option maxRecDepth 16384

noncomputable section

open Idealize.ShloMosaic Idealize.ShloMosaic.TcCoe Idealize.ShloMosaic.Tactic Idealize.SL.Sem

namespace Cert.Kernel4Ideal.Product

open Cert.Kernel4Ideal Cert.Kernel4Ideal.Gen

variable (m : (ℓ : Loc nD τ sig) → Buf (Elt Ideal) ℓ)

/-- The gradient of the hidden values. -/
abbrev hiddenGrad (x : FVec Ideal S4096x2048 .f32) (u : FVec Ideal S2048x8192 .f32) (d : FVec Ideal S8192x2048 .f32)
    (G : FVec Ideal S4096x2048 .f32) : FVec Ideal S4096x8192 .f32 :=
  select (cmpf .ogt (Host.dotGeneral dot_S4096x2048_S2048x8192_S4096x8192_1_0_0_1_n_n none x u) (broadcastInDim S4096x8192 ![] bcast_S_S4096x8192 (constant S_ .f32 0x00000000#32)))
    (mulf (Host.dotGeneral dot_S4096x2048_S8192x2048_S4096x8192_1_1_0_0_n_n none G d)
      (mulf (broadcastInDim S4096x8192 ![] bcast_S_S4096x8192 (constant S_ .f32 0x40000000#32))
        (maximumf (Host.dotGeneral dot_S4096x2048_S2048x8192_S4096x8192_1_0_0_1_n_n none x u) (broadcastInDim S4096x8192 ![] bcast_S_S4096x8192 (constant S_ .f32 0x00000000#32)))))
    (broadcastInDim S4096x8192 ![] bcast_S_S4096x8192 (constant S_ .f32 0x00000000#32))

/-- The product the reference takes: the gradient of the hidden values with the first weights. -/
def product (Z : FVec Ideal S4096x8192 .f32) (U : FVec Ideal S2048x8192 .f32) : FVec Ideal S4096x2048 .f32 :=
  Host.dotGeneral Cert.Reference4Ideal.dot_S4096x8192_S2048x8192_S4096x2048_1_1_0_0_n_n none Z U

theorem product_apply (Z U i j) : product Z U (ix2 i j) = ∑ k : Fin 8192, Z (ix2 i k) * U (ix2 j k) := by
  pointwise [product]

/-- An array cut by columns into four. -/
def parts (P : FVec Ideal S2048x8192 .bf16) : FVec Ideal S4x2048x2048 .bf16 :=
  concatenate S4x2048x2048 0
    [⟨S1x2048x2048, broadcastInDim S1x2048x2048 ![1, 2] bcast_S2048x2048_S1x2048x2048_1_2 (extractStridedSlice S2048x2048 ![0, 0] P slices_S2048x8192_S2048x2048_0_0)⟩,
     ⟨S1x2048x2048, broadcastInDim S1x2048x2048 ![1, 2] bcast_S2048x2048_S1x2048x2048_1_2 (extractStridedSlice S2048x2048 ![0, 2048] P slices_S2048x8192_S2048x2048_0_2048)⟩,
     ⟨S1x2048x2048, broadcastInDim S1x2048x2048 ![1, 2] bcast_S2048x2048_S1x2048x2048_1_2 (extractStridedSlice S2048x2048 ![0, 4096] P slices_S2048x8192_S2048x2048_0_4096)⟩,
     ⟨S1x2048x2048, broadcastInDim S1x2048x2048 ![1, 2] bcast_S2048x2048_S1x2048x2048_1_2 (extractStridedSlice S2048x2048 ![0, 6144] P slices_S2048x8192_S2048x2048_0_6144)⟩]
    concatenates_S1x2048x2048_S1x2048x2048_S1x2048x2048_S1x2048x2048_S4x2048x2048_d0

theorem parts_apply (P : FVec Ideal S2048x8192 .bf16) (s : Fin 4) (i j : Fin 2048) (k : Fin 8192) (hk : k.1 = 2048 * s.1 + j.1) :
    parts P (ix3 s i j) = P (ix2 i k) := by
  fin_cases s
  all_goals
    simp only [parts]
    pointwise []
    exact congrArg (fun q => P (ix2 i q)) (Fin.ext (by simp only at hk ⊢; omega))

theorem entry_left (c : Dev nD) : V m c main_v15 = (truncf .bf16 (hiddenGrad (m (c, main_arg0)) (m (c, main_arg1)) (m (c, main_arg2)) (m (c, main_arg3))) bitsLt_bf16_f32 : FVec Ideal S4096x8192 .bf16) := by
  simp only [V, hostOps0, hostOps0_1, hostOps0_2, hostOps0_3, hostOps0_4,
    List.flatten_cons, List.flatten_nil, List.append_nil, List.cons_append, List.nil_append]
  after_results
  rfl

theorem entry_right (c : Dev nD) : V m c main_v25 = parts (truncf .bf16 (m (c, main_arg1) : FVec Ideal S2048x8192 .f32) bitsLt_bf16_f32) := by
  simp only [V, hostOps0, hostOps0_1, hostOps0_2, hostOps0_3, hostOps0_4,
    List.flatten_cons, List.flatten_nil, List.append_nil, List.cons_append, List.nil_append]
  after_results
  rfl

theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

theorem first_apply (A : FVec Ideal S1024x2048 .bf16) (B : FVec Ideal S1x1024x2048 .bf16) (i j : Fin 1024) :
    k0_pay2 (F := Ideal) A B (ix2 i j) = ∑ k : Fin 2048, A (ix2 i k) * B (ix3 0 j k) := by
  pointwise [k0_pay2, k0_pay1]

theorem next_apply (A : FVec Ideal S1024x2048 .bf16) (B : FVec Ideal S1x1024x2048 .bf16) (Z : FVec Ideal S1024x1024 .f32) (i j : Fin 1024) :
    k0_pay3 (F := Ideal) A B Z (ix2 i j) = Z (ix2 i j) + ∑ k : Fin 2048, A (ix2 i k) * B (ix3 0 j k) := by
  pointwise [k0_pay3, k0_pay1]

/-- One of the four products, at an index of the tile. -/
def term (c : Dev nD) (t : Fin cfg0.N) (i j : Fin 1024) : EReal :=
  ∑ k : Fin 2048, (show FVec Ideal S1024x2048 .bf16 from iblk m c 0 t) (ix2 i k) * (show FVec Ideal S1x1024x2048 .bf16 from iblk m c 1 t) (ix3 0 j k)

theorem carried_A (c : Dev nD) (t : Fin cfg0.N) (h : t.val % 4 = 0) (i j : Fin 1024) :
    (outsAt0 m c t.val t.isLt).2 (ix2 i j) = term m c t i j := by
  rw [outsAt0_A m c t h (by omega) (by omega)]
  frame_out
  exact first_apply _ _ i j

theorem carried_B (c : Dev nD) (t : Fin cfg0.N) (h : ¬ t.val % 4 = 0) (i j : Fin 1024) :
    (outsAt0 m c t.val t.isLt).2 (ix2 i j) = (outsAt0 m c (t.val - 1) (by omega)).2 (ix2 i j) + term m c t i j := by
  by_cases h3 : t.val % 4 = 3
  · rw [outsAt0_C m c t h (by omega) h3]
    frame_out
    simp only [read_unread_whole]
    exact next_apply _ _ _ i j
  · rw [outsAt0_B m c t h (by omega) h3]
    frame_out
    simp only [read_unread_whole]
    exact next_apply _ _ _ i j

theorem written (c : Dev nD) (t : Fin cfg0.N) (h : t.val % 4 = 3) :
    (outsAt0 m c t.val t.isLt).1 = (outsAt0 m c t.val t.isLt).2 := by
  rw [outsAt0_C m c t (by omega) (by omega) h]
  frame_out

theorem summed (c : Dev nD) (t : Fin cfg0.N) (h : t.val % 4 = 3) (i j : Fin 1024) :
    (outsAt0 m c t.val t.isLt).1 (ix2 i j) = ∑ s : Fin 4, term m c ⟨4 * (t.val / 4) + s.val, Pipeline.run_point_lt_of_flush t h s⟩ i j := by
  rw [written m c t h]
  exact (Pipeline.eq_sum_fin_of_reset_step_apply_of_flush (M := EReal) (ι := Fin 1024 × Fin 1024)
    (fun n hn p => (outsAt0 m c n hn).2 (ix2 p.1 p.2)) 4 (fun _ => 0) (fun t p => term m c t p.1 p.2)
    (fun t h p => (carried_A m c t h p.1 p.2).trans (zero_add _).symm) (fun t h p => carried_B m c t h p.1 p.2) t h (i, j)).trans (zero_add _)

theorem term_eq (c : Dev nD) (t : Fin cfg0.N) (q : Fin 4) (b : Fin 4) (e : Fin 2) (hq : t.val % 4 = q.1) (hb : t.val / 8 = b.1) (he : t.val / 4 % 2 = e.1) (i j : Fin 1024) :
    term m c t i j = ∑ k : Fin 2048, (show FVec Ideal S4096x8192 .bf16 from V m c main_v15) (ix2 (⟨b.1 * 1024 + i.1, by omega⟩ : Fin 4096) (⟨q.1 * 2048 + k.1, by omega⟩ : Fin 8192))
      * (show FVec Ideal S4x2048x2048 .bf16 from V m c main_v25) (ix3 q (⟨e.1 * 1024 + j.1, by omega⟩ : Fin 2048) k) := by
  unfold term
  blk_point [iblk, idx t]

/-- A tile the kernel writes is that tile of the product. -/
theorem point (c : Dev nD) (t : Fin cfg0.N) (h : t.val % 4 = 3) (Z : FVec Ideal S4096x8192 .bf16) (U : FVec Ideal S2048x8192 .bf16)
    (hZ : V m c main_v15 = Z) (hU : V m c main_v25 = parts U) (i j : Fin 1024) (I : Fin 4096) (J : Fin 2048)
    (hI : I.1 = t.val / 8 * 1024 + i.1) (hJ : J.1 = t.val / 4 % 2 * 1024 + j.1) :
    (outsAt0 m c t.val t.isLt).1 (ix2 i j) = product Z U (ix2 I J) := by
  have ht : t.val < 32 := t.isLt
  have lI : t.val / 8 * 1024 + i.1 < 4096 := by clear hI hJ; omega
  have lJ : t.val / 4 % 2 * 1024 + j.1 < 2048 := by clear hI hJ; omega
  obtain rfl : I = ⟨t.val / 8 * 1024 + i.1, lI⟩ := Fin.ext hI
  obtain rfl : J = ⟨t.val / 4 % 2 * 1024 + j.1, lJ⟩ := Fin.ext hJ
  refine (summed m c t h i j).trans (Eq.trans ?_ (product_apply Z U _ _).symm)
  refine Eq.trans (Fin.sum_fin_congr fun s => ?_) (Fin.sum_mul_add_congr (S := 4) (n := 2048) (L := 8192)
    (f := fun k => Z (ix2 ⟨t.val / 8 * 1024 + i.1, lI⟩ k) * U (ix2 ⟨t.val / 4 % 2 * 1024 + j.1, lJ⟩ k))
    (F := fun s k => Z (ix2 ⟨t.val / 8 * 1024 + i.1, lI⟩ ⟨s.1 * 2048 + k.1, by omega⟩)
      * U (ix2 ⟨t.val / 4 % 2 * 1024 + j.1, lJ⟩ ⟨s.1 * 2048 + k.1, by omega⟩)) (fun s k hl => rfl))
  have hs := s.2
  refine (term_eq m c _ s ⟨t.val / 8, by omega⟩ ⟨t.val / 4 % 2, by omega⟩ (by simp only; omega) (by simp only; omega) (by simp only; omega) i j).trans ?_
  rw [hZ, hU]
  dsimp only
  refine Fin.sum_fin_congr fun k => ?_
  rw [parts_apply U s _ k ⟨s.1 * 2048 + k.1, by omega⟩ (by simp only; omega)]

theorem final (c : Dev nD) : (dats m 0 c).arrAt 2 (cfgs 0).N
    = product (hiddenGrad (m (c, main_arg0)) (m (c, main_arg1)) (m (c, main_arg2)) (m (c, main_arg3))) (m (c, main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, funext fun k => by fin_cases k <;> rfl⟩
  have ht : t.val < 32 := t.isLt
  refine (point m c t ((flush0_2 t).mp hf) _ _ (entry_left m c) (entry_right m c) i j ⟨t.val / 8 * 1024 + i.1, by omega⟩ ⟨t.val / 4 % 2 * 1024 + j.1, by omega⟩ rfl rfl).trans ?_
  show product _ _ _ = product _ _ _
  blk_ext [idx t]

theorem algebraic : Cert.algebraic_Kernel4Ideal_Reference4Ideal := by
  pair_intro
  · run_from Cert.Kernel4Ideal.Value.run_blocks m g
  · run_from Cert.Reference4Ideal.Value.run m' g'
    exact (final m c).symm

end Cert.Kernel4Ideal.Product
-- ==== Proof.UpWeights.lean ====
module

public import proofs.«01_k».proof.Proof.Gen.Kernel5Ideal.Value
public import proofs.«01_k».proof.Proof.Gen.Reference5Ideal.Run
public import proofs.«01_k».proof.Defs
public import Idealize.ShloMosaic.Lib.Pipeline.ValueKit

/-!
The gradient of the MLP's first weights: the kernel's tiles are tiles of one product, written in the
four parts the columns are cut into.
-/

@[expose] public section

set_option maxRecDepth 16384

noncomputable section

open Idealize.ShloMosaic Idealize.ShloMosaic.TcCoe Idealize.ShloMosaic.Tactic Idealize.SL.Sem

namespace Cert.Kernel5Ideal.Product

open Cert.Kernel5Ideal Cert.Kernel5Ideal.Gen

variable (m : (ℓ : Loc nD τ sig) → Buf (Elt Ideal) ℓ)

/-- The gradient of the hidden values. -/
abbrev hiddenGrad (x : FVec Ideal S4096x2048 .f32) (u : FVec Ideal S2048x8192 .f32) (d : FVec Ideal S8192x2048 .f32)
    (G : FVec Ideal S4096x2048 .f32) : FVec Ideal S4096x8192 .f32 :=
  select (cmpf .ogt (Host.dotGeneral dot_S4096x2048_S2048x8192_S4096x8192_1_0_0_1_n_n none x u) (broadcastInDim S4096x8192 ![] bcast_S_S4096x8192 (constant S_ .f32 0x00000000#32)))
    (mulf (Host.dotGeneral dot_S4096x2048_S8192x2048_S4096x8192_1_1_0_0_n_n none G d)
      (mulf (broadcastInDim S4096x8192 ![] bcast_S_S4096x8192 (constant S_ .f32 0x40000000#32))
        (maximumf (Host.dotGeneral dot_S4096x2048_S2048x8192_S4096x8192_1_0_0_1_n_n none x u) (broadcastInDim S4096x8192 ![] bcast_S_S4096x8192 (constant S_ .f32 0x00000000#32)))))
    (broadcastInDim S4096x8192 ![] bcast_S_S4096x8192 (constant S_ .f32 0x00000000#32))

/-- The product the reference takes: the input with the gradient of the hidden values. -/
def product (X : FVec Ideal S4096x2048 .f32) (Z : FVec Ideal S4096x8192 .f32) : FVec Ideal Cert.Reference5Ideal.S2048x8192 .bf16 :=
  truncf .bf16 (transpose Cert.Reference5Ideal.S2048x8192 [1, 0] (Host.dotGeneral Cert.Reference5Ideal.dot_S4096x8192_S4096x2048_S8192x2048_0_0_1_1_n_n none Z X)
    Cert.Reference5Ideal.Gen.transposes_S8192x2048_S2048x8192_1_0) bitsLt_bf16_f32

/-- An array cut by columns into four. -/
def parts (P : FVec Ideal Cert.Reference5Ideal.S2048x8192 .bf16) : FVec Ideal S4x2048x2048 .bf16 :=
  Cert.Reference5Ideal.Value.fn_main_v24 (F := Ideal)
    (broadcastInDim Cert.Reference5Ideal.S1x2048x2048 ![1, 2] Cert.Reference5Ideal.Gen.bcast_S2048x2048_S1x2048x2048_1_2 (extractStridedSlice Cert.Reference5Ideal.S2048x2048 ![0, 0] P Cert.Reference5Ideal.Gen.slices_S2048x8192_S2048x2048_0_0))
    (broadcastInDim Cert.Reference5Ideal.S1x2048x2048 ![1, 2] Cert.Reference5Ideal.Gen.bcast_S2048x2048_S1x2048x2048_1_2 (extractStridedSlice Cert.Reference5Ideal.S2048x2048 ![0, 2048] P Cert.Reference5Ideal.Gen.slices_S2048x8192_S2048x2048_0_2048))
    (broadcastInDim Cert.Reference5Ideal.S1x2048x2048 ![1, 2] Cert.Reference5Ideal.Gen.bcast_S2048x2048_S1x2048x2048_1_2 (extractStridedSlice Cert.Reference5Ideal.S2048x2048 ![0, 4096] P Cert.Reference5Ideal.Gen.slices_S2048x8192_S2048x2048_0_4096))
    (broadcastInDim Cert.Reference5Ideal.S1x2048x2048 ![1, 2] Cert.Reference5Ideal.Gen.bcast_S2048x2048_S1x2048x2048_1_2 (extractStridedSlice Cert.Reference5Ideal.S2048x2048 ![0, 6144] P Cert.Reference5Ideal.Gen.slices_S2048x8192_S2048x2048_0_6144))

theorem parts_apply (P : FVec Ideal Cert.Reference5Ideal.S2048x8192 .bf16) (s : Fin 4) (i j : Fin 2048) (k : Fin 8192) (hk : k.1 = 2048 * s.1 + j.1) :
    parts P (ix3 s i j) = P (ix2 i k) := by
  fin_cases s
  all_goals
    simp only [parts, Cert.Reference5Ideal.Value.fn_main_v24]
    pointwise []
    exact congrArg (fun q => P (ix2 i q)) (Fin.ext (by simp only at hk ⊢; omega))

theorem entry_left (c : Dev nD) : V m c main_v15 = (truncf .bf16 (m (c, main_arg0) : FVec Ideal S4096x2048 .f32) bitsLt_bf16_f32 : FVec Ideal S4096x2048 .bf16) := by
  simp only [V, hostOps0, hostOps0_1, hostOps0_2, hostOps0_3, hostOps0_4,
    List.flatten_cons, List.flatten_nil, List.append_nil, List.cons_append, List.nil_append]
  after_results

theorem entry_right (c : Dev nD) : V m c main_v16 = (truncf .bf16 (hiddenGrad (m (c, main_arg0)) (m (c, main_arg1)) (m (c, main_arg2)) (m (c, main_arg3))) bitsLt_bf16_f32 : FVec Ideal S4096x8192 .bf16) := by
  simp only [V, hostOps0, hostOps0_1, hostOps0_2, hostOps0_3, hostOps0_4,
    List.flatten_cons, List.flatten_nil, List.append_nil, List.cons_append, List.nil_append]
  after_results
  rfl

theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

theorem product_apply (X Z i j) : product X Z (ix2 i j) = ∑ k : Fin 4096, X (ix2 k i) * Z (ix2 k j) := by
  pointwise [product]
  exact Fin.sum_fin_congr fun k => mul_comm _ _

theorem parts_at (X : FVec Ideal S4096x2048 .f32) (Z : FVec Ideal S4096x8192 .f32) (q : S4x2048x2048.Idx) :
    parts (product X Z) q = ∑ k : Fin 4096, X (ix2 k (q 1)) * Z (ix2 k ⟨2048 * (q 0).1 + (q 2).1, by
      have h0 : (q 0).1 < 4 := (q 0).2
      have h2 : (q 2).1 < 2048 := (q 2).2
      omega⟩) := by
  obtain ⟨s, i, j, rfl⟩ : ∃ (s : Fin 4) (i : Fin 2048) (j : Fin 2048), q = ix3 s i j := ⟨q 0, q 1, q 2, funext fun k => by fin_cases k <;> rfl⟩
  exact (parts_apply _ s i j _ rfl).trans (product_apply X Z i _)

/-- A tile the kernel writes is that tile of the product. -/
theorem point (c : Dev nD) (t : Fin cfg0.N) (y) : k0_pay1 (iblk m c 0 t) (iblk m c 1 t) y
    = parts (product (V m c main_v15) (V m c main_v16)) (((cfg0.win 2).blk t).view.emb y) := by
  refine Eq.trans ?_ (parts_at (V m c main_v15) (V m c main_v16) _).symm
  pointwise [k0_pay1]
  blk_point [iblk, idx t]

/-- The gradient of the first weights, cut by columns into four. -/
def whole (x : FVec Ideal S4096x2048 .f32) (u : FVec Ideal S2048x8192 .f32) (d : FVec Ideal S8192x2048 .f32)
    (G : FVec Ideal S4096x2048 .f32) : FVec Ideal S4x2048x2048 .bf16 :=
  parts (product x (hiddenGrad x u d G))

theorem final (c : Dev nD) : (dats m 0 c).arrAt 2 (cfgs 0).N
    = whole (m (c, main_arg0)) (m (c, main_arg1)) (m (c, main_arg2)) (m (c, main_arg3)) := by
  have : (dats m 0 c).arrAt 2 (cfgs 0).N = parts (product (V m c main_v15) (V m c main_v16)) := by
    refine (dats m 0 c).arrAt_eq_of_covers 2 _ (by decide +kernel) fun t _ y => ?_
    blk_simp
    rw [after0_2]; frame_out
    exact point m c t y
  rw [this, entry_left, entry_right]
  rfl

theorem reference_eq (m' : (ℓ : Loc Cert.Reference5Ideal.nD Cert.Reference5Ideal.τ Cert.Reference5Ideal.sig) → Buf (Elt Ideal) ℓ) (c : Dev Cert.Reference5Ideal.nD) :
    Cert.Reference5Ideal.Value.res_main_v24 m' c = whole (m' (c, Cert.Reference5Ideal.main_arg0)) (m' (c, Cert.Reference5Ideal.main_arg1))
      (m' (c, Cert.Reference5Ideal.main_arg2)) (m' (c, Cert.Reference5Ideal.main_arg3)) := rfl

theorem algebraic : Cert.algebraic_Kernel5Ideal_Reference5Ideal := by
  pair_intro
  · run_from Cert.Kernel5Ideal.Value.run_blocks m g
  · run_from Cert.Reference5Ideal.Value.run m' g'
    obtain ⟨h0, h1, h2, h3⟩ := hagree c
    refine (reference_eq m' c).trans (Eq.trans ?_ (final m c).symm)
    exact congr (congr (congr (congrArg whole h0) h1) h2) h3

end Cert.Kernel5Ideal.Product
-- ==== Proof.InProjection.lean ====
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Defs
public import Idealize.ShloMosaic.Lib.Pipeline.ValueKit

/-!
The input projection and the gradient of its weights: the kernels' tiles are tiles of one product.
-/

@[expose] public section

set_option maxRecDepth 16384

noncomputable section

open Idealize.ShloMosaic Idealize.ShloMosaic.TcCoe Idealize.ShloMosaic.Tactic Idealize.SL.Sem

namespace Cert.Kernel8Ideal.Product

open Cert.Kernel8Ideal Cert.Kernel8Ideal.Gen

variable (m : (ℓ : Loc nD τ sig) → Buf (Elt Ideal) ℓ)

theorem entry_left (c : Dev nD) : V m c main_v0 = (truncf .bf16 ((m (c, main_arg0) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v3 = (truncf .bf16 (transpose S11264x2048 [1, 0] (extractStridedSlice S2048x11264 ![0, 0] (m (c, main_arg1) : FVec Ideal S2048x11328 .f32) slices_S2048x11328_S2048x11264_0_0) transposes_S2048x11264_S11264x2048_1_0) bitsLt_bf16_f32 : FVec Ideal S11264x2048 .bf16) := by
  simp only [V, hostOps0, List.flatten_cons, List.flatten_nil, List.append_nil, List.cons_append, List.nil_append]
  after_results
  all_goals rfl

theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

/-- The product of the rows with the columns of the weights, which the kernel takes as rows. -/
def tiled (A : FVec Ideal S4096x2048 .bf16) (B : FVec Ideal S11264x2048 .bf16) : FVec Ideal S4096x11264 .f32 :=
  fun q => ∑ k : Fin 2048, A (ix2 (q 0) k) * B (ix2 (q 1) k)

theorem tiled_at (A B q) : tiled A B q = ∑ k : Fin 2048, A (ix2 (q 0) k) * B (ix2 (q 1) k) := rfl

/-- A tile the kernel writes is that tile of the product. -/
theorem point (c : Dev nD) (t : Fin cfg0.N) (y) : k0_pay1 (iblk m c 0 t) (iblk m c 1 t) y
    = tiled (V m c main_v0) (V m c main_v3) (((cfg0.win 2).blk t).view.emb y) := by
  refine Eq.trans ?_ (tiled_at _ _ _).symm
  pointwise [k0_pay1]
  blk_point [iblk, idx t]

/-- The reference's result. -/
abbrev result (x0 : FVec Ideal S4096x2048 .f32) (x1 : FVec Ideal S2048x11328 .f32) : FVec Ideal S4096x11264 .f32 :=
  extractStridedSlice S4096x11264 ![0, 0] (Host.dotGeneral Cert.Reference8Ideal.dot_S4096x2048_S2048x11328_S4096x11328_1_0_0_1_n_n none x0 x1) Cert.Reference8Ideal.Gen.slices_S4096x11328_S4096x11264_0_0

theorem tiled_eq (x0 : FVec Ideal S4096x2048 .f32) (x1 : FVec Ideal S2048x11328 .f32) :
    tiled (truncf .bf16 (x0) bitsLt_bf16_f32) (truncf .bf16 (transpose S11264x2048 [1, 0] (extractStridedSlice S2048x11264 ![0, 0] x1 slices_S2048x11328_S2048x11264_0_0) transposes_S2048x11264_S11264x2048_1_0) bitsLt_bf16_f32) = result x0 x1 := by
  funext q
  obtain ⟨i, j, rfl⟩ : ∃ i j, q = ix2 i j := ⟨q 0, q 1, funext fun k => by fin_cases k <;> rfl⟩
  refine (tiled_at _ _ _).trans ?_
  pointwise []

theorem final (c : Dev nD) : (dats m 0 c).arrAt 2 (cfgs 0).N = result (m (c, main_arg0)) (m (c, main_arg1)) := by
  have : (dats m 0 c).arrAt 2 (cfgs 0).N = tiled (V m c main_v0) (V m c main_v3) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg1))

theorem algebraic : Cert.algebraic_Kernel8Ideal_Reference8Ideal := by
  pair_intro
  · run_from Cert.Kernel8Ideal.Value.run_blocks m g
  · run_from Cert.Reference8Ideal.Value.run m' g'
    exact (final m c).symm

end Cert.Kernel8Ideal.Product

namespace Cert.Kernel9Ideal.Product

open Cert.Kernel9Ideal Cert.Kernel9Ideal.Gen

variable (m : (ℓ : Loc nD τ sig) → Buf (Elt Ideal) ℓ)

theorem entry_left (c : Dev nD) : V m c main_v1 = (truncf .bf16 (extractStridedSlice S4096x11264 ![0, 0] (m (c, main_arg2) : FVec Ideal S4096x11328 .f32) slices_S4096x11328_S4096x11264_0_0) bitsLt_bf16_f32 : FVec Ideal S4096x11264 .bf16) := by
  simp only [V, hostOps0, List.flatten_cons, List.flatten_nil, List.append_nil, List.cons_append, List.nil_append]
  after_results
  all_goals rfl

theorem entry_right (c : Dev nD) : V m c main_v2 = (truncf .bf16 ((m (c, main_arg0) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The product of the gradient of the projection with the rows. -/
def tiled (A : FVec Ideal S4096x11264 .bf16) (B : FVec Ideal S4096x2048 .bf16) : FVec Ideal S11264x2048 .bf16 :=
  fun q => ∑ k : Fin 4096, A (ix2 k (q 0)) * B (ix2 k (q 1))

theorem tiled_at (A B q) : tiled A B q = ∑ k : Fin 4096, A (ix2 k (q 0)) * B (ix2 k (q 1)) := rfl

/-- A tile the kernel writes is that tile of the product. -/
theorem point (c : Dev nD) (t : Fin cfg0.N) (y) : k0_pay1 (iblk m c 0 t) (iblk m c 1 t) y
    = tiled (V m c main_v1) (V m c main_v2) (((cfg0.win 2).blk t).view.emb y) := by
  refine Eq.trans ?_ (tiled_at _ _ _).symm
  pointwise [k0_pay1]
  blk_point [iblk, idx t]

/-- The reference's result. -/
abbrev result (x0 : FVec Ideal S4096x2048 .f32) (x2 : FVec Ideal S4096x11328 .f32) : FVec Ideal S11264x2048 .bf16 :=
  truncf .bf16 (transpose S11264x2048 [1, 0] (extractStridedSlice Cert.Reference9Ideal.S2048x11264 ![0, 0] (transpose Cert.Reference9Ideal.S2048x11328 [1, 0] (Host.dotGeneral Cert.Reference9Ideal.dot_S4096x11328_S4096x2048_S11328x2048_0_0_1_1_n_n none x2 x0) Cert.Reference9Ideal.Gen.transposes_S11328x2048_S2048x11328_1_0) Cert.Reference9Ideal.Gen.slices_S2048x11328_S2048x11264_0_0) Cert.Reference9Ideal.Gen.transposes_S2048x11264_S11264x2048_1_0) bitsLt_bf16_f32

theorem tiled_eq (x0 : FVec Ideal S4096x2048 .f32) (x2 : FVec Ideal S4096x11328 .f32) :
    tiled (truncf .bf16 (extractStridedSlice S4096x11264 ![0, 0] x2 slices_S4096x11328_S4096x11264_0_0) bitsLt_bf16_f32) (truncf .bf16 (x0) bitsLt_bf16_f32) = result x0 x2 := by
  funext q
  obtain ⟨i, j, rfl⟩ : ∃ i j, q = ix2 i j := ⟨q 0, q 1, funext fun k => by fin_cases k <;> rfl⟩
  refine (tiled_at _ _ _).trans ?_
  pointwise []

theorem final (c : Dev nD) : (dats m 0 c).arrAt 2 (cfgs 0).N = result (m (c, main_arg0)) (m (c, main_arg2)) := by
  have : (dats m 0 c).arrAt 2 (cfgs 0).N = tiled (V m c main_v1) (V m c main_v2) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg2))

theorem algebraic : Cert.algebraic_Kernel9Ideal_Reference9Ideal := by
  pair_intro
  · run_from Cert.Kernel9Ideal.Value.run_blocks m g
  · run_from Cert.Reference9Ideal.Value.run m' g'
    exact (final m c).symm

end Cert.Kernel9Ideal.Product

end
-- ==== Proof.BranchOut.lean ====
module

public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Defs
public import Idealize.ShloMosaic.Lib.Pipeline.ValueKit

/-!
An output projection of a branch, the gradient of its rows and the gradient of its weights: the
kernels' tiles are tiles of one product.
-/

@[expose] public section

set_option maxRecDepth 16384

noncomputable section

open Idealize.ShloMosaic Idealize.ShloMosaic.TcCoe Idealize.ShloMosaic.Tactic Idealize.SL.Sem

namespace Cert.Kernel11Ideal.Product

open Cert.Kernel11Ideal Cert.Kernel11Ideal.Gen

variable (m : (ℓ : Loc nD τ sig) → Buf (Elt Ideal) ℓ)

theorem entry_left (c : Dev nD) : V m c main_v0 = (truncf .bf16 ((m (c, main_arg0) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v1 = (truncf .bf16 ((m (c, main_arg1) : FVec Ideal S2048x2048 .f32)) bitsLt_bf16_f32 : FVec Ideal S2048x2048 .bf16) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The product of the rows with the weights. -/
def tiled (A : FVec Ideal S4096x2048 .bf16) (B : FVec Ideal S2048x2048 .bf16) : FVec Ideal S4096x2048 .bf16 :=
  fun q => ∑ k : Fin 2048, A (ix2 (q 0) k) * B (ix2 k (q 1))

theorem tiled_at (A B q) : tiled A B q = ∑ k : Fin 2048, A (ix2 (q 0) k) * B (ix2 k (q 1)) := rfl

/-- A tile the kernel writes is that tile of the product. -/
theorem point (c : Dev nD) (t : Fin cfg0.N) (y) : k0_pay1 (iblk m c 0 t) (iblk m c 1 t) y
    = tiled (V m c main_v0) (V m c main_v1) (((cfg0.win 2).blk t).view.emb y) := by
  refine Eq.trans ?_ (tiled_at _ _ _).symm
  pointwise [k0_pay1]
  blk_point [iblk, idx t]

/-- The reference's result. -/
abbrev result (x0 : FVec Ideal S4096x2048 .f32) (x1 : FVec Ideal S2048x2048 .f32) : FVec Ideal S4096x2048 .bf16 :=
  truncf .bf16 (Host.dotGeneral Cert.Reference11Ideal.dot_S4096x2048_S2048x2048_S4096x2048_1_0_0_1_n_n none x0 x1) bitsLt_bf16_f32

theorem tiled_eq (x0 : FVec Ideal S4096x2048 .f32) (x1 : FVec Ideal S2048x2048 .f32) :
    tiled (truncf .bf16 (x0) bitsLt_bf16_f32) (truncf .bf16 (x1) bitsLt_bf16_f32) = result x0 x1 := by
  funext q
  obtain ⟨i, j, rfl⟩ : ∃ i j, q = ix2 i j := ⟨q 0, q 1, funext fun k => by fin_cases k <;> rfl⟩
  refine (tiled_at _ _ _).trans ?_
  pointwise []

theorem final (c : Dev nD) : (dats m 0 c).arrAt 2 (cfgs 0).N = result (m (c, main_arg0)) (m (c, main_arg1)) := by
  have : (dats m 0 c).arrAt 2 (cfgs 0).N = tiled (V m c main_v0) (V m c main_v1) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg1))

theorem algebraic : Cert.algebraic_Kernel11Ideal_Reference11Ideal := by
  pair_intro
  · run_from Cert.Kernel11Ideal.Value.run_blocks m g
  · run_from Cert.Reference11Ideal.Value.run m' g'
    exact (final m c).symm

end Cert.Kernel11Ideal.Product

namespace Cert.Kernel12Ideal.Product

open Cert.Kernel12Ideal Cert.Kernel12Ideal.Gen

variable (m : (ℓ : Loc nD τ sig) → Buf (Elt Ideal) ℓ)

theorem entry_left (c : Dev nD) : V m c main_v0 = (truncf .bf16 ((m (c, main_arg2) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v1 = (truncf .bf16 ((m (c, main_arg1) : FVec Ideal S2048x2048 .f32)) bitsLt_bf16_f32 : FVec Ideal S2048x2048 .bf16) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The product of the gradient with the rows of the weights. -/
def tiled (A : FVec Ideal S4096x2048 .bf16) (B : FVec Ideal S2048x2048 .bf16) : FVec Ideal S4096x2048 .f32 :=
  fun q => ∑ k : Fin 2048, A (ix2 (q 0) k) * B (ix2 (q 1) k)

theorem tiled_at (A B q) : tiled A B q = ∑ k : Fin 2048, A (ix2 (q 0) k) * B (ix2 (q 1) k) := rfl

/-- A tile the kernel writes is that tile of the product. -/
theorem point (c : Dev nD) (t : Fin cfg0.N) (y) : k0_pay1 (iblk m c 0 t) (iblk m c 1 t) y
    = tiled (V m c main_v0) (V m c main_v1) (((cfg0.win 2).blk t).view.emb y) := by
  refine Eq.trans ?_ (tiled_at _ _ _).symm
  pointwise [k0_pay1]
  blk_point [iblk, idx t]

/-- The reference's result. -/
abbrev result (x1 : FVec Ideal S2048x2048 .f32) (x2 : FVec Ideal S4096x2048 .f32) : FVec Ideal S4096x2048 .f32 :=
  Host.dotGeneral Cert.Reference12Ideal.dot_S4096x2048_S2048x2048_S4096x2048_1_1_0_0_n_n none x2 x1

theorem tiled_eq (x1 : FVec Ideal S2048x2048 .f32) (x2 : FVec Ideal S4096x2048 .f32) :
    tiled (truncf .bf16 (x2) bitsLt_bf16_f32) (truncf .bf16 (x1) bitsLt_bf16_f32) = result x1 x2 := by
  funext q
  obtain ⟨i, j, rfl⟩ : ∃ i j, q = ix2 i j := ⟨q 0, q 1, funext fun k => by fin_cases k <;> rfl⟩
  refine (tiled_at _ _ _).trans ?_
  pointwise []

theorem final (c : Dev nD) : (dats m 0 c).arrAt 2 (cfgs 0).N = result (m (c, main_arg1)) (m (c, main_arg2)) := by
  have : (dats m 0 c).arrAt 2 (cfgs 0).N = tiled (V m c main_v0) (V m c main_v1) := by
    refine (dats m 0 c).arrAt_eq_of_covers 2 _ (by decide +kernel) fun t _ y => ?_
    blk_simp
    rw [after0_2]; frame_out
    exact point m c t y
  rw [this, entry_left, entry_right]
  exact tiled_eq (m (c, main_arg1)) (m (c, main_arg2))

theorem algebraic : Cert.algebraic_Kernel12Ideal_Reference12Ideal := by
  pair_intro
  · run_from Cert.Kernel12Ideal.Value.run_blocks m g
  · run_from Cert.Reference12Ideal.Value.run m' g'
    exact (final m c).symm

end Cert.Kernel12Ideal.Product

namespace Cert.Kernel13Ideal.Product

open Cert.Kernel13Ideal Cert.Kernel13Ideal.Gen

variable (m : (ℓ : Loc nD τ sig) → Buf (Elt Ideal) ℓ)

theorem entry_left (c : Dev nD) : V m c main_v0 = (truncf .bf16 ((m (c, main_arg0) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v1 = (truncf .bf16 ((m (c, main_arg2) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The product of the rows with the gradient. -/
def tiled (A : FVec Ideal S4096x2048 .bf16) (B : FVec Ideal S4096x2048 .bf16) : FVec Ideal S2048x2048 .bf16 :=
  fun q => ∑ k : Fin 4096, A (ix2 k (q 0)) * B (ix2 k (q 1))

theorem tiled_at (A B q) : tiled A B q = ∑ k : Fin 4096, A (ix2 k (q 0)) * B (ix2 k (q 1)) := rfl

/-- A tile the kernel writes is that tile of the product. -/
theorem point (c : Dev nD) (t : Fin cfg0.N) (y) : k0_pay1 (iblk m c 0 t) (iblk m c 1 t) y
    = tiled (V m c main_v0) (V m c main_v1) (((cfg0.win 2).blk t).view.emb y) := by
  refine Eq.trans ?_ (tiled_at _ _ _).symm
  pointwise [k0_pay1]
  blk_point [iblk, idx t]

/-- The reference's result. -/
abbrev result (x0 : FVec Ideal S4096x2048 .f32) (x2 : FVec Ideal S4096x2048 .f32) : FVec Ideal S2048x2048 .bf16 :=
  truncf .bf16 (transpose S2048x2048 [1, 0] (Host.dotGeneral Cert.Reference13Ideal.dot_S4096x2048_S4096x2048_S2048x2048_0_0_1_1_n_n none x2 x0) Cert.Reference13Ideal.Gen.transposes_S2048x2048_S2048x2048_1_0) bitsLt_bf16_f32

theorem tiled_eq (x0 : FVec Ideal S4096x2048 .f32) (x2 : FVec Ideal S4096x2048 .f32) :
    tiled (truncf .bf16 (x0) bitsLt_bf16_f32) (truncf .bf16 (x2) bitsLt_bf16_f32) = result x0 x2 := by
  funext q
  obtain ⟨i, j, rfl⟩ : ∃ i j, q = ix2 i j := ⟨q 0, q 1, funext fun k => by fin_cases k <;> rfl⟩
  refine (tiled_at _ _ _).trans ?_
  pointwise []
  exact Fin.sum_fin_congr fun k => mul_comm _ _

theorem final (c : Dev nD) : (dats m 0 c).arrAt 2 (cfgs 0).N = result (m (c, main_arg0)) (m (c, main_arg2)) := by
  have : (dats m 0 c).arrAt 2 (cfgs 0).N = tiled (V m c main_v0) (V m c main_v1) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg2))

theorem algebraic : Cert.algebraic_Kernel13Ideal_Reference13Ideal := by
  pair_intro
  · run_from Cert.Kernel13Ideal.Value.run_blocks m g
  · run_from Cert.Reference13Ideal.Value.run m' g'
    exact (final m c).symm

end Cert.Kernel13Ideal.Product

end
-- ==== Proof.LowRankWeights.lean ====
module

public import proofs.«01_k».proof.Proof.Gen.Kernel18Ideal.Value
public import proofs.«01_k».proof.Proof.Gen.Reference18Ideal.Run
public import proofs.«01_k».proof.Defs
public import Idealize.ShloMosaic.Lib.Pipeline.ValueKit

/-!
The gradient of the weights of the keys' and values' low-rank projection: the kernel's tiles are
tiles of one product.
-/

@[expose] public section

set_option maxRecDepth 16384

noncomputable section

open Idealize.ShloMosaic Idealize.ShloMosaic.TcCoe Idealize.ShloMosaic.Tactic Idealize.SL.Sem

namespace Cert.Kernel18Ideal.Product

open Cert.Kernel18Ideal Cert.Kernel18Ideal.Gen

variable (m : (ℓ : Loc nD τ sig) → Buf (Elt Ideal) ℓ)

theorem entry_left (c : Dev nD) : V m c main_v0 = (truncf .bf16 ((m (c, main_arg0) : FVec Ideal S4096x512 .f32)) bitsLt_bf16_f32 : FVec Ideal S4096x512 .bf16) := by
  simp only [V, hostOps0, List.flatten_cons, List.flatten_nil, List.append_nil, List.cons_append, List.nil_append]
  after_results
  all_goals rfl

theorem entry_right (c : Dev nD) : V m c main_v1 = (truncf .bf16 ((m (c, main_arg2) : FVec Ideal S4096x4096 .f32)) bitsLt_bf16_f32 : FVec Ideal S4096x4096 .bf16) := by
  simp only [V, hostOps0, List.flatten_cons, List.flatten_nil, List.append_nil, List.cons_append, List.nil_append]
  after_results
  all_goals rfl

theorem idx : ∀ t : Fin cfg0.N, win0_0.index t = ![0, 0] ∧ win0_1.index t = ![0, t.val] ∧ win0_2.index t = ![0, t.val] :=
  (by decide +kernel : ∀ t : Fin grid0.N, _)

/-- The product of the rows with the gradient. -/
def tiled (A : FVec Ideal S4096x512 .bf16) (B : FVec Ideal S4096x4096 .bf16) : FVec Ideal S512x4096 .bf16 :=
  fun q => ∑ k : Fin 4096, A (ix2 k (q 0)) * B (ix2 k (q 1))

theorem tiled_at (A B q) : tiled A B q = ∑ k : Fin 4096, A (ix2 k (q 0)) * B (ix2 k (q 1)) := rfl

/-- A tile the kernel writes is that tile of the product. -/
theorem point (c : Dev nD) (t : Fin cfg0.N) (y) : k0_pay1 (iblk m c 0 t) (iblk m c 1 t) y
    = tiled (V m c main_v0) (V m c main_v1) (((cfg0.win 2).blk t).view.emb y) := by
  refine Eq.trans ?_ (tiled_at _ _ _).symm
  pointwise [k0_pay1]
  blk_point [iblk, idx t]

/-- The reference's result. -/
abbrev result (x0 : FVec Ideal S4096x512 .f32) (x2 : FVec Ideal S4096x4096 .f32) : FVec Ideal S512x4096 .bf16 :=
  truncf .bf16 (transpose S512x4096 [1, 0] (Host.dotGeneral Cert.Reference18Ideal.dot_S4096x4096_S4096x512_S4096x512_0_0_1_1_n_n none x2 x0) Cert.Reference18Ideal.Gen.transposes_S4096x512_S512x4096_1_0) bitsLt_bf16_f32

theorem tiled_eq (x0 : FVec Ideal S4096x512 .f32) (x2 : FVec Ideal S4096x4096 .f32) :
    tiled (truncf .bf16 (x0) bitsLt_bf16_f32) (truncf .bf16 (x2) bitsLt_bf16_f32) = result x0 x2 := by
  funext q
  obtain ⟨i, j, rfl⟩ : ∃ i j, q = ix2 i j := ⟨q 0, q 1, funext fun k => by fin_cases k <;> rfl⟩
  refine (tiled_at _ _ _).trans ?_
  pointwise []
  exact Fin.sum_fin_congr fun k => mul_comm _ _

theorem final (c : Dev nD) : (dats m 0 c).arrAt 2 (cfgs 0).N = result (m (c, main_arg0)) (m (c, main_arg2)) := by
  have : (dats m 0 c).arrAt 2 (cfgs 0).N = tiled (V m c main_v0) (V m c main_v1) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg2))

theorem algebraic : Cert.algebraic_Kernel18Ideal_Reference18Ideal := by
  pair_intro
  · run_from Cert.Kernel18Ideal.Value.run_blocks m g
  · run_from Cert.Reference18Ideal.Value.run m' g'
    exact (final m c).symm

end Cert.Kernel18Ideal.Product

end
-- ==== Proof.OutProjection.lean ====
module

public import proofs.«01_k».proof.Proof.Gen.Kernel14Ideal.Value
public import proofs.«01_k».proof.Proof.Gen.Reference14Ideal.Run
public import proofs.«01_k».proof.Defs
public import Idealize.ShloMosaic.Lib.Pipeline.ValueKit

/-!
The mixer's output projection with the residual stream added: the kernel's tiles are tiles of one
product and sum.
-/

@[expose] public section

set_option maxRecDepth 16384

noncomputable section

open Idealize.ShloMosaic Idealize.ShloMosaic.TcCoe Idealize.ShloMosaic.Tactic Idealize.SL.Sem

namespace Cert.Kernel14Ideal.Product

open Cert.Kernel14Ideal Cert.Kernel14Ideal.Gen

variable (m : (ℓ : Loc nD τ sig) → Buf (Elt Ideal) ℓ)

/-- The gated merge of the two branches. -/
abbrev merged (a b y z : FVec Ideal S4096x2048 .f32) : FVec Ideal S4096x2048 .f32 :=
  addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf a)))) y) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf b)))) z)

theorem entry_left (c : Dev nD) : V m c main_v15 = (truncf .bf16 (merged (m (c, main_arg1)) (m (c, main_arg2)) (m (c, main_arg3)) (m (c, main_arg4))) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v16 = (truncf .bf16 (m (c, main_arg5) : FVec Ideal S2048x2048 .f32) bitsLt_bf16_f32 : FVec Ideal S2048x2048 .bf16) := by
  simp only [V, hostOps0, List.flatten_cons, List.flatten_nil, List.append_nil, List.cons_append, List.nil_append]
  after_results
  all_goals rfl

theorem entry_rest (c : Dev nD) : V m c main_arg0 = m (c, main_arg0) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The product of the merged rows with the weights, and the residual stream. -/
def tiled (A : FVec Ideal S4096x2048 .bf16) (B : FVec Ideal S2048x2048 .bf16) (X : FVec Ideal S4096x2048 .f32) : FVec Ideal S4096x2048 .f32 :=
  fun q => (∑ k : Fin 2048, A (ix2 (q 0) k) * B (ix2 k (q 1))) + X q

theorem tiled_at (A B X q) : tiled A B X q = (∑ k : Fin 2048, A (ix2 (q 0) k) * B (ix2 k (q 1))) + X q := rfl

/-- A tile the kernel writes is that tile of the product and sum. -/
theorem point (c : Dev nD) (t : Fin cfg0.N) (y) : k0_pay1 (iblk m c 0 t) (iblk m c 1 t) (iblk m c 2 t) y
    = tiled (V m c main_v15) (V m c main_v16) (V m c main_arg0) (((cfg0.win 3).blk t).view.emb y) := by
  refine Eq.trans ?_ (tiled_at _ _ _ _).symm
  pointwise [k0_pay1]
  blk_point [iblk, idx t]

/-- The reference's result. -/
abbrev result (x M : FVec Ideal S4096x2048 .f32) (w : FVec Ideal S2048x2048 .f32) : FVec Ideal S4096x2048 .f32 :=
  addf x (Host.dotGeneral Cert.Reference14Ideal.dot_S4096x2048_S2048x2048_S4096x2048_1_0_0_1_n_n none M w)

theorem tiled_eq (x M : FVec Ideal S4096x2048 .f32) (w : FVec Ideal S2048x2048 .f32) :
    tiled (truncf .bf16 M bitsLt_bf16_f32) (truncf .bf16 w bitsLt_bf16_f32) x = result x M w := by
  funext q
  obtain ⟨i, j, rfl⟩ : ∃ i j, q = ix2 i j := ⟨q 0, q 1, funext fun k => by fin_cases k <;> rfl⟩
  refine (tiled_at _ _ _ _).trans ?_
  pointwise []
  exact add_comm _ _

theorem final (c : Dev nD) : (dats m 0 c).arrAt 3 (cfgs 0).N
    = result (m (c, main_arg0)) (merged (m (c, main_arg1)) (m (c, main_arg2)) (m (c, main_arg3)) (m (c, main_arg4))) (m (c, main_arg5)) := by
  have : (dats m 0 c).arrAt 3 (cfgs 0).N = tiled (V m c main_v15) (V m c main_v16) (V m c main_arg0) := by
    refine (dats m 0 c).arrAt_eq_of_covers 3 _ (by decide +kernel) fun t _ y => ?_
    blk_simp
    rw [after0_3]; frame_out
    exact point m c t y
  rw [this, entry_left, entry_right, entry_rest]
  exact tiled_eq _ _ _

theorem algebraic : Cert.algebraic_Kernel14Ideal_Reference14Ideal := by
  pair_intro
  · run_from Cert.Kernel14Ideal.Value.run_blocks m g
  · run_from Cert.Reference14Ideal.Value.run m' g'
    exact (final m c).symm

end Cert.Kernel14Ideal.Product

end
-- ==== Proof.UpForward.lean ====
module

public import proofs.«01_k».proof.Proof.Gen.Kernel6Ideal.Value
public import proofs.«01_k».proof.Proof.Gen.Reference6Ideal.Run
public import proofs.«01_k».proof.Defs
public import Idealize.ShloMosaic.Lib.Pipeline.ValueKit

/-!
The hidden values and the squares of their positive parts: the kernel's tiles are tiles of one
product with the weights, which it takes cut by columns into four.
-/

@[expose] public section

set_option maxRecDepth 16384

noncomputable section

open Idealize.ShloMosaic Idealize.ShloMosaic.TcCoe Idealize.ShloMosaic.Tactic Idealize.SL.Sem

namespace Cert.Kernel6Ideal.Product

open Cert.Kernel6Ideal Cert.Kernel6Ideal.Gen

variable (m : (ℓ : Loc nD τ sig) → Buf (Elt Ideal) ℓ)

/-- An array cut by columns into four. -/
def parts (P : FVec Ideal S2048x8192 .bf16) : FVec Ideal S4x2048x2048 .bf16 :=
  concatenate S4x2048x2048 0
    [⟨S1x2048x2048, broadcastInDim S1x2048x2048 ![1, 2] bcast_S2048x2048_S1x2048x2048_1_2 (extractStridedSlice S2048x2048 ![0, 0] P slices_S2048x8192_S2048x2048_0_0)⟩,
     ⟨S1x2048x2048, broadcastInDim S1x2048x2048 ![1, 2] bcast_S2048x2048_S1x2048x2048_1_2 (extractStridedSlice S2048x2048 ![0, 2048] P slices_S2048x8192_S2048x2048_0_2048)⟩,
     ⟨S1x2048x2048, broadcastInDim S1x2048x2048 ![1, 2] bcast_S2048x2048_S1x2048x2048_1_2 (extractStridedSlice S2048x2048 ![0, 4096] P slices_S2048x8192_S2048x2048_0_4096)⟩,
     ⟨S1x2048x2048, broadcastInDim S1x2048x2048 ![1, 2] bcast_S2048x2048_S1x2048x2048_1_2 (extractStridedSlice S2048x2048 ![0, 6144] P slices_S2048x8192_S2048x2048_0_6144)⟩]
    concatenates_S1x2048x2048_S1x2048x2048_S1x2048x2048_S1x2048x2048_S4x2048x2048_d0

theorem parts_apply (P : FVec Ideal S2048x8192 .bf16) (s : Fin 4) (i j : Fin 2048) (k : Fin 8192) (hk : k.1 = 2048 * s.1 + j.1) :
    parts P (ix3 s i j) = P (ix2 i k) := by
  fin_cases s
  all_goals
    simp only [parts]
    pointwise []
    exact congrArg (fun q => P (ix2 i q)) (Fin.ext (by simp only at hk ⊢; omega))

theorem entry_left (c : Dev nD) : V m c main_v0 = (truncf .bf16 (m (c, main_arg0) : FVec Ideal S4096x2048 .f32) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v10 = parts (truncf .bf16 (m (c, main_arg1) : FVec Ideal S2048x8192 .f32) bitsLt_bf16_f32) := by
  simp only [V, hostOps0, List.flatten_cons, List.flatten_nil, List.append_nil, List.cons_append, List.nil_append]
  after_results
  all_goals rfl

theorem idx : ∀ t : Fin cfg0.N, win0_0.index t = ![t.val / 8, 0] ∧ win0_1.index t = ![t.val % 8 / 2, 0, t.val % 2] ∧ win0_2.index t = ![t.val / 8, t.val % 8] ∧ win0_3.index t = ![t.val / 8, t.val % 8] :=
  (by decide +kernel : ∀ t : Fin grid0.N, _)

/-- The hidden values. -/
abbrev hidden (x : FVec Ideal S4096x2048 .f32) (u : FVec Ideal S2048x8192 .f32) : FVec Ideal S4096x8192 .f32 :=
  Host.dotGeneral Cert.Reference6Ideal.dot_S4096x2048_S2048x8192_S4096x8192_1_0_0_1_n_n none x u

/-- The squares of the positive parts. -/
abbrev squares (Z : FVec Ideal S4096x8192 .f32) : FVec Ideal S4096x8192 .bf16 :=
  truncf .bf16 (mulf (maximumf Z (broadcastInDim S4096x8192 ![] Cert.Reference6Ideal.Gen.bcast_S_S4096x8192 (constant Cert.Reference6Ideal.S_ .f32 0x00000000#32)))
    (maximumf Z (broadcastInDim S4096x8192 ![] Cert.Reference6Ideal.Gen.bcast_S_S4096x8192 (constant Cert.Reference6Ideal.S_ .f32 0x00000000#32)))) bitsLt_bf16_f32

/-- The product with the weights cut into four. -/
def tiled (A : FVec Ideal S4096x2048 .bf16) (B : FVec Ideal S4x2048x2048 .bf16) : FVec Ideal S4096x8192 .f32 :=
  fun q => ∑ k : Fin 2048, A (ix2 (q 0) k) * B (ix3 ⟨(q 1).1 / 2048, by have h : (q 1).1 < 8192 := (q 1).2; omega⟩ k ⟨(q 1).1 % 2048, by omega⟩)

theorem tiled_at (A B q) : tiled A B q = ∑ k : Fin 2048, A (ix2 (q 0) k) * B (ix3 ⟨(q 1).1 / 2048, by have h : (q 1).1 < 8192 := (q 1).2; omega⟩ k ⟨(q 1).1 % 2048, by omega⟩) := rfl

/-- A tile of hidden values the kernel writes is that tile of the product. -/
theorem point (c : Dev nD) (t : Fin cfg0.N) (y) : k0_pay1 (iblk m c 0 t) (iblk m c 1 t) y
    = tiled (V m c main_v0) (V m c main_v10) (((cfg0.win 2).blk t).view.emb y) := by
  refine Eq.trans ?_ (tiled_at _ _ _).symm
  pointwise [k0_pay1]
  blk_point [iblk, idx t]

/-- A tile of squares the kernel writes is that tile of the squares. -/
theorem point_squares (c : Dev nD) (t : Fin cfg0.N) (y) : k0_pay2 (iblk m c 0 t) (iblk m c 1 t) y
    = squares (tiled (V m c main_v0) (V m c main_v10)) (((cfg0.win 3).blk t).view.emb y) := by
  have h := point m c t y
  pointwise [k0_pay2, squares]
  rw [h]
  rfl

theorem tiled_eq (x : FVec Ideal S4096x2048 .f32) (u : FVec Ideal S2048x8192 .f32) :
    tiled (truncf .bf16 x bitsLt_bf16_f32) (parts (truncf .bf16 u bitsLt_bf16_f32)) = hidden x u := by
  funext q
  obtain ⟨i, j, rfl⟩ : ∃ i j, q = ix2 i j := ⟨q 0, q 1, funext fun k => by fin_cases k <;> rfl⟩
  refine (tiled_at _ _ _).trans ?_
  pointwise []
  refine Fin.sum_fin_congr fun k => ?_
  rw [parts_apply _ _ k _ j (Nat.div_add_mod _ _).symm]
  rfl

theorem final_hidden (c : Dev nD) : (dats m 0 c).arrAt 2 (cfgs 0).N = hidden (m (c, main_arg0)) (m (c, main_arg1)) := by
  have : (dats m 0 c).arrAt 2 (cfgs 0).N = tiled (V m c main_v0) (V m c main_v10) := by
    refine (dats m 0 c).arrAt_eq_of_covers 2 _ (by decide +kernel) fun t _ y => ?_
    blk_simp
    rw [after0_2]; frame_out
    exact point m c t y
  rw [this, entry_left, entry_right]
  exact tiled_eq _ _

theorem final_squares (c : Dev nD) : (dats m 0 c).arrAt 3 (cfgs 0).N = squares (hidden (m (c, main_arg0)) (m (c, main_arg1))) := by
  have : (dats m 0 c).arrAt 3 (cfgs 0).N = squares (tiled (V m c main_v0) (V m c main_v10)) := by
    refine (dats m 0 c).arrAt_eq_of_covers 3 _ (by decide +kernel) fun t _ y => ?_
    blk_simp
    rw [after0_3]; frame_out
    exact point_squares m c t y
  rw [this, entry_left, entry_right]
  exact congrArg squares (tiled_eq _ _)

theorem algebraic : Cert.algebraic_Kernel6Ideal_Reference6Ideal := by
  pair_intro
  · run_from Cert.Kernel6Ideal.Value.run_blocks m g
  · run_from Cert.Reference6Ideal.Value.run m' g'
    · exact (final_hidden m c).symm
    · exact (final_squares m c).symm

end Cert.Kernel6Ideal.Product

end
-- ==== Proof.DownForward.lean ====
module

public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Lib.Pipeline.ReadBack

/-!
The MLP's second product with the residual stream added: the kernel adds up four products, which are
one product over all columns.
-/

@[expose] public section

set_option maxRecDepth 16384

noncomputable section

open Idealize.ShloMosaic Idealize.ShloMosaic.TcCoe Idealize.ShloMosaic.Tactic Idealize.SL.Sem

namespace Cert.Kernel7Ideal.Product

open Cert.Kernel7Ideal Cert.Kernel7Ideal.Gen

variable (m : (ℓ : Loc nD τ sig) → Buf (Elt Ideal) ℓ)

/-- The squares of the hidden values' positive parts. -/
abbrev squares (x : FVec Ideal S4096x2048 .f32) (u : FVec Ideal S2048x8192 .f32) : FVec Ideal S4096x8192 .f32 :=
  mulf (maximumf (Host.dotGeneral dot_S4096x2048_S2048x8192_S4096x8192_1_0_0_1_n_n none x u) (broadcastInDim S4096x8192 ![] bcast_S_S4096x8192 (constant S_ .f32 0x00000000#32)))
    (maximumf (Host.dotGeneral dot_S4096x2048_S2048x8192_S4096x8192_1_0_0_1_n_n none x u) (broadcastInDim S4096x8192 ![] bcast_S_S4096x8192 (constant S_ .f32 0x00000000#32)))

theorem entry_left (c : Dev nD) : V m c main_v3 = (truncf .bf16 (squares (m (c, main_arg0)) (m (c, main_arg1))) bitsLt_bf16_f32 : FVec Ideal S4096x8192 .bf16) := by
  simp only [V, hostOps0, hostOps0_1, hostOps0_2, List.flatten_cons, List.flatten_nil, List.append_nil, List.cons_append, List.nil_append]
  after_results
  all_goals rfl

theorem entry_right (c : Dev nD) : V m c main_v4 = (truncf .bf16 (m (c, main_arg2) : FVec Ideal S8192x2048 .f32) bitsLt_bf16_f32 : FVec Ideal S8192x2048 .bf16) := by
  simp only [V, hostOps0, hostOps0_1, hostOps0_2, List.flatten_cons, List.flatten_nil, List.append_nil, List.cons_append, List.nil_append]
  after_results
  all_goals rfl

theorem entry_rest (c : Dev nD) : V m c main_arg3 = m (c, main_arg3) := by
  simp only [V, hostOps0, hostOps0_1, hostOps0_2, List.flatten_cons, List.flatten_nil, List.append_nil, List.cons_append, List.nil_append]
  after_results
  all_goals rfl

theorem idx : ∀ t : Fin cfg0.N, win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, _)

/-- One of the 4 products, at an index of the tile. -/
def term (c : Dev nD) (t : Fin cfg0.N) (i : Fin 1024) (j : Fin 1024) : EReal :=
  ∑ k : Fin 2048, (show FVec Ideal S1024x2048 .bf16 from iblk m c 0 t) (ix2 i k) * (show FVec Ideal S2048x1024 .bf16 from iblk m c 1 t) (ix2 k j)

theorem first_apply (A : FVec Ideal S1024x2048 .bf16) (B : FVec Ideal S2048x1024 .bf16) (i : Fin 1024) (j : Fin 1024) :
    k0_pay2 (F := Ideal) A B (ix2 i j) = ∑ k : Fin 2048, A (ix2 i k) * B (ix2 k j) := by
  pointwise [k0_pay2, k0_pay1]

theorem next_apply (A : FVec Ideal S1024x2048 .bf16) (B : FVec Ideal S2048x1024 .bf16) (Z : FVec Ideal S1024x1024 .f32) (i : Fin 1024) (j : Fin 1024) :
    k0_pay3 (F := Ideal) A B Z (ix2 i j) = Z (ix2 i j) + ∑ k : Fin 2048, A (ix2 i k) * B (ix2 k j) := by
  pointwise [k0_pay3, k0_pay1]

theorem carried_A (c : Dev nD) (t : Fin cfg0.N) (h : t.val % 4 = 0) (i : Fin 1024) (j : Fin 1024) :
    (outsAt0 m c t.val t.isLt).2 (ix2 i j) = term m c t i j := by
  rw [outsAt0_A m c t h (by omega) (by omega)]
  frame_out
  exact first_apply _ _ i j

theorem carried_B (c : Dev nD) (t : Fin cfg0.N) (h : ¬ t.val % 4 = 0) (i : Fin 1024) (j : Fin 1024) :
    (outsAt0 m c t.val t.isLt).2 (ix2 i j) = (outsAt0 m c (t.val - 1) (by omega)).2 (ix2 i j) + term m c t i j := by
  by_cases h3 : t.val % 4 = 3
  · rw [outsAt0_C m c t h (by omega) h3]
    frame_out
    simp only [read_unread_whole]
    exact next_apply _ _ _ i j
  · rw [outsAt0_B m c t h (by omega) h3]
    frame_out
    simp only [read_unread_whole]
    exact next_apply _ _ _ i j

theorem written (c : Dev nD) (t : Fin cfg0.N) (h : t.val % 4 = 3) (i : Fin 1024) (j : Fin 1024) :
    (outsAt0 m c t.val t.isLt).1 (ix2 i j) = (outsAt0 m c t.val t.isLt).2 (ix2 i j) + (show FVec Ideal S1024x1024 .f32 from iblk m c 2 t) (ix2 i j) := by
  rw [outsAt0_C m c t (by omega) (by omega) h]
  frame_out
  pointwise [k0_pay4]

theorem summed (c : Dev nD) (t : Fin cfg0.N) (h : t.val % 4 = 3) (i : Fin 1024) (j : Fin 1024) :
    (outsAt0 m c t.val t.isLt).2 (ix2 i j) = ∑ s : Fin 4, term m c ⟨4 * (t.val / 4) + s.val, Pipeline.run_point_lt_of_flush t h s⟩ i j :=
  (Pipeline.eq_sum_fin_of_reset_step_apply_of_flush (M := EReal) (ι := Fin 1024 × Fin 1024)
    (fun n hn p => (outsAt0 m c n hn).2 (ix2 p.1 p.2)) 4 (fun _ => 0) (fun t p => term m c t p.1 p.2)
    (fun t h p => (carried_A m c t h p.1 p.2).trans (zero_add _).symm) (fun t h p => carried_B m c t h p.1 p.2) t h (i, j)).trans (zero_add _)

theorem term_eq (c : Dev nD) (t : Fin cfg0.N) (q : Fin 4) (b : Fin 4) (e : Fin 2) (hq : t.val % 4 = q.1) (hb : t.val / 8 = b.1) (he : t.val / 4 % 2 = e.1) (i : Fin 1024) (j : Fin 1024) :
    term m c t i j = ∑ k : Fin 2048, (show FVec Ideal S4096x8192 .bf16 from V m c main_v3) (ix2 (⟨b.1 * 1024 + i.1, by omega⟩ : Fin 4096) (⟨q.1 * 2048 + k.1, by omega⟩ : Fin 8192))
      * (show FVec Ideal S8192x2048 .bf16 from V m c main_v4) (ix2 (⟨q.1 * 2048 + k.1, by omega⟩ : Fin 8192) (⟨e.1 * 1024 + j.1, by omega⟩ : Fin 2048)) := by
  unfold term
  blk_point [iblk, idx t]

/-- The product of the squares with the weights, and the residual stream. -/
def tiled (A : FVec Ideal S4096x8192 .bf16) (B : FVec Ideal S8192x2048 .bf16) (X : FVec Ideal S4096x2048 .f32) : FVec Ideal S4096x2048 .f32 :=
  fun q => (∑ k : Fin 8192, A (ix2 (q 0) k) * B (ix2 k (q 1))) + X q

theorem tiled_at (A B X q) : tiled A B X q = (∑ k : Fin 8192, A (ix2 (q 0) k) * B (ix2 k (q 1))) + X q := rfl

theorem point_product (c : Dev nD) (t : Fin cfg0.N) (h : t.val % 4 = 3) (A : FVec Ideal S4096x8192 .bf16) (B : FVec Ideal S8192x2048 .bf16)
    (hA : V m c main_v3 = A) (hB : V m c main_v4 = B) (i : Fin 1024) (j : Fin 1024) (lI : t.val / 8 * 1024 + i.1 < 4096) (lJ : t.val / 4 % 2 * 1024 + j.1 < 2048) :
    (outsAt0 m c t.val t.isLt).2 (ix2 i j) = ∑ k : Fin 8192, A (ix2 ⟨t.val / 8 * 1024 + i.1, lI⟩ k) * B (ix2 k ⟨t.val / 4 % 2 * 1024 + j.1, lJ⟩) := by
  have ht : t.val < 32 := t.isLt
  refine (summed m c t h i j).trans ?_
  refine Eq.trans (Fin.sum_fin_congr fun s => ?_) (Fin.sum_mul_add_congr (S := 4) (n := 2048) (L := 8192)
    (f := fun k => A (ix2 ⟨t.val / 8 * 1024 + i.1, lI⟩ k) * B (ix2 k ⟨t.val / 4 % 2 * 1024 + j.1, lJ⟩))
    (F := fun s k => A (ix2 ⟨t.val / 8 * 1024 + i.1, lI⟩ ⟨s.1 * 2048 + k.1, by omega⟩)
      * B (ix2 ⟨s.1 * 2048 + k.1, by omega⟩ ⟨t.val / 4 % 2 * 1024 + j.1, lJ⟩)) (fun s k hl => rfl))
  have hs := s.2
  refine (term_eq m c _ s ⟨t.val / 8, by omega⟩ ⟨t.val / 4 % 2, by omega⟩ (by simp only; omega) (by simp only; omega) (by simp only; omega) i j).trans ?_
  rw [hA, hB]

theorem rest_eq (c : Dev nD) (t : Fin cfg0.N) (i : Fin 1024) (j : Fin 1024) (lI : t.val / 8 * 1024 + i.1 < 4096) (lJ : t.val / 4 % 2 * 1024 + j.1 < 2048) :
    (show FVec Ideal S1024x1024 .f32 from iblk m c 2 t) (ix2 i j) = (show FVec Ideal S4096x2048 .f32 from V m c main_arg3) (ix2 ⟨t.val / 8 * 1024 + i.1, lI⟩ ⟨t.val / 4 % 2 * 1024 + j.1, lJ⟩) := by
  blk_point [iblk, idx t]

/-- A tile the kernel writes is that tile of the whole. -/
theorem point (c : Dev nD) (t : Fin cfg0.N) (h : t.val % 4 = 3) (i : Fin 1024) (j : Fin 1024) :
    (outsAt0 m c t.val t.isLt).1 (ix2 i j) = tiled (V m c main_v3) (V m c main_v4) (V m c main_arg3) (((cfg0.win 3).blk t).view.emb (ix2 i j)) := by
  have ht : t.val < 32 := t.isLt
  have e : ((cfg0.win 3).blk t).view.emb (ix2 i j) = ix2 (⟨t.val / 8 * 1024 + i.1, by omega⟩ : Fin 4096) (⟨t.val / 4 % 2 * 1024 + j.1, by omega⟩ : Fin 2048) := by
    blk_ext [idx t]
  refine Eq.trans ?_ (congrArg (tiled (V m c main_v3) (V m c main_v4) (V m c main_arg3)) e.symm)
  exact (written m c t h i j).trans (congrArg₂ (· + ·) (point_product m c t h _ _ rfl rfl i j (by omega) (by omega)) (rest_eq m c t i j (by omega) (by omega)))

theorem kernel_eq (c : Dev nD) : (dats m 0 c).arrAt 3 (cfgs 0).N = tiled (V m c main_v3) (V m c main_v4) (V m c main_arg3) := by
  refine (dats m 0 c).arrAt_eq_of_covers 3 _ (by decide +kernel) fun t hf y => ?_
  blk_simp
  rw [after0_3]
  obtain ⟨i, j, rfl⟩ : ∃ (i : Fin 1024) (j : Fin 1024), y = ix2 i j := ⟨y 0, y 1, funext fun k => by fin_cases k <;> rfl⟩
  exact point m c t ((flush0_3 t).mp hf) i j

/-- The reference's result. -/
abbrev result (H : FVec Ideal S4096x2048 .f32) (w : FVec Ideal S8192x2048 .f32) (A : FVec Ideal S4096x8192 .f32) : FVec Ideal S4096x2048 .f32 :=
  addf H (Host.dotGeneral Cert.Reference7Ideal.dot_S4096x8192_S8192x2048_S4096x2048_1_0_0_1_n_n none A w)

theorem tiled_eq (H : FVec Ideal S4096x2048 .f32) (w : FVec Ideal S8192x2048 .f32) (A : FVec Ideal S4096x8192 .f32) :
    tiled (truncf .bf16 A bitsLt_bf16_f32) (truncf .bf16 w bitsLt_bf16_f32) H = result H w A := by
  funext q
  obtain ⟨i, j, rfl⟩ : ∃ i j, q = ix2 i j := ⟨q 0, q 1, funext fun k => by fin_cases k <;> rfl⟩
  refine (tiled_at _ _ _ _).trans ?_
  pointwise []
  exact add_comm _ _

theorem final (c : Dev nD) : (dats m 0 c).arrAt 3 (cfgs 0).N
    = result (m (c, main_arg3)) (m (c, main_arg2)) (squares (m (c, main_arg0)) (m (c, main_arg1))) := by
  rw [kernel_eq, entry_left, entry_right, entry_rest]
  exact tiled_eq _ _ _

theorem algebraic : Cert.algebraic_Kernel7Ideal_Reference7Ideal := by
  pair_intro
  · run_from Cert.Kernel7Ideal.Value.run_blocks m g
  · run_from Cert.Reference7Ideal.Value.run m' g'
    exact (final m c).symm

end Cert.Kernel7Ideal.Product

end
-- ==== Proof.LowRankRows.lean ====
module

public import proofs.«01_k».proof.Proof.Gen.Kernel17Ideal.Value
public import proofs.«01_k».proof.Proof.Gen.Reference17Ideal.Run
public import proofs.«01_k».proof.Defs
public import Idealize.ShloMosaic.Lib.Pipeline.ValueKit
public import Idealize.ShloMosaic.Lib.Pipeline.ReadBack

/-!
The gradient of the keys' and values' low-rank rows: the kernel adds up two products, which are one
product over all columns.
-/

@[expose] public section

set_option maxRecDepth 16384

noncomputable section

open Idealize.ShloMosaic Idealize.ShloMosaic.TcCoe Idealize.ShloMosaic.Tactic Idealize.SL.Sem

namespace Cert.Kernel17Ideal.Product

open Cert.Kernel17Ideal Cert.Kernel17Ideal.Gen

variable (m : (ℓ : Loc nD τ sig) → Buf (Elt Ideal) ℓ)

theorem entry_left (c : Dev nD) : V m c main_v0 = (truncf .bf16 (m (c, main_arg2) : FVec Ideal S4096x4096 .f32) bitsLt_bf16_f32 : FVec Ideal S4096x4096 .bf16) := by
  simp only [V, hostOps0, List.flatten_cons, List.flatten_nil, List.append_nil, List.cons_append, List.nil_append]
  after_results
  all_goals rfl

theorem entry_right (c : Dev nD) : V m c main_v1 = (truncf .bf16 (m (c, main_arg1) : FVec Ideal S512x4096 .f32) bitsLt_bf16_f32 : FVec Ideal S512x4096 .bf16) := by
  simp only [V, hostOps0, List.flatten_cons, List.flatten_nil, List.append_nil, List.cons_append, List.nil_append]
  after_results
  all_goals rfl

theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- One of the 2 products, at an index of the tile. -/
def term (c : Dev nD) (t : Fin cfg0.N) (i : Fin 1024) (j : Fin 512) : EReal :=
  ∑ k : Fin 2048, (show FVec Ideal S1024x2048 .bf16 from iblk m c 0 t) (ix2 i k) * (show FVec Ideal S512x2048 .bf16 from iblk m c 1 t) (ix2 j k)

theorem first_apply (A : FVec Ideal S1024x2048 .bf16) (B : FVec Ideal S512x2048 .bf16) (i : Fin 1024) (j : Fin 512) :
    k0_pay2 (F := Ideal) A B (ix2 i j) = ∑ k : Fin 2048, A (ix2 i k) * B (ix2 j k) := by
  pointwise [k0_pay2, k0_pay1]

theorem next_apply (A : FVec Ideal S1024x2048 .bf16) (B : FVec Ideal S512x2048 .bf16) (Z : FVec Ideal S1024x512 .f32) (i : Fin 1024) (j : Fin 512) :
    k0_pay3 (F := Ideal) A B Z (ix2 i j) = Z (ix2 i j) + ∑ k : Fin 2048, A (ix2 i k) * B (ix2 j k) := by
  pointwise [k0_pay3, k0_pay1]

theorem carried_A (c : Dev nD) (t : Fin cfg0.N) (h : t.val % 2 = 0) (i : Fin 1024) (j : Fin 512) :
    (outsAt0 m c t.val t.isLt).2 (ix2 i j) = term m c t i j := by
  rw [outsAt0_A m c t h (by omega) (by omega)]
  frame_out
  exact first_apply _ _ i j

theorem carried_B (c : Dev nD) (t : Fin cfg0.N) (h : ¬ t.val % 2 = 0) (i : Fin 1024) (j : Fin 512) :
    (outsAt0 m c t.val t.isLt).2 (ix2 i j) = (outsAt0 m c (t.val - 1) (by omega)).2 (ix2 i j) + term m c t i j := by
  rw [outsAt0_B m c t h (by omega) (by omega)]
  frame_out
  simp only [read_unread_whole]
  exact next_apply _ _ _ i j

theorem written (c : Dev nD) (t : Fin cfg0.N) (h : t.val % 2 = 1) (i : Fin 1024) (j : Fin 512) :
    (outsAt0 m c t.val t.isLt).1 (ix2 i j) = (outsAt0 m c t.val t.isLt).2 (ix2 i j) := by
  rw [outsAt0_B m c t (by omega) (by omega) (by omega)]
  frame_out

theorem summed (c : Dev nD) (t : Fin cfg0.N) (h : t.val % 2 = 1) (i : Fin 1024) (j : Fin 512) :
    (outsAt0 m c t.val t.isLt).2 (ix2 i j) = ∑ s : Fin 2, term m c ⟨2 * (t.val / 2) + s.val, Pipeline.run_point_lt_of_flush t h s⟩ i j :=
  (Pipeline.eq_sum_fin_of_reset_step_apply_of_flush (M := EReal) (ι := Fin 1024 × Fin 512)
    (fun n hn p => (outsAt0 m c n hn).2 (ix2 p.1 p.2)) 2 (fun _ => 0) (fun t p => term m c t p.1 p.2)
    (fun t h p => (carried_A m c t h p.1 p.2).trans (zero_add _).symm) (fun t h p => carried_B m c t h p.1 p.2) t h (i, j)).trans (zero_add _)

theorem term_eq (c : Dev nD) (t : Fin cfg0.N) (q : Fin 2) (b : Fin 4) (hq : t.val % 2 = q.1) (hb : t.val / 2 = b.1) (i : Fin 1024) (j : Fin 512) :
    term m c t i j = ∑ k : Fin 2048, (show FVec Ideal S4096x4096 .bf16 from V m c main_v0) (ix2 (⟨b.1 * 1024 + i.1, by omega⟩ : Fin 4096) (⟨q.1 * 2048 + k.1, by omega⟩ : Fin 4096))
      * (show FVec Ideal S512x4096 .bf16 from V m c main_v1) (ix2 j (⟨q.1 * 2048 + k.1, by omega⟩ : Fin 4096)) := by
  unfold term
  blk_point [iblk, idx t]

/-- The product of the gradient with the rows of the weights. -/
def tiled (A : FVec Ideal S4096x4096 .bf16) (B : FVec Ideal S512x4096 .bf16) : FVec Ideal S4096x512 .f32 :=
  fun q => (∑ k : Fin 4096, A (ix2 (q 0) k) * B (ix2 (q 1) k))

theorem tiled_at (A B q) : tiled A B q = (∑ k : Fin 4096, A (ix2 (q 0) k) * B (ix2 (q 1) k)) := rfl

theorem point_product (c : Dev nD) (t : Fin cfg0.N) (h : t.val % 2 = 1) (A : FVec Ideal S4096x4096 .bf16) (B : FVec Ideal S512x4096 .bf16)
    (hA : V m c main_v0 = A) (hB : V m c main_v1 = B) (i : Fin 1024) (j : Fin 512) (lI : t.val / 2 * 1024 + i.1 < 4096) :
    (outsAt0 m c t.val t.isLt).2 (ix2 i j) = ∑ k : Fin 4096, A (ix2 ⟨t.val / 2 * 1024 + i.1, lI⟩ k) * B (ix2 j k) := by
  have ht : t.val < 8 := t.isLt
  refine (summed m c t h i j).trans ?_
  refine Eq.trans (Fin.sum_fin_congr fun s => ?_) (Fin.sum_mul_add_congr (S := 2) (n := 2048) (L := 4096)
    (f := fun k => A (ix2 ⟨t.val / 2 * 1024 + i.1, lI⟩ k) * B (ix2 j k))
    (F := fun s k => A (ix2 ⟨t.val / 2 * 1024 + i.1, lI⟩ ⟨s.1 * 2048 + k.1, by omega⟩)
      * B (ix2 j ⟨s.1 * 2048 + k.1, by omega⟩)) (fun s k hl => rfl))
  have hs := s.2
  refine (term_eq m c _ s ⟨t.val / 2, by omega⟩ (by simp only; omega) (by simp only; omega) i j).trans ?_
  rw [hA, hB]

/-- A tile the kernel writes is that tile of the whole. -/
theorem point (c : Dev nD) (t : Fin cfg0.N) (h : t.val % 2 = 1) (i : Fin 1024) (j : Fin 512) :
    (outsAt0 m c t.val t.isLt).1 (ix2 i j) = tiled (V m c main_v0) (V m c main_v1) (((cfg0.win 2).blk t).view.emb (ix2 i j)) := by
  have ht : t.val < 8 := t.isLt
  have e : ((cfg0.win 2).blk t).view.emb (ix2 i j) = ix2 (⟨t.val / 2 * 1024 + i.1, by omega⟩ : Fin 4096) (j : Fin 512) := by
    blk_ext [idx t]
  refine Eq.trans ?_ (congrArg (tiled (V m c main_v0) (V m c main_v1)) e.symm)
  exact (written m c t h i j).trans (point_product m c t h _ _ rfl rfl i j (by omega))

theorem kernel_eq (c : Dev nD) : (dats m 0 c).arrAt 2 (cfgs 0).N = tiled (V m c main_v0) (V m c main_v1) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, funext fun k => by fin_cases k <;> rfl⟩
  exact point m c t ((flush0_2 t).mp hf) i j

/-- The reference's result. -/
abbrev result (G : FVec Ideal S4096x4096 .f32) (w : FVec Ideal S512x4096 .f32) : FVec Ideal S4096x512 .f32 :=
  Host.dotGeneral Cert.Reference17Ideal.dot_S4096x4096_S512x4096_S4096x512_1_1_0_0_n_n none G w

theorem tiled_eq (G : FVec Ideal S4096x4096 .f32) (w : FVec Ideal S512x4096 .f32) :
    tiled (truncf .bf16 G bitsLt_bf16_f32) (truncf .bf16 w bitsLt_bf16_f32) = result G w := by
  funext q
  obtain ⟨i, j, rfl⟩ : ∃ i j, q = ix2 i j := ⟨q 0, q 1, funext fun k => by fin_cases k <;> rfl⟩
  refine (tiled_at _ _ _).trans ?_
  pointwise []

theorem final (c : Dev nD) : (dats m 0 c).arrAt 2 (cfgs 0).N = result (m (c, main_arg2)) (m (c, main_arg1)) := by
  rw [kernel_eq, entry_left, entry_right]
  exact tiled_eq _ _

theorem algebraic : Cert.algebraic_Kernel17Ideal_Reference17Ideal := by
  pair_intro
  · run_from Cert.Kernel17Ideal.Value.run_blocks m g
  · run_from Cert.Reference17Ideal.Value.run m' g'
    exact (final m c).symm

end Cert.Kernel17Ideal.Product

end
-- ==== Proof.QueryRows.lean ====
module

public import proofs.«01_k».proof.Proof.Gen.Kernel15Ideal.Value
public import proofs.«01_k».proof.Proof.Gen.Reference15Ideal.Run
public import proofs.«01_k».proof.Defs
public import Idealize.ShloMosaic.Lib.Pipeline.ValueKit
public import Idealize.ShloMosaic.Lib.Pipeline.ReadBack

/-!
The gradient of the queries' low-rank rows: the kernel adds up two products over heads widened by
zeros, which are one product over the heads themselves.
-/

@[expose] public section

set_option maxRecDepth 16384

noncomputable section

open Idealize.ShloMosaic Idealize.ShloMosaic.TcCoe Idealize.ShloMosaic.Tactic Idealize.SL.Sem

namespace Cert.Kernel15Ideal.Product

open Cert.Kernel15Ideal Cert.Kernel15Ideal.Gen

variable (m : (ℓ : Loc nD τ sig) → Buf (Elt Ideal) ℓ)

theorem zero_pad : (FloatOps.sitofp FTy.f32 0#32 : Ideal .f32) = 0 := by
  simp [FloatOps.sitofp]

/-- A row of heads of 192 columns, each widened by zeros to 256. -/
abbrev widened4096 (X : FVec Ideal S4096x3072 .f32) : FVec Ideal S4096x4096 .bf16 :=
  truncf .bf16 (shapeCast S4096x4096 (pad S4096x16x256 ![0, 0, 0] ![0, 0, 64] ![0, 0, 0] (shapeCast S4096x16x192 X shapeCasts_S4096x3072_S4096x16x192)
    (sitofp .f32 (constantI S_ 32 0#32) : FVec Ideal S_ .f32) pads_S4096x16x192_S4096x16x256_000_000_0640 h_S_) shapeCasts_S4096x16x256_S4096x4096) bitsLt_bf16_f32

theorem widened4096_low (X : FVec Ideal S4096x3072 .f32) (i : Fin 4096) (h : Fin 16) (d : Fin 192) (l : h.1 * 256 + d.1 < 4096) :
    widened4096 X (ix2 i ⟨h.1 * 256 + d.1, l⟩) = X (ix2 i ⟨h.1 * 192 + d.1, by omega⟩) := by
  have e : (h.1 * 256 + d.1) % 256 = d.1 := by omega
  pointwise []
  simp only [e]
  rw [dif_pos d.2]

theorem widened4096_high (X : FVec Ideal S4096x3072 .f32) (i : Fin 4096) (h : Fin 16) (d : Fin 64) (l : h.1 * 256 + (192 + d.1) < 4096) :
    widened4096 X (ix2 i ⟨h.1 * 256 + (192 + d.1), l⟩) = 0 := by
  pointwise []
  rw [dif_neg (by omega)]
  exact zero_pad

/-- A row of heads of 192 columns, each widened by zeros to 256. -/
abbrev widened512 (X : FVec Ideal S512x3072 .f32) : FVec Ideal S512x4096 .bf16 :=
  truncf .bf16 (shapeCast S512x4096 (pad S512x16x256 ![0, 0, 0] ![0, 0, 64] ![0, 0, 0] (shapeCast S512x16x192 X shapeCasts_S512x3072_S512x16x192)
    (sitofp .f32 (constantI S_ 32 0#32) : FVec Ideal S_ .f32) pads_S512x16x192_S512x16x256_000_000_0640 h_S_) shapeCasts_S512x16x256_S512x4096) bitsLt_bf16_f32

theorem widened512_low (X : FVec Ideal S512x3072 .f32) (i : Fin 512) (h : Fin 16) (d : Fin 192) (l : h.1 * 256 + d.1 < 4096) :
    widened512 X (ix2 i ⟨h.1 * 256 + d.1, l⟩) = X (ix2 i ⟨h.1 * 192 + d.1, by omega⟩) := by
  have e : (h.1 * 256 + d.1) % 256 = d.1 := by omega
  pointwise []
  simp only [e]
  rw [dif_pos d.2]

theorem widened512_high (X : FVec Ideal S512x3072 .f32) (i : Fin 512) (h : Fin 16) (d : Fin 64) (l : h.1 * 256 + (192 + d.1) < 4096) :
    widened512 X (ix2 i ⟨h.1 * 256 + (192 + d.1), l⟩) = 0 := by
  pointwise []
  rw [dif_neg (by omega)]
  exact zero_pad

theorem entry_left (c : Dev nD) : V m c main_v3 = widened4096 (m (c, main_arg2)) := by
  simp only [V, hostOps0, hostOps0_1, hostOps0_2, hostOps0_3, hostOps0_4, List.flatten_cons, List.flatten_nil, List.append_nil, List.cons_append, List.nil_append]
  after_results
  all_goals rfl

theorem entry_right (c : Dev nD) : V m c main_v7 = widened512 (m (c, main_arg1)) := by
  simp only [V, hostOps0, hostOps0_1, hostOps0_2, hostOps0_3, hostOps0_4, List.flatten_cons, List.flatten_nil, List.append_nil, List.cons_append, List.nil_append]
  after_results
  all_goals rfl

theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- One of the 2 products, at an index of the tile. -/
def term (c : Dev nD) (t : Fin cfg0.N) (i : Fin 1024) (j : Fin 512) : EReal :=
  ∑ k : Fin 2048, (show FVec Ideal S1024x2048 .bf16 from iblk m c 0 t) (ix2 i k) * (show FVec Ideal S512x2048 .bf16 from iblk m c 1 t) (ix2 j k)

theorem first_apply (A : FVec Ideal S1024x2048 .bf16) (B : FVec Ideal S512x2048 .bf16) (i : Fin 1024) (j : Fin 512) :
    k0_pay2 (F := Ideal) A B (ix2 i j) = ∑ k : Fin 2048, A (ix2 i k) * B (ix2 j k) := by
  pointwise [k0_pay2, k0_pay1]

theorem next_apply (A : FVec Ideal S1024x2048 .bf16) (B : FVec Ideal S512x2048 .bf16) (Z : FVec Ideal S1024x512 .f32) (i : Fin 1024) (j : Fin 512) :
    k0_pay3 (F := Ideal) A B Z (ix2 i j) = Z (ix2 i j) + ∑ k : Fin 2048, A (ix2 i k) * B (ix2 j k) := by
  pointwise [k0_pay3, k0_pay1]

theorem carried_A (c : Dev nD) (t : Fin cfg0.N) (h : t.val % 2 = 0) (i : Fin 1024) (j : Fin 512) :
    (outsAt0 m c t.val t.isLt).2 (ix2 i j) = term m c t i j := by
  rw [outsAt0_A m c t h (by omega) (by omega)]
  frame_out
  exact first_apply _ _ i j

theorem carried_B (c : Dev nD) (t : Fin cfg0.N) (h : ¬ t.val % 2 = 0) (i : Fin 1024) (j : Fin 512) :
    (outsAt0 m c t.val t.isLt).2 (ix2 i j) = (outsAt0 m c (t.val - 1) (by omega)).2 (ix2 i j) + term m c t i j := by
  rw [outsAt0_B m c t h (by omega) (by omega)]
  frame_out
  simp only [read_unread_whole]
  exact next_apply _ _ _ i j

theorem written (c : Dev nD) (t : Fin cfg0.N) (h : t.val % 2 = 1) (i : Fin 1024) (j : Fin 512) :
    (outsAt0 m c t.val t.isLt).1 (ix2 i j) = (outsAt0 m c t.val t.isLt).2 (ix2 i j) := by
  rw [outsAt0_B m c t (by omega) (by omega) (by omega)]
  frame_out

theorem summed (c : Dev nD) (t : Fin cfg0.N) (h : t.val % 2 = 1) (i : Fin 1024) (j : Fin 512) :
    (outsAt0 m c t.val t.isLt).2 (ix2 i j) = ∑ s : Fin 2, term m c ⟨2 * (t.val / 2) + s.val, Pipeline.run_point_lt_of_flush t h s⟩ i j :=
  (Pipeline.eq_sum_fin_of_reset_step_apply_of_flush (M := EReal) (ι := Fin 1024 × Fin 512)
    (fun n hn p => (outsAt0 m c n hn).2 (ix2 p.1 p.2)) 2 (fun _ => 0) (fun t p => term m c t p.1 p.2)
    (fun t h p => (carried_A m c t h p.1 p.2).trans (zero_add _).symm) (fun t h p => carried_B m c t h p.1 p.2) t h (i, j)).trans (zero_add _)

theorem term_eq (c : Dev nD) (t : Fin cfg0.N) (q : Fin 2) (b : Fin 4) (hq : t.val % 2 = q.1) (hb : t.val / 2 = b.1) (i : Fin 1024) (j : Fin 512) :
    term m c t i j = ∑ k : Fin 2048, (show FVec Ideal S4096x4096 .bf16 from V m c main_v3) (ix2 (⟨b.1 * 1024 + i.1, by omega⟩ : Fin 4096) (⟨q.1 * 2048 + k.1, by omega⟩ : Fin 4096))
      * (show FVec Ideal S512x4096 .bf16 from V m c main_v7) (ix2 j (⟨q.1 * 2048 + k.1, by omega⟩ : Fin 4096)) := by
  unfold term
  blk_point [iblk, idx t]

/-- The product of the gradient with the rows of the weights. -/
def tiled (A : FVec Ideal S4096x4096 .bf16) (B : FVec Ideal S512x4096 .bf16) : FVec Ideal S4096x512 .f32 :=
  fun q => (∑ k : Fin 4096, A (ix2 (q 0) k) * B (ix2 (q 1) k))

theorem tiled_at (A B q) : tiled A B q = (∑ k : Fin 4096, A (ix2 (q 0) k) * B (ix2 (q 1) k)) := rfl

theorem point_product (c : Dev nD) (t : Fin cfg0.N) (h : t.val % 2 = 1) (A : FVec Ideal S4096x4096 .bf16) (B : FVec Ideal S512x4096 .bf16)
    (hA : V m c main_v3 = A) (hB : V m c main_v7 = B) (i : Fin 1024) (j : Fin 512) (lI : t.val / 2 * 1024 + i.1 < 4096) :
    (outsAt0 m c t.val t.isLt).2 (ix2 i j) = ∑ k : Fin 4096, A (ix2 ⟨t.val / 2 * 1024 + i.1, lI⟩ k) * B (ix2 j k) := by
  have ht : t.val < 8 := t.isLt
  refine (summed m c t h i j).trans ?_
  refine Eq.trans (Fin.sum_fin_congr fun s => ?_) (Fin.sum_mul_add_congr (S := 2) (n := 2048) (L := 4096)
    (f := fun k => A (ix2 ⟨t.val / 2 * 1024 + i.1, lI⟩ k) * B (ix2 j k))
    (F := fun s k => A (ix2 ⟨t.val / 2 * 1024 + i.1, lI⟩ ⟨s.1 * 2048 + k.1, by omega⟩)
      * B (ix2 j ⟨s.1 * 2048 + k.1, by omega⟩)) (fun s k hl => rfl))
  have hs := s.2
  refine (term_eq m c _ s ⟨t.val / 2, by omega⟩ (by simp only; omega) (by simp only; omega) i j).trans ?_
  rw [hA, hB]

/-- A tile the kernel writes is that tile of the whole. -/
theorem point (c : Dev nD) (t : Fin cfg0.N) (h : t.val % 2 = 1) (i : Fin 1024) (j : Fin 512) :
    (outsAt0 m c t.val t.isLt).1 (ix2 i j) = tiled (V m c main_v3) (V m c main_v7) (((cfg0.win 2).blk t).view.emb (ix2 i j)) := by
  have ht : t.val < 8 := t.isLt
  have e : ((cfg0.win 2).blk t).view.emb (ix2 i j) = ix2 (⟨t.val / 2 * 1024 + i.1, by omega⟩ : Fin 4096) (j : Fin 512) := by
    blk_ext [idx t]
  refine Eq.trans ?_ (congrArg (tiled (V m c main_v3) (V m c main_v7)) e.symm)
  exact (written m c t h i j).trans (point_product m c t h _ _ rfl rfl i j (by omega))

theorem kernel_eq (c : Dev nD) : (dats m 0 c).arrAt 2 (cfgs 0).N = tiled (V m c main_v3) (V m c main_v7) := by
  refine (dats m 0 c).arrAt_eq_of_covers 2 _ (by decide +kernel) fun t hf y => ?_
  blk_simp
  rw [after0_2]
  obtain ⟨i, j, rfl⟩ : ∃ (i : Fin 1024) (j : Fin 512), y = ix2 i j := ⟨y 0, y 1, funext fun k => by fin_cases k <;> rfl⟩
  exact point m c t ((flush0_2 t).mp hf) i j

/-- A sum over the widened heads, of a function that is zero beyond the heads' columns, is the sum over the heads. -/
theorem sum_heads (f : Fin 4096 → EReal) (g : Fin 3072 → EReal)
    (low : ∀ (h : Fin 16) (d : Fin 192), f ⟨h.1 * 256 + d.1, by omega⟩ = g ⟨h.1 * 192 + d.1, by omega⟩)
    (high : ∀ (h : Fin 16) (d : Fin 64), f ⟨h.1 * 256 + (192 + d.1), by omega⟩ = 0) : ∑ k, f k = ∑ k, g k := by
  refine (Fin.sum_mul_add_congr (S := 16) (n := 256) (L := 4096) (f := f) (F := fun h d => f ⟨h.1 * 256 + d.1, by omega⟩) (fun _ _ _ => rfl)).symm.trans ?_
  refine Eq.trans (Fin.sum_fin_congr fun h => ?_) (Fin.sum_mul_add_congr (S := 16) (n := 192) (L := 3072) (f := g) (F := fun h d => g ⟨h.1 * 192 + d.1, by omega⟩) (fun _ _ _ => rfl))
  refine (Fin.sum_univ_add (a := 192) (b := 64) fun d : Fin 256 => f ⟨h.1 * 256 + d.1, by omega⟩).trans ?_
  refine (congrArg₂ (· + ·) (Fin.sum_fin_congr fun d => low h d) ((Fin.sum_fin_congr fun d => high h d).trans Finset.sum_const_zero)).trans (add_zero _)

/-- The reference's result. -/
abbrev result (G : FVec Ideal S4096x3072 .f32) (w : FVec Ideal S512x3072 .f32) : FVec Ideal S4096x512 .f32 :=
  Host.dotGeneral Cert.Reference15Ideal.dot_S4096x3072_S512x3072_S4096x512_1_1_0_0_n_n none G w

theorem tiled_eq (G : FVec Ideal S4096x3072 .f32) (w : FVec Ideal S512x3072 .f32) : tiled (widened4096 G) (widened512 w) = result G w := by
  funext q
  obtain ⟨i, j, rfl⟩ : ∃ i j, q = ix2 i j := ⟨q 0, q 1, funext fun k => by fin_cases k <;> rfl⟩
  refine (tiled_at _ _ _).trans ?_
  refine (sum_heads _ (fun k => G (ix2 i k) * w (ix2 j k)) (fun h d => ?_) (fun h d => ?_)).trans ?_
  · exact congrArg₂ (· * ·) (widened4096_low G i h d _) (widened512_low w j h d _)
  · exact (congrArg₂ (· * ·) (widened4096_high G i h d _) (widened512_high w j h d _)).trans (mul_zero _)
  · pointwise []

theorem final (c : Dev nD) : (dats m 0 c).arrAt 2 (cfgs 0).N = result (m (c, main_arg2)) (m (c, main_arg1)) := by
  rw [kernel_eq, entry_left, entry_right]
  exact tiled_eq _ _

theorem algebraic : Cert.algebraic_Kernel15Ideal_Reference15Ideal := by
  pair_intro
  · run_from Cert.Kernel15Ideal.Value.run_blocks m g
  · run_from Cert.Reference15Ideal.Value.run m' g'
    exact (final m c).symm

end Cert.Kernel15Ideal.Product

end
-- ==== Proof.InInput.lean ====
module

public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.Pipeline.ReadBack

/-!
The gradient of the input rows: the kernel adds up four products and one over the last columns,
widened by zeros, which together are one product over all columns.
-/

@[expose] public section

set_option maxRecDepth 16384

noncomputable section

open Idealize.ShloMosaic Idealize.ShloMosaic.TcCoe Idealize.ShloMosaic.Tactic Idealize.SL.Sem

namespace Cert.Kernel10Ideal.Product

open Cert.Kernel10Ideal Cert.Kernel10Ideal.Gen

variable (m : (ℓ : Loc nD τ sig) → Buf (Elt Ideal) ℓ)

theorem zero_pad : (FloatOps.sitofp FTy.f32 0#32 : Ideal .f32) = 0 := by
  simp [FloatOps.sitofp]

/-- The last 64 columns of the gradient, widened by zeros. -/
abbrev lastLeft (G : FVec Ideal S4096x11328 .f32) : FVec Ideal S4096x128 .bf16 :=
  truncf .bf16 (pad S4096x128 ![0, 0] ![0, 64] ![0, 0] (extractStridedSlice S4096x64 ![0, 11264] G slices_S4096x11328_S4096x64_0_11264)
    (sitofp .f32 (constantI S_ 32 0#32) : FVec Ideal S_ .f32) pads_S4096x64_S4096x128_000_0640 h_S_) bitsLt_bf16_f32

/-- The last 64 columns of the weights, widened by zeros and taken as rows. -/
abbrev lastRight (w : FVec Ideal S2048x11328 .f32) : FVec Ideal S128x2048 .bf16 :=
  truncf .bf16 (transpose S128x2048 [1, 0] (pad S2048x128 ![0, 0] ![0, 64] ![0, 0] (extractStridedSlice S2048x64 ![0, 11264] w slices_S2048x11328_S2048x64_0_11264)
    (sitofp .f32 (constantI S_ 32 0#32) : FVec Ideal S_ .f32) pads_S2048x64_S2048x128_000_0640 h_S_) transposes_S2048x128_S128x2048_1_0) bitsLt_bf16_f32

theorem last_low (G : FVec Ideal S4096x11328 .f32) (w : FVec Ideal S2048x11328 .f32) (i : Fin 4096) (j : Fin 2048) (d : Fin 64) (l : d.1 < 128) :
    lastLeft G (ix2 i ⟨d.1, l⟩) * lastRight w (ix2 ⟨d.1, l⟩ j) = G (ix2 i ⟨11264 + d.1, by omega⟩) * w (ix2 j ⟨11264 + d.1, by omega⟩) := by
  pointwise []

theorem last_high (G : FVec Ideal S4096x11328 .f32) (w : FVec Ideal S2048x11328 .f32) (i : Fin 4096) (j : Fin 2048) (d : Fin 64) (l : 64 + d.1 < 128) :
    lastLeft G (ix2 i ⟨64 + d.1, l⟩) * lastRight w (ix2 ⟨64 + d.1, l⟩ j) = 0 := by
  pointwise []
  exact (congrArg₂ (· * ·) zero_pad zero_pad).trans (mul_zero _)

theorem entry_left (c : Dev nD) : V m c main_v8 = (truncf .bf16 (extractStridedSlice S4096x11264 ![0, 0] (m (c, main_arg2) : FVec Ideal S4096x11328 .f32) slices_S4096x11328_S4096x11264_0_0) bitsLt_bf16_f32 : FVec Ideal S4096x11264 .bf16) := by
  simp only [V, hostOps0, hostOps0_1, hostOps0_2, hostOps0_3, hostOps0_4, List.flatten_cons, List.flatten_nil, List.append_nil, List.cons_append, List.nil_append]
  after_results
  all_goals rfl

theorem entry_right (c : Dev nD) : V m c main_v11 = (truncf .bf16 (transpose S11264x2048 [1, 0] (extractStridedSlice S2048x11264 ![0, 0] (m (c, main_arg1) : FVec Ideal S2048x11328 .f32) slices_S2048x11328_S2048x11264_0_0) transposes_S2048x11264_S11264x2048_1_0) bitsLt_bf16_f32 : FVec Ideal S11264x2048 .bf16) := by
  simp only [V, hostOps0, hostOps0_1, hostOps0_2, hostOps0_3, hostOps0_4, List.flatten_cons, List.flatten_nil, List.append_nil, List.cons_append, List.nil_append]
  after_results
  all_goals rfl

theorem entry_last_left (c : Dev nD) : V m c main_v6 = lastLeft (m (c, main_arg2)) := by
  simp only [V, hostOps0, hostOps0_1, hostOps0_2, hostOps0_3, hostOps0_4, List.flatten_cons, List.flatten_nil, List.append_nil, List.cons_append, List.nil_append]
  after_results
  all_goals rfl

theorem entry_last_right (c : Dev nD) : V m c main_v3 = lastRight (m (c, main_arg1)) := by
  simp only [V, hostOps0, hostOps0_1, hostOps0_2, hostOps0_3, hostOps0_4, List.flatten_cons, List.flatten_nil, List.append_nil, List.cons_append, List.nil_append]
  after_results
  all_goals rfl

theorem idx : ∀ t : Fin cfg0.N, win0_0.index t = ![t.val / 8, t.val % 4] ∧ win0_1.index t = ![t.val % 4, t.val / 4 % 2] ∧ win0_2.index t = ![t.val / 8, 0] ∧ win0_3.index t = ![0, t.val / 4 % 2] ∧ win0_4.index t = ![t.val / 8, t.val / 4 % 2] :=
  (by decide +kernel : ∀ t : Fin grid0.N, _)

/-- One of the 4 products, at an index of the tile. -/
def term (c : Dev nD) (t : Fin cfg0.N) (i : Fin 1024) (j : Fin 1024) : EReal :=
  ∑ k : Fin 2816, (show FVec Ideal S1024x2816 .bf16 from iblk m c 0 t) (ix2 i k) * (show FVec Ideal S2816x1024 .bf16 from iblk m c 1 t) (ix2 k j)

theorem first_apply (A : FVec Ideal S1024x2816 .bf16) (B : FVec Ideal S2816x1024 .bf16) (i : Fin 1024) (j : Fin 1024) :
    k0_pay2 (F := Ideal) A B (ix2 i j) = ∑ k : Fin 2816, A (ix2 i k) * B (ix2 k j) := by
  pointwise [k0_pay2, k0_pay1]

theorem next_apply (A : FVec Ideal S1024x2816 .bf16) (B : FVec Ideal S2816x1024 .bf16) (Z : FVec Ideal S1024x1024 .f32) (i : Fin 1024) (j : Fin 1024) :
    k0_pay3 (F := Ideal) A B Z (ix2 i j) = Z (ix2 i j) + ∑ k : Fin 2816, A (ix2 i k) * B (ix2 k j) := by
  pointwise [k0_pay3, k0_pay1]

theorem carried_A (c : Dev nD) (t : Fin cfg0.N) (h : t.val % 4 = 0) (i : Fin 1024) (j : Fin 1024) :
    (outsAt0 m c t.val t.isLt).2 (ix2 i j) = term m c t i j := by
  rw [outsAt0_A m c t h (by omega) (by omega)]
  frame_out
  exact first_apply _ _ i j

theorem carried_B (c : Dev nD) (t : Fin cfg0.N) (h : ¬ t.val % 4 = 0) (i : Fin 1024) (j : Fin 1024) :
    (outsAt0 m c t.val t.isLt).2 (ix2 i j) = (outsAt0 m c (t.val - 1) (by omega)).2 (ix2 i j) + term m c t i j := by
  by_cases h3 : t.val % 4 = 3
  · rw [outsAt0_C m c t h (by omega) h3]
    frame_out
    simp only [read_unread_whole]
    exact next_apply _ _ _ i j
  · rw [outsAt0_B m c t h (by omega) h3]
    frame_out
    simp only [read_unread_whole]
    exact next_apply _ _ _ i j

theorem written (c : Dev nD) (t : Fin cfg0.N) (h : t.val % 4 = 3) (i : Fin 1024) (j : Fin 1024) :
    (outsAt0 m c t.val t.isLt).1 (ix2 i j) = (outsAt0 m c t.val t.isLt).2 (ix2 i j) + ∑ k : Fin 128, (show FVec Ideal S1024x128 .bf16 from iblk m c 2 t) (ix2 i k) * (show FVec Ideal S128x1024 .bf16 from iblk m c 3 t) (ix2 k j) := by
  rw [outsAt0_C m c t (by omega) (by omega) h]
  frame_out
  pointwise [k0_pay4]

theorem summed (c : Dev nD) (t : Fin cfg0.N) (h : t.val % 4 = 3) (i : Fin 1024) (j : Fin 1024) :
    (outsAt0 m c t.val t.isLt).2 (ix2 i j) = ∑ s : Fin 4, term m c ⟨4 * (t.val / 4) + s.val, Pipeline.run_point_lt_of_flush t h s⟩ i j :=
  (Pipeline.eq_sum_fin_of_reset_step_apply_of_flush (M := EReal) (ι := Fin 1024 × Fin 1024)
    (fun n hn p => (outsAt0 m c n hn).2 (ix2 p.1 p.2)) 4 (fun _ => 0) (fun t p => term m c t p.1 p.2)
    (fun t h p => (carried_A m c t h p.1 p.2).trans (zero_add _).symm) (fun t h p => carried_B m c t h p.1 p.2) t h (i, j)).trans (zero_add _)

theorem term_eq (c : Dev nD) (t : Fin cfg0.N) (q : Fin 4) (b : Fin 4) (e : Fin 2) (hq : t.val % 4 = q.1) (hb : t.val / 8 = b.1) (he : t.val / 4 % 2 = e.1) (i : Fin 1024) (j : Fin 1024) :
    term m c t i j = ∑ k : Fin 2816, (show FVec Ideal S4096x11264 .bf16 from V m c main_v8) (ix2 (⟨b.1 * 1024 + i.1, by omega⟩ : Fin 4096) (⟨q.1 * 2816 + k.1, by omega⟩ : Fin 11264))
      * (show FVec Ideal S11264x2048 .bf16 from V m c main_v11) (ix2 (⟨q.1 * 2816 + k.1, by omega⟩ : Fin 11264) (⟨e.1 * 1024 + j.1, by omega⟩ : Fin 2048)) := by
  unfold term
  blk_point [iblk, idx t]

/-- The product over the first columns, and the product over the last. -/
def tiled (A : FVec Ideal S4096x11264 .bf16) (B : FVec Ideal S11264x2048 .bf16) (C : FVec Ideal S4096x128 .bf16) (D : FVec Ideal S128x2048 .bf16) : FVec Ideal S4096x2048 .f32 :=
  fun q => (∑ k : Fin 11264, A (ix2 (q 0) k) * B (ix2 k (q 1))) + ∑ k : Fin 128, C (ix2 (q 0) k) * D (ix2 k (q 1))

theorem tiled_at (A B C D q) : tiled A B C D q = (∑ k : Fin 11264, A (ix2 (q 0) k) * B (ix2 k (q 1))) + ∑ k : Fin 128, C (ix2 (q 0) k) * D (ix2 k (q 1)) := rfl

theorem point_product (c : Dev nD) (t : Fin cfg0.N) (h : t.val % 4 = 3) (A : FVec Ideal S4096x11264 .bf16) (B : FVec Ideal S11264x2048 .bf16)
    (hA : V m c main_v8 = A) (hB : V m c main_v11 = B) (i : Fin 1024) (j : Fin 1024) (lI : t.val / 8 * 1024 + i.1 < 4096) (lJ : t.val / 4 % 2 * 1024 + j.1 < 2048) :
    (outsAt0 m c t.val t.isLt).2 (ix2 i j) = ∑ k : Fin 11264, A (ix2 ⟨t.val / 8 * 1024 + i.1, lI⟩ k) * B (ix2 k ⟨t.val / 4 % 2 * 1024 + j.1, lJ⟩) := by
  have ht : t.val < 32 := t.isLt
  refine (summed m c t h i j).trans ?_
  refine Eq.trans (Fin.sum_fin_congr fun s => ?_) (Fin.sum_mul_add_congr (S := 4) (n := 2816) (L := 11264)
    (f := fun k => A (ix2 ⟨t.val / 8 * 1024 + i.1, lI⟩ k) * B (ix2 k ⟨t.val / 4 % 2 * 1024 + j.1, lJ⟩))
    (F := fun s k => A (ix2 ⟨t.val / 8 * 1024 + i.1, lI⟩ ⟨s.1 * 2816 + k.1, by omega⟩)
      * B (ix2 ⟨s.1 * 2816 + k.1, by omega⟩ ⟨t.val / 4 % 2 * 1024 + j.1, lJ⟩)) (fun s k hl => rfl))
  have hs := s.2
  refine (term_eq m c _ s ⟨t.val / 8, by omega⟩ ⟨t.val / 4 % 2, by omega⟩ (by simp only; omega) (by simp only; omega) (by simp only; omega) i j).trans ?_
  rw [hA, hB]

theorem rest_eq (c : Dev nD) (t : Fin cfg0.N) (i : Fin 1024) (j : Fin 1024) (lI : t.val / 8 * 1024 + i.1 < 4096) (lJ : t.val / 4 % 2 * 1024 + j.1 < 2048) :
    ∑ k : Fin 128, (show FVec Ideal S1024x128 .bf16 from iblk m c 2 t) (ix2 i k) * (show FVec Ideal S128x1024 .bf16 from iblk m c 3 t) (ix2 k j)
    = ∑ k : Fin 128, (show FVec Ideal S4096x128 .bf16 from V m c main_v6) (ix2 ⟨t.val / 8 * 1024 + i.1, lI⟩ k) * (show FVec Ideal S128x2048 .bf16 from V m c main_v3) (ix2 k ⟨t.val / 4 % 2 * 1024 + j.1, lJ⟩) := by
  blk_point [iblk, idx t]

/-- A tile the kernel writes is that tile of the whole. -/
theorem point (c : Dev nD) (t : Fin cfg0.N) (h : t.val % 4 = 3) (i : Fin 1024) (j : Fin 1024) :
    (outsAt0 m c t.val t.isLt).1 (ix2 i j) = tiled (V m c main_v8) (V m c main_v11) (V m c main_v6) (V m c main_v3) (((cfg0.win 4).blk t).view.emb (ix2 i j)) := by
  have ht : t.val < 32 := t.isLt
  have e : ((cfg0.win 4).blk t).view.emb (ix2 i j) = ix2 (⟨t.val / 8 * 1024 + i.1, by omega⟩ : Fin 4096) (⟨t.val / 4 % 2 * 1024 + j.1, by omega⟩ : Fin 2048) := by
    blk_ext [idx t]
  refine Eq.trans ?_ (congrArg (tiled (V m c main_v8) (V m c main_v11) (V m c main_v6) (V m c main_v3)) e.symm)
  exact (written m c t h i j).trans (congrArg₂ (· + ·) (point_product m c t h _ _ rfl rfl i j (by omega) (by omega)) (rest_eq m c t i j (by omega) (by omega)))

theorem kernel_eq (c : Dev nD) : (dats m 0 c).arrAt 4 (cfgs 0).N = tiled (V m c main_v8) (V m c main_v11) (V m c main_v6) (V m c main_v3) := by
  refine (dats m 0 c).arrAt_eq_of_covers 4 _ (by decide +kernel) fun t hf y => ?_
  blk_simp
  rw [after0_4]
  obtain ⟨i, j, rfl⟩ : ∃ (i : Fin 1024) (j : Fin 1024), y = ix2 i j := ⟨y 0, y 1, funext fun k => by fin_cases k <;> rfl⟩
  exact point m c t ((flush0_4 t).mp hf) i j

/-- The reference's result. -/
abbrev result (G : FVec Ideal S4096x11328 .f32) (w : FVec Ideal S2048x11328 .f32) : FVec Ideal S4096x2048 .f32 :=
  Host.dotGeneral Cert.Reference10Ideal.dot_S4096x11328_S2048x11328_S4096x2048_1_1_0_0_n_n none G w

theorem main_columns (G : FVec Ideal S4096x11328 .f32) (w : FVec Ideal S2048x11328 .f32) (i : Fin 4096) (j : Fin 2048) (k : Fin 11264) :
    (truncf .bf16 (extractStridedSlice S4096x11264 ![0, 0] G slices_S4096x11328_S4096x11264_0_0) bitsLt_bf16_f32 : FVec Ideal S4096x11264 .bf16) (ix2 i k)
      * (truncf .bf16 (transpose S11264x2048 [1, 0] (extractStridedSlice S2048x11264 ![0, 0] w slices_S2048x11328_S2048x11264_0_0) transposes_S2048x11264_S11264x2048_1_0) bitsLt_bf16_f32 : FVec Ideal S11264x2048 .bf16) (ix2 k j)
      = G (ix2 i ⟨k.1, by omega⟩) * w (ix2 j ⟨k.1, by omega⟩) := by
  pointwise []

theorem tiled_eq (G : FVec Ideal S4096x11328 .f32) (w : FVec Ideal S2048x11328 .f32) :
    tiled (truncf .bf16 (extractStridedSlice S4096x11264 ![0, 0] G slices_S4096x11328_S4096x11264_0_0) bitsLt_bf16_f32)
      (truncf .bf16 (transpose S11264x2048 [1, 0] (extractStridedSlice S2048x11264 ![0, 0] w slices_S2048x11328_S2048x11264_0_0) transposes_S2048x11264_S11264x2048_1_0) bitsLt_bf16_f32)
      (lastLeft G) (lastRight w) = result G w := by
  funext q
  obtain ⟨i, j, rfl⟩ : ∃ i j, q = ix2 i j := ⟨q 0, q 1, funext fun k => by fin_cases k <;> rfl⟩
  refine (tiled_at _ _ _ _ _).trans ?_
  have whole : result G w (ix2 i j) = ∑ k : Fin 11328, G (ix2 i k) * w (ix2 j k) := by
    pointwise []
  rw [whole]
  refine Eq.trans ?_ (Fin.sum_univ_add (a := 11264) (b := 64) fun k : Fin 11328 => G (ix2 i k) * w (ix2 j k)).symm
  refine congrArg₂ (· + ·) (Fin.sum_fin_congr fun k => main_columns G w i j k) ?_
  refine (Fin.sum_univ_add (a := 64) (b := 64) fun k : Fin 128 => lastLeft G (ix2 i k) * lastRight w (ix2 k j)).trans ?_
  exact (congrArg₂ (· + ·) (Fin.sum_fin_congr fun d => last_low G w i j d _) ((Fin.sum_fin_congr fun d => last_high G w i j d _).trans Finset.sum_const_zero)).trans (add_zero _)

theorem final (c : Dev nD) : (dats m 0 c).arrAt 4 (cfgs 0).N = result (m (c, main_arg2)) (m (c, main_arg1)) := by
  rw [kernel_eq, entry_left, entry_right, entry_last_left, entry_last_right]
  exact tiled_eq _ _

theorem algebraic : Cert.algebraic_Kernel10Ideal_Reference10Ideal := by
  pair_intro
  · run_from Cert.Kernel10Ideal.Value.run_blocks m g
  · run_from Cert.Reference10Ideal.Value.run m' g'
    exact (final m c).symm

end Cert.Kernel10Ideal.Product

end
-- ==== Proof.QueryWeights.lean ====
module

public import proofs.«01_k».proof.Proof.Gen.Kernel16Ideal.Value
public import proofs.«01_k».proof.Proof.Gen.Reference16Ideal.Run
public import proofs.«01_k».proof.Defs
public import Idealize.ShloMosaic.Lib.Pipeline.ValueKit

/-!
The gradient of the weights of the queries' low-rank projection: the kernel's tiles are tiles of one
product with heads widened by zeros.
-/

@[expose] public section

set_option maxRecDepth 16384

noncomputable section

open Idealize.ShloMosaic Idealize.ShloMosaic.TcCoe Idealize.ShloMosaic.Tactic Idealize.SL.Sem

namespace Cert.Kernel16Ideal.Product

open Cert.Kernel16Ideal Cert.Kernel16Ideal.Gen

variable (m : (ℓ : Loc nD τ sig) → Buf (Elt Ideal) ℓ)

theorem zero_pad : (FloatOps.sitofp FTy.f32 0#32 : Ideal .f32) = 0 := by
  simp [FloatOps.sitofp]

/-- A row of heads of 192 columns, each widened by zeros to 256. -/
abbrev widened4096 (X : FVec Ideal S4096x3072 .f32) : FVec Ideal S4096x4096 .bf16 :=
  truncf .bf16 (shapeCast S4096x4096 (pad S4096x16x256 ![0, 0, 0] ![0, 0, 64] ![0, 0, 0] (shapeCast S4096x16x192 X shapeCasts_S4096x3072_S4096x16x192)
    (sitofp .f32 (constantI S_ 32 0#32) : FVec Ideal S_ .f32) pads_S4096x16x192_S4096x16x256_000_000_0640 h_S_) shapeCasts_S4096x16x256_S4096x4096) bitsLt_bf16_f32

theorem widened4096_low (X : FVec Ideal S4096x3072 .f32) (i : Fin 4096) (h : Fin 16) (d : Fin 192) (l : h.1 * 256 + d.1 < 4096) :
    widened4096 X (ix2 i ⟨h.1 * 256 + d.1, l⟩) = X (ix2 i ⟨h.1 * 192 + d.1, by omega⟩) := by
  have e : (h.1 * 256 + d.1) % 256 = d.1 := by omega
  pointwise []
  simp only [e]
  rw [dif_pos d.2]

theorem widened4096_high (X : FVec Ideal S4096x3072 .f32) (i : Fin 4096) (h : Fin 16) (d : Fin 64) (l : h.1 * 256 + (192 + d.1) < 4096) :
    widened4096 X (ix2 i ⟨h.1 * 256 + (192 + d.1), l⟩) = 0 := by
  pointwise []
  rw [dif_neg (by omega)]
  exact zero_pad

theorem entry_left (c : Dev nD) : V m c main_v0 = (truncf .bf16 ((m (c, main_arg0) : FVec Ideal S4096x512 .f32)) bitsLt_bf16_f32 : FVec Ideal S4096x512 .bf16) := by
  simp only [V, hostOps0, hostOps0_1, hostOps0_2, List.flatten_cons, List.flatten_nil, List.append_nil, List.cons_append, List.nil_append]
  after_results
  all_goals rfl

theorem entry_right (c : Dev nD) : V m c main_v4 = (widened4096 (m (c, main_arg2) : FVec Ideal S4096x3072 .f32) : FVec Ideal S4096x4096 .bf16) := by
  simp only [V, hostOps0, hostOps0_1, hostOps0_2, List.flatten_cons, List.flatten_nil, List.append_nil, List.cons_append, List.nil_append]
  after_results
  all_goals rfl

theorem idx : ∀ t : Fin cfg0.N, win0_0.index t = ![0, 0] ∧ win0_1.index t = ![0, t.val] ∧ win0_2.index t = ![0, t.val] :=
  (by decide +kernel : ∀ t : Fin grid0.N, _)

/-- The product of the rows with the gradient. -/
def tiled (A : FVec Ideal S4096x512 .bf16) (B : FVec Ideal S4096x4096 .bf16) : FVec Ideal S512x4096 .bf16 :=
  fun q => ∑ k : Fin 4096, A (ix2 k (q 0)) * B (ix2 k (q 1))

theorem tiled_at (A B q) : tiled A B q = ∑ k : Fin 4096, A (ix2 k (q 0)) * B (ix2 k (q 1)) := rfl

/-- A tile the kernel writes is that tile of the product. -/
theorem point (c : Dev nD) (t : Fin cfg0.N) (y) : k0_pay1 (iblk m c 0 t) (iblk m c 1 t) y
    = tiled (V m c main_v0) (V m c main_v4) (((cfg0.win 2).blk t).view.emb y) := by
  refine Eq.trans ?_ (tiled_at _ _ _).symm
  pointwise [k0_pay1]
  blk_point [iblk, idx t]

/-- The reference's result. -/
abbrev result (x0 : FVec Ideal S4096x512 .f32) (x2 : FVec Ideal S4096x3072 .f32) : FVec Ideal S512x4096 .bf16 :=
  shapeCast Cert.Reference16Ideal.S512x4096 (concatenate Cert.Reference16Ideal.S512x16x256 2 [⟨Cert.Reference16Ideal.S512x16x192, shapeCast Cert.Reference16Ideal.S512x16x192
    (truncf .bf16 (transpose Cert.Reference16Ideal.S512x3072 [1, 0] (Host.dotGeneral Cert.Reference16Ideal.dot_S4096x3072_S4096x512_S3072x512_0_0_1_1_n_n none x2 x0) Cert.Reference16Ideal.Gen.transposes_S3072x512_S512x3072_1_0) bitsLt_bf16_f32) Cert.Reference16Ideal.Gen.shapeCasts_S512x3072_S512x16x192⟩,
    ⟨Cert.Reference16Ideal.S512x16x64, broadcastInDim Cert.Reference16Ideal.S512x16x64 ![] Cert.Reference16Ideal.Gen.bcast_S_S512x16x64 (constant S_ .bf16 0x0000#16)⟩] Cert.Reference16Ideal.Gen.concatenates_S512x16x192_S512x16x64_S512x16x256_d2) Cert.Reference16Ideal.Gen.shapeCasts_S512x16x256_S512x4096

theorem tiled_eq (x0 : FVec Ideal S4096x512 .f32) (x2 : FVec Ideal S4096x3072 .f32) :
    tiled (truncf .bf16 (x0) bitsLt_bf16_f32) (widened4096 x2) = result x0 x2 := by
  funext q
  obtain ⟨i, j, rfl⟩ : ∃ i j, q = ix2 i j := ⟨q 0, q 1, funext fun k => by fin_cases k <;> rfl⟩
  refine (tiled_at _ _ _).trans ?_
  pointwise []
  by_cases l : j.1 % 256 < 192
  · rw [dif_pos l]
    refine Fin.sum_fin_congr fun k => ?_
    rw [dif_pos ⟨by omega, l⟩]
    exact mul_comm _ _
  · rw [dif_neg l]
    refine (Fin.sum_fin_congr fun k => ?_).trans Finset.sum_const_zero
    rw [dif_neg fun h => l h.2]
    exact (congrArg (x0 (ix2 k i) * ·) zero_pad).trans (mul_zero _)

theorem final (c : Dev nD) : (dats m 0 c).arrAt 2 (cfgs 0).N = result (m (c, main_arg0)) (m (c, main_arg2)) := by
  have : (dats m 0 c).arrAt 2 (cfgs 0).N = tiled (V m c main_v0) (V m c main_v4) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg2))

theorem algebraic : Cert.algebraic_Kernel16Ideal_Reference16Ideal := by
  pair_intro
  · run_from Cert.Kernel16Ideal.Value.run_blocks m g
  · run_from Cert.Reference16Ideal.Value.run m' g'
    obtain ⟨h0, h1, h2⟩ := hagree c
    exact Eq.trans (congrArg (fun x => result (m (c, main_arg0)) x) h2) (final m c).symm

end Cert.Kernel16Ideal.Product

end
-- ==== Proof.Merge.lean ====
module

public import proofs.«01_k».proof.Proof.Gen.Kernel19Ideal.Value
public import proofs.«01_k».proof.Proof.Gen.Reference19Ideal.Run
public import proofs.«01_k».proof.Proof.Gen.Kernel21Ideal.Value
public import proofs.«01_k».proof.Proof.Gen.Reference21Ideal.Run
public import proofs.«01_k».proof.Defs
public import Idealize.ShloMosaic.Lib.Pipeline.ValueKit

/-!
The merge of the two branches by their gates and the gradient of the merge: the kernels' tiles are
tiles of one product, multiplied by the logistic function of the gates.
-/

@[expose] public section

set_option maxRecDepth 16384

noncomputable section

open Idealize.ShloMosaic Idealize.ShloMosaic.TcCoe Idealize.ShloMosaic.Tactic Idealize.SL.Sem

namespace Cert.Kernel19Ideal.Product

open Cert.Kernel19Ideal Cert.Kernel19Ideal.Gen

variable (m : (ℓ : Loc nD τ sig) → Buf (Elt Ideal) ℓ)

/-- The rows of the projection as the kernel keeps them: the retention's columns, the two gates by halves in turn,
the low-rank columns. -/
abbrev projected (r : FVec Ideal S4096x6144 .f32) (a b : FVec Ideal S4096x2048 .f32) (l : FVec Ideal S4096x1024 .f32) : FVec Ideal S4096x11264 .f32 :=
  concatenate S4096x11264 1 [⟨S4096x6144, r⟩,
    ⟨S4096x1024, extractStridedSlice S4096x1024 ![0, 0] a slices_S4096x2048_S4096x1024_0_0⟩,
    ⟨S4096x1024, extractStridedSlice S4096x1024 ![0, 0] b slices_S4096x2048_S4096x1024_0_0⟩,
    ⟨S4096x1024, extractStridedSlice S4096x1024 ![0, 1024] a slices_S4096x2048_S4096x1024_0_1024⟩,
    ⟨S4096x1024, extractStridedSlice S4096x1024 ![0, 1024] b slices_S4096x2048_S4096x1024_0_1024⟩,
    ⟨S4096x1024, l⟩] concatenates_S4096x6144_S4096x1024_S4096x1024_S4096x1024_S4096x1024_S4096x1024_S4096x11264_d1

/-- Where column `q 1` of the first gate lies in the projection. -/
abbrev first (q : S4096x2048.Idx) : S4096x11264.Idx :=
  ix2 (q 0) ⟨6144 + (q 1).1 / 1024 * 2048 + (q 1).1 % 1024, by have h : (q 1).1 < 2048 := (q 1).2; show _ < 11264; omega⟩

/-- Where column `q 1` of the second gate lies in the projection. -/
abbrev second (q : S4096x2048.Idx) : S4096x11264.Idx :=
  ix2 (q 0) ⟨7168 + (q 1).1 / 1024 * 2048 + (q 1).1 % 1024, by have h : (q 1).1 < 2048 := (q 1).2; show _ < 11264; omega⟩

theorem projected_first (r a b l) (q : S4096x2048.Idx) : projected r a b l (first q) = a q := by
  obtain ⟨i, j, rfl⟩ : ∃ i j, q = ix2 i j := ⟨q 0, q 1, funext fun k => by fin_cases k <;> rfl⟩
  unfold projected first
  pointwise []
  have hj : j.1 < 2048 := j.2
  rcases lt_or_ge j.1 1024 with h | h
  · rw [dif_neg (by omega), dif_pos (by omega)]
    exact congrArg (fun x => a (ix2 i x)) (Fin.ext (by dsimp; omega))
  · rw [dif_neg (by omega), dif_neg (by omega), dif_neg (by omega), dif_pos (by omega)]
    exact congrArg (fun x => a (ix2 i x)) (Fin.ext (by dsimp; omega))

theorem projected_second (r a b l) (q : S4096x2048.Idx) : projected r a b l (second q) = b q := by
  obtain ⟨i, j, rfl⟩ : ∃ i j, q = ix2 i j := ⟨q 0, q 1, funext fun k => by fin_cases k <;> rfl⟩
  unfold projected second
  pointwise []
  have hj : j.1 < 2048 := j.2
  rcases lt_or_ge j.1 1024 with h | h
  · rw [dif_neg (by omega), dif_neg (by omega), dif_pos (by omega)]
    exact congrArg (fun x => b (ix2 i x)) (Fin.ext (by dsimp; omega))
  · rw [dif_neg (by omega), dif_neg (by omega), dif_neg (by omega), dif_neg (by omega), dif_pos (by omega)]
    exact congrArg (fun x => b (ix2 i x)) (Fin.ext (by dsimp; omega))

/-- The logistic function of a gate. -/
abbrev logistic (x : FVec Ideal S4096x2048 .f32) : FVec Ideal S4096x2048 .f32 :=
  Host.divf (broadcastInDim S4096x2048 ![] Cert.Reference19Ideal.Gen.bcast_S_S4096x2048 (constant Cert.Reference19Ideal.S_ .f32 0x3F800000#32)) (addf (broadcastInDim S4096x2048 ![] Cert.Reference19Ideal.Gen.bcast_S_S4096x2048 (constant Cert.Reference19Ideal.S_ .f32 0x3F800000#32)) (Host.exp (Host.negf x)))

/-- The logistic function at one number. -/
def sigma (x : EReal) : EReal := Ideal.div 1 (1 + Ideal.exp (-x))

theorem sigma_of (x : EReal) : Ideal.div 1 (1 + Ideal.exp (0 - x)) = sigma x := by
  unfold sigma; rw [zero_sub]

theorem logistic_at (x q) : logistic x q = sigma (x q) := by
  unfold sigma; pointwise [logistic]

theorem entry_gates (c : Dev nD) : V m c main_v4 = projected (m (c, main_arg0)) (m (c, main_arg1)) (m (c, main_arg2)) (m (c, main_arg3)) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![t.val % 2, 0] ∧ win0_2.index t = ![t.val / 2, 6 + 2 * (t.val % 2)] ∧ win0_3.index t = ![t.val / 2, 7 + 2 * (t.val % 2)] ∧ win0_4.index t = ![t.val / 2, t.val % 2] ∧ win0_5.index t = ![t.val / 2, t.val % 2] ∧ win0_6.index t = ![t.val / 2, t.val % 2] ∧ win0_7.index t = ![t.val / 2, t.val % 2] :=
  (by decide +kernel : ∀ t : Fin grid0.N, _)

theorem entry_left (c : Dev nD) : V m c main_v5 = (truncf .bf16 ((m (c, main_arg7) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v6 = (truncf .bf16 ((m (c, main_arg6) : FVec Ideal S2048x2048 .f32)) bitsLt_bf16_f32 : FVec Ideal S2048x2048 .bf16) := by
  simp only [V, hostOps0, List.flatten_cons, List.flatten_nil, List.append_nil, List.cons_append, List.nil_append]
  after_results
  all_goals rfl

/-- The product of the gradient with the rows of the weights, multiplied by the first gate's logistic function. -/
def tiledFirst (A : FVec Ideal S4096x2048 .bf16) (B : FVec Ideal S2048x2048 .bf16) (P : FVec Ideal S4096x11264 .f32) : FVec Ideal S4096x2048 .bf16 :=
  fun q => (∑ k : Fin 2048, A (ix2 (q 0) k) * B (ix2 (q 1) k)) * sigma (P (first q))

theorem tiledFirst_at (A B P q) : tiledFirst A B P q = (∑ k : Fin 2048, A (ix2 (q 0) k) * B (ix2 (q 1) k)) * sigma (P (first q)) := rfl

theorem tiledFirst_spelt (A B P q) : tiledFirst A B P q = (∑ k : Fin 2048, A (ix2 (q 0) k) * B (ix2 (q 1) k)) * sigma (P (ix2 (q 0) ⟨6144 + (q 1).1 / 1024 * 2048 + (q 1).1 % 1024, by have h : (q 1).1 < 2048 := (q 1).2; show _ < 11264; omega⟩)) := rfl

theorem point_6 (c : Dev nD) (t : Fin cfg0.N) (y) : k0_pay1 (k0_pay7 (iblk m c 0 t) (iblk m c 1 t) (iblk m c 2 t)) y
    = tiledFirst (V m c main_v5) (V m c main_v6) (V m c main_v4) (((cfg0.win 6).blk t).view.emb y) := by
  refine Eq.trans ?_ (tiledFirst_spelt _ _ _ _).symm
  pointwise [k0_pay1, k0_pay7, k0_pay4, k0_pay5]
  rw [sigma_of]
  blk_point [iblk, idx t]

/-- The reference's first result. -/
abbrev resultFirst (g : FVec Ideal S4096x2048 .f32) (w : FVec Ideal S2048x2048 .f32) (d : FVec Ideal S4096x2048 .f32) : FVec Ideal S4096x2048 .bf16 :=
  truncf .bf16 (mulf (logistic g) (Host.dotGeneral Cert.Reference19Ideal.dot_S4096x2048_S2048x2048_S4096x2048_1_1_0_0_n_n none d w)) bitsLt_bf16_f32

theorem tiledFirst_eq (r a b l) (w : FVec Ideal S2048x2048 .f32) (d : FVec Ideal S4096x2048 .f32) :
    tiledFirst (truncf .bf16 (d) bitsLt_bf16_f32) (truncf .bf16 (w) bitsLt_bf16_f32) (projected r a b l) = resultFirst a w d := by
  funext q
  refine (tiledFirst_at _ _ _ _).trans ?_
  rw [projected_first, ← logistic_at]
  obtain ⟨i, j, rfl⟩ : ∃ i j, q = ix2 i j := ⟨q 0, q 1, funext fun k => by fin_cases k <;> rfl⟩
  pointwise [resultFirst]
  exact mul_comm _ _

theorem final_first (c : Dev nD) : (dats m 0 c).arrAt 6 (cfgs 0).N = resultFirst (m (c, main_arg1)) (m (c, main_arg6)) (m (c, main_arg7)) := by
  have : (dats m 0 c).arrAt 6 (cfgs 0).N = tiledFirst (V m c main_v5) (V m c main_v6) (V m c main_v4) := by
    refine (dats m 0 c).arrAt_eq_of_covers 6 _ (by decide +kernel) fun t _ y => ?_
    blk_simp
    rw [after0_6]; frame_out
    exact point_6 m c t y
  rw [this, entry_left, entry_right, entry_gates]
  exact tiledFirst_eq _ _ _ _ _ _

/-- The product of the gradient with the rows of the weights, multiplied by the second gate's logistic function. -/
def tiledSecond (A : FVec Ideal S4096x2048 .bf16) (B : FVec Ideal S2048x2048 .bf16) (P : FVec Ideal S4096x11264 .f32) : FVec Ideal S4096x2048 .bf16 :=
  fun q => (∑ k : Fin 2048, A (ix2 (q 0) k) * B (ix2 (q 1) k)) * sigma (P (second q))

theorem tiledSecond_at (A B P q) : tiledSecond A B P q = (∑ k : Fin 2048, A (ix2 (q 0) k) * B (ix2 (q 1) k)) * sigma (P (second q)) := rfl

theorem tiledSecond_spelt (A B P q) : tiledSecond A B P q = (∑ k : Fin 2048, A (ix2 (q 0) k) * B (ix2 (q 1) k)) * sigma (P (ix2 (q 0) ⟨7168 + (q 1).1 / 1024 * 2048 + (q 1).1 % 1024, by have h : (q 1).1 < 2048 := (q 1).2; show _ < 11264; omega⟩)) := rfl

theorem point_7 (c : Dev nD) (t : Fin cfg0.N) (y) : k0_pay2 (k0_pay8 (iblk m c 0 t) (iblk m c 1 t) (iblk m c 3 t)) y
    = tiledSecond (V m c main_v5) (V m c main_v6) (V m c main_v4) (((cfg0.win 7).blk t).view.emb y) := by
  refine Eq.trans ?_ (tiledSecond_spelt _ _ _ _).symm
  pointwise [k0_pay2, k0_pay8, k0_pay4, k0_pay6]
  rw [sigma_of]
  blk_point [iblk, idx t]

/-- The reference's second result. -/
abbrev resultSecond (g : FVec Ideal S4096x2048 .f32) (w : FVec Ideal S2048x2048 .f32) (d : FVec Ideal S4096x2048 .f32) : FVec Ideal S4096x2048 .bf16 :=
  truncf .bf16 (mulf (logistic g) (Host.dotGeneral Cert.Reference19Ideal.dot_S4096x2048_S2048x2048_S4096x2048_1_1_0_0_n_n none d w)) bitsLt_bf16_f32

theorem tiledSecond_eq (r a b l) (w : FVec Ideal S2048x2048 .f32) (d : FVec Ideal S4096x2048 .f32) :
    tiledSecond (truncf .bf16 (d) bitsLt_bf16_f32) (truncf .bf16 (w) bitsLt_bf16_f32) (projected r a b l) = resultSecond b w d := by
  funext q
  refine (tiledSecond_at _ _ _ _).trans ?_
  rw [projected_second, ← logistic_at]
  obtain ⟨i, j, rfl⟩ : ∃ i j, q = ix2 i j := ⟨q 0, q 1, funext fun k => by fin_cases k <;> rfl⟩
  pointwise [resultSecond]
  exact mul_comm _ _

theorem final_second (c : Dev nD) : (dats m 0 c).arrAt 7 (cfgs 0).N = resultSecond (m (c, main_arg2)) (m (c, main_arg6)) (m (c, main_arg7)) := by
  have : (dats m 0 c).arrAt 7 (cfgs 0).N = tiledSecond (V m c main_v5) (V m c main_v6) (V m c main_v4) := by
    refine (dats m 0 c).arrAt_eq_of_covers 7 _ (by decide +kernel) fun t _ y => ?_
    blk_simp
    rw [after0_7]; frame_out
    exact point_7 m c t y
  rw [this, entry_left, entry_right, entry_gates]
  exact tiledSecond_eq _ _ _ _ _ _

theorem algebraic : Cert.algebraic_Kernel19Ideal_Reference19Ideal := by
  pair_intro
  · run_from Cert.Kernel19Ideal.Value.run_blocks m g
  · run_from Cert.Reference19Ideal.Value.run m' g'
    · exact (final_first m c).symm
    · exact (final_second m c).symm

end Cert.Kernel19Ideal.Product

namespace Cert.Kernel21Ideal.Product

open Cert.Kernel21Ideal Cert.Kernel21Ideal.Gen

variable (m : (ℓ : Loc nD τ sig) → Buf (Elt Ideal) ℓ)

/-- The rows of the projection as the kernel keeps them: the retention's columns, the two gates by halves in turn,
the low-rank columns. -/
abbrev projected (r : FVec Ideal S4096x6144 .f32) (a b : FVec Ideal S4096x2048 .f32) (l : FVec Ideal S4096x1024 .f32) : FVec Ideal S4096x11264 .f32 :=
  concatenate S4096x11264 1 [⟨S4096x6144, r⟩,
    ⟨S4096x1024, extractStridedSlice S4096x1024 ![0, 0] a slices_S4096x2048_S4096x1024_0_0⟩,
    ⟨S4096x1024, extractStridedSlice S4096x1024 ![0, 0] b slices_S4096x2048_S4096x1024_0_0⟩,
    ⟨S4096x1024, extractStridedSlice S4096x1024 ![0, 1024] a slices_S4096x2048_S4096x1024_0_1024⟩,
    ⟨S4096x1024, extractStridedSlice S4096x1024 ![0, 1024] b slices_S4096x2048_S4096x1024_0_1024⟩,
    ⟨S4096x1024, l⟩] concatenates_S4096x6144_S4096x1024_S4096x1024_S4096x1024_S4096x1024_S4096x1024_S4096x11264_d1

/-- Where column `q 1` of the first gate lies in the projection. -/
abbrev first (q : S4096x2048.Idx) : S4096x11264.Idx :=
  ix2 (q 0) ⟨6144 + (q 1).1 / 1024 * 2048 + (q 1).1 % 1024, by have h : (q 1).1 < 2048 := (q 1).2; show _ < 11264; omega⟩

/-- Where column `q 1` of the second gate lies in the projection. -/
abbrev second (q : S4096x2048.Idx) : S4096x11264.Idx :=
  ix2 (q 0) ⟨7168 + (q 1).1 / 1024 * 2048 + (q 1).1 % 1024, by have h : (q 1).1 < 2048 := (q 1).2; show _ < 11264; omega⟩

theorem projected_first (r a b l) (q : S4096x2048.Idx) : projected r a b l (first q) = a q := by
  obtain ⟨i, j, rfl⟩ : ∃ i j, q = ix2 i j := ⟨q 0, q 1, funext fun k => by fin_cases k <;> rfl⟩
  unfold projected first
  pointwise []
  have hj : j.1 < 2048 := j.2
  rcases lt_or_ge j.1 1024 with h | h
  · rw [dif_neg (by omega), dif_pos (by omega)]
    exact congrArg (fun x => a (ix2 i x)) (Fin.ext (by dsimp; omega))
  · rw [dif_neg (by omega), dif_neg (by omega), dif_neg (by omega), dif_pos (by omega)]
    exact congrArg (fun x => a (ix2 i x)) (Fin.ext (by dsimp; omega))

theorem projected_second (r a b l) (q : S4096x2048.Idx) : projected r a b l (second q) = b q := by
  obtain ⟨i, j, rfl⟩ : ∃ i j, q = ix2 i j := ⟨q 0, q 1, funext fun k => by fin_cases k <;> rfl⟩
  unfold projected second
  pointwise []
  have hj : j.1 < 2048 := j.2
  rcases lt_or_ge j.1 1024 with h | h
  · rw [dif_neg (by omega), dif_neg (by omega), dif_pos (by omega)]
    exact congrArg (fun x => b (ix2 i x)) (Fin.ext (by dsimp; omega))
  · rw [dif_neg (by omega), dif_neg (by omega), dif_neg (by omega), dif_neg (by omega), dif_pos (by omega)]
    exact congrArg (fun x => b (ix2 i x)) (Fin.ext (by dsimp; omega))

/-- The logistic function of a gate. -/
abbrev logistic (x : FVec Ideal S4096x2048 .f32) : FVec Ideal S4096x2048 .f32 :=
  Host.divf (broadcastInDim S4096x2048 ![] Cert.Reference21Ideal.Gen.bcast_S_S4096x2048 (constant Cert.Reference21Ideal.S_ .f32 0x3F800000#32)) (addf (broadcastInDim S4096x2048 ![] Cert.Reference21Ideal.Gen.bcast_S_S4096x2048 (constant Cert.Reference21Ideal.S_ .f32 0x3F800000#32)) (Host.exp (Host.negf x)))

/-- The logistic function at one number. -/
def sigma (x : EReal) : EReal := Ideal.div 1 (1 + Ideal.exp (-x))

theorem sigma_of (x : EReal) : Ideal.div 1 (1 + Ideal.exp (0 - x)) = sigma x := by
  unfold sigma; rw [zero_sub]

theorem logistic_at (x q) : logistic x q = sigma (x q) := by
  unfold sigma; pointwise [logistic]

theorem entry_gates (c : Dev nD) : V m c main_v4 = projected (m (c, main_arg0)) (m (c, main_arg1)) (m (c, main_arg2)) (m (c, main_arg3)) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![0, t.val % 2] ∧ win0_2.index t = ![t.val / 2, 6 + 2 * (t.val % 2)] ∧ win0_3.index t = ![t.val / 2, 7 + 2 * (t.val % 2)] ∧ win0_4.index t = ![t.val / 2, t.val % 2] ∧ win0_5.index t = ![t.val / 2, t.val % 2] ∧ win0_6.index t = ![t.val / 2, t.val % 2] :=
  (by decide +kernel : ∀ t : Fin grid0.N, _)

theorem entry_left (c : Dev nD) : V m c main_v5 = (truncf .bf16 ((m (c, main_arg5) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v6 = (truncf .bf16 ((m (c, main_arg6) : FVec Ideal S2048x2048 .f32)) bitsLt_bf16_f32 : FVec Ideal S2048x2048 .bf16) := by
  simp only [V, hostOps0, List.flatten_cons, List.flatten_nil, List.append_nil, List.cons_append, List.nil_append]
  after_results
  all_goals rfl

theorem entry_rest (c : Dev nD) : V m c main_v7 = (truncf .bf16 ((m (c, main_arg4) : FVec Ideal S4096x2048 .f32)) bitsLt_bf16_f32 : FVec Ideal S4096x2048 .bf16) := by
  simp only [V, hostOps0, List.flatten_cons, List.flatten_nil, List.append_nil, List.cons_append, List.nil_append]
  after_results
  all_goals rfl

/-- The product of the rows with the weights. -/
def tiled (A : FVec Ideal S4096x2048 .bf16) (B : FVec Ideal S2048x2048 .bf16) : FVec Ideal S4096x2048 .bf16 :=
  fun q => ∑ k : Fin 2048, A (ix2 (q 0) k) * B (ix2 k (q 1))

theorem tiled_at (A B q) : tiled A B q = ∑ k : Fin 2048, A (ix2 (q 0) k) * B (ix2 k (q 1)) := rfl

/-- The two branches, each multiplied by the logistic function of its gate, added. -/
def tiledMerged (A : FVec Ideal S4096x2048 .bf16) (B : FVec Ideal S2048x2048 .bf16) (P : FVec Ideal S4096x11264 .f32) (Y : FVec Ideal S4096x2048 .bf16) : FVec Ideal S4096x2048 .bf16 :=
  fun q => sigma (P (first q)) * Y q + sigma (P (second q)) * (∑ k : Fin 2048, A (ix2 (q 0) k) * B (ix2 k (q 1)))

theorem tiledMerged_at (A B P Y q) : tiledMerged A B P Y q = sigma (P (first q)) * Y q + sigma (P (second q)) * (∑ k : Fin 2048, A (ix2 (q 0) k) * B (ix2 k (q 1))) := rfl

theorem tiledMerged_spelt (A B P Y q) : tiledMerged A B P Y q = sigma (P (ix2 (q 0) ⟨6144 + (q 1).1 / 1024 * 2048 + (q 1).1 % 1024, by have h : (q 1).1 < 2048 := (q 1).2; show _ < 11264; omega⟩)) * Y q + sigma (P (ix2 (q 0) ⟨7168 + (q 1).1 / 1024 * 2048 + (q 1).1 % 1024, by have h : (q 1).1 < 2048 := (q 1).2; show _ < 11264; omega⟩)) * (∑ k : Fin 2048, A (ix2 (q 0) k) * B (ix2 k (q 1))) := rfl

theorem point_5 (c : Dev nD) (t : Fin cfg0.N) (y) : k0_pay2 (iblk m c 0 t) (iblk m c 1 t) y
    = tiled (V m c main_v5) (V m c main_v6) (((cfg0.win 5).blk t).view.emb y) := by
  refine Eq.trans ?_ (tiled_at _ _ _).symm
  pointwise [k0_pay2, k0_pay1]
  blk_point [iblk, idx t]

theorem point_6 (c : Dev nD) (t : Fin cfg0.N) (y) : k0_pay3 (iblk m c 0 t) (iblk m c 1 t) (iblk m c 2 t) (iblk m c 3 t) (iblk m c 4 t) y
    = tiledMerged (V m c main_v5) (V m c main_v6) (V m c main_v4) (V m c main_v7) (((cfg0.win 6).blk t).view.emb y) := by
  refine Eq.trans ?_ (tiledMerged_spelt _ _ _ _ _).symm
  pointwise [k0_pay3, k0_pay1]
  rw [sigma_of, sigma_of]
  blk_point [iblk, idx t]

/-- The reference's product. -/
abbrev product (x : FVec Ideal S4096x2048 .f32) (w : FVec Ideal S2048x2048 .f32) : FVec Ideal S4096x2048 .f32 :=
  Host.dotGeneral Cert.Reference21Ideal.dot_S4096x2048_S2048x2048_S4096x2048_1_0_0_1_n_n none x w

/-- The reference's merged branches. -/
abbrev merged (a b y x : FVec Ideal S4096x2048 .f32) (w : FVec Ideal S2048x2048 .f32) : FVec Ideal S4096x2048 .f32 :=
  addf (mulf (logistic a) y) (mulf (logistic b) (product x w))

theorem tiled_eq (x : FVec Ideal S4096x2048 .f32) (w : FVec Ideal S2048x2048 .f32) :
    tiled (truncf .bf16 (x) bitsLt_bf16_f32) (truncf .bf16 (w) bitsLt_bf16_f32) = truncf .bf16 (product x w) bitsLt_bf16_f32 := by
  funext q
  obtain ⟨i, j, rfl⟩ : ∃ i j, q = ix2 i j := ⟨q 0, q 1, funext fun k => by fin_cases k <;> rfl⟩
  refine (tiled_at _ _ _).trans ?_
  pointwise []

theorem tiledMerged_eq (r a b l) (y x : FVec Ideal S4096x2048 .f32) (w : FVec Ideal S2048x2048 .f32) :
    tiledMerged (truncf .bf16 (x) bitsLt_bf16_f32) (truncf .bf16 (w) bitsLt_bf16_f32) (projected r a b l) (truncf .bf16 (y) bitsLt_bf16_f32) = truncf .bf16 (merged a b y x w) bitsLt_bf16_f32 := by
  funext q
  refine (tiledMerged_at _ _ _ _ _).trans ?_
  rw [projected_first, projected_second, ← logistic_at, ← logistic_at]
  obtain ⟨i, j, rfl⟩ : ∃ i j, q = ix2 i j := ⟨q 0, q 1, funext fun k => by fin_cases k <;> rfl⟩
  pointwise []

theorem final_product (c : Dev nD) : (dats m 0 c).arrAt 5 (cfgs 0).N = truncf .bf16 (product (m (c, main_arg5)) (m (c, main_arg6))) bitsLt_bf16_f32 := by
  have : (dats m 0 c).arrAt 5 (cfgs 0).N = tiled (V m c main_v5) (V m c main_v6) := by
    refine (dats m 0 c).arrAt_eq_of_covers 5 _ (by decide +kernel) fun t _ y => ?_
    blk_simp
    rw [after0_5]; frame_out
    exact point_5 m c t y
  rw [this, entry_left, entry_right]
  exact tiled_eq _ _

theorem final_merged (c : Dev nD) : (dats m 0 c).arrAt 6 (cfgs 0).N = truncf .bf16 (merged (m (c, main_arg1)) (m (c, main_arg2)) (m (c, main_arg4)) (m (c, main_arg5)) (m (c, main_arg6))) bitsLt_bf16_f32 := by
  have : (dats m 0 c).arrAt 6 (cfgs 0).N = tiledMerged (V m c main_v5) (V m c main_v6) (V m c main_v4) (V m c main_v7) := by
    refine (dats m 0 c).arrAt_eq_of_covers 6 _ (by decide +kernel) fun t _ y => ?_
    blk_simp
    rw [after0_6]; frame_out
    exact point_6 m c t y
  rw [this, entry_left, entry_right, entry_gates, entry_rest]
  exact tiledMerged_eq _ _ _ _ _ _ _

theorem algebraic : Cert.algebraic_Kernel21Ideal_Reference21Ideal := by
  pair_intro
  · run_from Cert.Kernel21Ideal.Value.run_blocks m g
  · run_from Cert.Reference21Ideal.Value.run m' g'
    · exact (final_product m c).symm
    · exact (final_merged m c).symm

end Cert.Kernel21Ideal.Product

end
-- ==== Proof.HeadsGrad.lean ====
module

public import proofs.«01_k».proof.Proof.Gen.Kernel20Ideal.Value
public import proofs.«01_k».proof.Proof.Gen.Reference20Ideal.Run
public import proofs.«01_k».proof.Defs
public import Idealize.ShloMosaic.Lib.Pipeline.ValueKit

/-!
The gradient of the attention's rows and its inner product with them, head by head: the kernel's
tiles are tiles of one product and of its row sums over 128 columns.
-/

@[expose] public section

set_option maxRecDepth 16384

noncomputable section

open Idealize.ShloMosaic Idealize.ShloMosaic.TcCoe Idealize.ShloMosaic.Tactic Idealize.SL.Sem

namespace Cert.Kernel20Ideal.Product

open Cert.Kernel20Ideal Cert.Kernel20Ideal.Gen

variable (m : (ℓ : Loc nD τ sig) → Buf (Elt Ideal) ℓ)

theorem entry_left (c : Dev nD) : V m c main_v0 = (truncf .bf16 ((m (c, main_arg2) : FVec Ideal S4096x2048 .f32)) bitsLt_bf16_f32 : FVec Ideal S4096x2048 .bf16) := by
  simp only [V, hostOps0, List.flatten_cons, List.flatten_nil, List.append_nil, List.cons_append, List.nil_append]
  after_results
  all_goals rfl

theorem entry_right (c : Dev nD) : V m c main_v1 = (truncf .bf16 ((m (c, main_arg1) : FVec Ideal S2048x2048 .f32)) bitsLt_bf16_f32 : FVec Ideal S2048x2048 .bf16) := by
  simp only [V, hostOps0, List.flatten_cons, List.flatten_nil, List.append_nil, List.cons_append, List.nil_append]
  after_results
  all_goals rfl

theorem entry_rest (c : Dev nD) : V m c main_arg0 = m (c, main_arg0) := by
  simp only [V, hostOps0, List.flatten_cons, List.flatten_nil, List.append_nil, List.cons_append, List.nil_append]
  after_results
  all_goals rfl

theorem idx : ∀ t : Fin cfg0.N, win0_0.index t = ![t.val / 2, 0] ∧ win0_1.index t = ![t.val % 2, 0] ∧ win0_2.index t = ![t.val / 2, t.val % 2] ∧ win0_3.index t = ![t.val / 2, t.val % 2] ∧ win0_4.index t = ![t.val % 2, t.val / 2, 0] :=
  (by decide +kernel : ∀ t : Fin grid0.N, _)

/-- The product of the gradient with the rows of the weights. -/
def tiled (A : FVec Ideal S4096x2048 .bf16) (B : FVec Ideal S2048x2048 .bf16) : FVec Ideal S4096x2048 .bf16 :=
  fun q => ∑ k : Fin 2048, A (ix2 (q 0) k) * B (ix2 (q 1) k)

theorem tiled_at (A B q) : tiled A B q = ∑ k : Fin 2048, A (ix2 (q 0) k) * B (ix2 (q 1) k) := rfl

/-- The row sums over each head's columns of the product multiplied by the rows. -/
def tiledSums (A : FVec Ideal S4096x2048 .bf16) (B : FVec Ideal S2048x2048 .bf16) (Y : FVec Ideal S4096x2048 .f32) : FVec Ideal S16x4096x128 .f32 :=
  fun q => ∑ l : Fin 128, (∑ k : Fin 2048, A (ix2 (q 1) k) * B (ix2 ⟨(q 0).1 * 128 + l.1, by have h : (q 0).1 < 16 := (q 0).2; have := l.2; omega⟩ k)) * Y (ix2 (q 1) ⟨(q 0).1 * 128 + l.1, by have h : (q 0).1 < 16 := (q 0).2; have := l.2; omega⟩)

theorem tiledSums_at (A B Y q) : tiledSums A B Y q = ∑ l : Fin 128, (∑ k : Fin 2048, A (ix2 (q 1) k) * B (ix2 ⟨(q 0).1 * 128 + l.1, by have h : (q 0).1 < 16 := (q 0).2; have := l.2; omega⟩ k)) * Y (ix2 (q 1) ⟨(q 0).1 * 128 + l.1, by have h : (q 0).1 < 16 := (q 0).2; have := l.2; omega⟩) := rfl

theorem point_3 (c : Dev nD) (t : Fin cfg0.N) (y) : k0_pay14 (k0_pay4 (iblk m c 0 t) (iblk m c 1 t)) y
    = tiled (V m c main_v0) (V m c main_v1) (((cfg0.win 3).blk t).view.emb y) := by
  refine Eq.trans ?_ (tiled_at _ _ _).symm
  pointwise [k0_pay14, k0_pay4]
  blk_point [iblk, idx t]

/-- One entry of the row sums of a block. -/
theorem sums_at (P0 P1 : Vec Ideal S1024x2048 .bf16) (P2 : Vec Ideal S1024x1024 .f32) (y : S8x1024x128.Idx) :
    Value.E4 P0 P1 P2 y = ∑ l : Fin 128, (∑ k : Fin 2048, P0 (ix2 (y 1) k) * P1 (ix2 ⟨(y 0).1 * 128 + l.1, by have h : (y 0).1 < 8 := (y 0).2; have := l.2; omega⟩ k)) * P2 (ix2 (y 1) ⟨(y 0).1 * 128 + l.1, by have h : (y 0).1 < 8 := (y 0).2; have := l.2; omega⟩) := by
  obtain ⟨a, b, d, rfl⟩ : ∃ a b d, y = ix3 a b d := ⟨y 0, y 1, y 2, funext fun k => by fin_cases k <;> rfl⟩
  fin_cases a
  · show (multiReduction .add [1] S1024 (mulf (extractStridedSlice S1024x128 ![0, 0] (k0_pay4 P0 P1) slices_S1024x1024_o0_0_S1024x128) (extractStridedSlice S1024x128 ![0, 0] P2 slices_S1024x1024_o0_0_S1024x128)) 0x00000000#32 reduces_S1024x128_S1024 (.inl rfl) rfl) (Value.ix4_0 (ix3 ⟨0, by decide⟩ b d)) = _
    pointwise [k0_pay4]
  · show (multiReduction .add [1] S1024 (mulf (extractStridedSlice S1024x128 ![0, 128] (k0_pay4 P0 P1) slices_S1024x1024_o0_128_S1024x128) (extractStridedSlice S1024x128 ![0, 128] P2 slices_S1024x1024_o0_128_S1024x128)) 0x00000000#32 reduces_S1024x128_S1024 (.inl rfl) rfl) (Value.ix4_0 (ix3 ⟨1, by decide⟩ b d)) = _
    pointwise [k0_pay4]
  · show (multiReduction .add [1] S1024 (mulf (extractStridedSlice S1024x128 ![0, 256] (k0_pay4 P0 P1) slices_S1024x1024_o0_256_S1024x128) (extractStridedSlice S1024x128 ![0, 256] P2 slices_S1024x1024_o0_256_S1024x128)) 0x00000000#32 reduces_S1024x128_S1024 (.inl rfl) rfl) (Value.ix4_0 (ix3 ⟨2, by decide⟩ b d)) = _
    pointwise [k0_pay4]
  · show (multiReduction .add [1] S1024 (mulf (extractStridedSlice S1024x128 ![0, 384] (k0_pay4 P0 P1) slices_S1024x1024_o0_384_S1024x128) (extractStridedSlice S1024x128 ![0, 384] P2 slices_S1024x1024_o0_384_S1024x128)) 0x00000000#32 reduces_S1024x128_S1024 (.inl rfl) rfl) (Value.ix4_0 (ix3 ⟨3, by decide⟩ b d)) = _
    pointwise [k0_pay4]
  · show (multiReduction .add [1] S1024 (mulf (extractStridedSlice S1024x128 ![0, 512] (k0_pay4 P0 P1) slices_S1024x1024_o0_512_S1024x128) (extractStridedSlice S1024x128 ![0, 512] P2 slices_S1024x1024_o0_512_S1024x128)) 0x00000000#32 reduces_S1024x128_S1024 (.inl rfl) rfl) (Value.ix4_0 (ix3 ⟨4, by decide⟩ b d)) = _
    pointwise [k0_pay4]
  · show (multiReduction .add [1] S1024 (mulf (extractStridedSlice S1024x128 ![0, 640] (k0_pay4 P0 P1) slices_S1024x1024_o0_640_S1024x128) (extractStridedSlice S1024x128 ![0, 640] P2 slices_S1024x1024_o0_640_S1024x128)) 0x00000000#32 reduces_S1024x128_S1024 (.inl rfl) rfl) (Value.ix4_0 (ix3 ⟨5, by decide⟩ b d)) = _
    pointwise [k0_pay4]
  · show (multiReduction .add [1] S1024 (mulf (extractStridedSlice S1024x128 ![0, 768] (k0_pay4 P0 P1) slices_S1024x1024_o0_768_S1024x128) (extractStridedSlice S1024x128 ![0, 768] P2 slices_S1024x1024_o0_768_S1024x128)) 0x00000000#32 reduces_S1024x128_S1024 (.inl rfl) rfl) (Value.ix4_0 (ix3 ⟨6, by decide⟩ b d)) = _
    pointwise [k0_pay4]
  · show (multiReduction .add [1] S1024 (mulf (extractStridedSlice S1024x128 ![0, 896] (k0_pay4 P0 P1) slices_S1024x1024_o0_896_S1024x128) (extractStridedSlice S1024x128 ![0, 896] P2 slices_S1024x1024_o0_896_S1024x128)) 0x00000000#32 reduces_S1024x128_S1024 (.inl rfl) rfl) (Value.ix4_0 (ix3 ⟨7, by decide⟩ b d)) = _
    pointwise [k0_pay4]

theorem point_4 (c : Dev nD) (t : Fin cfg0.N) (y) : Value.E4 (iblk m c 0 t) (iblk m c 1 t) (iblk m c 2 t) y
    = tiledSums (V m c main_v0) (V m c main_v1) (V m c main_arg0) (((cfg0.win 4).blk t).view.emb y) := by
  refine (sums_at _ _ _ _).trans (Eq.trans ?_ (tiledSums_at _ _ _ _).symm)
  blk_point [iblk, idx t]

/-- The reference's product. -/
abbrev product (y : FVec Ideal S4096x2048 .f32) (w : FVec Ideal S2048x2048 .f32) : FVec Ideal S4096x2048 .f32 :=
  Host.dotGeneral Cert.Reference20Ideal.dot_S4096x2048_S2048x2048_S4096x2048_1_1_0_0_n_n none y w

/-- The reference's row sums. -/
abbrev sums (x : FVec Ideal S4096x2048 .f32) (w : FVec Ideal S2048x2048 .f32) (y : FVec Ideal S4096x2048 .f32) : FVec Ideal S16x4096x128 .f32 :=
  broadcastInDim Cert.Reference20Ideal.S16x4096x128 ![0, 1, 2] Cert.Reference20Ideal.Gen.bcast_S16x4096x1_S16x4096x128_0_1_2 (broadcastInDim Cert.Reference20Ideal.S16x4096x1 ![0, 1] Cert.Reference20Ideal.Gen.bcast_S16x4096_S16x4096x1_0_1
    (transpose Cert.Reference20Ideal.S16x4096 [1, 0] (Host.reduceAdd (shapeCast Cert.Reference20Ideal.S4096x16x128 (mulf (product y w) x) Cert.Reference20Ideal.Gen.shapeCasts_S4096x2048_S4096x16x128) (constant Cert.Reference20Ideal.S_ .f32 0x00000000#32) Cert.Reference20Ideal.Gen.reducesTo_S4096x16x128_S4096x16_d2 Cert.Reference20Ideal.Gen.h_S_) Cert.Reference20Ideal.Gen.transposes_S4096x16_S16x4096_1_0))

theorem tiled_eq (y : FVec Ideal S4096x2048 .f32) (w : FVec Ideal S2048x2048 .f32) :
    tiled (truncf .bf16 (y) bitsLt_bf16_f32) (truncf .bf16 (w) bitsLt_bf16_f32) = truncf .bf16 (product y w) bitsLt_bf16_f32 := by
  funext q
  obtain ⟨i, j, rfl⟩ : ∃ i j, q = ix2 i j := ⟨q 0, q 1, funext fun k => by fin_cases k <;> rfl⟩
  refine (tiled_at _ _ _).trans ?_
  pointwise []

theorem tiledSums_eq (x y : FVec Ideal S4096x2048 .f32) (w : FVec Ideal S2048x2048 .f32) :
    tiledSums (truncf .bf16 (y) bitsLt_bf16_f32) (truncf .bf16 (w) bitsLt_bf16_f32) x = sums x w y := by
  funext q
  obtain ⟨a, b, d, rfl⟩ : ∃ a b d, q = ix3 a b d := ⟨q 0, q 1, q 2, funext fun k => by fin_cases k <;> rfl⟩
  refine (tiledSums_at _ _ _ _).trans ?_
  pointwise []

theorem final_product (c : Dev nD) : (dats m 0 c).arrAt 3 (cfgs 0).N = truncf .bf16 (product (m (c, main_arg2)) (m (c, main_arg1))) bitsLt_bf16_f32 := by
  have : (dats m 0 c).arrAt 3 (cfgs 0).N = tiled (V m c main_v0) (V m c main_v1) := by
    refine (dats m 0 c).arrAt_eq_of_covers 3 _ (by decide +kernel) fun t _ y => ?_
    blk_simp
    rw [after0_3]; unfold_out out0_3; frame_out
    exact point_3 m c t y
  rw [this, entry_left, entry_right]
  exact tiled_eq _ _

theorem final_sums (c : Dev nD) : (dats m 0 c).arrAt 4 (cfgs 0).N = sums (m (c, main_arg0)) (m (c, main_arg1)) (m (c, main_arg2)) := by
  have : (dats m 0 c).arrAt 4 (cfgs 0).N = tiledSums (V m c main_v0) (V m c main_v1) (V m c main_arg0) := by
    refine (dats m 0 c).arrAt_eq_of_covers 4 _ (by decide +kernel) fun t _ y => ?_
    blk_simp
    rw [after0_4]; unfold_out out0_4; frame_out
    exact (Value.canon4_eq _ _ _ y).trans (point_4 m c t y)
  rw [this, entry_left, entry_right, entry_rest]
  exact tiledSums_eq _ _ _

theorem algebraic : Cert.algebraic_Kernel20Ideal_Reference20Ideal := by
  pair_intro
  · run_from Cert.Kernel20Ideal.Value.run_blocks m g
  · run_from Cert.Reference20Ideal.Value.run m' g'
    · exact (final_product m c).symm
    · exact (final_sums m c).symm

end Cert.Kernel20Ideal.Product

end
-- ==== Proof.SharedKeys.lean ====
module

public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Defs
public import Idealize.ShloMosaic.Lib.Pipeline.ValueKit

/-!
The keys' shared columns and the gradient of their weights: the kernels' tiles are tiles of one
product over 64 columns, widened by zeros.
-/

@[expose] public section

set_option maxRecDepth 16384

noncomputable section

open Idealize.ShloMosaic Idealize.ShloMosaic.TcCoe Idealize.ShloMosaic.Tactic Idealize.SL.Sem

namespace Cert.Kernel23Ideal.Product

open Cert.Kernel23Ideal Cert.Kernel23Ideal.Gen

variable (m : (ℓ : Loc nD τ sig) → Buf (Elt Ideal) ℓ)

theorem zero_pad : (FloatOps.sitofp FTy.f32 0#32 : Ideal .f32) = 0 := by
  simp [FloatOps.sitofp]

/-- The last 64 columns of the weights, widened by zeros and taken as rows. -/
abbrev lastRight (w : FVec Ideal S2048x11328 .f32) : FVec Ideal S128x2048 .bf16 :=
  truncf .bf16 (transpose S128x2048 [1, 0] (pad S2048x128 ![0, 0] ![0, 64] ![0, 0] (extractStridedSlice S2048x64 ![0, 11264] w slices_S2048x11328_S2048x64_0_11264)
    (sitofp .f32 (constantI S_ 32 0#32) : FVec Ideal S_ .f32) pads_S2048x64_S2048x128_000_0640 h_S_) transposes_S2048x128_S128x2048_1_0) bitsLt_bf16_f32

theorem right_low (w : FVec Ideal S2048x11328 .f32) (k : Fin 2048) (j : Fin 128) (h : j.1 < 64) :
    lastRight w (ix2 j k) = w (ix2 k ⟨11264 + j.1, by omega⟩) := by
  pointwise []
  rw [dif_pos h]

theorem right_high (w : FVec Ideal S2048x11328 .f32) (k : Fin 2048) (j : Fin 128) (h : ¬ j.1 < 64) :
    lastRight w (ix2 j k) = 0 := by
  pointwise []
  rw [dif_neg h]
  exact zero_pad

theorem entry_left (c : Dev nD) : V m c main_v4 = (truncf .bf16 ((m (c, main_arg0) : FVec Ideal S4096x2048 .f32)) bitsLt_bf16_f32 : FVec Ideal S4096x2048 .bf16) := by
  simp only [V, hostOps0, hostOps0_1, hostOps0_2, List.flatten_cons, List.flatten_nil, List.append_nil, List.cons_append, List.nil_append]
  after_results
  all_goals rfl

theorem entry_right (c : Dev nD) : V m c main_v3 = lastRight (m (c, main_arg1)) := by
  simp only [V, hostOps0, hostOps0_1, hostOps0_2, List.flatten_cons, List.flatten_nil, List.append_nil, List.cons_append, List.nil_append]
  after_results
  all_goals rfl

theorem idx : ∀ t : Fin cfg0.N, win0_0.index t = ![t.val, 0] ∧ win0_1.index t = ![0, 0] ∧ win0_2.index t = ![t.val, 0] :=
  (by decide +kernel : ∀ t : Fin grid0.N, _)

/-- The product of the kernel's two arguments. -/
def tiled (A : FVec Ideal S4096x2048 .bf16) (B : FVec Ideal S128x2048 .bf16) : FVec Ideal S4096x128 .f32 :=
  fun q => ∑ k : Fin 2048, A (ix2 (q 0) k) * B (ix2 (q 1) k)

theorem tiled_at (A B q) : tiled A B q = ∑ k : Fin 2048, A (ix2 (q 0) k) * B (ix2 (q 1) k) := rfl

/-- A tile the kernel writes is that tile of the product. -/
theorem point (c : Dev nD) (t : Fin cfg0.N) (y) : k0_pay1 (iblk m c 0 t) (iblk m c 1 t) y
    = tiled (V m c main_v4) (V m c main_v3) (((cfg0.win 2).blk t).view.emb y) := by
  refine Eq.trans ?_ (tiled_at _ _ _).symm
  pointwise [k0_pay1]
  blk_point [iblk, idx t]

/-- The reference's result. -/
abbrev result (x : FVec Ideal S4096x2048 .f32) (w : FVec Ideal S2048x11328 .f32) : FVec Ideal S4096x128 .f32 :=
  concatenate Cert.Reference23Ideal.S4096x128 1 [⟨Cert.Reference23Ideal.S4096x64, extractStridedSlice Cert.Reference23Ideal.S4096x64 ![0, 11264] (Host.dotGeneral Cert.Reference23Ideal.dot_S4096x2048_S2048x11328_S4096x11328_1_0_0_1_n_n none x w) Cert.Reference23Ideal.Gen.slices_S4096x11328_S4096x64_0_11264⟩,
    ⟨Cert.Reference23Ideal.S4096x64, broadcastInDim Cert.Reference23Ideal.S4096x64 ![] Cert.Reference23Ideal.Gen.bcast_S_S4096x64 (constant Cert.Reference23Ideal.S_ .f32 0x00000000#32)⟩] Cert.Reference23Ideal.Gen.concatenates_S4096x64_S4096x64_S4096x128_d1

theorem tiled_eq (x : FVec Ideal S4096x2048 .f32) (w : FVec Ideal S2048x11328 .f32) :
    tiled (truncf .bf16 (x) bitsLt_bf16_f32) (lastRight w) = result x w := by
  funext q
  obtain ⟨i, j, rfl⟩ : ∃ i j, q = ix2 i j := ⟨q 0, q 1, funext fun k => by fin_cases k <;> rfl⟩
  refine (tiled_at _ _ _).trans ?_
  by_cases h : j.1 < 64
  · refine (Fin.sum_fin_congr fun k => congrArg _ (right_low w k j h)).trans ?_
    pointwise [result]
    rw [dif_pos h]
  · refine (Fin.sum_fin_congr fun k => (congrArg _ (right_high w k j h)).trans (mul_zero _)).trans ?_
    rw [Finset.sum_const_zero]
    pointwise [result]
    rw [dif_neg h]

theorem final (c : Dev nD) : (dats m 0 c).arrAt 2 (cfgs 0).N = result (m (c, main_arg0)) (m (c, main_arg1)) := by
  have : (dats m 0 c).arrAt 2 (cfgs 0).N = tiled (V m c main_v4) (V m c main_v3) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg1))

theorem algebraic : Cert.algebraic_Kernel23Ideal_Reference23Ideal := by
  pair_intro
  · run_from Cert.Kernel23Ideal.Value.run_blocks m g
  · run_from Cert.Reference23Ideal.Value.run m' g'

    exact (final m c).symm

end Cert.Kernel23Ideal.Product

namespace Cert.Kernel24Ideal.Product

open Cert.Kernel24Ideal Cert.Kernel24Ideal.Gen

variable (m : (ℓ : Loc nD τ sig) → Buf (Elt Ideal) ℓ)

theorem zero_pad : (FloatOps.sitofp FTy.f32 0#32 : Ideal .f32) = 0 := by
  simp [FloatOps.sitofp]

/-- The last 64 columns of the gradient, widened by zeros. -/
abbrev lastLeft (G : FVec Ideal S4096x11328 .f32) : FVec Ideal S4096x128 .bf16 :=
  truncf .bf16 (pad S4096x128 ![0, 0] ![0, 64] ![0, 0] (extractStridedSlice S4096x64 ![0, 11264] G slices_S4096x11328_S4096x64_0_11264)
    (sitofp .f32 (constantI S_ 32 0#32) : FVec Ideal S_ .f32) pads_S4096x64_S4096x128_000_0640 h_S_) bitsLt_bf16_f32

theorem left_low (G : FVec Ideal S4096x11328 .f32) (k : Fin 4096) (i : Fin 128) (h : i.1 < 64) :
    lastLeft G (ix2 k i) = G (ix2 k ⟨11264 + i.1, by omega⟩) := by
  pointwise []
  rw [dif_pos h]

theorem left_high (G : FVec Ideal S4096x11328 .f32) (k : Fin 4096) (i : Fin 128) (h : ¬ i.1 < 64) :
    lastLeft G (ix2 k i) = 0 := by
  pointwise []
  rw [dif_neg h]
  exact zero_pad

theorem entry_left (c : Dev nD) : V m c main_v2 = lastLeft (m (c, main_arg2)) := by
  simp only [V, hostOps0, hostOps0_1, hostOps0_2, List.flatten_cons, List.flatten_nil, List.append_nil, List.cons_append, List.nil_append]
  after_results
  all_goals rfl

theorem entry_right (c : Dev nD) : V m c main_v3 = (truncf .bf16 ((m (c, main_arg0) : FVec Ideal S4096x2048 .f32)) bitsLt_bf16_f32 : FVec Ideal S4096x2048 .bf16) := by
  simp only [V, hostOps0, hostOps0_1, hostOps0_2, List.flatten_cons, List.flatten_nil, List.append_nil, List.cons_append, List.nil_append]
  after_results
  all_goals rfl

theorem idx : ∀ t : Fin cfg0.N, win0_0.index t = ![0, 0] ∧ win0_1.index t = ![0, t.val] ∧ win0_2.index t = ![0, t.val] :=
  (by decide +kernel : ∀ t : Fin grid0.N, _)

/-- The product of the kernel's two arguments. -/
def tiled (A : FVec Ideal S4096x128 .bf16) (B : FVec Ideal S4096x2048 .bf16) : FVec Ideal S128x2048 .bf16 :=
  fun q => ∑ k : Fin 4096, A (ix2 k (q 0)) * B (ix2 k (q 1))

theorem tiled_at (A B q) : tiled A B q = ∑ k : Fin 4096, A (ix2 k (q 0)) * B (ix2 k (q 1)) := rfl

/-- A tile the kernel writes is that tile of the product. -/
theorem point (c : Dev nD) (t : Fin cfg0.N) (y) : k0_pay1 (iblk m c 0 t) (iblk m c 1 t) y
    = tiled (V m c main_v2) (V m c main_v3) (((cfg0.win 2).blk t).view.emb y) := by
  refine Eq.trans ?_ (tiled_at _ _ _).symm
  pointwise [k0_pay1]
  blk_point [iblk, idx t]

/-- The reference's result. -/
abbrev result (x : FVec Ideal S4096x2048 .f32) (G : FVec Ideal S4096x11328 .f32) : FVec Ideal S128x2048 .bf16 :=
  truncf .bf16 (concatenate Cert.Reference24Ideal.S128x2048 0 [⟨Cert.Reference24Ideal.S64x2048, transpose Cert.Reference24Ideal.S64x2048 [1, 0] (extractStridedSlice Cert.Reference24Ideal.S2048x64 ![0, 11264] (transpose Cert.Reference24Ideal.S2048x11328 [1, 0] (Host.dotGeneral Cert.Reference24Ideal.dot_S4096x11328_S4096x2048_S11328x2048_0_0_1_1_n_n none G x) Cert.Reference24Ideal.Gen.transposes_S11328x2048_S2048x11328_1_0) Cert.Reference24Ideal.Gen.slices_S2048x11328_S2048x64_0_11264) Cert.Reference24Ideal.Gen.transposes_S2048x64_S64x2048_1_0⟩,
    ⟨Cert.Reference24Ideal.S64x2048, broadcastInDim Cert.Reference24Ideal.S64x2048 ![] Cert.Reference24Ideal.Gen.bcast_S_S64x2048 (constant Cert.Reference24Ideal.S_ .f32 0x00000000#32)⟩] Cert.Reference24Ideal.Gen.concatenates_S64x2048_S64x2048_S128x2048_d0) bitsLt_bf16_f32

theorem tiled_eq (x : FVec Ideal S4096x2048 .f32) (G : FVec Ideal S4096x11328 .f32) :
    tiled (lastLeft G) (truncf .bf16 (x) bitsLt_bf16_f32) = result x G := by
  funext q
  obtain ⟨i, j, rfl⟩ : ∃ i j, q = ix2 i j := ⟨q 0, q 1, funext fun k => by fin_cases k <;> rfl⟩
  refine (tiled_at _ _ _).trans ?_
  by_cases h : i.1 < 64
  · refine (Fin.sum_fin_congr fun k => congrArg (· * _) (left_low G k i h)).trans ?_
    pointwise [result]
    rw [dif_pos h]
  · refine (Fin.sum_fin_congr fun k => (congrArg (· * _) (left_high G k i h)).trans (zero_mul _)).trans ?_
    rw [Finset.sum_const_zero]
    pointwise [result]
    rw [dif_neg h]

theorem final (c : Dev nD) : (dats m 0 c).arrAt 2 (cfgs 0).N = result (m (c, main_arg0)) (m (c, main_arg2)) := by
  have : (dats m 0 c).arrAt 2 (cfgs 0).N = tiled (V m c main_v2) (V m c main_v3) := by
    refine (dats m 0 c).arrAt_eq_of_covers 2 _ (by decide +kernel) fun t _ y => ?_
    blk_simp
    rw [after0_2]; frame_out
    exact point m c t y
  rw [this, entry_left, entry_right]
  exact tiled_eq (m (c, main_arg0)) (m (c, main_arg2))

theorem algebraic : Cert.algebraic_Kernel24Ideal_Reference24Ideal := by
  pair_intro
  · run_from Cert.Kernel24Ideal.Value.run_blocks m g
  · run_from Cert.Reference24Ideal.Value.run m' g'

    obtain ⟨h0, h1, h2⟩ := hagree c
    exact Eq.trans (congrArg (result (m (c, main_arg0))) h2) (final m c).symm

end Cert.Kernel24Ideal.Product

end
-- ==== Proof.Optimiser.lean ====
module

public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Defs
public import Idealize.ShloMosaic.Lib.Pipeline.ValueKit

/-!
The optimiser's step of one device's part of each of the weights, with the new means of the
gradients and of their squares: the kernels' tiles are tiles of the same elementwise functions.
-/

@[expose] public section

set_option maxRecDepth 16384

noncomputable section

open Idealize.ShloMosaic Idealize.ShloMosaic.TcCoe Idealize.ShloMosaic.Tactic Idealize.SL.Sem

namespace Cert.Kernel25Ideal.Product

open Cert.Kernel25Ideal Cert.Kernel25Ideal.Gen

variable (m : (ℓ : Loc nD τ sig) → Buf (Elt Ideal) ℓ)

/-- The new mean of the gradients. -/
abbrev mean (g mo : FVec Ideal S2048x2832 .f32) : FVec Ideal S2048x2832 .f32 :=
  addf (mulf (broadcastInDim S2048x2832 ![] Cert.Reference25Ideal.Gen.bcast_S_S2048x2832 (constant Cert.Reference25Ideal.S_ .f32 0x3F666666#32)) mo) (mulf (broadcastInDim S2048x2832 ![] Cert.Reference25Ideal.Gen.bcast_S_S2048x2832 (constant Cert.Reference25Ideal.S_ .f32 0x3DCCCCCD#32)) g)

/-- The new mean of the gradients' squares. -/
abbrev square (g v : FVec Ideal S2048x2832 .f32) : FVec Ideal S2048x2832 .f32 :=
  addf (mulf (broadcastInDim S2048x2832 ![] Cert.Reference25Ideal.Gen.bcast_S_S2048x2832 (constant Cert.Reference25Ideal.S_ .f32 0x3F7FBE77#32)) v) (mulf (broadcastInDim S2048x2832 ![] Cert.Reference25Ideal.Gen.bcast_S_S2048x2832 (constant Cert.Reference25Ideal.S_ .f32 0x3A83126F#32)) (mulf g g))

/-- The step of the weights. -/
abbrev step (w g mo v : FVec Ideal S2048x2832 .f32) : FVec Ideal S2048x2832 .f32 :=
  mulf (broadcastInDim S2048x2832 ![] Cert.Reference25Ideal.Gen.bcast_S_S2048x2832 (constant Cert.Reference25Ideal.S_ .f32 0xBA83126F#32)) (addf (Host.divf (Host.divf (addf (mulf (broadcastInDim S2048x2832 ![] Cert.Reference25Ideal.Gen.bcast_S_S2048x2832 (constant Cert.Reference25Ideal.S_ .f32 0x3F666666#32)) mo) (mulf (broadcastInDim S2048x2832 ![] Cert.Reference25Ideal.Gen.bcast_S_S2048x2832 (constant Cert.Reference25Ideal.S_ .f32 0x3DCCCCCD#32)) g)) (broadcastInDim S2048x2832 ![] Cert.Reference25Ideal.Gen.bcast_S_S2048x2832 (constant Cert.Reference25Ideal.S_ .f32 0x3F26BD02#32))) (addf (Host.sqrt (Host.divf (addf (mulf (broadcastInDim S2048x2832 ![] Cert.Reference25Ideal.Gen.bcast_S_S2048x2832 (constant Cert.Reference25Ideal.S_ .f32 0x3F7FBE77#32)) v) (mulf (broadcastInDim S2048x2832 ![] Cert.Reference25Ideal.Gen.bcast_S_S2048x2832 (constant Cert.Reference25Ideal.S_ .f32 0x3A83126F#32)) (mulf g g))) (broadcastInDim S2048x2832 ![] Cert.Reference25Ideal.Gen.bcast_S_S2048x2832 (constant Cert.Reference25Ideal.S_ .f32 0x3C231ACC#32)))) (broadcastInDim S2048x2832 ![] Cert.Reference25Ideal.Gen.bcast_S_S2048x2832 (constant Cert.Reference25Ideal.S_ .f32 0x322BCC77#32)))) (mulf (broadcastInDim S2048x2832 ![] Cert.Reference25Ideal.Gen.bcast_S_S2048x2832 (constant Cert.Reference25Ideal.S_ .f32 0x3C23D70A#32)) w))

theorem entry_0 (c : Dev nD) : V m c main_v0 = (transpose S2832x2048 [1, 0] (m (c, main_arg0) : FVec Ideal S2048x2832 .f32) transposes_S2048x2832_S2832x2048_1_0 : FVec Ideal S2832x2048 .f32) := by
  simp only [V, hostOps0, List.flatten_cons, List.flatten_nil, List.append_nil, List.cons_append, List.nil_append]
  after_results
  all_goals rfl

theorem entry_1 (c : Dev nD) : V m c main_v1 = (transpose S2832x2048 [1, 0] (m (c, main_arg1) : FVec Ideal S2048x2832 .f32) transposes_S2048x2832_S2832x2048_1_0 : FVec Ideal S2832x2048 .f32) := by
  simp only [V, hostOps0, List.flatten_cons, List.flatten_nil, List.append_nil, List.cons_append, List.nil_append]
  after_results
  all_goals rfl

theorem entry_2 (c : Dev nD) : V m c main_v2 = (transpose S2832x2048 [1, 0] (m (c, main_arg2) : FVec Ideal S2048x2832 .f32) transposes_S2048x2832_S2832x2048_1_0 : FVec Ideal S2832x2048 .f32) := by
  simp only [V, hostOps0, List.flatten_cons, List.flatten_nil, List.append_nil, List.cons_append, List.nil_append]
  after_results
  all_goals rfl

theorem entry_3 (c : Dev nD) : V m c main_v3 = (transpose S2832x2048 [1, 0] (m (c, main_arg3) : FVec Ideal S2048x2832 .f32) transposes_S2048x2832_S2832x2048_1_0 : FVec Ideal S2832x2048 .f32) := by
  simp only [V, hostOps0, List.flatten_cons, List.flatten_nil, List.append_nil, List.cons_append, List.nil_append]
  after_results
  all_goals rfl

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

/-- The new mean of the gradients, on the transposed arrays. -/
abbrev meanRows (g mo : FVec Ideal S2832x2048 .f32) : FVec Ideal S2832x2048 .f32 :=
  addf (mulf (constant S2832x2048 .f32 0x3F666666#32) mo) (mulf (constant S2832x2048 .f32 0x3DCCCCCD#32) g)

/-- The new mean of the gradients' squares, on the transposed arrays. -/
abbrev squareRows (g v : FVec Ideal S2832x2048 .f32) : FVec Ideal S2832x2048 .f32 :=
  addf (mulf (constant S2832x2048 .f32 0x3F7FBE77#32) v) (mulf (constant S2832x2048 .f32 0x3A83126F#32) (mulf g g))

/-- The step of the weights, on the transposed arrays. -/
abbrev stepRows (w g mo v : FVec Ideal S2832x2048 .f32) : FVec Ideal S2832x2048 .f32 :=
  mulf (constant S2832x2048 .f32 0xBA83126F#32) (addf (Host.divf (Host.divf (addf (mulf (constant S2832x2048 .f32 0x3F666666#32) mo) (mulf (constant S2832x2048 .f32 0x3DCCCCCD#32) g)) (constant S2832x2048 .f32 0x3F26BD02#32)) (addf (Host.sqrt (Host.divf (addf (mulf (constant S2832x2048 .f32 0x3F7FBE77#32) v) (mulf (constant S2832x2048 .f32 0x3A83126F#32) (mulf g g))) (constant S2832x2048 .f32 0x3C231ACC#32))) (constant S2832x2048 .f32 0x322BCC77#32))) (mulf (constant S2832x2048 .f32 0x3C23D70A#32) w))

theorem mean_rows (g mo : FVec Ideal S2048x2832 .f32) :
    meanRows (transpose S2832x2048 [1, 0] (g) transposes_S2048x2832_S2832x2048_1_0) (transpose S2832x2048 [1, 0] (mo) transposes_S2048x2832_S2832x2048_1_0) = transpose S2832x2048 [1, 0] (mean g mo) transposes_S2048x2832_S2832x2048_1_0 := by
  funext q
  pointwise [meanRows, mean]

theorem point_mean (c : Dev nD) (t : Fin cfg0.N) (y) : k0_pay2 (iblk m c 1 t) (iblk m c 2 t) y
    = (meanRows (V m c main_v1) (V m c main_v2)) (((cfg0.win 6).blk t).view.emb y) := by
  pointwise [k0_pay1, k0_pay2, k0_pay3, k0_pay4, meanRows, squareRows, stepRows]
  blk_point [iblk, idx t]

theorem final_mean (c : Dev nD) : (dats m 0 c).arrAt 6 (cfgs 0).N = transpose S2832x2048 [1, 0] (mean (m (c, main_arg1)) (m (c, main_arg2))) transposes_S2048x2832_S2832x2048_1_0 := by
  have : (dats m 0 c).arrAt 6 (cfgs 0).N = meanRows (V m c main_v1) (V m c main_v2) := by
    refine (dats m 0 c).arrAt_eq_of_covers 6 _ (by decide +kernel) fun t _ y => ?_
    blk_simp
    rw [after0_6]; frame_out
    exact point_mean m c t y
  rw [this, entry_1, entry_2]
  exact mean_rows _ _

theorem square_rows (g v : FVec Ideal S2048x2832 .f32) :
    squareRows (transpose S2832x2048 [1, 0] (g) transposes_S2048x2832_S2832x2048_1_0) (transpose S2832x2048 [1, 0] (v) transposes_S2048x2832_S2832x2048_1_0) = transpose S2832x2048 [1, 0] (square g v) transposes_S2048x2832_S2832x2048_1_0 := by
  funext q
  pointwise [squareRows, square]

theorem point_square (c : Dev nD) (t : Fin cfg0.N) (y) : k0_pay3 (iblk m c 1 t) (iblk m c 3 t) y
    = (squareRows (V m c main_v1) (V m c main_v3)) (((cfg0.win 7).blk t).view.emb y) := by
  pointwise [k0_pay1, k0_pay2, k0_pay3, k0_pay4, meanRows, squareRows, stepRows]
  blk_point [iblk, idx t]

theorem final_square (c : Dev nD) : (dats m 0 c).arrAt 7 (cfgs 0).N = transpose S2832x2048 [1, 0] (square (m (c, main_arg1)) (m (c, main_arg3))) transposes_S2048x2832_S2832x2048_1_0 := by
  have : (dats m 0 c).arrAt 7 (cfgs 0).N = squareRows (V m c main_v1) (V m c main_v3) := by
    refine (dats m 0 c).arrAt_eq_of_covers 7 _ (by decide +kernel) fun t _ y => ?_
    blk_simp
    rw [after0_7]; frame_out
    exact point_square m c t y
  rw [this, entry_1, entry_3]
  exact square_rows _ _

theorem step_rows (w g mo v : FVec Ideal S2048x2832 .f32) :
    stepRows (transpose S2832x2048 [1, 0] (w) transposes_S2048x2832_S2832x2048_1_0) (transpose S2832x2048 [1, 0] (g) transposes_S2048x2832_S2832x2048_1_0) (transpose S2832x2048 [1, 0] (mo) transposes_S2048x2832_S2832x2048_1_0) (transpose S2832x2048 [1, 0] (v) transposes_S2048x2832_S2832x2048_1_0) = transpose S2832x2048 [1, 0] (step w g mo v) transposes_S2048x2832_S2832x2048_1_0 := by
  funext q
  pointwise [stepRows, step]

theorem point_step (c : Dev nD) (t : Fin cfg0.N) (y) : k0_pay4 (iblk m c 0 t) (iblk m c 1 t) (iblk m c 2 t) (iblk m c 3 t) y
    = (stepRows (V m c main_v0) (V m c main_v1) (V m c main_v2) (V m c main_v3)) (((cfg0.win 5).blk t).view.emb y) := by
  pointwise [k0_pay1, k0_pay2, k0_pay3, k0_pay4, meanRows, squareRows, stepRows]
  blk_point [iblk, idx t]

theorem final_step (c : Dev nD) : (dats m 0 c).arrAt 5 (cfgs 0).N = transpose S2832x2048 [1, 0] (step (m (c, main_arg0)) (m (c, main_arg1)) (m (c, main_arg2)) (m (c, main_arg3))) transposes_S2048x2832_S2832x2048_1_0 := by
  have : (dats m 0 c).arrAt 5 (cfgs 0).N = stepRows (V m c main_v0) (V m c main_v1) (V m c main_v2) (V m c main_v3) := by
    refine (dats m 0 c).arrAt_eq_of_covers 5 _ (by decide +kernel) fun t _ y => ?_
    blk_simp
    rw [after0_5]; frame_out
    exact point_step m c t y
  rw [this, entry_0, entry_1, entry_2, entry_3]
  exact step_rows _ _ _ _

theorem final_gradient (c : Dev nD) : (dats m 0 c).arrAt 4 (cfgs 0).N = transpose S2832x2048 [1, 0] ((m (c, main_arg1) : FVec Ideal S2048x2832 .f32)) transposes_S2048x2832_S2832x2048_1_0 := by
  have : (dats m 0 c).arrAt 4 (cfgs 0).N = V m c main_v1 := by
    refine (dats m 0 c).arrAt_eq_of_covers 4 _ (by decide +kernel) fun t _ y => ?_
    blk_simp
    rw [after0_4]; frame_out
    pointwise [k0_pay1]
    blk_point [iblk, idx t]
  rw [this, entry_1]

theorem algebraic : Cert.algebraic_Kernel25Ideal_Reference25Ideal := by
  pair_intro
  · run_from Cert.Kernel25Ideal.Value.run_blocks m g
  · run_from Cert.Reference25Ideal.Value.run m' g'
    · exact (final_gradient m c).symm
    · exact (final_step m c).symm
    · exact (final_mean m c).symm
    · exact (final_square m c).symm

end Cert.Kernel25Ideal.Product

namespace Cert.Kernel26Ideal.Product

open Cert.Kernel26Ideal Cert.Kernel26Ideal.Gen

variable (m : (ℓ : Loc nD τ sig) → Buf (Elt Ideal) ℓ)

/-- The new mean of the gradients. -/
abbrev mean (g mo : FVec Ideal S512x2048 .f32) : FVec Ideal S512x2048 .f32 :=
  addf (mulf (broadcastInDim S512x2048 ![] Cert.Reference26Ideal.Gen.bcast_S_S512x2048 (constant Cert.Reference26Ideal.S_ .f32 0x3F666666#32)) mo) (mulf (broadcastInDim S512x2048 ![] Cert.Reference26Ideal.Gen.bcast_S_S512x2048 (constant Cert.Reference26Ideal.S_ .f32 0x3DCCCCCD#32)) g)

/-- The new mean of the gradients' squares. -/
abbrev square (g v : FVec Ideal S512x2048 .f32) : FVec Ideal S512x2048 .f32 :=
  addf (mulf (broadcastInDim S512x2048 ![] Cert.Reference26Ideal.Gen.bcast_S_S512x2048 (constant Cert.Reference26Ideal.S_ .f32 0x3F7FBE77#32)) v) (mulf (broadcastInDim S512x2048 ![] Cert.Reference26Ideal.Gen.bcast_S_S512x2048 (constant Cert.Reference26Ideal.S_ .f32 0x3A83126F#32)) (mulf g g))

/-- The step of the weights. -/
abbrev step (w g mo v : FVec Ideal S512x2048 .f32) : FVec Ideal S512x2048 .f32 :=
  mulf (broadcastInDim S512x2048 ![] Cert.Reference26Ideal.Gen.bcast_S_S512x2048 (constant Cert.Reference26Ideal.S_ .f32 0xBA83126F#32)) (addf (Host.divf (Host.divf (addf (mulf (broadcastInDim S512x2048 ![] Cert.Reference26Ideal.Gen.bcast_S_S512x2048 (constant Cert.Reference26Ideal.S_ .f32 0x3F666666#32)) mo) (mulf (broadcastInDim S512x2048 ![] Cert.Reference26Ideal.Gen.bcast_S_S512x2048 (constant Cert.Reference26Ideal.S_ .f32 0x3DCCCCCD#32)) g)) (broadcastInDim S512x2048 ![] Cert.Reference26Ideal.Gen.bcast_S_S512x2048 (constant Cert.Reference26Ideal.S_ .f32 0x3F26BD02#32))) (addf (Host.sqrt (Host.divf (addf (mulf (broadcastInDim S512x2048 ![] Cert.Reference26Ideal.Gen.bcast_S_S512x2048 (constant Cert.Reference26Ideal.S_ .f32 0x3F7FBE77#32)) v) (mulf (broadcastInDim S512x2048 ![] Cert.Reference26Ideal.Gen.bcast_S_S512x2048 (constant Cert.Reference26Ideal.S_ .f32 0x3A83126F#32)) (mulf g g))) (broadcastInDim S512x2048 ![] Cert.Reference26Ideal.Gen.bcast_S_S512x2048 (constant Cert.Reference26Ideal.S_ .f32 0x3C231ACC#32)))) (broadcastInDim S512x2048 ![] Cert.Reference26Ideal.Gen.bcast_S_S512x2048 (constant Cert.Reference26Ideal.S_ .f32 0x322BCC77#32)))) (mulf (broadcastInDim S512x2048 ![] Cert.Reference26Ideal.Gen.bcast_S_S512x2048 (constant Cert.Reference26Ideal.S_ .f32 0x3C23D70A#32)) w))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_mean (c : Dev nD) (t : Fin cfg0.N) (y) : k0_pay1 (iblk m c 1 t) (iblk m c 2 t) y
    = (mean (V m c main_arg1) (V m c main_arg2)) (((cfg0.win 6).blk t).view.emb y) := by
  pointwise [k0_pay1, k0_pay2, k0_pay3, mean, square, step]
  blk_point [iblk, idx t]

theorem final_mean (c : Dev nD) : (dats m 0 c).arrAt 6 (cfgs 0).N = mean (m (c, main_arg1)) (m (c, main_arg2)) := by
  have : (dats m 0 c).arrAt 6 (cfgs 0).N = mean (V m c main_arg1) (V m c main_arg2) := by
    refine (dats m 0 c).arrAt_eq_of_covers 6 _ (by decide +kernel) fun t _ y => ?_
    blk_simp
    rw [after0_6]; frame_out
    exact point_mean m c t y
  simpa only [V_main_arg1, V_main_arg2] using this

theorem point_square (c : Dev nD) (t : Fin cfg0.N) (y) : k0_pay2 (iblk m c 1 t) (iblk m c 3 t) y
    = (square (V m c main_arg1) (V m c main_arg3)) (((cfg0.win 7).blk t).view.emb y) := by
  pointwise [k0_pay1, k0_pay2, k0_pay3, mean, square, step]
  blk_point [iblk, idx t]

theorem final_square (c : Dev nD) : (dats m 0 c).arrAt 7 (cfgs 0).N = square (m (c, main_arg1)) (m (c, main_arg3)) := by
  have : (dats m 0 c).arrAt 7 (cfgs 0).N = square (V m c main_arg1) (V m c main_arg3) := by
    refine (dats m 0 c).arrAt_eq_of_covers 7 _ (by decide +kernel) fun t _ y => ?_
    blk_simp
    rw [after0_7]; frame_out
    exact point_square m c t y
  simpa only [V_main_arg1, V_main_arg3] using this

theorem point_step (c : Dev nD) (t : Fin cfg0.N) (y) : k0_pay3 (iblk m c 0 t) (iblk m c 1 t) (iblk m c 2 t) (iblk m c 3 t) y
    = (step (V m c main_arg0) (V m c main_arg1) (V m c main_arg2) (V m c main_arg3)) (((cfg0.win 5).blk t).view.emb y) := by
  pointwise [k0_pay1, k0_pay2, k0_pay3, mean, square, step]
  blk_point [iblk, idx t]

theorem final_step (c : Dev nD) : (dats m 0 c).arrAt 5 (cfgs 0).N = step (m (c, main_arg0)) (m (c, main_arg1)) (m (c, main_arg2)) (m (c, main_arg3)) := by
  have : (dats m 0 c).arrAt 5 (cfgs 0).N = step (V m c main_arg0) (V m c main_arg1) (V m c main_arg2) (V m c main_arg3) := by
    refine (dats m 0 c).arrAt_eq_of_covers 5 _ (by decide +kernel) fun t _ y => ?_
    blk_simp
    rw [after0_5]; frame_out
    exact point_step m c t y
  simpa only [V_main_arg0, V_main_arg1, V_main_arg2, V_main_arg3] using this

theorem final_gradient (c : Dev nD) : (dats m 0 c).arrAt 4 (cfgs 0).N = m (c, main_arg1) := by
  have : (dats m 0 c).arrAt 4 (cfgs 0).N = V m c main_arg1 := by
    refine (dats m 0 c).arrAt_eq_of_covers 4 _ (by decide +kernel) fun t _ y => ?_
    blk_simp
    rw [after0_4]; frame_out
    blk_point [iblk, idx t]
  simpa only [V_main_arg1] using this

theorem algebraic : Cert.algebraic_Kernel26Ideal_Reference26Ideal := by
  pair_intro
  · run_from Cert.Kernel26Ideal.Value.run_blocks m g
  · run_from Cert.Reference26Ideal.Value.run m' g'
    · exact (final_gradient m c).symm
    · exact (final_step m c).symm
    · exact (final_mean m c).symm
    · exact (final_square m c).symm

end Cert.Kernel26Ideal.Product

namespace Cert.Kernel27Ideal.Product

open Cert.Kernel27Ideal Cert.Kernel27Ideal.Gen

variable (m : (ℓ : Loc nD τ sig) → Buf (Elt Ideal) ℓ)

/-- The new mean of the gradients. -/
abbrev mean (g mo : FVec Ideal S512x768 .f32) : FVec Ideal S512x768 .f32 :=
  addf (mulf (broadcastInDim S512x768 ![] Cert.Reference27Ideal.Gen.bcast_S_S512x768 (constant Cert.Reference27Ideal.S_ .f32 0x3F666666#32)) mo) (mulf (broadcastInDim S512x768 ![] Cert.Reference27Ideal.Gen.bcast_S_S512x768 (constant Cert.Reference27Ideal.S_ .f32 0x3DCCCCCD#32)) g)

/-- The new mean of the gradients' squares. -/
abbrev square (g v : FVec Ideal S512x768 .f32) : FVec Ideal S512x768 .f32 :=
  addf (mulf (broadcastInDim S512x768 ![] Cert.Reference27Ideal.Gen.bcast_S_S512x768 (constant Cert.Reference27Ideal.S_ .f32 0x3F7FBE77#32)) v) (mulf (broadcastInDim S512x768 ![] Cert.Reference27Ideal.Gen.bcast_S_S512x768 (constant Cert.Reference27Ideal.S_ .f32 0x3A83126F#32)) (mulf g g))

/-- The step of the weights. -/
abbrev step (w g mo v : FVec Ideal S512x768 .f32) : FVec Ideal S512x768 .f32 :=
  mulf (broadcastInDim S512x768 ![] Cert.Reference27Ideal.Gen.bcast_S_S512x768 (constant Cert.Reference27Ideal.S_ .f32 0xBA83126F#32)) (addf (Host.divf (Host.divf (addf (mulf (broadcastInDim S512x768 ![] Cert.Reference27Ideal.Gen.bcast_S_S512x768 (constant Cert.Reference27Ideal.S_ .f32 0x3F666666#32)) mo) (mulf (broadcastInDim S512x768 ![] Cert.Reference27Ideal.Gen.bcast_S_S512x768 (constant Cert.Reference27Ideal.S_ .f32 0x3DCCCCCD#32)) g)) (broadcastInDim S512x768 ![] Cert.Reference27Ideal.Gen.bcast_S_S512x768 (constant Cert.Reference27Ideal.S_ .f32 0x3F26BD02#32))) (addf (Host.sqrt (Host.divf (addf (mulf (broadcastInDim S512x768 ![] Cert.Reference27Ideal.Gen.bcast_S_S512x768 (constant Cert.Reference27Ideal.S_ .f32 0x3F7FBE77#32)) v) (mulf (broadcastInDim S512x768 ![] Cert.Reference27Ideal.Gen.bcast_S_S512x768 (constant Cert.Reference27Ideal.S_ .f32 0x3A83126F#32)) (mulf g g))) (broadcastInDim S512x768 ![] Cert.Reference27Ideal.Gen.bcast_S_S512x768 (constant Cert.Reference27Ideal.S_ .f32 0x3C231ACC#32)))) (broadcastInDim S512x768 ![] Cert.Reference27Ideal.Gen.bcast_S_S512x768 (constant Cert.Reference27Ideal.S_ .f32 0x322BCC77#32)))) (mulf (broadcastInDim S512x768 ![] Cert.Reference27Ideal.Gen.bcast_S_S512x768 (constant Cert.Reference27Ideal.S_ .f32 0x3C23D70A#32)) w))

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem point_mean (c : Dev nD) (t : Fin cfg0.N) (y) : k0_pay1 (iblk m c 1 t) (iblk m c 2 t) y
    = (mean (V m c main_arg1) (V m c main_arg2)) (((cfg0.win 6).blk t).view.emb y) := by
  pointwise [k0_pay1, k0_pay2, k0_pay3, mean, square, step]
  blk_point [iblk, idx t]

theorem final_mean (c : Dev nD) : (dats m 0 c).arrAt 6 (cfgs 0).N = mean (m (c, main_arg1)) (m (c, main_arg2)) := by
  have : (dats m 0 c).arrAt 6 (cfgs 0).N = mean (V m c main_arg1) (V m c main_arg2) := by
    refine (dats m 0 c).arrAt_eq_of_covers 6 _ (by decide +kernel) fun t _ y => ?_
    blk_simp
    rw [after0_6]; frame_out
    exact point_mean m c t y
  simpa only [V_main_arg1, V_main_arg2] using this

theorem point_square (c : Dev nD) (t : Fin cfg0.N) (y) : k0_pay2 (iblk m c 1 t) (iblk m c 3 t) y
    = (square (V m c main_arg1) (V m c main_arg3)) (((cfg0.win 7).blk t).view.emb y) := by
  pointwise [k0_pay1, k0_pay2, k0_pay3, mean, square, step]
  blk_point [iblk, idx t]

theorem final_square (c : Dev nD) : (dats m 0 c).arrAt 7 (cfgs 0).N = square (m (c, main_arg1)) (m (c, main_arg3)) := by
  have : (dats m 0 c).arrAt 7 (cfgs 0).N = square (V m c main_arg1) (V m c main_arg3) := by
    refine (dats m 0 c).arrAt_eq_of_covers 7 _ (by decide +kernel) fun t _ y => ?_
    blk_simp
    rw [after0_7]; frame_out
    exact point_square m c t y
  simpa only [V_main_arg1, V_main_arg3] using this

theorem point_step (c : Dev nD) (t : Fin cfg0.N) (y) : k0_pay3 (iblk m c 0 t) (iblk m c 1 t) (iblk m c 2 t) (iblk m c 3 t) y
    = (step (V m c main_arg0) (V m c main_arg1) (V m c main_arg2) (V m c main_arg3)) (((cfg0.win 5).blk t).view.emb y) := by
  pointwise [k0_pay1, k0_pay2, k0_pay3, mean, square, step]
  blk_point [iblk, idx t]

theorem final_step (c : Dev nD) : (dats m 0 c).arrAt 5 (cfgs 0).N = step (m (c, main_arg0)) (m (c, main_arg1)) (m (c, main_arg2)) (m (c, main_arg3)) := by
  have : (dats m 0 c).arrAt 5 (cfgs 0).N = step (V m c main_arg0) (V m c main_arg1) (V m c main_arg2) (V m c main_arg3) := by
    refine (dats m 0 c).arrAt_eq_of_covers 5 _ (by decide +kernel) fun t _ y => ?_
    blk_simp
    rw [after0_5]; frame_out
    exact point_step m c t y
  simpa only [V_main_arg0, V_main_arg1, V_main_arg2, V_main_arg3] using this

theorem final_gradient (c : Dev nD) : (dats m 0 c).arrAt 4 (cfgs 0).N = m (c, main_arg1) := by
  have : (dats m 0 c).arrAt 4 (cfgs 0).N = V m c main_arg1 := by
    refine (dats m 0 c).arrAt_eq_of_covers 4 _ (by decide +kernel) fun t _ y => ?_
    blk_simp
    rw [after0_4]; frame_out
    blk_point [iblk, idx t]
  simpa only [V_main_arg1] using this

theorem algebraic : Cert.algebraic_Kernel27Ideal_Reference27Ideal := by
  pair_intro
  · run_from Cert.Kernel27Ideal.Value.run_blocks m g
  · run_from Cert.Reference27Ideal.Value.run m' g'
    · exact (final_gradient m c).symm
    · exact (final_step m c).symm
    · exact (final_mean m c).symm
    · exact (final_square m c).symm

end Cert.Kernel27Ideal.Product

namespace Cert.Kernel28Ideal.Product

open Cert.Kernel28Ideal Cert.Kernel28Ideal.Gen

variable (m : (ℓ : Loc nD τ sig) → Buf (Elt Ideal) ℓ)

/-- The new mean of the gradients. -/
abbrev mean (g mo : FVec Ideal S512x1024 .f32) : FVec Ideal S512x1024 .f32 :=
  addf (mulf (broadcastInDim S512x1024 ![] Cert.Reference28Ideal.Gen.bcast_S_S512x1024 (constant Cert.Reference28Ideal.S_ .f32 0x3F666666#32)) mo) (mulf (broadcastInDim S512x1024 ![] Cert.Reference28Ideal.Gen.bcast_S_S512x1024 (constant Cert.Reference28Ideal.S_ .f32 0x3DCCCCCD#32)) g)

/-- The new mean of the gradients' squares. -/
abbrev square (g v : FVec Ideal S512x1024 .f32) : FVec Ideal S512x1024 .f32 :=
  addf (mulf (broadcastInDim S512x1024 ![] Cert.Reference28Ideal.Gen.bcast_S_S512x1024 (constant Cert.Reference28Ideal.S_ .f32 0x3F7FBE77#32)) v) (mulf (broadcastInDim S512x1024 ![] Cert.Reference28Ideal.Gen.bcast_S_S512x1024 (constant Cert.Reference28Ideal.S_ .f32 0x3A83126F#32)) (mulf g g))

/-- The step of the weights. -/
abbrev step (w g mo v : FVec Ideal S512x1024 .f32) : FVec Ideal S512x1024 .f32 :=
  mulf (broadcastInDim S512x1024 ![] Cert.Reference28Ideal.Gen.bcast_S_S512x1024 (constant Cert.Reference28Ideal.S_ .f32 0xBA83126F#32)) (addf (Host.divf (Host.divf (addf (mulf (broadcastInDim S512x1024 ![] Cert.Reference28Ideal.Gen.bcast_S_S512x1024 (constant Cert.Reference28Ideal.S_ .f32 0x3F666666#32)) mo) (mulf (broadcastInDim S512x1024 ![] Cert.Reference28Ideal.Gen.bcast_S_S512x1024 (constant Cert.Reference28Ideal.S_ .f32 0x3DCCCCCD#32)) g)) (broadcastInDim S512x1024 ![] Cert.Reference28Ideal.Gen.bcast_S_S512x1024 (constant Cert.Reference28Ideal.S_ .f32 0x3F26BD02#32))) (addf (Host.sqrt (Host.divf (addf (mulf (broadcastInDim S512x1024 ![] Cert.Reference28Ideal.Gen.bcast_S_S512x1024 (constant Cert.Reference28Ideal.S_ .f32 0x3F7FBE77#32)) v) (mulf (broadcastInDim S512x1024 ![] Cert.Reference28Ideal.Gen.bcast_S_S512x1024 (constant Cert.Reference28Ideal.S_ .f32 0x3A83126F#32)) (mulf g g))) (broadcastInDim S512x1024 ![] Cert.Reference28Ideal.Gen.bcast_S_S512x1024 (constant Cert.Reference28Ideal.S_ .f32 0x3C231ACC#32)))) (broadcastInDim S512x1024 ![] Cert.Reference28Ideal.Gen.bcast_S_S512x1024 (constant Cert.Reference28Ideal.S_ .f32 0x322BCC77#32)))) (mulf (broadcastInDim S512x1024 ![] Cert.Reference28Ideal.Gen.bcast_S_S512x1024 (constant Cert.Reference28Ideal.S_ .f32 0x3C23D70A#32)) w))

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem point_mean (c : Dev nD) (t : Fin cfg0.N) (y) : k0_pay1 (iblk m c 1 t) (iblk m c 2 t) y
    = (mean (V m c main_arg1) (V m c main_arg2)) (((cfg0.win 6).blk t).view.emb y) := by
  pointwise [k0_pay1, k0_pay2, k0_pay3, mean, square, step]
  blk_point [iblk, idx t]

theorem final_mean (c : Dev nD) : (dats m 0 c).arrAt 6 (cfgs 0).N = mean (m (c, main_arg1)) (m (c, main_arg2)) := by
  have : (dats m 0 c).arrAt 6 (cfgs 0).N = mean (V m c main_arg1) (V m c main_arg2) := by
    refine (dats m 0 c).arrAt_eq_of_covers 6 _ (by decide +kernel) fun t _ y => ?_
    blk_simp
    rw [after0_6]; frame_out
    exact point_mean m c t y
  simpa only [V_main_arg1, V_main_arg2] using this

theorem point_square (c : Dev nD) (t : Fin cfg0.N) (y) : k0_pay2 (iblk m c 1 t) (iblk m c 3 t) y
    = (square (V m c main_arg1) (V m c main_arg3)) (((cfg0.win 7).blk t).view.emb y) := by
  pointwise [k0_pay1, k0_pay2, k0_pay3, mean, square, step]
  blk_point [iblk, idx t]

theorem final_square (c : Dev nD) : (dats m 0 c).arrAt 7 (cfgs 0).N = square (m (c, main_arg1)) (m (c, main_arg3)) := by
  have : (dats m 0 c).arrAt 7 (cfgs 0).N = square (V m c main_arg1) (V m c main_arg3) := by
    refine (dats m 0 c).arrAt_eq_of_covers 7 _ (by decide +kernel) fun t _ y => ?_
    blk_simp
    rw [after0_7]; frame_out
    exact point_square m c t y
  simpa only [V_main_arg1, V_main_arg3] using this

theorem point_step (c : Dev nD) (t : Fin cfg0.N) (y) : k0_pay3 (iblk m c 0 t) (iblk m c 1 t) (iblk m c 2 t) (iblk m c 3 t) y
    = (step (V m c main_arg0) (V m c main_arg1) (V m c main_arg2) (V m c main_arg3)) (((cfg0.win 5).blk t).view.emb y) := by
  pointwise [k0_pay1, k0_pay2, k0_pay3, mean, square, step]
  blk_point [iblk, idx t]

theorem final_step (c : Dev nD) : (dats m 0 c).arrAt 5 (cfgs 0).N = step (m (c, main_arg0)) (m (c, main_arg1)) (m (c, main_arg2)) (m (c, main_arg3)) := by
  have : (dats m 0 c).arrAt 5 (cfgs 0).N = step (V m c main_arg0) (V m c main_arg1) (V m c main_arg2) (V m c main_arg3) := by
    refine (dats m 0 c).arrAt_eq_of_covers 5 _ (by decide +kernel) fun t _ y => ?_
    blk_simp
    rw [after0_5]; frame_out
    exact point_step m c t y
  simpa only [V_main_arg0, V_main_arg1, V_main_arg2, V_main_arg3] using this

theorem final_gradient (c : Dev nD) : (dats m 0 c).arrAt 4 (cfgs 0).N = m (c, main_arg1) := by
  have : (dats m 0 c).arrAt 4 (cfgs 0).N = V m c main_arg1 := by
    refine (dats m 0 c).arrAt_eq_of_covers 4 _ (by decide +kernel) fun t _ y => ?_
    blk_simp
    rw [after0_4]; frame_out
    blk_point [iblk, idx t]
  simpa only [V_main_arg1] using this

theorem algebraic : Cert.algebraic_Kernel28Ideal_Reference28Ideal := by
  pair_intro
  · run_from Cert.Kernel28Ideal.Value.run_blocks m g
  · run_from Cert.Reference28Ideal.Value.run m' g'
    · exact (final_gradient m c).symm
    · exact (final_step m c).symm
    · exact (final_mean m c).symm
    · exact (final_square m c).symm

end Cert.Kernel28Ideal.Product

namespace Cert.Kernel29Ideal.Product

open Cert.Kernel29Ideal Cert.Kernel29Ideal.Gen

variable (m : (ℓ : Loc nD τ sig) → Buf (Elt Ideal) ℓ)

/-- The new mean of the gradients. -/
abbrev mean (g mo : FVec Ideal S2048x2048 .f32) : FVec Ideal S2048x2048 .f32 :=
  addf (mulf (broadcastInDim S2048x2048 ![] Cert.Reference29Ideal.Gen.bcast_S_S2048x2048 (constant Cert.Reference29Ideal.S_ .f32 0x3F666666#32)) mo) (mulf (broadcastInDim S2048x2048 ![] Cert.Reference29Ideal.Gen.bcast_S_S2048x2048 (constant Cert.Reference29Ideal.S_ .f32 0x3DCCCCCD#32)) g)

/-- The new mean of the gradients' squares. -/
abbrev square (g v : FVec Ideal S2048x2048 .f32) : FVec Ideal S2048x2048 .f32 :=
  addf (mulf (broadcastInDim S2048x2048 ![] Cert.Reference29Ideal.Gen.bcast_S_S2048x2048 (constant Cert.Reference29Ideal.S_ .f32 0x3F7FBE77#32)) v) (mulf (broadcastInDim S2048x2048 ![] Cert.Reference29Ideal.Gen.bcast_S_S2048x2048 (constant Cert.Reference29Ideal.S_ .f32 0x3A83126F#32)) (mulf g g))

/-- The step of the weights. -/
abbrev step (w g mo v : FVec Ideal S2048x2048 .f32) : FVec Ideal S2048x2048 .f32 :=
  mulf (broadcastInDim S2048x2048 ![] Cert.Reference29Ideal.Gen.bcast_S_S2048x2048 (constant Cert.Reference29Ideal.S_ .f32 0xBA83126F#32)) (addf (Host.divf (Host.divf (addf (mulf (broadcastInDim S2048x2048 ![] Cert.Reference29Ideal.Gen.bcast_S_S2048x2048 (constant Cert.Reference29Ideal.S_ .f32 0x3F666666#32)) mo) (mulf (broadcastInDim S2048x2048 ![] Cert.Reference29Ideal.Gen.bcast_S_S2048x2048 (constant Cert.Reference29Ideal.S_ .f32 0x3DCCCCCD#32)) g)) (broadcastInDim S2048x2048 ![] Cert.Reference29Ideal.Gen.bcast_S_S2048x2048 (constant Cert.Reference29Ideal.S_ .f32 0x3F26BD02#32))) (addf (Host.sqrt (Host.divf (addf (mulf (broadcastInDim S2048x2048 ![] Cert.Reference29Ideal.Gen.bcast_S_S2048x2048 (constant Cert.Reference29Ideal.S_ .f32 0x3F7FBE77#32)) v) (mulf (broadcastInDim S2048x2048 ![] Cert.Reference29Ideal.Gen.bcast_S_S2048x2048 (constant Cert.Reference29Ideal.S_ .f32 0x3A83126F#32)) (mulf g g))) (broadcastInDim S2048x2048 ![] Cert.Reference29Ideal.Gen.bcast_S_S2048x2048 (constant Cert.Reference29Ideal.S_ .f32 0x3C231ACC#32)))) (broadcastInDim S2048x2048 ![] Cert.Reference29Ideal.Gen.bcast_S_S2048x2048 (constant Cert.Reference29Ideal.S_ .f32 0x322BCC77#32)))) (mulf (broadcastInDim S2048x2048 ![] Cert.Reference29Ideal.Gen.bcast_S_S2048x2048 (constant Cert.Reference29Ideal.S_ .f32 0x3C23D70A#32)) w))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem point_mean (c : Dev nD) (t : Fin cfg0.N) (y) : k0_pay1 (iblk m c 1 t) (iblk m c 2 t) y
    = (mean (V m c main_arg1) (V m c main_arg2)) (((cfg0.win 6).blk t).view.emb y) := by
  pointwise [k0_pay1, k0_pay2, k0_pay3, mean, square, step]
  blk_point [iblk, idx t]

theorem final_mean (c : Dev nD) : (dats m 0 c).arrAt 6 (cfgs 0).N = mean (m (c, main_arg1)) (m (c, main_arg2)) := by
  have : (dats m 0 c).arrAt 6 (cfgs 0).N = mean (V m c main_arg1) (V m c main_arg2) := by
    refine (dats m 0 c).arrAt_eq_of_covers 6 _ (by decide +kernel) fun t _ y => ?_
    blk_simp
    rw [after0_6]; frame_out
    exact point_mean m c t y
  simpa only [V_main_arg1, V_main_arg2] using this

theorem point_square (c : Dev nD) (t : Fin cfg0.N) (y) : k0_pay2 (iblk m c 1 t) (iblk m c 3 t) y
    = (square (V m c main_arg1) (V m c main_arg3)) (((cfg0.win 7).blk t).view.emb y) := by
  pointwise [k0_pay1, k0_pay2, k0_pay3, mean, square, step]
  blk_point [iblk, idx t]

theorem final_square (c : Dev nD) : (dats m 0 c).arrAt 7 (cfgs 0).N = square (m (c, main_arg1)) (m (c, main_arg3)) := by
  have : (dats m 0 c).arrAt 7 (cfgs 0).N = square (V m c main_arg1) (V m c main_arg3) := by
    refine (dats m 0 c).arrAt_eq_of_covers 7 _ (by decide +kernel) fun t _ y => ?_
    blk_simp
    rw [after0_7]; frame_out
    exact point_square m c t y
  simpa only [V_main_arg1, V_main_arg3] using this

theorem point_step (c : Dev nD) (t : Fin cfg0.N) (y) : k0_pay3 (iblk m c 0 t) (iblk m c 1 t) (iblk m c 2 t) (iblk m c 3 t) y
    = (step (V m c main_arg0) (V m c main_arg1) (V m c main_arg2) (V m c main_arg3)) (((cfg0.win 5).blk t).view.emb y) := by
  pointwise [k0_pay1, k0_pay2, k0_pay3, mean, square, step]
  blk_point [iblk, idx t]

theorem final_step (c : Dev nD) : (dats m 0 c).arrAt 5 (cfgs 0).N = step (m (c, main_arg0)) (m (c, main_arg1)) (m (c, main_arg2)) (m (c, main_arg3)) := by
  have : (dats m 0 c).arrAt 5 (cfgs 0).N = step (V m c main_arg0) (V m c main_arg1) (V m c main_arg2) (V m c main_arg3) := by
    refine (dats m 0 c).arrAt_eq_of_covers 5 _ (by decide +kernel) fun t _ y => ?_
    blk_simp
    rw [after0_5]; frame_out
    exact point_step m c t y
  simpa only [V_main_arg0, V_main_arg1, V_main_arg2, V_main_arg3] using this

theorem final_gradient (c : Dev nD) : (dats m 0 c).arrAt 4 (cfgs 0).N = m (c, main_arg1) := by
  have : (dats m 0 c).arrAt 4 (cfgs 0).N = V m c main_arg1 := by
    refine (dats m 0 c).arrAt_eq_of_covers 4 _ (by decide +kernel) fun t _ y => ?_
    blk_simp
    rw [after0_4]; frame_out
    blk_point [iblk, idx t]
  simpa only [V_main_arg1] using this

theorem algebraic : Cert.algebraic_Kernel29Ideal_Reference29Ideal := by
  pair_intro
  · run_from Cert.Kernel29Ideal.Value.run_blocks m g
  · run_from Cert.Reference29Ideal.Value.run m' g'
    · exact (final_gradient m c).symm
    · exact (final_step m c).symm
    · exact (final_mean m c).symm
    · exact (final_square m c).symm

end Cert.Kernel29Ideal.Product

end
-- ==== Proof.Norms.lean ====
module

public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Defs
public import Idealize.ShloMosaic.Lib.Pipeline.ValueKit

/-!
The normalised rows and their reciprocal root mean squares: the kernels' tiles are tiles of the
same functions of the rows.
-/

@[expose] public section

set_option maxRecDepth 16384

noncomputable section

open Idealize.ShloMosaic Idealize.ShloMosaic.TcCoe Idealize.ShloMosaic.Tactic Idealize.SL.Sem

namespace Cert.Kernel31Ideal.Product

open Cert.Kernel31Ideal Cert.Kernel31Ideal.Gen

variable (m : (ℓ : Loc nD τ sig) → Buf (Elt Ideal) ℓ)

/-- The reciprocal root mean square of each row. -/
abbrev scale (x : FVec Ideal S4096x2048 .f32) : FVec Ideal S4096x1 .f32 :=
  Host.rsqrt (addf (Host.divf (broadcastInDim S4096x1 ![0] Cert.Reference31Ideal.Gen.bcast_S4096_S4096x1_0 (Host.reduceAdd (mulf (x) (x)) (constant Cert.Reference31Ideal.S_ .f32 0x00000000#32) Cert.Reference31Ideal.Gen.reducesTo_S4096x2048_S4096_d1 Cert.Reference31Ideal.Gen.h_S_)) (broadcastInDim S4096x1 ![] Cert.Reference31Ideal.Gen.bcast_S_S4096x1 (constant Cert.Reference31Ideal.S_ .f32 0x45000000#32))) (broadcastInDim S4096x1 ![] Cert.Reference31Ideal.Gen.bcast_S_S4096x1 (constant Cert.Reference31Ideal.S_ .f32 0x358637BD#32)))

/-- The normalised rows. -/
abbrev rows (x : FVec Ideal S4096x2048 .f32) (g : FVec Ideal S1x2048 .f32) : FVec Ideal S4096x2048 .bf16 :=
  truncf .bf16 (mulf (mulf (x) (broadcastInDim S4096x2048 ![0, 1] Cert.Reference31Ideal.Gen.bcast_S4096x1_S4096x2048_0_1 (Host.rsqrt (addf (Host.divf (broadcastInDim S4096x1 ![0] Cert.Reference31Ideal.Gen.bcast_S4096_S4096x1_0 (Host.reduceAdd (mulf (x) (x)) (constant Cert.Reference31Ideal.S_ .f32 0x00000000#32) Cert.Reference31Ideal.Gen.reducesTo_S4096x2048_S4096_d1 Cert.Reference31Ideal.Gen.h_S_)) (broadcastInDim S4096x1 ![] Cert.Reference31Ideal.Gen.bcast_S_S4096x1 (constant Cert.Reference31Ideal.S_ .f32 0x45000000#32))) (broadcastInDim S4096x1 ![] Cert.Reference31Ideal.Gen.bcast_S_S4096x1 (constant Cert.Reference31Ideal.S_ .f32 0x358637BD#32)))))) (broadcastInDim S4096x2048 ![0, 1] Cert.Reference31Ideal.Gen.bcast_S1x2048_S4096x2048_0_1 (g))) bitsLt_bf16_f32

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem point_scale (c : Dev nD) (t : Fin cfg0.N) (y) : k0_pay1 (iblk m c 0 t) y
    = scale (V m c main_arg0) (((cfg0.win 3).blk t).view.emb y) := by
  pointwise [k0_pay1, scale]
  blk_point [iblk, idx t]

theorem point_rows (c : Dev nD) (t : Fin cfg0.N) (y) : k0_pay2 (iblk m c 0 t) (iblk m c 1 t) y
    = rows (V m c main_arg0) (V m c main_arg1) (((cfg0.win 2).blk t).view.emb y) := by
  pointwise [k0_pay1, k0_pay2, rows]
  blk_point [iblk, idx t]

theorem final_scale (c : Dev nD) : (dats m 0 c).arrAt 3 (cfgs 0).N = scale (m (c, main_arg0)) := by
  have : (dats m 0 c).arrAt 3 (cfgs 0).N = scale (V m c main_arg0) := by
    refine (dats m 0 c).arrAt_eq_of_covers 3 _ (by decide +kernel) fun t _ y => ?_
    blk_simp
    rw [after0_3]; frame_out
    exact point_scale m c t y
  simpa only [V_main_arg0] using this

theorem final_rows (c : Dev nD) : (dats m 0 c).arrAt 2 (cfgs 0).N = rows (m (c, main_arg0)) (m (c, main_arg1)) := by
  have : (dats m 0 c).arrAt 2 (cfgs 0).N = rows (V m c main_arg0) (V m c main_arg1) := by
    refine (dats m 0 c).arrAt_eq_of_covers 2 _ (by decide +kernel) fun t _ y => ?_
    blk_simp
    rw [after0_2]; frame_out
    exact point_rows m c t y
  simpa only [V_main_arg0, V_main_arg1] using this

theorem algebraic : Cert.algebraic_Kernel31Ideal_Reference31Ideal := by
  pair_intro
  · run_from Cert.Kernel31Ideal.Value.run_blocks m g
  · run_from Cert.Reference31Ideal.Value.run m' g'
    · exact (final_rows m c).symm
    · exact (final_scale m c).symm

end Cert.Kernel31Ideal.Product

namespace Cert.Kernel32Ideal.Product

open Cert.Kernel32Ideal Cert.Kernel32Ideal.Gen

variable (m : (ℓ : Loc nD τ sig) → Buf (Elt Ideal) ℓ)

/-- The rows of the projection as the kernel keeps them: the retention's columns, the two gates by halves in turn,
the low-rank columns. -/
abbrev projected (r : FVec Ideal S4096x6144 .f32) (a b : FVec Ideal S4096x2048 .f32) (l : FVec Ideal S4096x1024 .f32) : FVec Ideal S4096x11264 .f32 :=
  concatenate S4096x11264 1 [⟨S4096x6144, r⟩,
    ⟨S4096x1024, extractStridedSlice S4096x1024 ![0, 0] a slices_S4096x2048_S4096x1024_0_0⟩,
    ⟨S4096x1024, extractStridedSlice S4096x1024 ![0, 0] b slices_S4096x2048_S4096x1024_0_0⟩,
    ⟨S4096x1024, extractStridedSlice S4096x1024 ![0, 1024] a slices_S4096x2048_S4096x1024_0_1024⟩,
    ⟨S4096x1024, extractStridedSlice S4096x1024 ![0, 1024] b slices_S4096x2048_S4096x1024_0_1024⟩,
    ⟨S4096x1024, l⟩] concatenates_S4096x6144_S4096x1024_S4096x1024_S4096x1024_S4096x1024_S4096x1024_S4096x11264_d1

/-- The low-rank columns of the projection. -/
abbrev low (P : FVec Ideal S4096x11264 .f32) : FVec Ideal S4096x1024 .f32 :=
  fun q => P (ix2 (q 0) ⟨10240 + (q 1).1, by have h : (q 1).1 < 1024 := (q 1).2; show _ < 11264; omega⟩)

theorem projected_low (r a b l) : low (projected r a b l) = l := by
  funext q
  obtain ⟨i, j, rfl⟩ : ∃ i j, q = ix2 i j := ⟨q 0, q 1, funext fun k => by fin_cases k <;> rfl⟩
  unfold low projected
  pointwise []
  have hj : j.1 < 1024 := j.2
  rw [dif_neg (by omega), dif_neg (by omega), dif_neg (by omega), dif_neg (by omega), dif_neg (by omega)]
  exact congrArg (fun x => l (ix2 i x)) (Fin.ext (by dsimp; omega))

theorem entry_rows (c : Dev nD) : V m c main_v4 = projected (m (c, main_arg0)) (m (c, main_arg1)) (m (c, main_arg2)) (m (c, main_arg3)) := by
  simp only [V, hostOps0, List.flatten_cons, List.flatten_nil, List.append_nil, List.cons_append, List.nil_append]
  after_results
  all_goals rfl

theorem idx : ∀ t : Fin cfg0.N, win0_0.index t = ![t.val, 10] ∧ win0_1.index t = ![0, 0] ∧ win0_2.index t = ![0, 0] ∧ win0_3.index t = ![t.val, 0] ∧ win0_4.index t = ![t.val, 0] ∧ win0_5.index t = ![t.val, 0] ∧ win0_6.index t = ![t.val, 0] :=
  (by decide +kernel : ∀ t : Fin grid0.N, _)

/-- The reciprocal root mean square of the first half of each row. -/
abbrev scaleFirst (l : FVec Ideal S4096x1024 .f32) : FVec Ideal S4096x1 .f32 :=
  Host.rsqrt (addf (Host.divf (broadcastInDim S4096x1 ![0] Cert.Reference32Ideal.Gen.bcast_S4096_S4096x1_0 (Host.reduceAdd (mulf (extractStridedSlice S4096x512 ![0, 0] l Cert.Reference32Ideal.Gen.slices_S4096x1024_S4096x512_0_0) (extractStridedSlice S4096x512 ![0, 0] l Cert.Reference32Ideal.Gen.slices_S4096x1024_S4096x512_0_0)) (constant Cert.Reference32Ideal.S_ .f32 0x00000000#32) Cert.Reference32Ideal.Gen.reducesTo_S4096x512_S4096_d1 Cert.Reference32Ideal.Gen.h_S_)) (broadcastInDim S4096x1 ![] Cert.Reference32Ideal.Gen.bcast_S_S4096x1 (constant Cert.Reference32Ideal.S_ .f32 0x44000000#32))) (broadcastInDim S4096x1 ![] Cert.Reference32Ideal.Gen.bcast_S_S4096x1 (constant Cert.Reference32Ideal.S_ .f32 0x358637BD#32)))

/-- The normalised first half of the rows. -/
abbrev rowsFirst (l : FVec Ideal S4096x1024 .f32) (g : FVec Ideal S1x512 .f32) : FVec Ideal S4096x512 .bf16 :=
  truncf .bf16 (mulf (mulf (extractStridedSlice S4096x512 ![0, 0] l Cert.Reference32Ideal.Gen.slices_S4096x1024_S4096x512_0_0) (broadcastInDim S4096x512 ![0, 1] Cert.Reference32Ideal.Gen.bcast_S4096x1_S4096x512_0_1 (Host.rsqrt (addf (Host.divf (broadcastInDim S4096x1 ![0] Cert.Reference32Ideal.Gen.bcast_S4096_S4096x1_0 (Host.reduceAdd (mulf (extractStridedSlice S4096x512 ![0, 0] l Cert.Reference32Ideal.Gen.slices_S4096x1024_S4096x512_0_0) (extractStridedSlice S4096x512 ![0, 0] l Cert.Reference32Ideal.Gen.slices_S4096x1024_S4096x512_0_0)) (constant Cert.Reference32Ideal.S_ .f32 0x00000000#32) Cert.Reference32Ideal.Gen.reducesTo_S4096x512_S4096_d1 Cert.Reference32Ideal.Gen.h_S_)) (broadcastInDim S4096x1 ![] Cert.Reference32Ideal.Gen.bcast_S_S4096x1 (constant Cert.Reference32Ideal.S_ .f32 0x44000000#32))) (broadcastInDim S4096x1 ![] Cert.Reference32Ideal.Gen.bcast_S_S4096x1 (constant Cert.Reference32Ideal.S_ .f32 0x358637BD#32)))))) (broadcastInDim S4096x512 ![0, 1] Cert.Reference32Ideal.Gen.bcast_S1x512_S4096x512_0_1 (g))) bitsLt_bf16_f32

theorem point_3 (c : Dev nD) (t : Fin cfg0.N) (y) : out0_3 (iblk m c 0 t) (iblk m c 1 t) (iblk m c 2 t) y
    = rowsFirst (low (V m c main_v4)) (V m c main_arg4) (((cfg0.win 3).blk t).view.emb y) := by
  frame_out
  pointwise [k0_pay1, k0_pay2, k0_pay3, rowsFirst, low]
  blk_point [iblk, idx t]

theorem final_3 (c : Dev nD) : (dats m 0 c).arrAt 3 (cfgs 0).N = rowsFirst (m (c, main_arg3)) (m (c, main_arg4)) := by
  have : (dats m 0 c).arrAt 3 (cfgs 0).N = rowsFirst (low (V m c main_v4)) (V m c main_arg4) := by
    refine (dats m 0 c).arrAt_eq_of_covers 3 _ (by decide +kernel) fun t _ y => ?_
    blk_simp
    rw [after0_3]
    exact point_3 m c t y
  rw [this, entry_rows, projected_low, V_main_arg4]

theorem point_5 (c : Dev nD) (t : Fin cfg0.N) (y) : out0_5 (iblk m c 0 t) (iblk m c 1 t) (iblk m c 2 t) y
    = scaleFirst (low (V m c main_v4)) (((cfg0.win 5).blk t).view.emb y) := by
  frame_out
  pointwise [k0_pay1, k0_pay2, scaleFirst, low]
  blk_point [iblk, idx t]

theorem final_5 (c : Dev nD) : (dats m 0 c).arrAt 5 (cfgs 0).N = scaleFirst (m (c, main_arg3)) := by
  have : (dats m 0 c).arrAt 5 (cfgs 0).N = scaleFirst (low (V m c main_v4)) := by
    refine (dats m 0 c).arrAt_eq_of_covers 5 _ (by decide +kernel) fun t _ y => ?_
    blk_simp
    rw [after0_5]
    exact point_5 m c t y
  rw [this, entry_rows, projected_low]

/-- The reciprocal root mean square of the second half of each row. -/
abbrev scaleSecond (l : FVec Ideal S4096x1024 .f32) : FVec Ideal S4096x1 .f32 :=
  Host.rsqrt (addf (Host.divf (broadcastInDim S4096x1 ![0] Cert.Reference32Ideal.Gen.bcast_S4096_S4096x1_0 (Host.reduceAdd (mulf (extractStridedSlice S4096x512 ![0, 512] l Cert.Reference32Ideal.Gen.slices_S4096x1024_S4096x512_0_512) (extractStridedSlice S4096x512 ![0, 512] l Cert.Reference32Ideal.Gen.slices_S4096x1024_S4096x512_0_512)) (constant Cert.Reference32Ideal.S_ .f32 0x00000000#32) Cert.Reference32Ideal.Gen.reducesTo_S4096x512_S4096_d1 Cert.Reference32Ideal.Gen.h_S_)) (broadcastInDim S4096x1 ![] Cert.Reference32Ideal.Gen.bcast_S_S4096x1 (constant Cert.Reference32Ideal.S_ .f32 0x44000000#32))) (broadcastInDim S4096x1 ![] Cert.Reference32Ideal.Gen.bcast_S_S4096x1 (constant Cert.Reference32Ideal.S_ .f32 0x358637BD#32)))

/-- The normalised second half of the rows. -/
abbrev rowsSecond (l : FVec Ideal S4096x1024 .f32) (g : FVec Ideal S1x512 .f32) : FVec Ideal S4096x512 .bf16 :=
  truncf .bf16 (mulf (mulf (extractStridedSlice S4096x512 ![0, 512] l Cert.Reference32Ideal.Gen.slices_S4096x1024_S4096x512_0_512) (broadcastInDim S4096x512 ![0, 1] Cert.Reference32Ideal.Gen.bcast_S4096x1_S4096x512_0_1 (Host.rsqrt (addf (Host.divf (broadcastInDim S4096x1 ![0] Cert.Reference32Ideal.Gen.bcast_S4096_S4096x1_0 (Host.reduceAdd (mulf (extractStridedSlice S4096x512 ![0, 512] l Cert.Reference32Ideal.Gen.slices_S4096x1024_S4096x512_0_512) (extractStridedSlice S4096x512 ![0, 512] l Cert.Reference32Ideal.Gen.slices_S4096x1024_S4096x512_0_512)) (constant Cert.Reference32Ideal.S_ .f32 0x00000000#32) Cert.Reference32Ideal.Gen.reducesTo_S4096x512_S4096_d1 Cert.Reference32Ideal.Gen.h_S_)) (broadcastInDim S4096x1 ![] Cert.Reference32Ideal.Gen.bcast_S_S4096x1 (constant Cert.Reference32Ideal.S_ .f32 0x44000000#32))) (broadcastInDim S4096x1 ![] Cert.Reference32Ideal.Gen.bcast_S_S4096x1 (constant Cert.Reference32Ideal.S_ .f32 0x358637BD#32)))))) (broadcastInDim S4096x512 ![0, 1] Cert.Reference32Ideal.Gen.bcast_S1x512_S4096x512_0_1 (g))) bitsLt_bf16_f32

theorem point_4 (c : Dev nD) (t : Fin cfg0.N) (y) : out0_4 (iblk m c 0 t) (iblk m c 1 t) (iblk m c 2 t) y
    = rowsSecond (low (V m c main_v4)) (V m c main_arg5) (((cfg0.win 4).blk t).view.emb y) := by
  frame_out
  pointwise [k0_pay4, k0_pay5, k0_pay6, rowsSecond, low]
  blk_point [iblk, idx t]

theorem final_4 (c : Dev nD) : (dats m 0 c).arrAt 4 (cfgs 0).N = rowsSecond (m (c, main_arg3)) (m (c, main_arg5)) := by
  have : (dats m 0 c).arrAt 4 (cfgs 0).N = rowsSecond (low (V m c main_v4)) (V m c main_arg5) := by
    refine (dats m 0 c).arrAt_eq_of_covers 4 _ (by decide +kernel) fun t _ y => ?_
    blk_simp
    rw [after0_4]
    exact point_4 m c t y
  rw [this, entry_rows, projected_low, V_main_arg5]

theorem point_6 (c : Dev nD) (t : Fin cfg0.N) (y) : out0_6 (iblk m c 0 t) (iblk m c 1 t) (iblk m c 2 t) y
    = scaleSecond (low (V m c main_v4)) (((cfg0.win 6).blk t).view.emb y) := by
  frame_out
  pointwise [k0_pay4, k0_pay5, scaleSecond, low]
  blk_point [iblk, idx t]

theorem final_6 (c : Dev nD) : (dats m 0 c).arrAt 6 (cfgs 0).N = scaleSecond (m (c, main_arg3)) := by
  have : (dats m 0 c).arrAt 6 (cfgs 0).N = scaleSecond (low (V m c main_v4)) := by
    refine (dats m 0 c).arrAt_eq_of_covers 6 _ (by decide +kernel) fun t _ y => ?_
    blk_simp
    rw [after0_6]
    exact point_6 m c t y
  rw [this, entry_rows, projected_low]

theorem algebraic : Cert.algebraic_Kernel32Ideal_Reference32Ideal := by
  pair_intro
  · run_from Cert.Kernel32Ideal.Value.run_blocks m g
  · run_from Cert.Reference32Ideal.Value.run m' g'
    · exact (final_3 m c).symm
    · exact (final_4 m c).symm
    · exact (final_5 m c).symm
    · exact (final_6 m c).symm

end Cert.Kernel32Ideal.Product

end
-- ==== Proof.GainsRun.lean ====
module

public import proofs.«01_k».proof.Proof.Gen.Kernel30Ideal.Launch
public import proofs.«01_k».proof.Proof.Gen.Kernel30Ideal.Skeleton
public import proofs.«01_k».proof.Proof.Gen.Kernel30Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-!
The run of the optimiser's step of the six gains: the body's triple over its 43 windows, the arrays after the run and
the arguments unchanged. It follows the derivation made for the other programs, with more time allowed to
the two longest of its steps.
-/

@[expose] public section

set_option maxRecDepth 16384

noncomputable section

namespace Cert.Kernel30Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 2580000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c)))⟩) h

/-! ## The body's accesses -/

abbrev r0_0 : Rect S1x9344 := Rect.unit (s := S1x9344) ![0, 0] S1x2048.size inb_S1x9344_S1x2048_0_0
abbrev r0_1 : Rect S1x2048 := Rect.unit (s := S1x2048) ![0, 0] S1x2048.size inb_S1x2048_S1x2048_0_0
abbrev r0_2 : Rect S1x9344 := Rect.unit (s := S1x9344) ![0, 2048] S1x2048.size inb_S1x9344_S1x2048_0_2048
abbrev r0_3 : Rect S1x9344 := Rect.unit (s := S1x9344) ![0, 4096] S1x512.size inb_S1x9344_S1x512_0_4096
abbrev r0_4 : Rect S1x512 := Rect.unit (s := S1x512) ![0, 0] S1x512.size inb_S1x512_S1x512_0_0
abbrev r0_5 : Rect S1x9344 := Rect.unit (s := S1x9344) ![0, 4608] S1x512.size inb_S1x9344_S1x512_0_4608
abbrev r0_6 : Rect S1x9344 := Rect.unit (s := S1x9344) ![0, 5120] S1x2048.size inb_S1x9344_S1x2048_0_5120
abbrev r0_7 : Rect S1x9344 := Rect.unit (s := S1x9344) ![0, 7168] S1x2048.size inb_S1x9344_S1x2048_0_7168

/-! ## What the body leaves in each output window's buffer -/

def out0_19 (x0 : Vec F S1x9344 .f32) : Vec F S1x2048 .f32 :=
  View.canon [⟨r0_1, View.ld x0 r0_0⟩]

theorem cover_2048 (p0 : Vec F S1x2048 .f32) (y : S1x2048.Idx) :
    ∃ pc ∈ ([⟨r0_1, p0⟩] : List (View.Piece (Elt F) S1x2048 .f32)), y ∈ pc.1.set :=
  View.cover_of_tiled [⟨r0_1, p0⟩] S1x2048.size (by rfl) y

def out0_20 (x0 : Vec F S1x9344 .f32) (x1 : Vec F S1x2048 .f32) (x7 : Vec F S1x2048 .f32) (x13 : Vec F S1x2048 .f32) : Vec F S1x2048 .f32 :=
  View.canon [⟨r0_1, k0_pay3 (View.ld x0 r0_0) (View.ld x1 r0_1) (View.ld x7 r0_1) (View.ld x13 r0_1)⟩]

def out0_21 (x0 : Vec F S1x9344 .f32) (x7 : Vec F S1x2048 .f32) : Vec F S1x2048 .f32 :=
  View.canon [⟨r0_1, k0_pay1 (View.ld x0 r0_0) (View.ld x7 r0_1)⟩]

def out0_22 (x0 : Vec F S1x9344 .f32) (x13 : Vec F S1x2048 .f32) : Vec F S1x2048 .f32 :=
  View.canon [⟨r0_1, k0_pay2 (View.ld x0 r0_0) (View.ld x13 r0_1)⟩]

def out0_23 (x0 : Vec F S1x9344 .f32) : Vec F S1x2048 .f32 :=
  View.canon [⟨r0_1, View.ld x0 r0_2⟩]

def out0_24 (x0 : Vec F S1x9344 .f32) (x2 : Vec F S1x2048 .f32) (x8 : Vec F S1x2048 .f32) (x14 : Vec F S1x2048 .f32) : Vec F S1x2048 .f32 :=
  View.canon [⟨r0_1, k0_pay6 (View.ld x0 r0_2) (View.ld x2 r0_1) (View.ld x8 r0_1) (View.ld x14 r0_1)⟩]

def out0_25 (x0 : Vec F S1x9344 .f32) (x8 : Vec F S1x2048 .f32) : Vec F S1x2048 .f32 :=
  View.canon [⟨r0_1, k0_pay4 (View.ld x0 r0_2) (View.ld x8 r0_1)⟩]

def out0_26 (x0 : Vec F S1x9344 .f32) (x14 : Vec F S1x2048 .f32) : Vec F S1x2048 .f32 :=
  View.canon [⟨r0_1, k0_pay5 (View.ld x0 r0_2) (View.ld x14 r0_1)⟩]

def out0_27 (x0 : Vec F S1x9344 .f32) : Vec F S1x512 .f32 :=
  View.canon [⟨r0_4, View.ld x0 r0_3⟩]

theorem cover_512 (p0 : Vec F S1x512 .f32) (y : S1x512.Idx) :
    ∃ pc ∈ ([⟨r0_4, p0⟩] : List (View.Piece (Elt F) S1x512 .f32)), y ∈ pc.1.set :=
  View.cover_of_tiled [⟨r0_4, p0⟩] S1x512.size (by rfl) y

def out0_28 (x0 : Vec F S1x9344 .f32) (x3 : Vec F S1x512 .f32) (x9 : Vec F S1x512 .f32) (x15 : Vec F S1x512 .f32) : Vec F S1x512 .f32 :=
  View.canon [⟨r0_4, k0_pay9 (View.ld x0 r0_3) (View.ld x3 r0_4) (View.ld x9 r0_4) (View.ld x15 r0_4)⟩]

def out0_29 (x0 : Vec F S1x9344 .f32) (x9 : Vec F S1x512 .f32) : Vec F S1x512 .f32 :=
  View.canon [⟨r0_4, k0_pay7 (View.ld x0 r0_3) (View.ld x9 r0_4)⟩]

def out0_30 (x0 : Vec F S1x9344 .f32) (x15 : Vec F S1x512 .f32) : Vec F S1x512 .f32 :=
  View.canon [⟨r0_4, k0_pay8 (View.ld x0 r0_3) (View.ld x15 r0_4)⟩]

def out0_31 (x0 : Vec F S1x9344 .f32) : Vec F S1x512 .f32 :=
  View.canon [⟨r0_4, View.ld x0 r0_5⟩]

def out0_32 (x0 : Vec F S1x9344 .f32) (x4 : Vec F S1x512 .f32) (x10 : Vec F S1x512 .f32) (x16 : Vec F S1x512 .f32) : Vec F S1x512 .f32 :=
  View.canon [⟨r0_4, k0_pay12 (View.ld x0 r0_5) (View.ld x4 r0_4) (View.ld x10 r0_4) (View.ld x16 r0_4)⟩]

def out0_33 (x0 : Vec F S1x9344 .f32) (x10 : Vec F S1x512 .f32) : Vec F S1x512 .f32 :=
  View.canon [⟨r0_4, k0_pay10 (View.ld x0 r0_5) (View.ld x10 r0_4)⟩]

def out0_34 (x0 : Vec F S1x9344 .f32) (x16 : Vec F S1x512 .f32) : Vec F S1x512 .f32 :=
  View.canon [⟨r0_4, k0_pay11 (View.ld x0 r0_5) (View.ld x16 r0_4)⟩]

def out0_35 (x0 : Vec F S1x9344 .f32) : Vec F S1x2048 .f32 :=
  View.canon [⟨r0_1, View.ld x0 r0_6⟩]

def out0_36 (x0 : Vec F S1x9344 .f32) (x5 : Vec F S1x2048 .f32) (x11 : Vec F S1x2048 .f32) (x17 : Vec F S1x2048 .f32) : Vec F S1x2048 .f32 :=
  View.canon [⟨r0_1, k0_pay15 (View.ld x0 r0_6) (View.ld x5 r0_1) (View.ld x11 r0_1) (View.ld x17 r0_1)⟩]

def out0_37 (x0 : Vec F S1x9344 .f32) (x11 : Vec F S1x2048 .f32) : Vec F S1x2048 .f32 :=
  View.canon [⟨r0_1, k0_pay13 (View.ld x0 r0_6) (View.ld x11 r0_1)⟩]

def out0_38 (x0 : Vec F S1x9344 .f32) (x17 : Vec F S1x2048 .f32) : Vec F S1x2048 .f32 :=
  View.canon [⟨r0_1, k0_pay14 (View.ld x0 r0_6) (View.ld x17 r0_1)⟩]

def out0_39 (x0 : Vec F S1x9344 .f32) : Vec F S1x2048 .f32 :=
  View.canon [⟨r0_1, View.ld x0 r0_7⟩]

def out0_40 (x0 : Vec F S1x9344 .f32) (x6 : Vec F S1x2048 .f32) (x12 : Vec F S1x2048 .f32) (x18 : Vec F S1x2048 .f32) : Vec F S1x2048 .f32 :=
  View.canon [⟨r0_1, k0_pay18 (View.ld x0 r0_7) (View.ld x6 r0_1) (View.ld x12 r0_1) (View.ld x18 r0_1)⟩]

def out0_41 (x0 : Vec F S1x9344 .f32) (x12 : Vec F S1x2048 .f32) : Vec F S1x2048 .f32 :=
  View.canon [⟨r0_1, k0_pay16 (View.ld x0 r0_7) (View.ld x12 r0_1)⟩]

def out0_42 (x0 : Vec F S1x9344 .f32) (x18 : Vec F S1x2048 .f32) : Vec F S1x2048 .f32 :=
  View.canon [⟨r0_1, k0_pay17 (View.ld x0 r0_7) (View.ld x18 r0_1)⟩]

/-! ## The body's triple -/

set_option maxHeartbeats 1000000 in
theorem sound_kernel (c : Dev nD) (E : Set ℕ) (arg0 : Memref sig .tc .vmem S1x9344 .f32) (harg0 : arg0.IsWhole) (arg1 : Memref sig .tc .vmem S1x2048 .f32) (harg1 : arg1.IsWhole) (arg2 : Memref sig .tc .vmem S1x2048 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S1x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S1x2048 .f32) (harg23 : arg23.IsWhole) (arg24 : Memref sig .tc .vmem S1x2048 .f32) (harg24 : arg24.IsWhole) (arg25 : Memref sig .tc .vmem S1x2048 .f32) (harg25 : arg25.IsWhole) (arg26 : Memref sig .tc .vmem S1x2048 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x2048 .f32) (harg35 : arg35.IsWhole) (arg36 : Memref sig .tc .vmem S1x2048 .f32) (harg36 : arg36.IsWhole) (arg37 : Memref sig .tc .vmem S1x2048 .f32) (harg37 : arg37.IsWhole) (arg38 : Memref sig .tc .vmem S1x2048 .f32) (harg38 : arg38.IsWhole) (arg39 : Memref sig .tc .vmem S1x2048 .f32) (harg39 : arg39.IsWhole) (arg40 : Memref sig .tc .vmem S1x2048 .f32) (harg40 : arg40.IsWhole) (arg41 : Memref sig .tc .vmem S1x2048 .f32) (harg41 : arg41.IsWhole) (arg42 : Memref sig .tc .vmem S1x2048 .f32) (harg42 : arg42.IsWhole)
    (x0 : Vec F S1x9344 .f32) (x1 : Vec F S1x2048 .f32) (x2 : Vec F S1x2048 .f32) (x3 : Vec F S1x512 .f32) (x4 : Vec F S1x512 .f32) (x5 : Vec F S1x2048 .f32) (x6 : Vec F S1x2048 .f32) (x7 : Vec F S1x2048 .f32) (x8 : Vec F S1x2048 .f32) (x9 : Vec F S1x512 .f32) (x10 : Vec F S1x512 .f32) (x11 : Vec F S1x2048 .f32) (x12 : Vec F S1x2048 .f32) (x13 : Vec F S1x2048 .f32) (x14 : Vec F S1x2048 .f32) (x15 : Vec F S1x512 .f32) (x16 : Vec F S1x512 .f32) (x17 : Vec F S1x2048 .f32) (x18 : Vec F S1x2048 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out0_19 x0) ∗ owns (c : Thread nD τ) arg20 fullShare (out0_20 x0 x1 x7 x13) ∗ owns (c : Thread nD τ) arg21 fullShare (out0_21 x0 x7) ∗ owns (c : Thread nD τ) arg22 fullShare (out0_22 x0 x13) ∗ owns (c : Thread nD τ) arg23 fullShare (out0_23 x0) ∗ owns (c : Thread nD τ) arg24 fullShare (out0_24 x0 x2 x8 x14) ∗ owns (c : Thread nD τ) arg25 fullShare (out0_25 x0 x8) ∗ owns (c : Thread nD τ) arg26 fullShare (out0_26 x0 x14) ∗ owns (c : Thread nD τ) arg27 fullShare (out0_27 x0) ∗ owns (c : Thread nD τ) arg28 fullShare (out0_28 x0 x3 x9 x15) ∗ owns (c : Thread nD τ) arg29 fullShare (out0_29 x0 x9) ∗ owns (c : Thread nD τ) arg30 fullShare (out0_30 x0 x15) ∗ owns (c : Thread nD τ) arg31 fullShare (out0_31 x0) ∗ owns (c : Thread nD τ) arg32 fullShare (out0_32 x0 x4 x10 x16) ∗ owns (c : Thread nD τ) arg33 fullShare (out0_33 x0 x10) ∗ owns (c : Thread nD τ) arg34 fullShare (out0_34 x0 x16) ∗ owns (c : Thread nD τ) arg35 fullShare (out0_35 x0) ∗ owns (c : Thread nD τ) arg36 fullShare (out0_36 x0 x5 x11 x17) ∗ owns (c : Thread nD τ) arg37 fullShare (out0_37 x0 x11) ∗ owns (c : Thread nD τ) arg38 fullShare (out0_38 x0 x17) ∗ owns (c : Thread nD τ) arg39 fullShare (out0_39 x0) ∗ owns (c : Thread nD τ) arg40 fullShare (out0_40 x0 x6 x12 x18) ∗ owns (c : Thread nD τ) arg41 fullShare (out0_41 x0 x12) ∗ owns (c : Thread nD τ) arg42 fullShare (out0_42 x0 x18)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    exact View.read_writes_eq_canon _ _ _ (cover_2048 _)
  isplitl [H20]
  · iexists _; isplitr
    swap; · iexact H20
    ipureintro
    exact View.read_writes_eq_canon _ _ _ (cover_2048 _)
  isplitl [H21]
  · iexists _; isplitr
    swap; · iexact H21
    ipureintro
    exact View.read_writes_eq_canon _ _ _ (cover_2048 _)
  isplitl [H22]
  · iexists _; isplitr
    swap; · iexact H22
    ipureintro
    exact View.read_writes_eq_canon _ _ _ (cover_2048 _)
  isplitl [H23]
  · iexists _; isplitr
    swap; · iexact H23
    ipureintro
    exact View.read_writes_eq_canon _ _ _ (cover_2048 _)
  isplitl [H24]
  · iexists _; isplitr
    swap; · iexact H24
    ipureintro
    exact View.read_writes_eq_canon _ _ _ (cover_2048 _)
  isplitl [H25]
  · iexists _; isplitr
    swap; · iexact H25
    ipureintro
    exact View.read_writes_eq_canon _ _ _ (cover_2048 _)
  isplitl [H26]
  · iexists _; isplitr
    swap; · iexact H26
    ipureintro
    exact View.read_writes_eq_canon _ _ _ (cover_2048 _)
  isplitl [H27]
  · iexists _; isplitr
    swap; · iexact H27
    ipureintro
    exact View.read_writes_eq_canon _ _ _ (cover_512 _)
  isplitl [H28]
  · iexists _; isplitr
    swap; · iexact H28
    ipureintro
    exact View.read_writes_eq_canon _ _ _ (cover_512 _)
  isplitl [H29]
  · iexists _; isplitr
    swap; · iexact H29
    ipureintro
    exact View.read_writes_eq_canon _ _ _ (cover_512 _)
  isplitl [H30]
  · iexists _; isplitr
    swap; · iexact H30
    ipureintro
    exact View.read_writes_eq_canon _ _ _ (cover_512 _)
  isplitl [H31]
  · iexists _; isplitr
    swap; · iexact H31
    ipureintro
    exact View.read_writes_eq_canon _ _ _ (cover_512 _)
  isplitl [H32]
  · iexists _; isplitr
    swap; · iexact H32
    ipureintro
    exact View.read_writes_eq_canon _ _ _ (cover_512 _)
  isplitl [H33]
  · iexists _; isplitr
    swap; · iexact H33
    ipureintro
    exact View.read_writes_eq_canon _ _ _ (cover_512 _)
  isplitl [H34]
  · iexists _; isplitr
    swap; · iexact H34
    ipureintro
    exact View.read_writes_eq_canon _ _ _ (cover_512 _)
  isplitl [H35]
  · iexists _; isplitr
    swap; · iexact H35
    ipureintro
    exact View.read_writes_eq_canon _ _ _ (cover_2048 _)
  isplitl [H36]
  · iexists _; isplitr
    swap; · iexact H36
    ipureintro
    exact View.read_writes_eq_canon _ _ _ (cover_2048 _)
  isplitl [H37]
  · iexists _; isplitr
    swap; · iexact H37
    ipureintro
    exact View.read_writes_eq_canon _ _ _ (cover_2048 _)
  isplitl [H38]
  · iexists _; isplitr
    swap; · iexact H38
    ipureintro
    exact View.read_writes_eq_canon _ _ _ (cover_2048 _)
  isplitl [H39]
  · iexists _; isplitr
    swap; · iexact H39
    ipureintro
    exact View.read_writes_eq_canon _ _ _ (cover_2048 _)
  isplitl [H40]
  · iexists _; isplitr
    swap; · iexact H40
    ipureintro
    exact View.read_writes_eq_canon _ _ _ (cover_2048 _)
  isplitl [H41]
  · iexists _; isplitr
    swap; · iexact H41
    ipureintro
    exact View.read_writes_eq_canon _ _ _ (cover_2048 _)
  iexists _; isplitr
  swap; · iexact H42
  ipureintro
  exact View.read_writes_eq_canon _ _ _ (cover_2048 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t)
    | ⟨20, _⟩ => out0_20 (iblk m c 0 t) (iblk m c 1 t) (iblk m c 7 t) (iblk m c 13 t)
    | ⟨21, _⟩ => out0_21 (iblk m c 0 t) (iblk m c 7 t)
    | ⟨22, _⟩ => out0_22 (iblk m c 0 t) (iblk m c 13 t)
    | ⟨23, _⟩ => out0_23 (iblk m c 0 t)
    | ⟨24, _⟩ => out0_24 (iblk m c 0 t) (iblk m c 2 t) (iblk m c 8 t) (iblk m c 14 t)
    | ⟨25, _⟩ => out0_25 (iblk m c 0 t) (iblk m c 8 t)
    | ⟨26, _⟩ => out0_26 (iblk m c 0 t) (iblk m c 14 t)
    | ⟨27, _⟩ => out0_27 (iblk m c 0 t)
    | ⟨28, _⟩ => out0_28 (iblk m c 0 t) (iblk m c 3 t) (iblk m c 9 t) (iblk m c 15 t)
    | ⟨29, _⟩ => out0_29 (iblk m c 0 t) (iblk m c 9 t)
    | ⟨30, _⟩ => out0_30 (iblk m c 0 t) (iblk m c 15 t)
    | ⟨31, _⟩ => out0_31 (iblk m c 0 t)
    | ⟨32, _⟩ => out0_32 (iblk m c 0 t) (iblk m c 4 t) (iblk m c 10 t) (iblk m c 16 t)
    | ⟨33, _⟩ => out0_33 (iblk m c 0 t) (iblk m c 10 t)
    | ⟨34, _⟩ => out0_34 (iblk m c 0 t) (iblk m c 16 t)
    | ⟨35, _⟩ => out0_35 (iblk m c 0 t)
    | ⟨36, _⟩ => out0_36 (iblk m c 0 t) (iblk m c 5 t) (iblk m c 11 t) (iblk m c 17 t)
    | ⟨37, _⟩ => out0_37 (iblk m c 0 t) (iblk m c 11 t)
    | ⟨38, _⟩ => out0_38 (iblk m c 0 t) (iblk m c 17 t)
    | ⟨39, _⟩ => out0_39 (iblk m c 0 t)
    | ⟨40, _⟩ => out0_40 (iblk m c 0 t) (iblk m c 6 t) (iblk m c 12 t) (iblk m c 18 t)
    | ⟨41, _⟩ => out0_41 (iblk m c 0 t) (iblk m c 12 t)
    | ⟨42, _⟩ => out0_42 (iblk m c 0 t) (iblk m c 18 t)
    | ⟨_ + 43, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) := by dsimp only [dats]
theorem after0_20 (c : Dev nD) (t : Fin cfg0.N) : (dats m 0 c).after 20 t = out0_20 (iblk m c 0 t) (iblk m c 1 t) (iblk m c 7 t) (iblk m c 13 t) := by dsimp only [dats]
theorem after0_21 (c : Dev nD) (t : Fin cfg0.N) : (dats m 0 c).after 21 t = out0_21 (iblk m c 0 t) (iblk m c 7 t) := by dsimp only [dats]
theorem after0_22 (c : Dev nD) (t : Fin cfg0.N) : (dats m 0 c).after 22 t = out0_22 (iblk m c 0 t) (iblk m c 13 t) := by dsimp only [dats]
theorem after0_23 (c : Dev nD) (t : Fin cfg0.N) : (dats m 0 c).after 23 t = out0_23 (iblk m c 0 t) := by dsimp only [dats]
theorem after0_24 (c : Dev nD) (t : Fin cfg0.N) : (dats m 0 c).after 24 t = out0_24 (iblk m c 0 t) (iblk m c 2 t) (iblk m c 8 t) (iblk m c 14 t) := by dsimp only [dats]
theorem after0_25 (c : Dev nD) (t : Fin cfg0.N) : (dats m 0 c).after 25 t = out0_25 (iblk m c 0 t) (iblk m c 8 t) := by dsimp only [dats]
theorem after0_26 (c : Dev nD) (t : Fin cfg0.N) : (dats m 0 c).after 26 t = out0_26 (iblk m c 0 t) (iblk m c 14 t) := by dsimp only [dats]
theorem after0_27 (c : Dev nD) (t : Fin cfg0.N) : (dats m 0 c).after 27 t = out0_27 (iblk m c 0 t) := by dsimp only [dats]
theorem after0_28 (c : Dev nD) (t : Fin cfg0.N) : (dats m 0 c).after 28 t = out0_28 (iblk m c 0 t) (iblk m c 3 t) (iblk m c 9 t) (iblk m c 15 t) := by dsimp only [dats]
theorem after0_29 (c : Dev nD) (t : Fin cfg0.N) : (dats m 0 c).after 29 t = out0_29 (iblk m c 0 t) (iblk m c 9 t) := by dsimp only [dats]
theorem after0_30 (c : Dev nD) (t : Fin cfg0.N) : (dats m 0 c).after 30 t = out0_30 (iblk m c 0 t) (iblk m c 15 t) := by dsimp only [dats]
theorem after0_31 (c : Dev nD) (t : Fin cfg0.N) : (dats m 0 c).after 31 t = out0_31 (iblk m c 0 t) := by dsimp only [dats]
theorem after0_32 (c : Dev nD) (t : Fin cfg0.N) : (dats m 0 c).after 32 t = out0_32 (iblk m c 0 t) (iblk m c 4 t) (iblk m c 10 t) (iblk m c 16 t) := by dsimp only [dats]
theorem after0_33 (c : Dev nD) (t : Fin cfg0.N) : (dats m 0 c).after 33 t = out0_33 (iblk m c 0 t) (iblk m c 10 t) := by dsimp only [dats]
theorem after0_34 (c : Dev nD) (t : Fin cfg0.N) : (dats m 0 c).after 34 t = out0_34 (iblk m c 0 t) (iblk m c 16 t) := by dsimp only [dats]
theorem after0_35 (c : Dev nD) (t : Fin cfg0.N) : (dats m 0 c).after 35 t = out0_35 (iblk m c 0 t) := by dsimp only [dats]
theorem after0_36 (c : Dev nD) (t : Fin cfg0.N) : (dats m 0 c).after 36 t = out0_36 (iblk m c 0 t) (iblk m c 5 t) (iblk m c 11 t) (iblk m c 17 t) := by dsimp only [dats]
theorem after0_37 (c : Dev nD) (t : Fin cfg0.N) : (dats m 0 c).after 37 t = out0_37 (iblk m c 0 t) (iblk m c 11 t) := by dsimp only [dats]
theorem after0_38 (c : Dev nD) (t : Fin cfg0.N) : (dats m 0 c).after 38 t = out0_38 (iblk m c 0 t) (iblk m c 17 t) := by dsimp only [dats]
theorem after0_39 (c : Dev nD) (t : Fin cfg0.N) : (dats m 0 c).after 39 t = out0_39 (iblk m c 0 t) := by dsimp only [dats]
theorem after0_40 (c : Dev nD) (t : Fin cfg0.N) : (dats m 0 c).after 40 t = out0_40 (iblk m c 0 t) (iblk m c 6 t) (iblk m c 12 t) (iblk m c 18 t) := by dsimp only [dats]
theorem after0_41 (c : Dev nD) (t : Fin cfg0.N) : (dats m 0 c).after 41 t = out0_41 (iblk m c 0 t) (iblk m c 12 t) := by dsimp only [dats]
theorem after0_42 (c : Dev nD) (t : Fin cfg0.N) : (dats m 0 c).after 42 t = out0_42 (iblk m c 0 t) (iblk m c 18 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  iexact H42

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 8000000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 1600000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

set_option maxHeartbeats 1600000 in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel30Ideal.Gen

namespace Cert.Kernel30Ideal.Value

open Cert.Kernel30Ideal Cert.Kernel30Ideal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

set_option maxHeartbeats 1600000 in
/-- The run, with every result named. -/
theorem run_blocks : θ_run defs (onTc (τ := τ) (main (F := F))) ⟨m, fun _ => 0, ρ⟩ fun r => ∀ c : Dev nD,
      r.2.mem ((c : Thread nD τ).loc main_v0_0) = (dats m 0 c).arrAt 19 cfg0.N
      ∧ r.2.mem ((c : Thread nD τ).loc main_v0_1) = (dats m 0 c).arrAt 20 cfg0.N
      ∧ r.2.mem ((c : Thread nD τ).loc main_v0_2) = (dats m 0 c).arrAt 21 cfg0.N
      ∧ r.2.mem ((c : Thread nD τ).loc main_v0_3) = (dats m 0 c).arrAt 22 cfg0.N
      ∧ r.2.mem ((c : Thread nD τ).loc main_v0_4) = (dats m 0 c).arrAt 23 cfg0.N
      ∧ r.2.mem ((c : Thread nD τ).loc main_v0_5) = (dats m 0 c).arrAt 24 cfg0.N
      ∧ r.2.mem ((c : Thread nD τ).loc main_v0_6) = (dats m 0 c).arrAt 25 cfg0.N
      ∧ r.2.mem ((c : Thread nD τ).loc main_v0_7) = (dats m 0 c).arrAt 26 cfg0.N
      ∧ r.2.mem ((c : Thread nD τ).loc main_v0_8) = (dats m 0 c).arrAt 27 cfg0.N
      ∧ r.2.mem ((c : Thread nD τ).loc main_v0_9) = (dats m 0 c).arrAt 28 cfg0.N
      ∧ r.2.mem ((c : Thread nD τ).loc main_v0_10) = (dats m 0 c).arrAt 29 cfg0.N
      ∧ r.2.mem ((c : Thread nD τ).loc main_v0_11) = (dats m 0 c).arrAt 30 cfg0.N
      ∧ r.2.mem ((c : Thread nD τ).loc main_v0_12) = (dats m 0 c).arrAt 31 cfg0.N
      ∧ r.2.mem ((c : Thread nD τ).loc main_v0_13) = (dats m 0 c).arrAt 32 cfg0.N
      ∧ r.2.mem ((c : Thread nD τ).loc main_v0_14) = (dats m 0 c).arrAt 33 cfg0.N
      ∧ r.2.mem ((c : Thread nD τ).loc main_v0_15) = (dats m 0 c).arrAt 34 cfg0.N
      ∧ r.2.mem ((c : Thread nD τ).loc main_v0_16) = (dats m 0 c).arrAt 35 cfg0.N
      ∧ r.2.mem ((c : Thread nD τ).loc main_v0_17) = (dats m 0 c).arrAt 36 cfg0.N
      ∧ r.2.mem ((c : Thread nD τ).loc main_v0_18) = (dats m 0 c).arrAt 37 cfg0.N
      ∧ r.2.mem ((c : Thread nD τ).loc main_v0_19) = (dats m 0 c).arrAt 38 cfg0.N
      ∧ r.2.mem ((c : Thread nD τ).loc main_v0_20) = (dats m 0 c).arrAt 39 cfg0.N
      ∧ r.2.mem ((c : Thread nD τ).loc main_v0_21) = (dats m 0 c).arrAt 40 cfg0.N
      ∧ r.2.mem ((c : Thread nD τ).loc main_v0_22) = (dats m 0 c).arrAt 41 cfg0.N
      ∧ r.2.mem ((c : Thread nD τ).loc main_v0_23) = (dats m 0 c).arrAt 42 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1 19,
      (h c).1 20,
      (h c).1 21,
      (h c).1 22,
      (h c).1 23,
      (h c).1 24,
      (h c).1 25,
      (h c).1 26,
      (h c).1 27,
      (h c).1 28,
      (h c).1 29,
      (h c).1 30,
      (h c).1 31,
      (h c).1 32,
      (h c).1 33,
      (h c).1 34,
      (h c).1 35,
      (h c).1 36,
      (h c).1 37,
      (h c).1 38,
      (h c).1 39,
      (h c).1 40,
      (h c).1 41,
      (h c).1 42,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c)))⟩)
    (run_main m ρ)

end Cert.Kernel30Ideal.Value

end
-- ==== Proof.Gains.lean ====
module

public import proofs.«01_k».proof.Proof.GainsRun
public import proofs.«01_k».proof.Proof.Gen.Reference30Ideal.Run
public import Idealize.ShloMosaic.Lib.Pipeline.ValueKit

/-!
The optimiser's step of the six gains, whose gradients lie side by side in one row.
-/

@[expose] public section

set_option maxRecDepth 16384

noncomputable section

open Idealize.ShloMosaic Idealize.ShloMosaic.TcCoe Idealize.ShloMosaic.Tactic Idealize.SL.Sem

namespace Cert.Kernel30Ideal.Product

open Cert.Kernel30Ideal Cert.Kernel30Ideal.Gen

variable (m : (ℓ : Loc nD τ sig) → Buf (Elt Ideal) ℓ)

/-- The new mean of the gradients of a gain of 2048 numbers. -/
abbrev mean (g mo : FVec Ideal S1x2048 .f32) : FVec Ideal S1x2048 .f32 :=
  addf (mulf (broadcastInDim S1x2048 ![] Cert.Reference30Ideal.Gen.bcast_S_S1x2048 (constant Cert.Reference30Ideal.S_ .f32 0x3F666666#32)) mo) (mulf (broadcastInDim S1x2048 ![] Cert.Reference30Ideal.Gen.bcast_S_S1x2048 (constant Cert.Reference30Ideal.S_ .f32 0x3DCCCCCD#32)) g)

/-- The new mean of the gradients' squares of a gain of 2048 numbers. -/
abbrev square (g v : FVec Ideal S1x2048 .f32) : FVec Ideal S1x2048 .f32 :=
  addf (mulf (broadcastInDim S1x2048 ![] Cert.Reference30Ideal.Gen.bcast_S_S1x2048 (constant Cert.Reference30Ideal.S_ .f32 0x3F7FBE77#32)) v) (mulf (broadcastInDim S1x2048 ![] Cert.Reference30Ideal.Gen.bcast_S_S1x2048 (constant Cert.Reference30Ideal.S_ .f32 0x3A83126F#32)) (mulf g g))

/-- The step of a gain of 2048 numbers. -/
abbrev step (w g mo v : FVec Ideal S1x2048 .f32) : FVec Ideal S1x2048 .f32 :=
  mulf (broadcastInDim S1x2048 ![] Cert.Reference30Ideal.Gen.bcast_S_S1x2048 (constant Cert.Reference30Ideal.S_ .f32 0xBA83126F#32)) (addf (Host.divf (Host.divf (addf (mulf (broadcastInDim S1x2048 ![] Cert.Reference30Ideal.Gen.bcast_S_S1x2048 (constant Cert.Reference30Ideal.S_ .f32 0x3F666666#32)) mo) (mulf (broadcastInDim S1x2048 ![] Cert.Reference30Ideal.Gen.bcast_S_S1x2048 (constant Cert.Reference30Ideal.S_ .f32 0x3DCCCCCD#32)) g)) (broadcastInDim S1x2048 ![] Cert.Reference30Ideal.Gen.bcast_S_S1x2048 (constant Cert.Reference30Ideal.S_ .f32 0x3F26BD02#32))) (addf (Host.sqrt (Host.divf (addf (mulf (broadcastInDim S1x2048 ![] Cert.Reference30Ideal.Gen.bcast_S_S1x2048 (constant Cert.Reference30Ideal.S_ .f32 0x3F7FBE77#32)) v) (mulf (broadcastInDim S1x2048 ![] Cert.Reference30Ideal.Gen.bcast_S_S1x2048 (constant Cert.Reference30Ideal.S_ .f32 0x3A83126F#32)) (mulf g g))) (broadcastInDim S1x2048 ![] Cert.Reference30Ideal.Gen.bcast_S_S1x2048 (constant Cert.Reference30Ideal.S_ .f32 0x3C231ACC#32)))) (broadcastInDim S1x2048 ![] Cert.Reference30Ideal.Gen.bcast_S_S1x2048 (constant Cert.Reference30Ideal.S_ .f32 0x322BCC77#32)))) (mulf (broadcastInDim S1x2048 ![] Cert.Reference30Ideal.Gen.bcast_S_S1x2048 (constant Cert.Reference30Ideal.S_ .f32 0x3C23D70A#32)) w))

/-- The new mean of the gradients of a gain of 512 numbers. -/
abbrev meanLow (g mo : FVec Ideal S1x512 .f32) : FVec Ideal S1x512 .f32 :=
  addf (mulf (broadcastInDim S1x512 ![] Cert.Reference30Ideal.Gen.bcast_S_S1x512 (constant Cert.Reference30Ideal.S_ .f32 0x3F666666#32)) mo) (mulf (broadcastInDim S1x512 ![] Cert.Reference30Ideal.Gen.bcast_S_S1x512 (constant Cert.Reference30Ideal.S_ .f32 0x3DCCCCCD#32)) g)

/-- The new mean of the gradients' squares of a gain of 512 numbers. -/
abbrev squareLow (g v : FVec Ideal S1x512 .f32) : FVec Ideal S1x512 .f32 :=
  addf (mulf (broadcastInDim S1x512 ![] Cert.Reference30Ideal.Gen.bcast_S_S1x512 (constant Cert.Reference30Ideal.S_ .f32 0x3F7FBE77#32)) v) (mulf (broadcastInDim S1x512 ![] Cert.Reference30Ideal.Gen.bcast_S_S1x512 (constant Cert.Reference30Ideal.S_ .f32 0x3A83126F#32)) (mulf g g))

/-- The step of a gain of 512 numbers. -/
abbrev stepLow (w g mo v : FVec Ideal S1x512 .f32) : FVec Ideal S1x512 .f32 :=
  mulf (broadcastInDim S1x512 ![] Cert.Reference30Ideal.Gen.bcast_S_S1x512 (constant Cert.Reference30Ideal.S_ .f32 0xBA83126F#32)) (addf (Host.divf (Host.divf (addf (mulf (broadcastInDim S1x512 ![] Cert.Reference30Ideal.Gen.bcast_S_S1x512 (constant Cert.Reference30Ideal.S_ .f32 0x3F666666#32)) mo) (mulf (broadcastInDim S1x512 ![] Cert.Reference30Ideal.Gen.bcast_S_S1x512 (constant Cert.Reference30Ideal.S_ .f32 0x3DCCCCCD#32)) g)) (broadcastInDim S1x512 ![] Cert.Reference30Ideal.Gen.bcast_S_S1x512 (constant Cert.Reference30Ideal.S_ .f32 0x3F26BD02#32))) (addf (Host.sqrt (Host.divf (addf (mulf (broadcastInDim S1x512 ![] Cert.Reference30Ideal.Gen.bcast_S_S1x512 (constant Cert.Reference30Ideal.S_ .f32 0x3F7FBE77#32)) v) (mulf (broadcastInDim S1x512 ![] Cert.Reference30Ideal.Gen.bcast_S_S1x512 (constant Cert.Reference30Ideal.S_ .f32 0x3A83126F#32)) (mulf g g))) (broadcastInDim S1x512 ![] Cert.Reference30Ideal.Gen.bcast_S_S1x512 (constant Cert.Reference30Ideal.S_ .f32 0x3C231ACC#32)))) (broadcastInDim S1x512 ![] Cert.Reference30Ideal.Gen.bcast_S_S1x512 (constant Cert.Reference30Ideal.S_ .f32 0x322BCC77#32)))) (mulf (broadcastInDim S1x512 ![] Cert.Reference30Ideal.Gen.bcast_S_S1x512 (constant Cert.Reference30Ideal.S_ .f32 0x3C23D70A#32)) w))

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0, 0] := (by decide +kernel : ∀ t : Fin grid0.N, _)
theorem idx_21 : ∀ t : Fin cfg0.N, win0_21.index t = ![0, 0] := (by decide +kernel : ∀ t : Fin grid0.N, _)
theorem idx_22 : ∀ t : Fin cfg0.N, win0_22.index t = ![0, 0] := (by decide +kernel : ∀ t : Fin grid0.N, _)
theorem idx_23 : ∀ t : Fin cfg0.N, win0_23.index t = ![0, 0] := (by decide +kernel : ∀ t : Fin grid0.N, _)
theorem idx_24 : ∀ t : Fin cfg0.N, win0_24.index t = ![0, 0] := (by decide +kernel : ∀ t : Fin grid0.N, _)
theorem idx_25 : ∀ t : Fin cfg0.N, win0_25.index t = ![0, 0] := (by decide +kernel : ∀ t : Fin grid0.N, _)
theorem idx_26 : ∀ t : Fin cfg0.N, win0_26.index t = ![0, 0] := (by decide +kernel : ∀ t : Fin grid0.N, _)
theorem idx_27 : ∀ t : Fin cfg0.N, win0_27.index t = ![0, 0] := (by decide +kernel : ∀ t : Fin grid0.N, _)
theorem idx_28 : ∀ t : Fin cfg0.N, win0_28.index t = ![0, 0] := (by decide +kernel : ∀ t : Fin grid0.N, _)
theorem idx_29 : ∀ t : Fin cfg0.N, win0_29.index t = ![0, 0] := (by decide +kernel : ∀ t : Fin grid0.N, _)
theorem idx_30 : ∀ t : Fin cfg0.N, win0_30.index t = ![0, 0] := (by decide +kernel : ∀ t : Fin grid0.N, _)
theorem idx_31 : ∀ t : Fin cfg0.N, win0_31.index t = ![0, 0] := (by decide +kernel : ∀ t : Fin grid0.N, _)
theorem idx_32 : ∀ t : Fin cfg0.N, win0_32.index t = ![0, 0] := (by decide +kernel : ∀ t : Fin grid0.N, _)
theorem idx_33 : ∀ t : Fin cfg0.N, win0_33.index t = ![0, 0] := (by decide +kernel : ∀ t : Fin grid0.N, _)
theorem idx_34 : ∀ t : Fin cfg0.N, win0_34.index t = ![0, 0] := (by decide +kernel : ∀ t : Fin grid0.N, _)
theorem idx_35 : ∀ t : Fin cfg0.N, win0_35.index t = ![0, 0] := (by decide +kernel : ∀ t : Fin grid0.N, _)
theorem idx_36 : ∀ t : Fin cfg0.N, win0_36.index t = ![0, 0] := (by decide +kernel : ∀ t : Fin grid0.N, _)
theorem idx_37 : ∀ t : Fin cfg0.N, win0_37.index t = ![0, 0] := (by decide +kernel : ∀ t : Fin grid0.N, _)
theorem idx_38 : ∀ t : Fin cfg0.N, win0_38.index t = ![0, 0] := (by decide +kernel : ∀ t : Fin grid0.N, _)
theorem idx_39 : ∀ t : Fin cfg0.N, win0_39.index t = ![0, 0] := (by decide +kernel : ∀ t : Fin grid0.N, _)
theorem idx_40 : ∀ t : Fin cfg0.N, win0_40.index t = ![0, 0] := (by decide +kernel : ∀ t : Fin grid0.N, _)
theorem idx_41 : ∀ t : Fin cfg0.N, win0_41.index t = ![0, 0] := (by decide +kernel : ∀ t : Fin grid0.N, _)
theorem idx_42 : ∀ t : Fin cfg0.N, win0_42.index t = ![0, 0] := (by decide +kernel : ∀ t : Fin grid0.N, _)

theorem gradient_0 (c : Dev nD) : (dats m 0 c).arrAt 19 (cfgs 0).N = (extractStridedSlice S1x2048 ![0, 0] (m (c, main_arg0)) Cert.Reference30Ideal.Gen.slices_S1x9344_S1x2048_0_0) := by
  have : (dats m 0 c).arrAt 19 (cfgs 0).N = (extractStridedSlice S1x2048 ![0, 0] (V m c main_arg0) Cert.Reference30Ideal.Gen.slices_S1x9344_S1x2048_0_0) := by
    refine (dats m 0 c).arrAt_eq_of_covers 19 _ (by decide +kernel) fun t _ y => ?_
    blk_simp
    rw [after0_19]; frame_out
    pointwise []
    blk_point [iblk, idx_0 t, idx_19 t]
  simpa only [V_main_arg0] using this

theorem step_0 (c : Dev nD) : (dats m 0 c).arrAt 20 (cfgs 0).N = step (m (c, main_arg1)) (extractStridedSlice S1x2048 ![0, 0] (m (c, main_arg0)) Cert.Reference30Ideal.Gen.slices_S1x9344_S1x2048_0_0) (m (c, main_arg7)) (m (c, main_arg13)) := by
  have : (dats m 0 c).arrAt 20 (cfgs 0).N = step (V m c main_arg1) (extractStridedSlice S1x2048 ![0, 0] (V m c main_arg0) Cert.Reference30Ideal.Gen.slices_S1x9344_S1x2048_0_0) (V m c main_arg7) (V m c main_arg13) := by
    refine (dats m 0 c).arrAt_eq_of_covers 20 _ (by decide +kernel) fun t _ y => ?_
    blk_simp
    rw [after0_20]; frame_out
    pointwise [k0_pay1, k0_pay2, k0_pay3, step]
    blk_point [iblk, idx_1 t, idx_0 t, idx_7 t, idx_13 t, idx_20 t]
  simpa only [V_main_arg1, V_main_arg0, V_main_arg7, V_main_arg13] using this

theorem mean_0 (c : Dev nD) : (dats m 0 c).arrAt 21 (cfgs 0).N = mean (extractStridedSlice S1x2048 ![0, 0] (m (c, main_arg0)) Cert.Reference30Ideal.Gen.slices_S1x9344_S1x2048_0_0) (m (c, main_arg7)) := by
  have : (dats m 0 c).arrAt 21 (cfgs 0).N = mean (extractStridedSlice S1x2048 ![0, 0] (V m c main_arg0) Cert.Reference30Ideal.Gen.slices_S1x9344_S1x2048_0_0) (V m c main_arg7) := by
    refine (dats m 0 c).arrAt_eq_of_covers 21 _ (by decide +kernel) fun t _ y => ?_
    blk_simp
    rw [after0_21]; frame_out
    pointwise [k0_pay1, mean]
    blk_point [iblk, idx_0 t, idx_7 t, idx_21 t]
  simpa only [V_main_arg0, V_main_arg7] using this

theorem square_0 (c : Dev nD) : (dats m 0 c).arrAt 22 (cfgs 0).N = square (extractStridedSlice S1x2048 ![0, 0] (m (c, main_arg0)) Cert.Reference30Ideal.Gen.slices_S1x9344_S1x2048_0_0) (m (c, main_arg13)) := by
  have : (dats m 0 c).arrAt 22 (cfgs 0).N = square (extractStridedSlice S1x2048 ![0, 0] (V m c main_arg0) Cert.Reference30Ideal.Gen.slices_S1x9344_S1x2048_0_0) (V m c main_arg13) := by
    refine (dats m 0 c).arrAt_eq_of_covers 22 _ (by decide +kernel) fun t _ y => ?_
    blk_simp
    rw [after0_22]; frame_out
    pointwise [k0_pay2, square]
    blk_point [iblk, idx_0 t, idx_13 t, idx_22 t]
  simpa only [V_main_arg0, V_main_arg13] using this

theorem gradient_1 (c : Dev nD) : (dats m 0 c).arrAt 23 (cfgs 0).N = (extractStridedSlice S1x2048 ![0, 2048] (m (c, main_arg0)) Cert.Reference30Ideal.Gen.slices_S1x9344_S1x2048_0_2048) := by
  have : (dats m 0 c).arrAt 23 (cfgs 0).N = (extractStridedSlice S1x2048 ![0, 2048] (V m c main_arg0) Cert.Reference30Ideal.Gen.slices_S1x9344_S1x2048_0_2048) := by
    refine (dats m 0 c).arrAt_eq_of_covers 23 _ (by decide +kernel) fun t _ y => ?_
    blk_simp
    rw [after0_23]; frame_out
    pointwise []
    blk_point [iblk, idx_0 t, idx_23 t]
  simpa only [V_main_arg0] using this

theorem step_1 (c : Dev nD) : (dats m 0 c).arrAt 24 (cfgs 0).N = step (m (c, main_arg2)) (extractStridedSlice S1x2048 ![0, 2048] (m (c, main_arg0)) Cert.Reference30Ideal.Gen.slices_S1x9344_S1x2048_0_2048) (m (c, main_arg8)) (m (c, main_arg14)) := by
  have : (dats m 0 c).arrAt 24 (cfgs 0).N = step (V m c main_arg2) (extractStridedSlice S1x2048 ![0, 2048] (V m c main_arg0) Cert.Reference30Ideal.Gen.slices_S1x9344_S1x2048_0_2048) (V m c main_arg8) (V m c main_arg14) := by
    refine (dats m 0 c).arrAt_eq_of_covers 24 _ (by decide +kernel) fun t _ y => ?_
    blk_simp
    rw [after0_24]; frame_out
    pointwise [k0_pay4, k0_pay5, k0_pay6, step]
    blk_point [iblk, idx_2 t, idx_0 t, idx_8 t, idx_14 t, idx_24 t]
  simpa only [V_main_arg2, V_main_arg0, V_main_arg8, V_main_arg14] using this

theorem mean_1 (c : Dev nD) : (dats m 0 c).arrAt 25 (cfgs 0).N = mean (extractStridedSlice S1x2048 ![0, 2048] (m (c, main_arg0)) Cert.Reference30Ideal.Gen.slices_S1x9344_S1x2048_0_2048) (m (c, main_arg8)) := by
  have : (dats m 0 c).arrAt 25 (cfgs 0).N = mean (extractStridedSlice S1x2048 ![0, 2048] (V m c main_arg0) Cert.Reference30Ideal.Gen.slices_S1x9344_S1x2048_0_2048) (V m c main_arg8) := by
    refine (dats m 0 c).arrAt_eq_of_covers 25 _ (by decide +kernel) fun t _ y => ?_
    blk_simp
    rw [after0_25]; frame_out
    pointwise [k0_pay4, mean]
    blk_point [iblk, idx_0 t, idx_8 t, idx_25 t]
  simpa only [V_main_arg0, V_main_arg8] using this

theorem square_1 (c : Dev nD) : (dats m 0 c).arrAt 26 (cfgs 0).N = square (extractStridedSlice S1x2048 ![0, 2048] (m (c, main_arg0)) Cert.Reference30Ideal.Gen.slices_S1x9344_S1x2048_0_2048) (m (c, main_arg14)) := by
  have : (dats m 0 c).arrAt 26 (cfgs 0).N = square (extractStridedSlice S1x2048 ![0, 2048] (V m c main_arg0) Cert.Reference30Ideal.Gen.slices_S1x9344_S1x2048_0_2048) (V m c main_arg14) := by
    refine (dats m 0 c).arrAt_eq_of_covers 26 _ (by decide +kernel) fun t _ y => ?_
    blk_simp
    rw [after0_26]; frame_out
    pointwise [k0_pay5, square]
    blk_point [iblk, idx_0 t, idx_14 t, idx_26 t]
  simpa only [V_main_arg0, V_main_arg14] using this

theorem gradient_2 (c : Dev nD) : (dats m 0 c).arrAt 27 (cfgs 0).N = (extractStridedSlice S1x512 ![0, 4096] (m (c, main_arg0)) Cert.Reference30Ideal.Gen.slices_S1x9344_S1x512_0_4096) := by
  have : (dats m 0 c).arrAt 27 (cfgs 0).N = (extractStridedSlice S1x512 ![0, 4096] (V m c main_arg0) Cert.Reference30Ideal.Gen.slices_S1x9344_S1x512_0_4096) := by
    refine (dats m 0 c).arrAt_eq_of_covers 27 _ (by decide +kernel) fun t _ y => ?_
    blk_simp
    rw [after0_27]; frame_out
    pointwise []
    blk_point [iblk, idx_0 t, idx_27 t]
  simpa only [V_main_arg0] using this

theorem step_2 (c : Dev nD) : (dats m 0 c).arrAt 28 (cfgs 0).N = stepLow (m (c, main_arg3)) (extractStridedSlice S1x512 ![0, 4096] (m (c, main_arg0)) Cert.Reference30Ideal.Gen.slices_S1x9344_S1x512_0_4096) (m (c, main_arg9)) (m (c, main_arg15)) := by
  have : (dats m 0 c).arrAt 28 (cfgs 0).N = stepLow (V m c main_arg3) (extractStridedSlice S1x512 ![0, 4096] (V m c main_arg0) Cert.Reference30Ideal.Gen.slices_S1x9344_S1x512_0_4096) (V m c main_arg9) (V m c main_arg15) := by
    refine (dats m 0 c).arrAt_eq_of_covers 28 _ (by decide +kernel) fun t _ y => ?_
    blk_simp
    rw [after0_28]; frame_out
    pointwise [k0_pay7, k0_pay8, k0_pay9, stepLow]
    blk_point [iblk, idx_3 t, idx_0 t, idx_9 t, idx_15 t, idx_28 t]
  simpa only [V_main_arg3, V_main_arg0, V_main_arg9, V_main_arg15] using this

theorem mean_2 (c : Dev nD) : (dats m 0 c).arrAt 29 (cfgs 0).N = meanLow (extractStridedSlice S1x512 ![0, 4096] (m (c, main_arg0)) Cert.Reference30Ideal.Gen.slices_S1x9344_S1x512_0_4096) (m (c, main_arg9)) := by
  have : (dats m 0 c).arrAt 29 (cfgs 0).N = meanLow (extractStridedSlice S1x512 ![0, 4096] (V m c main_arg0) Cert.Reference30Ideal.Gen.slices_S1x9344_S1x512_0_4096) (V m c main_arg9) := by
    refine (dats m 0 c).arrAt_eq_of_covers 29 _ (by decide +kernel) fun t _ y => ?_
    blk_simp
    rw [after0_29]; frame_out
    pointwise [k0_pay7, meanLow]
    blk_point [iblk, idx_0 t, idx_9 t, idx_29 t]
  simpa only [V_main_arg0, V_main_arg9] using this

theorem square_2 (c : Dev nD) : (dats m 0 c).arrAt 30 (cfgs 0).N = squareLow (extractStridedSlice S1x512 ![0, 4096] (m (c, main_arg0)) Cert.Reference30Ideal.Gen.slices_S1x9344_S1x512_0_4096) (m (c, main_arg15)) := by
  have : (dats m 0 c).arrAt 30 (cfgs 0).N = squareLow (extractStridedSlice S1x512 ![0, 4096] (V m c main_arg0) Cert.Reference30Ideal.Gen.slices_S1x9344_S1x512_0_4096) (V m c main_arg15) := by
    refine (dats m 0 c).arrAt_eq_of_covers 30 _ (by decide +kernel) fun t _ y => ?_
    blk_simp
    rw [after0_30]; frame_out
    pointwise [k0_pay8, squareLow]
    blk_point [iblk, idx_0 t, idx_15 t, idx_30 t]
  simpa only [V_main_arg0, V_main_arg15] using this

theorem gradient_3 (c : Dev nD) : (dats m 0 c).arrAt 31 (cfgs 0).N = (extractStridedSlice S1x512 ![0, 4608] (m (c, main_arg0)) Cert.Reference30Ideal.Gen.slices_S1x9344_S1x512_0_4608) := by
  have : (dats m 0 c).arrAt 31 (cfgs 0).N = (extractStridedSlice S1x512 ![0, 4608] (V m c main_arg0) Cert.Reference30Ideal.Gen.slices_S1x9344_S1x512_0_4608) := by
    refine (dats m 0 c).arrAt_eq_of_covers 31 _ (by decide +kernel) fun t _ y => ?_
    blk_simp
    rw [after0_31]; frame_out
    pointwise []
    blk_point [iblk, idx_0 t, idx_31 t]
  simpa only [V_main_arg0] using this

theorem step_3 (c : Dev nD) : (dats m 0 c).arrAt 32 (cfgs 0).N = stepLow (m (c, main_arg4)) (extractStridedSlice S1x512 ![0, 4608] (m (c, main_arg0)) Cert.Reference30Ideal.Gen.slices_S1x9344_S1x512_0_4608) (m (c, main_arg10)) (m (c, main_arg16)) := by
  have : (dats m 0 c).arrAt 32 (cfgs 0).N = stepLow (V m c main_arg4) (extractStridedSlice S1x512 ![0, 4608] (V m c main_arg0) Cert.Reference30Ideal.Gen.slices_S1x9344_S1x512_0_4608) (V m c main_arg10) (V m c main_arg16) := by
    refine (dats m 0 c).arrAt_eq_of_covers 32 _ (by decide +kernel) fun t _ y => ?_
    blk_simp
    rw [after0_32]; frame_out
    pointwise [k0_pay10, k0_pay11, k0_pay12, stepLow]
    blk_point [iblk, idx_4 t, idx_0 t, idx_10 t, idx_16 t, idx_32 t]
  simpa only [V_main_arg4, V_main_arg0, V_main_arg10, V_main_arg16] using this

theorem mean_3 (c : Dev nD) : (dats m 0 c).arrAt 33 (cfgs 0).N = meanLow (extractStridedSlice S1x512 ![0, 4608] (m (c, main_arg0)) Cert.Reference30Ideal.Gen.slices_S1x9344_S1x512_0_4608) (m (c, main_arg10)) := by
  have : (dats m 0 c).arrAt 33 (cfgs 0).N = meanLow (extractStridedSlice S1x512 ![0, 4608] (V m c main_arg0) Cert.Reference30Ideal.Gen.slices_S1x9344_S1x512_0_4608) (V m c main_arg10) := by
    refine (dats m 0 c).arrAt_eq_of_covers 33 _ (by decide +kernel) fun t _ y => ?_
    blk_simp
    rw [after0_33]; frame_out
    pointwise [k0_pay10, meanLow]
    blk_point [iblk, idx_0 t, idx_10 t, idx_33 t]
  simpa only [V_main_arg0, V_main_arg10] using this

theorem square_3 (c : Dev nD) : (dats m 0 c).arrAt 34 (cfgs 0).N = squareLow (extractStridedSlice S1x512 ![0, 4608] (m (c, main_arg0)) Cert.Reference30Ideal.Gen.slices_S1x9344_S1x512_0_4608) (m (c, main_arg16)) := by
  have : (dats m 0 c).arrAt 34 (cfgs 0).N = squareLow (extractStridedSlice S1x512 ![0, 4608] (V m c main_arg0) Cert.Reference30Ideal.Gen.slices_S1x9344_S1x512_0_4608) (V m c main_arg16) := by
    refine (dats m 0 c).arrAt_eq_of_covers 34 _ (by decide +kernel) fun t _ y => ?_
    blk_simp
    rw [after0_34]; frame_out
    pointwise [k0_pay11, squareLow]
    blk_point [iblk, idx_0 t, idx_16 t, idx_34 t]
  simpa only [V_main_arg0, V_main_arg16] using this

theorem gradient_4 (c : Dev nD) : (dats m 0 c).arrAt 35 (cfgs 0).N = (extractStridedSlice S1x2048 ![0, 5120] (m (c, main_arg0)) Cert.Reference30Ideal.Gen.slices_S1x9344_S1x2048_0_5120) := by
  have : (dats m 0 c).arrAt 35 (cfgs 0).N = (extractStridedSlice S1x2048 ![0, 5120] (V m c main_arg0) Cert.Reference30Ideal.Gen.slices_S1x9344_S1x2048_0_5120) := by
    refine (dats m 0 c).arrAt_eq_of_covers 35 _ (by decide +kernel) fun t _ y => ?_
    blk_simp
    rw [after0_35]; frame_out
    pointwise []
    blk_point [iblk, idx_0 t, idx_35 t]
  simpa only [V_main_arg0] using this

theorem step_4 (c : Dev nD) : (dats m 0 c).arrAt 36 (cfgs 0).N = step (m (c, main_arg5)) (extractStridedSlice S1x2048 ![0, 5120] (m (c, main_arg0)) Cert.Reference30Ideal.Gen.slices_S1x9344_S1x2048_0_5120) (m (c, main_arg11)) (m (c, main_arg17)) := by
  have : (dats m 0 c).arrAt 36 (cfgs 0).N = step (V m c main_arg5) (extractStridedSlice S1x2048 ![0, 5120] (V m c main_arg0) Cert.Reference30Ideal.Gen.slices_S1x9344_S1x2048_0_5120) (V m c main_arg11) (V m c main_arg17) := by
    refine (dats m 0 c).arrAt_eq_of_covers 36 _ (by decide +kernel) fun t _ y => ?_
    blk_simp
    rw [after0_36]; frame_out
    pointwise [k0_pay13, k0_pay14, k0_pay15, step]
    blk_point [iblk, idx_5 t, idx_0 t, idx_11 t, idx_17 t, idx_36 t]
  simpa only [V_main_arg5, V_main_arg0, V_main_arg11, V_main_arg17] using this

theorem mean_4 (c : Dev nD) : (dats m 0 c).arrAt 37 (cfgs 0).N = mean (extractStridedSlice S1x2048 ![0, 5120] (m (c, main_arg0)) Cert.Reference30Ideal.Gen.slices_S1x9344_S1x2048_0_5120) (m (c, main_arg11)) := by
  have : (dats m 0 c).arrAt 37 (cfgs 0).N = mean (extractStridedSlice S1x2048 ![0, 5120] (V m c main_arg0) Cert.Reference30Ideal.Gen.slices_S1x9344_S1x2048_0_5120) (V m c main_arg11) := by
    refine (dats m 0 c).arrAt_eq_of_covers 37 _ (by decide +kernel) fun t _ y => ?_
    blk_simp
    rw [after0_37]; frame_out
    pointwise [k0_pay13, mean]
    blk_point [iblk, idx_0 t, idx_11 t, idx_37 t]
  simpa only [V_main_arg0, V_main_arg11] using this

theorem square_4 (c : Dev nD) : (dats m 0 c).arrAt 38 (cfgs 0).N = square (extractStridedSlice S1x2048 ![0, 5120] (m (c, main_arg0)) Cert.Reference30Ideal.Gen.slices_S1x9344_S1x2048_0_5120) (m (c, main_arg17)) := by
  have : (dats m 0 c).arrAt 38 (cfgs 0).N = square (extractStridedSlice S1x2048 ![0, 5120] (V m c main_arg0) Cert.Reference30Ideal.Gen.slices_S1x9344_S1x2048_0_5120) (V m c main_arg17) := by
    refine (dats m 0 c).arrAt_eq_of_covers 38 _ (by decide +kernel) fun t _ y => ?_
    blk_simp
    rw [after0_38]; frame_out
    pointwise [k0_pay14, square]
    blk_point [iblk, idx_0 t, idx_17 t, idx_38 t]
  simpa only [V_main_arg0, V_main_arg17] using this

theorem gradient_5 (c : Dev nD) : (dats m 0 c).arrAt 39 (cfgs 0).N = (extractStridedSlice S1x2048 ![0, 7168] (m (c, main_arg0)) Cert.Reference30Ideal.Gen.slices_S1x9344_S1x2048_0_7168) := by
  have : (dats m 0 c).arrAt 39 (cfgs 0).N = (extractStridedSlice S1x2048 ![0, 7168] (V m c main_arg0) Cert.Reference30Ideal.Gen.slices_S1x9344_S1x2048_0_7168) := by
    refine (dats m 0 c).arrAt_eq_of_covers 39 _ (by decide +kernel) fun t _ y => ?_
    blk_simp
    rw [after0_39]; frame_out
    pointwise []
    blk_point [iblk, idx_0 t, idx_39 t]
  simpa only [V_main_arg0] using this

theorem step_5 (c : Dev nD) : (dats m 0 c).arrAt 40 (cfgs 0).N = step (m (c, main_arg6)) (extractStridedSlice S1x2048 ![0, 7168] (m (c, main_arg0)) Cert.Reference30Ideal.Gen.slices_S1x9344_S1x2048_0_7168) (m (c, main_arg12)) (m (c, main_arg18)) := by
  have : (dats m 0 c).arrAt 40 (cfgs 0).N = step (V m c main_arg6) (extractStridedSlice S1x2048 ![0, 7168] (V m c main_arg0) Cert.Reference30Ideal.Gen.slices_S1x9344_S1x2048_0_7168) (V m c main_arg12) (V m c main_arg18) := by
    refine (dats m 0 c).arrAt_eq_of_covers 40 _ (by decide +kernel) fun t _ y => ?_
    blk_simp
    rw [after0_40]; frame_out
    pointwise [k0_pay16, k0_pay17, k0_pay18, step]
    blk_point [iblk, idx_6 t, idx_0 t, idx_12 t, idx_18 t, idx_40 t]
  simpa only [V_main_arg6, V_main_arg0, V_main_arg12, V_main_arg18] using this

theorem mean_5 (c : Dev nD) : (dats m 0 c).arrAt 41 (cfgs 0).N = mean (extractStridedSlice S1x2048 ![0, 7168] (m (c, main_arg0)) Cert.Reference30Ideal.Gen.slices_S1x9344_S1x2048_0_7168) (m (c, main_arg12)) := by
  have : (dats m 0 c).arrAt 41 (cfgs 0).N = mean (extractStridedSlice S1x2048 ![0, 7168] (V m c main_arg0) Cert.Reference30Ideal.Gen.slices_S1x9344_S1x2048_0_7168) (V m c main_arg12) := by
    refine (dats m 0 c).arrAt_eq_of_covers 41 _ (by decide +kernel) fun t _ y => ?_
    blk_simp
    rw [after0_41]; frame_out
    pointwise [k0_pay16, mean]
    blk_point [iblk, idx_0 t, idx_12 t, idx_41 t]
  simpa only [V_main_arg0, V_main_arg12] using this

theorem square_5 (c : Dev nD) : (dats m 0 c).arrAt 42 (cfgs 0).N = square (extractStridedSlice S1x2048 ![0, 7168] (m (c, main_arg0)) Cert.Reference30Ideal.Gen.slices_S1x9344_S1x2048_0_7168) (m (c, main_arg18)) := by
  have : (dats m 0 c).arrAt 42 (cfgs 0).N = square (extractStridedSlice S1x2048 ![0, 7168] (V m c main_arg0) Cert.Reference30Ideal.Gen.slices_S1x9344_S1x2048_0_7168) (V m c main_arg18) := by
    refine (dats m 0 c).arrAt_eq_of_covers 42 _ (by decide +kernel) fun t _ y => ?_
    blk_simp
    rw [after0_42]; frame_out
    pointwise [k0_pay17, square]
    blk_point [iblk, idx_0 t, idx_18 t, idx_42 t]
  simpa only [V_main_arg0, V_main_arg18] using this

end Cert.Kernel30Ideal.Product

end
-- ==== Proof.GainsClaim.lean ====
module

public import proofs.«01_k».proof.Proof.Gains
public import proofs.«01_k».proof.Proof.Gen.Reference30Ideal.Run
public import proofs.«01_k».proof.Defs
public import Idealize.ShloMosaic.Lib.Pipeline.ValueKit

/-!
The six gains' claim, from their results one by one.
-/

@[expose] public section

set_option maxRecDepth 16384

noncomputable section

open Idealize.ShloMosaic Idealize.ShloMosaic.TcCoe Idealize.ShloMosaic.Tactic Idealize.SL.Sem

namespace Cert.Kernel30Ideal.Product

open Cert.Kernel30Ideal Cert.Kernel30Ideal.Gen

variable (m : (ℓ : Loc nD τ sig) → Buf (Elt Ideal) ℓ)

variable (m' : (ℓ : Loc Cert.Reference30Ideal.nD Cert.Reference30Ideal.τ Cert.Reference30Ideal.sig) → Buf (Elt Ideal) ℓ) (c : Dev Cert.Reference30Ideal.nD)

theorem cut_0 {x : FVec Ideal Cert.Reference30Ideal.S1x9344 .f32} (h : m' (c.tc.loc Cert.Reference30Ideal.main_arg0) = x) :
    Cert.Reference30Ideal.Value.res_main_v0 (StableHlo.launchContents m' c) = extractStridedSlice Cert.Reference30Ideal.S1x2048 ![0, 0] x Cert.Reference30Ideal.Gen.slices_S1x9344_S1x2048_0_0 := by
  subst h; rfl

theorem cut_1 {x : FVec Ideal Cert.Reference30Ideal.S1x9344 .f32} (h : m' (c.tc.loc Cert.Reference30Ideal.main_arg0) = x) :
    Cert.Reference30Ideal.Value.res_main_v25 (StableHlo.launchContents m' c) = extractStridedSlice Cert.Reference30Ideal.S1x2048 ![0, 2048] x Cert.Reference30Ideal.Gen.slices_S1x9344_S1x2048_0_2048 := by
  subst h; rfl

theorem cut_2 {x : FVec Ideal Cert.Reference30Ideal.S1x9344 .f32} (h : m' (c.tc.loc Cert.Reference30Ideal.main_arg0) = x) :
    Cert.Reference30Ideal.Value.res_main_v50 (StableHlo.launchContents m' c) = extractStridedSlice Cert.Reference30Ideal.S1x512 ![0, 4096] x Cert.Reference30Ideal.Gen.slices_S1x9344_S1x512_0_4096 := by
  subst h; rfl

theorem cut_3 {x : FVec Ideal Cert.Reference30Ideal.S1x9344 .f32} (h : m' (c.tc.loc Cert.Reference30Ideal.main_arg0) = x) :
    Cert.Reference30Ideal.Value.res_main_v75 (StableHlo.launchContents m' c) = extractStridedSlice Cert.Reference30Ideal.S1x512 ![0, 4608] x Cert.Reference30Ideal.Gen.slices_S1x9344_S1x512_0_4608 := by
  subst h; rfl

theorem cut_4 {x : FVec Ideal Cert.Reference30Ideal.S1x9344 .f32} (h : m' (c.tc.loc Cert.Reference30Ideal.main_arg0) = x) :
    Cert.Reference30Ideal.Value.res_main_v100 (StableHlo.launchContents m' c) = extractStridedSlice Cert.Reference30Ideal.S1x2048 ![0, 5120] x Cert.Reference30Ideal.Gen.slices_S1x9344_S1x2048_0_5120 := by
  subst h; rfl

theorem cut_5 {x : FVec Ideal Cert.Reference30Ideal.S1x9344 .f32} (h : m' (c.tc.loc Cert.Reference30Ideal.main_arg0) = x) :
    Cert.Reference30Ideal.Value.res_main_v125 (StableHlo.launchContents m' c) = extractStridedSlice Cert.Reference30Ideal.S1x2048 ![0, 7168] x Cert.Reference30Ideal.Gen.slices_S1x9344_S1x2048_0_7168 := by
  subst h; rfl

set_option maxHeartbeats 8000000 in
theorem algebraic : Cert.algebraic_Kernel30Ideal_Reference30Ideal := by
  pair_intro
  · run_from Cert.Kernel30Ideal.Value.run_blocks m g
  · run_from Cert.Reference30Ideal.Value.run m' g'
    · rw [cut_0 m' c (hagree c).1]; exact (gradient_0 m c).symm
    · rw [cut_0 m' c (hagree c).1]; exact (step_0 m c).symm
    · rw [cut_0 m' c (hagree c).1]; exact (mean_0 m c).symm
    · rw [cut_0 m' c (hagree c).1]; exact (square_0 m c).symm
    · rw [cut_1 m' c (hagree c).1]; exact (gradient_1 m c).symm
    · rw [cut_1 m' c (hagree c).1]; exact (step_1 m c).symm
    · rw [cut_1 m' c (hagree c).1]; exact (mean_1 m c).symm
    · rw [cut_1 m' c (hagree c).1]; exact (square_1 m c).symm
    · rw [cut_2 m' c (hagree c).1]; exact (gradient_2 m c).symm
    · rw [cut_2 m' c (hagree c).1]; exact (step_2 m c).symm
    · rw [cut_2 m' c (hagree c).1]; exact (mean_2 m c).symm
    · rw [cut_2 m' c (hagree c).1]; exact (square_2 m c).symm
    · rw [cut_3 m' c (hagree c).1]; exact (gradient_3 m c).symm
    · rw [cut_3 m' c (hagree c).1]; exact (step_3 m c).symm
    · rw [cut_3 m' c (hagree c).1]; exact (mean_3 m c).symm
    · rw [cut_3 m' c (hagree c).1]; exact (square_3 m c).symm
    · rw [cut_4 m' c (hagree c).1]; exact (gradient_4 m c).symm
    · rw [cut_4 m' c (hagree c).1]; exact (step_4 m c).symm
    · rw [cut_4 m' c (hagree c).1]; exact (mean_4 m c).symm
    · rw [cut_4 m' c (hagree c).1]; exact (square_4 m c).symm
    · rw [cut_5 m' c (hagree c).1]; exact (gradient_5 m c).symm
    · rw [cut_5 m' c (hagree c).1]; exact (step_5 m c).symm
    · rw [cut_5 m' c (hagree c).1]; exact (mean_5 m c).symm
    · rw [cut_5 m' c (hagree c).1]; exact (square_5 m c).symm

end Cert.Kernel30Ideal.Product

end
-- ==== Proof.AttentionRows.lean ====
module

public import proofs.«01_k».proof.Proof.Gen.Kernel22Ideal.Value
public import proofs.«01_k».proof.Proof.Gen.Reference22Ideal.Run
public import proofs.«01_k».proof.Defs
public import Idealize.ShloMosaic.Lib.Pipeline.ValueKit

/-!
The attention's queries, keys and values: the kernel's tiles are tiles of one rotation of one product.
-/

@[expose] public section

set_option maxRecDepth 16384

noncomputable section

open Idealize.ShloMosaic Idealize.ShloMosaic.TcCoe Idealize.ShloMosaic.Tactic Idealize.SL.Sem

namespace Cert.Reference22Ideal.Rows

open Cert.Reference22Ideal Cert.Reference22Ideal.Gen

/-- The angles of the rotation. -/
def angle (x5 : IVec S1x4096 32) : FVec Ideal S4096x32 .f32 :=
  mulf (broadcastInDim S4096x32 ![0, 1] bcast_S4096x1_S4096x32_0_1 (broadcastInDim S4096x1 ![0] bcast_S4096_S4096x1_0 (sitofp .f32 (shapeCast _ x5 shapeCasts_S1x4096_S4096)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The queries' heads before the rotation. -/
def queries (x0 : FVec Ideal S4096x512 .f32) (x2 : FVec Ideal S512x3072 .f32) : FVec Ideal S4096x16x192 .f32 :=
  shapeCast _ (Host.dotGeneral dot_S4096x512_S512x3072_S4096x3072_1_0_0_1_n_n none x0 x2) shapeCasts_S4096x3072_S4096x16x192

/-- The keys' and values' heads before the rotation. -/
def keys (x1 : FVec Ideal S4096x512 .f32) (x3 : FVec Ideal S512x4096 .f32) : FVec Ideal S4096x16x256 .f32 :=
  shapeCast _ (Host.dotGeneral dot_S4096x512_S512x4096_S4096x4096_1_0_0_1_n_n none x1 x3) shapeCasts_S4096x4096_S4096x16x256

/-- The queries by heads. -/
def queryHeads (x0 : FVec Ideal S4096x512 .f32) (x2 : FVec Ideal S512x3072 .f32) (x5 : IVec S1x4096 32) : FVec Ideal S4096x16x256 .f32 :=
  (concatenate S4096x16x256 2 [⟨S4096x16x128, ((mulf (extractStridedSlice S4096x16x128 ![0, 0, 0] (queries x0 x2) slices_S4096x16x192_S4096x16x128_0_0_0) (broadcastInDim S4096x16x128 ![] bcast_S_S4096x16x128 (constant (F := Ideal) S_ .f32 0x3DD53B95#32))) : (⟨S4096x16x128, .f32⟩ : BufTy).Contents (Elt Ideal))⟩, ⟨S4096x16x64, ((mulf (concatenate S4096x16x64 2 [⟨S4096x16x32, (subf (mulf (extractStridedSlice S4096x16x32 ![0, 0, 0] (extractStridedSlice S4096x16x64 ![0, 0, 128] (queries x0 x2) slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.cos (angle x5))))) (mulf (extractStridedSlice S4096x16x32 ![0, 0, 32] (extractStridedSlice S4096x16x64 ![0, 0, 128] (queries x0 x2) slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.sin (angle x5))))))⟩, ⟨S4096x16x32, (addf (mulf (extractStridedSlice S4096x16x32 ![0, 0, 32] (extractStridedSlice S4096x16x64 ![0, 0, 128] (queries x0 x2) slices_S4096x16x192_S4096x16x64_0_0_128) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.cos (angle x5))))) (mulf (extractStridedSlice S4096x16x32 ![0, 0, 0] (extractStridedSlice S4096x16x64 ![0, 0, 128] (queries x0 x2) slices_S4096x16x192_S4096x16x64_0_0_128) slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.sin (angle x5))))))⟩] concatenates_S4096x16x32_S4096x16x32_S4096x16x64_d2) (broadcastInDim S4096x16x64 ![] bcast_S_S4096x16x64 (constant (F := Ideal) S_ .f32 0x3DD53B95#32))) : (⟨S4096x16x64, .f32⟩ : BufTy).Contents (Elt Ideal))⟩, ⟨S4096x16x64, ((broadcastInDim S4096x16x64 ![] bcast_S_S4096x16x64 (constant (F := Ideal) S_ .f32 0x00000000#32)) : (⟨S4096x16x64, .f32⟩ : BufTy).Contents (Elt Ideal))⟩] concatenates_S4096x16x128_S4096x16x64_S4096x16x64_S4096x16x256_d2 : (⟨S4096x16x256, .f32⟩ : BufTy).Contents (Elt Ideal))

/-- The keys by heads. -/
def keyHeads (x1 : FVec Ideal S4096x512 .f32) (x3 : FVec Ideal S512x4096 .f32) (x4 : FVec Ideal S4096x64 .f32) (x5 : IVec S1x4096 32) : FVec Ideal S4096x16x256 .f32 :=
  (concatenate S4096x16x256 2 [⟨S4096x16x128, ((extractStridedSlice S4096x16x128 ![0, 0, 0] (keys x1 x3) slices_S4096x16x256_S4096x16x128_0_0_0) : (⟨S4096x16x128, .f32⟩ : BufTy).Contents (Elt Ideal))⟩, ⟨S4096x16x64, ((broadcastInDim S4096x16x64 ![0, 1, 2] bcast_S4096x1x64_S4096x16x64_0_1_2 (concatenate S4096x1x64 2 [⟨S4096x1x32, (subf (mulf (extractStridedSlice S4096x1x32 ![0, 0, 0] (shapeCast _ x4 shapeCasts_S4096x64_S4096x1x64) slices_S4096x1x64_S4096x1x32_0_0_0) (broadcastInDim S4096x1x32 ![0, 2] bcast_S4096x32_S4096x1x32_0_2 (Host.cos (angle x5)))) (mulf (extractStridedSlice S4096x1x32 ![0, 0, 32] (shapeCast _ x4 shapeCasts_S4096x64_S4096x1x64) slices_S4096x1x64_S4096x1x32_0_0_32) (broadcastInDim S4096x1x32 ![0, 2] bcast_S4096x32_S4096x1x32_0_2 (Host.sin (angle x5)))))⟩, ⟨S4096x1x32, (addf (mulf (extractStridedSlice S4096x1x32 ![0, 0, 32] (shapeCast _ x4 shapeCasts_S4096x64_S4096x1x64) slices_S4096x1x64_S4096x1x32_0_0_32) (broadcastInDim S4096x1x32 ![0, 2] bcast_S4096x32_S4096x1x32_0_2 (Host.cos (angle x5)))) (mulf (extractStridedSlice S4096x1x32 ![0, 0, 0] (shapeCast _ x4 shapeCasts_S4096x64_S4096x1x64) slices_S4096x1x64_S4096x1x32_0_0_0) (broadcastInDim S4096x1x32 ![0, 2] bcast_S4096x32_S4096x1x32_0_2 (Host.sin (angle x5)))))⟩] concatenates_S4096x1x32_S4096x1x32_S4096x1x64_d2)) : (⟨S4096x16x64, .f32⟩ : BufTy).Contents (Elt Ideal))⟩, ⟨S4096x16x64, ((broadcastInDim S4096x16x64 ![] bcast_S_S4096x16x64 (constant (F := Ideal) S_ .f32 0x00000000#32)) : (⟨S4096x16x64, .f32⟩ : BufTy).Contents (Elt Ideal))⟩] concatenates_S4096x16x128_S4096x16x64_S4096x16x64_S4096x16x256_d2 : (⟨S4096x16x256, .f32⟩ : BufTy).Contents (Elt Ideal))

/-- The queries. -/
def query (x0 : FVec Ideal S4096x512 .f32) (x2 : FVec Ideal S512x3072 .f32) (x5 : IVec S1x4096 32) : FVec Ideal S4096x4096 .bf16 :=
  truncf .bf16 (shapeCast S4096x4096 (queryHeads x0 x2 x5) shapeCasts_S4096x16x256_S4096x4096) bitsLt_bf16_f32

/-- The keys. -/
def key (x1 : FVec Ideal S4096x512 .f32) (x3 : FVec Ideal S512x4096 .f32) (x4 : FVec Ideal S4096x64 .f32) (x5 : IVec S1x4096 32) : FVec Ideal S4096x4096 .bf16 :=
  truncf .bf16 (shapeCast S4096x4096 (keyHeads x1 x3 x4 x5) shapeCasts_S4096x16x256_S4096x4096) bitsLt_bf16_f32

/-- The values. -/
def value (x1 : FVec Ideal S4096x512 .f32) (x3 : FVec Ideal S512x4096 .f32) : FVec Ideal S4096x2048 .bf16 :=
  truncf .bf16 (shapeCast S4096x2048 (extractStridedSlice S4096x16x128 ![0, 0, 128] (keys x1 x3) slices_S4096x16x256_S4096x16x128_0_0_128) shapeCasts_S4096x16x128_S4096x2048) bitsLt_bf16_f32

/-- The factor of the softmax, which the queries carry. -/
abbrev factor : EReal := Ideal.ofBits .f32 0x3DD53B95#32

/-- A query's entry before the rotation. -/
abbrev queryDot (x0 : FVec Ideal S4096x512 .f32) (x2 : FVec Ideal S512x3072 .f32) (i : Fin 4096) (l : Fin 3072) : EReal :=
  ∑ k : Fin 512, x0 (ix2 i k) * x2 (ix2 k l)

/-- A key's or value's entry before the rotation. -/
abbrev keyDot (x1 : FVec Ideal S4096x512 .f32) (x3 : FVec Ideal S512x4096 .f32) (i : Fin 4096) (l : Fin 4096) : EReal :=
  ∑ k : Fin 512, x1 (ix2 i k) * x3 (ix2 k l)

variable (x0 x1 : FVec Ideal S4096x512 .f32) (x2 : FVec Ideal S512x3072 .f32) (x3 : FVec Ideal S512x4096 .f32)
  (x4 : FVec Ideal S4096x64 .f32) (x5 : IVec S1x4096 32)

theorem queries_at (i : Fin 4096) (h : Fin 16) (d : Fin 192) :
    queries x0 x2 (ix3 i h d) = queryDot x0 x2 i ⟨h.1 * 192 + d.1, by omega⟩ := by
  pointwise [queries]

theorem keys_at (i : Fin 4096) (h : Fin 16) (d : Fin 256) :
    keys x1 x3 (ix3 i h d) = keyDot x1 x3 i ⟨h.1 * 256 + d.1, by omega⟩ := by
  pointwise [keys]

theorem query_fold (i : Fin 4096) (h : Fin 16) (d : Fin 256) :
    query x0 x2 x5 (ix2 i ⟨h.1 * 256 + d.1, by omega⟩) = queryHeads x0 x2 x5 (ix3 i h d) := by
  pointwise [query]

theorem key_fold (i : Fin 4096) (h : Fin 16) (d : Fin 256) :
    key x1 x3 x4 x5 (ix2 i ⟨h.1 * 256 + d.1, by omega⟩) = keyHeads x1 x3 x4 x5 (ix3 i h d) := by
  pointwise [key]

theorem value_fold (i : Fin 4096) (h : Fin 16) (d : Fin 128) :
    value x1 x3 (ix2 i ⟨h.1 * 128 + d.1, by omega⟩) = keyDot x1 x3 i ⟨h.1 * 256 + 128 + d.1, by omega⟩ := by
  pointwise [value]
  refine (keys_at x1 x3 i h ⟨128 + d.1, by omega⟩).trans ?_
  exact congrArg (keyDot x1 x3 i) (Fin.ext (Nat.add_assoc _ _ _).symm)

theorem queries_to (i : Fin 4096) (h : Fin 16) (d : Fin 192) (l : Fin 3072) (e : h.1 * 192 + d.1 = l.1) :
    queries x0 x2 (ix3 i h d) = queryDot x0 x2 i l :=
  (queries_at x0 x2 i h d).trans (congrArg (queryDot x0 x2 i) (Fin.ext e))

theorem query_nope (i : Fin 4096) (h : Fin 16) (d : Fin 256) (hd : d.1 < 128) :
    queryHeads x0 x2 x5 (ix3 i h d) = queryDot x0 x2 i ⟨h.1 * 192 + d.1, by omega⟩ * factor := by
  pointwise [queryHeads]
  simp only [hd, ↓reduceDIte]
  exact congrArg (· * factor) (queries_at x0 x2 i h ⟨d.1, by omega⟩)

theorem query_low (i : Fin 4096) (h : Fin 16) (d : Fin 256) (h1 : 128 ≤ d.1) (h2 : d.1 < 160) :
    queryHeads x0 x2 x5 (ix3 i h d) = (queryDot x0 x2 i ⟨h.1 * 192 + d.1, by omega⟩ * Ideal.cos (angle x5 (ix2 i ⟨d.1 - 128, by omega⟩))
      - queryDot x0 x2 i ⟨h.1 * 192 + (d.1 + 32), by omega⟩ * Ideal.sin (angle x5 (ix2 i ⟨d.1 - 128, by omega⟩))) * factor := by
  have e1 : ¬ d.1 < 128 := by omega
  have e2 : d.1 - 128 < 64 := by omega
  have e3 : d.1 - 128 < 32 := by omega
  pointwise [queryHeads]
  simp only [e1, e2, e3, ↓reduceDIte]
  rw [queries_to x0 x2 i h ⟨128 + (d.1 - 128), by omega⟩ ⟨h.1 * 192 + d.1, by omega⟩ (by dsimp only; omega),
    queries_to x0 x2 i h ⟨128 + (32 + (d.1 - 128)), by omega⟩ ⟨h.1 * 192 + (d.1 + 32), by omega⟩ (by dsimp only; omega)]

theorem query_high (i : Fin 4096) (h : Fin 16) (d : Fin 256) (h1 : 160 ≤ d.1) (h2 : d.1 < 192) :
    queryHeads x0 x2 x5 (ix3 i h d) = (queryDot x0 x2 i ⟨h.1 * 192 + d.1, by omega⟩ * Ideal.cos (angle x5 (ix2 i ⟨d.1 - 128 - 32, by omega⟩))
      + queryDot x0 x2 i ⟨h.1 * 192 + (d.1 - 32), by omega⟩ * Ideal.sin (angle x5 (ix2 i ⟨d.1 - 128 - 32, by omega⟩))) * factor := by
  have e1 : ¬ d.1 < 128 := by omega
  have e2 : d.1 - 128 < 64 := by omega
  have e3 : ¬ d.1 - 128 < 32 := by omega
  pointwise [queryHeads]
  simp only [e1, e2, e3, ↓reduceDIte]
  rw [queries_to x0 x2 i h ⟨128 + (32 + (d.1 - 128 - 32)), by omega⟩ ⟨h.1 * 192 + d.1, by omega⟩ (by dsimp only; omega),
    queries_to x0 x2 i h ⟨128 + (d.1 - 128 - 32), by omega⟩ ⟨h.1 * 192 + (d.1 - 32), by omega⟩ (by dsimp only; omega)]

theorem query_rest (i : Fin 4096) (h : Fin 16) (d : Fin 256) (h1 : 192 ≤ d.1) : queryHeads x0 x2 x5 (ix3 i h d) = 0 := by
  have e1 : ¬ d.1 < 128 := by omega
  have e2 : ¬ d.1 - 128 < 64 := by omega
  pointwise [queryHeads]
  simp only [e1, e2, ↓reduceDIte]

theorem key_nope (i : Fin 4096) (h : Fin 16) (d : Fin 256) (hd : d.1 < 128) :
    keyHeads x1 x3 x4 x5 (ix3 i h d) = keyDot x1 x3 i ⟨h.1 * 256 + d.1, by omega⟩ := by
  pointwise [keyHeads]
  simp only [hd, ↓reduceDIte]
  exact keys_at x1 x3 i h ⟨d.1, by omega⟩

theorem key_low (i : Fin 4096) (h : Fin 16) (d : Fin 256) (h1 : 128 ≤ d.1) (h2 : d.1 < 160) :
    keyHeads x1 x3 x4 x5 (ix3 i h d) = x4 (ix2 i ⟨d.1 - 128, by omega⟩) * Ideal.cos (angle x5 (ix2 i ⟨d.1 - 128, by omega⟩))
      - x4 (ix2 i ⟨32 + (d.1 - 128), by omega⟩) * Ideal.sin (angle x5 (ix2 i ⟨d.1 - 128, by omega⟩)) := by
  have e1 : ¬ d.1 < 128 := by omega
  have e2 : d.1 - 128 < 64 := by omega
  have e3 : d.1 - 128 < 32 := by omega
  pointwise [keyHeads]
  simp only [e1, e2, e3, ↓reduceDIte]

theorem key_high (i : Fin 4096) (h : Fin 16) (d : Fin 256) (h1 : 160 ≤ d.1) (h2 : d.1 < 192) :
    keyHeads x1 x3 x4 x5 (ix3 i h d) = x4 (ix2 i ⟨32 + (d.1 - 128 - 32), by omega⟩) * Ideal.cos (angle x5 (ix2 i ⟨d.1 - 128 - 32, by omega⟩))
      + x4 (ix2 i ⟨d.1 - 128 - 32, by omega⟩) * Ideal.sin (angle x5 (ix2 i ⟨d.1 - 128 - 32, by omega⟩)) := by
  have e1 : ¬ d.1 < 128 := by omega
  have e2 : d.1 - 128 < 64 := by omega
  have e3 : ¬ d.1 - 128 < 32 := by omega
  pointwise [keyHeads]
  simp only [e1, e2, e3, ↓reduceDIte]

theorem key_rest (i : Fin 4096) (h : Fin 16) (d : Fin 256) (h1 : 192 ≤ d.1) : keyHeads x1 x3 x4 x5 (ix3 i h d) = 0 := by
  have e1 : ¬ d.1 < 128 := by omega
  have e2 : ¬ d.1 - 128 < 64 := by omega
  pointwise [keyHeads]
  simp only [e1, e2, ↓reduceDIte]

end Cert.Reference22Ideal.Rows

end
-- ==== Proof.AttentionTiles.lean ====
module

public import proofs.«01_k».proof.Proof.AttentionRows
public import proofs.«01_k».proof.Proof.Gen.Kernel22Ideal.Value
public import proofs.«01_k».proof.Proof.Gen.Reference22Ideal.Run
public import Idealize.ShloMosaic.Lib.Pipeline.ValueKit

/-!
The attention's queries, keys and values as the kernel's tiles write them.
-/

@[expose] public section

set_option maxRecDepth 16384

noncomputable section

open Idealize.ShloMosaic Idealize.ShloMosaic.TcCoe Idealize.ShloMosaic.Tactic Idealize.SL.Sem

namespace Cert.Kernel22Ideal.Product

open Cert.Kernel22Ideal Cert.Kernel22Ideal.Gen

variable (m : (ℓ : Loc nD τ sig) → Buf (Elt Ideal) ℓ)

/-- The factor of the softmax, which the queries carry. -/
abbrev factor : EReal := Ideal.ofBits .f32 0x3DD53B95#32

/-- The queries the kernel writes: every other 128 columns are rotated by the tables. -/
def queryTile (A : FVec Ideal S4096x512 .bf16) (B : FVec Ideal S512x4096 .bf16) (C S T : FVec Ideal S4096x128 .f32) : FVec Ideal S4096x4096 .bf16 := fun q =>
  if (q 1).1 % 256 < 128 then (∑ k : Fin 512, A (ix2 (q 0) k) * B (ix2 k (q 1))) * factor
  else ((∑ k : Fin 512, A (ix2 (q 0) k) * B (ix2 k (q 1))) * C (ix2 (q 0) ⟨(q 1).1 % 128, by omega⟩)
    + (∑ k : Fin 512, A (ix2 (q 0) k) * B (ix2 k ⟨(q 1).1 / 128 * 128 + ((q 1).1 % 128 + 32) % 128, by have : (q 1).1 < 4096 := (q 1).2; omega⟩)) * S (ix2 (q 0) ⟨(q 1).1 % 128, by omega⟩)
    + (∑ k : Fin 512, A (ix2 (q 0) k) * B (ix2 k ⟨(q 1).1 / 128 * 128 + ((q 1).1 % 128 + 96) % 128, by have : (q 1).1 < 4096 := (q 1).2; omega⟩)) * T (ix2 (q 0) ⟨(q 1).1 % 128, by omega⟩)) * factor

theorem query_even (A B C S T) (q) (i : Fin 4096) (j : Fin 4096) (hi : i.1 = (q 0).1) (hj : j.1 = (q 1).1) (h : j.1 % 256 < 128) :
    queryTile A B C S T q = (∑ k : Fin 512, A (ix2 i k) * B (ix2 k j)) * Ideal.ofBits .f32 0x3DD53B95#32 := by
  obtain rfl : i = q 0 := Fin.ext hi
  obtain rfl : j = q 1 := Fin.ext hj
  exact if_pos h

theorem query_odd (A B C S T) (q) (i : Fin 4096) (j : Fin 4096) (l : Fin 128) (a b : Fin 4096) (hi : i.1 = (q 0).1) (hj : j.1 = (q 1).1)
    (h : 128 ≤ j.1 % 256) (hl : l.1 = j.1 % 128) (ha : a.1 = j.1 / 128 * 128 + (j.1 % 128 + 32) % 128) (hb : b.1 = j.1 / 128 * 128 + (j.1 % 128 + 96) % 128) :
    queryTile A B C S T q = ((∑ k : Fin 512, A (ix2 i k) * B (ix2 k j)) * C (ix2 i l) + (∑ k : Fin 512, A (ix2 i k) * B (ix2 k a)) * S (ix2 i l)
      + (∑ k : Fin 512, A (ix2 i k) * B (ix2 k b)) * T (ix2 i l)) * Ideal.ofBits .f32 0x3DD53B95#32 := by
  obtain rfl : i = q 0 := Fin.ext hi
  obtain rfl : j = q 1 := Fin.ext hj
  obtain ⟨l, hl'⟩ := l; obtain rfl : l = _ := hl
  obtain ⟨a, ha'⟩ := a; obtain rfl : a = _ := ha
  obtain ⟨b, hb'⟩ := b; obtain rfl : b = _ := hb
  exact if_neg (Nat.not_lt.mpr h)

/-- The keys the kernel writes: every other 128 columns are the shared part, rotated by the tables. -/
def keyTile (A : FVec Ideal S4096x512 .bf16) (B : FVec Ideal S512x4096 .bf16) (P C S T : FVec Ideal S4096x128 .f32) : FVec Ideal S4096x4096 .bf16 := fun q =>
  if (q 1).1 % 256 < 128 then ∑ k : Fin 512, A (ix2 (q 0) k) * B (ix2 k (q 1))
  else P (ix2 (q 0) ⟨(q 1).1 % 128, by omega⟩) * C (ix2 (q 0) ⟨(q 1).1 % 128, by omega⟩)
    + P (ix2 (q 0) ⟨((q 1).1 % 128 + 32) % 128, by omega⟩) * S (ix2 (q 0) ⟨(q 1).1 % 128, by omega⟩)
    + P (ix2 (q 0) ⟨((q 1).1 % 128 + 96) % 128, by omega⟩) * T (ix2 (q 0) ⟨(q 1).1 % 128, by omega⟩)

theorem key_even (A B P C S T) (q) (i : Fin 4096) (j : Fin 4096) (hi : i.1 = (q 0).1) (hj : j.1 = (q 1).1) (h : j.1 % 256 < 128) :
    keyTile A B P C S T q = ∑ k : Fin 512, A (ix2 i k) * B (ix2 k j) := by
  obtain rfl : i = q 0 := Fin.ext hi
  obtain rfl : j = q 1 := Fin.ext hj
  exact if_pos h

theorem key_odd (A B P C S T) (q) (i : Fin 4096) (l a b : Fin 128) (hi : i.1 = (q 0).1)
    (h : 128 ≤ (q 1).1 % 256) (hl : l.1 = (q 1).1 % 128) (ha : a.1 = ((q 1).1 % 128 + 32) % 128) (hb : b.1 = ((q 1).1 % 128 + 96) % 128) :
    keyTile A B P C S T q = P (ix2 i l) * C (ix2 i l) + P (ix2 i a) * S (ix2 i l) + P (ix2 i b) * T (ix2 i l) := by
  obtain rfl : i = q 0 := Fin.ext hi
  obtain ⟨l, hl'⟩ := l; obtain rfl : l = _ := hl
  obtain ⟨a, ha'⟩ := a; obtain rfl : a = _ := ha
  obtain ⟨b, hb'⟩ := b; obtain rfl : b = _ := hb
  exact if_neg (Nat.not_lt.mpr h)

/-- The values the kernel writes: every other 128 columns of the product. -/
def valueTile (A : FVec Ideal S4096x512 .bf16) (B : FVec Ideal S512x4096 .bf16) : FVec Ideal S4096x2048 .bf16 := fun q =>
  ∑ k : Fin 512, A (ix2 (q 0) k) * B (ix2 k ⟨(q 1).1 / 128 * 256 + 128 + (q 1).1 % 128, by have : (q 1).1 < 2048 := (q 1).2; omega⟩)

theorem value_at (A B) (q) (i : Fin 4096) (j : Fin 4096) (hi : i.1 = (q 0).1) (hj : j.1 = (q 1).1 / 128 * 256 + 128 + (q 1).1 % 128) :
    valueTile A B q = ∑ k : Fin 512, A (ix2 i k) * B (ix2 k j) := by
  obtain rfl : i = q 0 := Fin.ext hi
  obtain ⟨j, hj'⟩ := j; obtain rfl : j = _ := hj
  rfl

theorem idx : ∀ t : Fin cfg0.N, win0_0.index t = ![t.val / 4, 0] ∧ win0_1.index t = ![t.val / 4, 0] ∧ win0_2.index t = ![0, t.val % 4] ∧ win0_3.index t = ![0, t.val % 4] ∧ win0_4.index t = ![t.val / 4, 0] ∧ win0_5.index t = ![t.val / 4, 0] ∧ win0_6.index t = ![t.val / 4, 0] ∧ win0_7.index t = ![t.val / 4, 0] ∧ win0_8.index t = ![t.val / 4, t.val % 4] ∧ win0_9.index t = ![t.val / 4, t.val % 4] ∧ win0_10.index t = ![t.val / 4, t.val % 4] :=
  (by decide +kernel : ∀ t : Fin grid0.N, _)

set_option maxHeartbeats 4000000 in
/-- A block the kernel writes is that block of the whole. -/
theorem point8 (c : Dev nD) (t : Fin cfg0.N) (y) : out0_8 (iblk m c 0 t) (iblk m c 1 t) (iblk m c 2 t) (iblk m c 3 t) (iblk m c 4 t) (iblk m c 5 t) (iblk m c 6 t) (iblk m c 7 t) y
    = queryTile (V m c main_v0) (V m c main_v5) (V m c main_v23) (V m c main_v26) (V m c main_v28) (((cfg0.win 8).blk t).view.emb y) := by
  have ht : t.val < 32 := t.isLt
  unfold_out out0_8
  canon_tiles x h
  · refine Eq.trans ?_ (query_odd _ _ _ _ _ _ ⟨t.val / 4 * 512 + (x 0).1, by omega⟩ ⟨t.val % 4 * 1024 + (896 + (x 1).1), by omega⟩ ⟨(x 1).1, by omega⟩ ⟨t.val % 4 * 1024 + (896 + ((x 1).1 + 32) % 128), by omega⟩ ⟨t.val % 4 * 1024 + (896 + ((x 1).1 + 96) % 128), by omega⟩ ?_ ?_ ?_ ?_ ?_ ?_).symm
    · pointwise [k0_pay2, k0_pay5, k0_pay6, k0_pay7, k0_pay8]
      blk_point [iblk, idx t]
    all_goals first | (dsimp only; omega) | (dsimp only; blk_simp [idx t]; omega)
  · refine Eq.trans ?_ (query_even _ _ _ _ _ _ ⟨t.val / 4 * 512 + (x 0).1, by omega⟩ ⟨t.val % 4 * 1024 + (768 + (x 1).1), by omega⟩ ?_ ?_ ?_).symm
    · pointwise [k0_pay1, k0_pay25, k0_pay26, k0_pay8]
      blk_point [iblk, idx t]
    all_goals first | (dsimp only; omega) | (dsimp only; blk_simp [idx t]; omega)
  · refine Eq.trans ?_ (query_odd _ _ _ _ _ _ ⟨t.val / 4 * 512 + (x 0).1, by omega⟩ ⟨t.val % 4 * 1024 + (640 + (x 1).1), by omega⟩ ⟨(x 1).1, by omega⟩ ⟨t.val % 4 * 1024 + (640 + ((x 1).1 + 32) % 128), by omega⟩ ⟨t.val % 4 * 1024 + (640 + ((x 1).1 + 96) % 128), by omega⟩ ?_ ?_ ?_ ?_ ?_ ?_).symm
    · pointwise [k0_pay22, k0_pay5, k0_pay6, k0_pay7, k0_pay8]
      blk_point [iblk, idx t]
    all_goals first | (dsimp only; omega) | (dsimp only; blk_simp [idx t]; omega)
  · refine Eq.trans ?_ (query_even _ _ _ _ _ _ ⟨t.val / 4 * 512 + (x 0).1, by omega⟩ ⟨t.val % 4 * 1024 + (512 + (x 1).1), by omega⟩ ?_ ?_ ?_).symm
    · pointwise [k0_pay21, k0_pay8]
      blk_point [iblk, idx t]
    all_goals first | (dsimp only; omega) | (dsimp only; blk_simp [idx t]; omega)
  · refine Eq.trans ?_ (query_odd _ _ _ _ _ _ ⟨t.val / 4 * 512 + (x 0).1, by omega⟩ ⟨t.val % 4 * 1024 + (384 + (x 1).1), by omega⟩ ⟨(x 1).1, by omega⟩ ⟨t.val % 4 * 1024 + (384 + ((x 1).1 + 32) % 128), by omega⟩ ⟨t.val % 4 * 1024 + (384 + ((x 1).1 + 96) % 128), by omega⟩ ?_ ?_ ?_ ?_ ?_ ?_).symm
    · pointwise [k0_pay18, k0_pay5, k0_pay6, k0_pay7, k0_pay8]
      blk_point [iblk, idx t]
    all_goals first | (dsimp only; omega) | (dsimp only; blk_simp [idx t]; omega)
  · refine Eq.trans ?_ (query_even _ _ _ _ _ _ ⟨t.val / 4 * 512 + (x 0).1, by omega⟩ ⟨t.val % 4 * 1024 + (256 + (x 1).1), by omega⟩ ?_ ?_ ?_).symm
    · pointwise [k0_pay17, k0_pay8]
      blk_point [iblk, idx t]
    all_goals first | (dsimp only; omega) | (dsimp only; blk_simp [idx t]; omega)
  · refine Eq.trans ?_ (query_odd _ _ _ _ _ _ ⟨t.val / 4 * 512 + (x 0).1, by omega⟩ ⟨t.val % 4 * 1024 + (128 + (x 1).1), by omega⟩ ⟨(x 1).1, by omega⟩ ⟨t.val % 4 * 1024 + (128 + ((x 1).1 + 32) % 128), by omega⟩ ⟨t.val % 4 * 1024 + (128 + ((x 1).1 + 96) % 128), by omega⟩ ?_ ?_ ?_ ?_ ?_ ?_).symm
    · pointwise [k0_pay14, k0_pay12, k0_pay13, k0_pay5, k0_pay6, k0_pay7, k0_pay8]
      blk_point [iblk, idx t]
    all_goals first | (dsimp only; omega) | (dsimp only; blk_simp [idx t]; omega)
  · refine Eq.trans ?_ (query_even _ _ _ _ _ _ ⟨t.val / 4 * 512 + (x 0).1, by omega⟩ ⟨t.val % 4 * 1024 + (0 + (x 1).1), by omega⟩ ?_ ?_ ?_).symm
    · pointwise [k0_pay11, k0_pay8]
      blk_point [iblk, idx t]
    all_goals first | (dsimp only; omega) | (dsimp only; blk_simp [idx t]; omega)

set_option maxHeartbeats 4000000 in
/-- A block the kernel writes is that block of the whole. -/
theorem point9 (c : Dev nD) (t : Fin cfg0.N) (y) : out0_9 (iblk m c 0 t) (iblk m c 1 t) (iblk m c 2 t) (iblk m c 3 t) (iblk m c 4 t) (iblk m c 5 t) (iblk m c 6 t) (iblk m c 7 t) y
    = keyTile (V m c main_v1) (V m c main_v6) (V m c main_v7) (V m c main_v23) (V m c main_v26) (V m c main_v28) (((cfg0.win 9).blk t).view.emb y) := by
  have ht : t.val < 32 := t.isLt
  unfold_out out0_9
  canon_tiles x h
  · refine Eq.trans ?_ (key_odd _ _ _ _ _ _ _ ⟨t.val / 4 * 512 + (x 0).1, by omega⟩ ⟨(x 1).1, by omega⟩ ⟨((x 1).1 + 32) % 128, by omega⟩ ⟨((x 1).1 + 96) % 128, by omega⟩ ?_ ?_ ?_ ?_ ?_).symm
    · pointwise [k0_pay10, k0_pay5, k0_pay6, k0_pay7]
      blk_point [iblk, idx t]
    all_goals first | (dsimp only; omega) | (dsimp only; blk_simp [idx t]; omega)
  · refine Eq.trans ?_ (key_even _ _ _ _ _ _ _ ⟨t.val / 4 * 512 + (x 0).1, by omega⟩ ⟨t.val % 4 * 1024 + (768 + (x 1).1), by omega⟩ ?_ ?_ ?_).symm
    · pointwise [k0_pay3, k0_pay9]
      blk_point [iblk, idx t]
    all_goals first | (dsimp only; omega) | (dsimp only; blk_simp [idx t]; omega)
  · refine Eq.trans ?_ (key_odd _ _ _ _ _ _ _ ⟨t.val / 4 * 512 + (x 0).1, by omega⟩ ⟨(x 1).1, by omega⟩ ⟨((x 1).1 + 32) % 128, by omega⟩ ⟨((x 1).1 + 96) % 128, by omega⟩ ?_ ?_ ?_ ?_ ?_).symm
    · pointwise [k0_pay10, k0_pay5, k0_pay6, k0_pay7]
      blk_point [iblk, idx t]
    all_goals first | (dsimp only; omega) | (dsimp only; blk_simp [idx t]; omega)
  · refine Eq.trans ?_ (key_even _ _ _ _ _ _ _ ⟨t.val / 4 * 512 + (x 0).1, by omega⟩ ⟨t.val % 4 * 1024 + (512 + (x 1).1), by omega⟩ ?_ ?_ ?_).symm
    · pointwise [k0_pay23, k0_pay9]
      blk_point [iblk, idx t]
    all_goals first | (dsimp only; omega) | (dsimp only; blk_simp [idx t]; omega)
  · refine Eq.trans ?_ (key_odd _ _ _ _ _ _ _ ⟨t.val / 4 * 512 + (x 0).1, by omega⟩ ⟨(x 1).1, by omega⟩ ⟨((x 1).1 + 32) % 128, by omega⟩ ⟨((x 1).1 + 96) % 128, by omega⟩ ?_ ?_ ?_ ?_ ?_).symm
    · pointwise [k0_pay10, k0_pay5, k0_pay6, k0_pay7]
      blk_point [iblk, idx t]
    all_goals first | (dsimp only; omega) | (dsimp only; blk_simp [idx t]; omega)
  · refine Eq.trans ?_ (key_even _ _ _ _ _ _ _ ⟨t.val / 4 * 512 + (x 0).1, by omega⟩ ⟨t.val % 4 * 1024 + (256 + (x 1).1), by omega⟩ ?_ ?_ ?_).symm
    · pointwise [k0_pay19, k0_pay9]
      blk_point [iblk, idx t]
    all_goals first | (dsimp only; omega) | (dsimp only; blk_simp [idx t]; omega)
  · refine Eq.trans ?_ (key_odd _ _ _ _ _ _ _ ⟨t.val / 4 * 512 + (x 0).1, by omega⟩ ⟨(x 1).1, by omega⟩ ⟨((x 1).1 + 32) % 128, by omega⟩ ⟨((x 1).1 + 96) % 128, by omega⟩ ?_ ?_ ?_ ?_ ?_).symm
    · pointwise [k0_pay10, k0_pay5, k0_pay6, k0_pay7]
      blk_point [iblk, idx t]
    all_goals first | (dsimp only; omega) | (dsimp only; blk_simp [idx t]; omega)
  · refine Eq.trans ?_ (key_even _ _ _ _ _ _ _ ⟨t.val / 4 * 512 + (x 0).1, by omega⟩ ⟨t.val % 4 * 1024 + (0 + (x 1).1), by omega⟩ ?_ ?_ ?_).symm
    · pointwise [k0_pay15, k0_pay9]
      blk_point [iblk, idx t]
    all_goals first | (dsimp only; omega) | (dsimp only; blk_simp [idx t]; omega)

set_option maxHeartbeats 4000000 in
/-- A block the kernel writes is that block of the whole. -/
theorem point10 (c : Dev nD) (t : Fin cfg0.N) (y) : out0_10 (iblk m c 0 t) (iblk m c 1 t) (iblk m c 2 t) (iblk m c 3 t) (iblk m c 4 t) (iblk m c 5 t) (iblk m c 6 t) (iblk m c 7 t) y
    = valueTile (V m c main_v1) (V m c main_v6) (((cfg0.win 10).blk t).view.emb y) := by
  have ht : t.val < 32 := t.isLt
  unfold_out out0_10
  canon_tiles x h
  · refine Eq.trans ?_ (value_at _ _ _ ⟨t.val / 4 * 512 + (x 0).1, by omega⟩ ⟨t.val % 4 * 1024 + (896 + (x 1).1), by omega⟩ ?_ ?_).symm
    · pointwise [k0_pay4, k0_pay9]
      blk_point [iblk, idx t]
    all_goals first | (dsimp only; omega) | (dsimp only; blk_simp [idx t]; omega)
  · refine Eq.trans ?_ (value_at _ _ _ ⟨t.val / 4 * 512 + (x 0).1, by omega⟩ ⟨t.val % 4 * 1024 + (640 + (x 1).1), by omega⟩ ?_ ?_).symm
    · pointwise [k0_pay24, k0_pay9]
      blk_point [iblk, idx t]
    all_goals first | (dsimp only; omega) | (dsimp only; blk_simp [idx t]; omega)
  · refine Eq.trans ?_ (value_at _ _ _ ⟨t.val / 4 * 512 + (x 0).1, by omega⟩ ⟨t.val % 4 * 1024 + (384 + (x 1).1), by omega⟩ ?_ ?_).symm
    · pointwise [k0_pay20, k0_pay9]
      blk_point [iblk, idx t]
    all_goals first | (dsimp only; omega) | (dsimp only; blk_simp [idx t]; omega)
  · refine Eq.trans ?_ (value_at _ _ _ ⟨t.val / 4 * 512 + (x 0).1, by omega⟩ ⟨t.val % 4 * 1024 + (128 + (x 1).1), by omega⟩ ?_ ?_).symm
    · pointwise [k0_pay16, k0_pay9]
      blk_point [iblk, idx t]
    all_goals first | (dsimp only; omega) | (dsimp only; blk_simp [idx t]; omega)

theorem written8 (c : Dev nD) : (dats m 0 c).arrAt 8 (cfgs 0).N = queryTile (V m c main_v0) (V m c main_v5) (V m c main_v23) (V m c main_v26) (V m c main_v28) := by
  refine (dats m 0 c).arrAt_eq_of_covers 8 _ (by decide +kernel) fun t _ y => ?_
  blk_simp
  rw [after0_8]
  exact point8 m c t y

theorem written9 (c : Dev nD) : (dats m 0 c).arrAt 9 (cfgs 0).N = keyTile (V m c main_v1) (V m c main_v6) (V m c main_v7) (V m c main_v23) (V m c main_v26) (V m c main_v28) := by
  refine (dats m 0 c).arrAt_eq_of_covers 9 _ (by decide +kernel) fun t _ y => ?_
  blk_simp
  rw [after0_9]
  exact point9 m c t y

theorem written10 (c : Dev nD) : (dats m 0 c).arrAt 10 (cfgs 0).N = valueTile (V m c main_v1) (V m c main_v6) := by
  refine (dats m 0 c).arrAt_eq_of_covers 10 _ (by decide +kernel) fun t _ y => ?_
  blk_simp
  rw [after0_10]
  exact point10 m c t y

end Cert.Kernel22Ideal.Product

end
-- ==== Proof.Attention.lean ====
module

public import proofs.«01_k».proof.Proof.AttentionTiles
public import proofs.«01_k».proof.Proof.Gen.Kernel22Ideal.Value
public import proofs.«01_k».proof.Proof.Gen.Reference22Ideal.Run
public import proofs.«01_k».proof.Defs
public import Idealize.ShloMosaic.Lib.Pipeline.ValueKit

/-!
The attention's queries, keys and values: what the kernel writes is the reference's.
-/

@[expose] public section

set_option maxRecDepth 16384

noncomputable section

open Idealize.ShloMosaic Idealize.ShloMosaic.TcCoe Idealize.ShloMosaic.Tactic Idealize.SL.Sem

namespace Cert.Kernel22Ideal.Product

open Cert.Kernel22Ideal Cert.Kernel22Ideal.Gen

variable (m : (ℓ : Loc nD τ sig) → Buf (Elt Ideal) ℓ)

theorem zero_pad : (FloatOps.sitofp FTy.f32 0#32 : Ideal .f32) = 0 := by
  simp [FloatOps.sitofp]

/-- The angles of the rotation as the program computes them. -/
def turn (x5 : IVec S1x4096 32) : FVec Ideal S4096x32 .f32 :=
  mulf (broadcastInDim S4096x32 ![0, 1] bcast_S4096x1_S4096x32_0_1 (sitofp .f32 (shapeCast S4096x1 x5 shapeCasts_S1x4096_S4096x1))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The cosines, twice, and zeros. -/
def cosines (x5 : IVec S1x4096 32) : FVec Ideal S4096x128 .f32 :=
  concatenate S4096x128 1 [⟨S4096x32, (Host.cos (turn x5))⟩, ⟨S4096x32, (Host.cos (turn x5))⟩, ⟨S4096x32, (broadcastInDim S4096x32 ![] bcast_S_S4096x32 (constant (F := Ideal) S_ .f32 0x00000000#32))⟩, ⟨S4096x32, (broadcastInDim S4096x32 ![] bcast_S_S4096x32 (constant (F := Ideal) S_ .f32 0x00000000#32))⟩] concatenates_S4096x32_S4096x32_S4096x32_S4096x32_S4096x128_d1

/-- The negated sines and zeros. -/
def minus (x5 : IVec S1x4096 32) : FVec Ideal S4096x128 .f32 :=
  concatenate S4096x128 1 [⟨S4096x32, (Host.negf (Host.sin (turn x5)))⟩, ⟨S4096x32, (broadcastInDim S4096x32 ![] bcast_S_S4096x32 (constant (F := Ideal) S_ .f32 0x00000000#32))⟩, ⟨S4096x32, (broadcastInDim S4096x32 ![] bcast_S_S4096x32 (constant (F := Ideal) S_ .f32 0x00000000#32))⟩, ⟨S4096x32, (broadcastInDim S4096x32 ![] bcast_S_S4096x32 (constant (F := Ideal) S_ .f32 0x00000000#32))⟩] concatenates_S4096x32_S4096x32_S4096x32_S4096x32_S4096x128_d1

/-- The sines between zeros. -/
def plus (x5 : IVec S1x4096 32) : FVec Ideal S4096x128 .f32 :=
  concatenate S4096x128 1 [⟨S4096x32, (broadcastInDim S4096x32 ![] bcast_S_S4096x32 (constant (F := Ideal) S_ .f32 0x00000000#32))⟩, ⟨S4096x32, (Host.sin (turn x5))⟩, ⟨S4096x32, (broadcastInDim S4096x32 ![] bcast_S_S4096x32 (constant (F := Ideal) S_ .f32 0x00000000#32))⟩, ⟨S4096x32, (broadcastInDim S4096x32 ![] bcast_S_S4096x32 (constant (F := Ideal) S_ .f32 0x00000000#32))⟩] concatenates_S4096x32_S4096x32_S4096x32_S4096x32_S4096x128_d1

/-- The queries' weights with each head's columns padded. -/
def weights (x2 : FVec Ideal S512x3072 .f32) : FVec Ideal S512x4096 .bf16 :=
  truncf .bf16 (shapeCast S512x4096 (pad S512x16x256 ![0, 0, 0] ![0, 0, 64] ![0, 0, 0] (shapeCast S512x16x192 x2 shapeCasts_S512x3072_S512x16x192)
    (sitofp .f32 (constantI S_ 32 0#32) : FVec Ideal S_ .f32) pads_S512x16x192_S512x16x256_000_000_0640 h_S_) shapeCasts_S512x16x256_S512x4096) bitsLt_bf16_f32

/-- The keys' shared part with padded columns. -/
def shared (x4 : FVec Ideal S4096x64 .f32) : FVec Ideal S4096x128 .f32 :=
  pad S4096x128 ![0, 0] ![0, 64] ![0, 0] x4 (sitofp .f32 (constantI S_ 32 0#32) : FVec Ideal S_ .f32) pads_S4096x64_S4096x128_000_0640 h_S_

theorem entry_v0 (c : Dev nD) : V m c main_v0 = (truncf .bf16 (m (c, main_arg0) : FVec Ideal S4096x512 .f32) bitsLt_bf16_f32 : FVec Ideal S4096x512 .bf16) := by
  simp only [V, hostOps0, hostOps0_1, hostOps0_2, hostOps0_3, hostOps0_4, List.flatten_cons, List.flatten_nil, List.append_nil, List.cons_append, List.nil_append]
  after_results
  all_goals rfl

theorem entry_v1 (c : Dev nD) : V m c main_v1 = (truncf .bf16 (m (c, main_arg1) : FVec Ideal S4096x512 .f32) bitsLt_bf16_f32 : FVec Ideal S4096x512 .bf16) := by
  simp only [V, hostOps0, hostOps0_1, hostOps0_2, hostOps0_3, hostOps0_4, List.flatten_cons, List.flatten_nil, List.append_nil, List.cons_append, List.nil_append]
  after_results
  all_goals rfl

theorem entry_v6 (c : Dev nD) : V m c main_v6 = (truncf .bf16 (m (c, main_arg3) : FVec Ideal S512x4096 .f32) bitsLt_bf16_f32 : FVec Ideal S512x4096 .bf16) := by
  simp only [V, hostOps0, hostOps0_1, hostOps0_2, hostOps0_3, hostOps0_4, List.flatten_cons, List.flatten_nil, List.append_nil, List.cons_append, List.nil_append]
  after_results
  all_goals rfl

theorem entry_v5 (c : Dev nD) : V m c main_v5 = weights (m (c, main_arg2)) := by
  simp only [V, hostOps0, hostOps0_1, hostOps0_2, hostOps0_3, hostOps0_4, List.flatten_cons, List.flatten_nil, List.append_nil, List.cons_append, List.nil_append]
  after_results
  all_goals rfl

theorem entry_v7 (c : Dev nD) : V m c main_v7 = shared (m (c, main_arg4)) := by
  simp only [V, hostOps0, hostOps0_1, hostOps0_2, hostOps0_3, hostOps0_4, List.flatten_cons, List.flatten_nil, List.append_nil, List.cons_append, List.nil_append]
  after_results
  all_goals rfl

theorem entry_v23 (c : Dev nD) : V m c main_v23 = cosines (m (c, main_arg5)) := by
  simp only [V, hostOps0, hostOps0_1, hostOps0_2, hostOps0_3, hostOps0_4, List.flatten_cons, List.flatten_nil, List.append_nil, List.cons_append, List.nil_append]
  after_results
  all_goals rfl

theorem entry_v26 (c : Dev nD) : V m c main_v26 = minus (m (c, main_arg5)) := by
  simp only [V, hostOps0, hostOps0_1, hostOps0_2, hostOps0_3, hostOps0_4, List.flatten_cons, List.flatten_nil, List.append_nil, List.cons_append, List.nil_append]
  after_results
  all_goals rfl

theorem entry_v28 (c : Dev nD) : V m c main_v28 = plus (m (c, main_arg5)) := by
  simp only [V, hostOps0, hostOps0_1, hostOps0_2, hostOps0_3, hostOps0_4, List.flatten_cons, List.flatten_nil, List.append_nil, List.cons_append, List.nil_append]
  after_results
  all_goals rfl

variable (x0 x1 : FVec Ideal S4096x512 .f32) (x2 : FVec Ideal S512x3072 .f32) (x3 : FVec Ideal S512x4096 .f32)
  (x4 : FVec Ideal S4096x64 .f32) (x5 : IVec S1x4096 32)

theorem turn_at (i : Fin 4096) (l : Fin 32) : turn x5 (ix2 i l) = Cert.Reference22Ideal.Rows.angle x5 (ix2 i l) := by
  pointwise [turn, Cert.Reference22Ideal.Rows.angle]

theorem cosines_low (i : Fin 4096) (l : Fin 128) (hl : l.1 < 32) (k : Fin 32) (hk : k.1 = l.1) : cosines x5 (ix2 i l) = Ideal.cos (Cert.Reference22Ideal.Rows.angle x5 (ix2 i k)) := by
  obtain ⟨k, hk'⟩ := k; obtain rfl : k = _ := hk
  rw [← turn_at]
  pointwise [cosines]
  simp only [hl, ↓reduceDIte]

theorem cosines_high (i : Fin 4096) (l : Fin 128) (h1 : 32 ≤ l.1) (h2 : l.1 < 64) (k : Fin 32) (hk : k.1 = l.1 - 32) : cosines x5 (ix2 i l) = Ideal.cos (Cert.Reference22Ideal.Rows.angle x5 (ix2 i k)) := by
  obtain ⟨k, hk'⟩ := k; obtain rfl : k = _ := hk
  have e1 : ¬ l.1 < 32 := by omega
  rw [← turn_at]
  pointwise [cosines]
  simp only [e1, hk', ↓reduceDIte]

theorem cosines_rest (i : Fin 4096) (l : Fin 128) (h1 : 64 ≤ l.1) : cosines x5 (ix2 i l) = 0 := by
  have e1 : ¬ l.1 < 32 := by omega
  have e2 : ¬ l.1 - 32 < 32 := by omega
  pointwise [cosines]
  simp only [e1, e2, ↓reduceDIte, dite_eq_ite, ite_self]

theorem minus_low (i : Fin 4096) (l : Fin 128) (hl : l.1 < 32) (k : Fin 32) (hk : k.1 = l.1) : minus x5 (ix2 i l) = -Ideal.sin (Cert.Reference22Ideal.Rows.angle x5 (ix2 i k)) := by
  obtain ⟨k, hk'⟩ := k; obtain rfl : k = _ := hk
  rw [← turn_at]
  pointwise [minus]
  simp only [hl, ↓reduceDIte]

theorem minus_rest (i : Fin 4096) (l : Fin 128) (h1 : 32 ≤ l.1) : minus x5 (ix2 i l) = 0 := by
  have e1 : ¬ l.1 < 32 := by omega
  pointwise [minus]
  simp only [e1, ↓reduceDIte, dite_eq_ite, ite_self]

theorem plus_low (i : Fin 4096) (l : Fin 128) (hl : l.1 < 32) : plus x5 (ix2 i l) = 0 := by
  pointwise [plus]
  simp only [hl, ↓reduceDIte, dite_eq_ite, ite_self]

theorem plus_high (i : Fin 4096) (l : Fin 128) (h1 : 32 ≤ l.1) (h2 : l.1 < 64) (k : Fin 32) (hk : k.1 = l.1 - 32) : plus x5 (ix2 i l) = Ideal.sin (Cert.Reference22Ideal.Rows.angle x5 (ix2 i k)) := by
  obtain ⟨k, hk'⟩ := k; obtain rfl : k = _ := hk
  have e1 : ¬ l.1 < 32 := by omega
  rw [← turn_at]
  pointwise [plus]
  simp only [e1, hk', ↓reduceDIte]

theorem plus_rest (i : Fin 4096) (l : Fin 128) (h1 : 64 ≤ l.1) : plus x5 (ix2 i l) = 0 := by
  have e1 : ¬ l.1 < 32 := by omega
  have e2 : ¬ l.1 - 32 < 32 := by omega
  pointwise [plus]
  simp only [e1, e2, ↓reduceDIte, dite_eq_ite, ite_self]

theorem weights_at (k : Fin 512) (h : Fin 16) (d : Fin 256) (hd : d.1 < 192) :
    weights x2 (ix2 k ⟨h.1 * 256 + d.1, by omega⟩) = x2 (ix2 k ⟨h.1 * 192 + d.1, by omega⟩) := by
  have e : (h.1 * 256 + d.1) % 256 = d.1 := by omega
  pointwise [weights]
  rw [dif_pos (by omega)]

theorem shared_at (i : Fin 4096) (l : Fin 128) (hl : l.1 < 64) (k : Fin 64) (hk : k.1 = l.1) : shared x4 (ix2 i l) = x4 (ix2 i k) := by
  obtain ⟨k, hk'⟩ := k; obtain rfl : k = _ := hk
  pointwise [shared]
  rw [dif_pos hl]

theorem dot_to (i : Fin 4096) (h : Fin 16) (d : Fin 256) (hd : d.1 < 192) (j : Fin 4096) (hj : j.1 = h.1 * 256 + d.1) (l : Fin 3072) (hl : h.1 * 192 + d.1 = l.1) :
    ∑ k : Fin 512, (truncf .bf16 x0 bitsLt_bf16_f32 : FVec Ideal S4096x512 .bf16) (ix2 i k) * weights x2 (ix2 k j) = Cert.Reference22Ideal.Rows.queryDot x0 x2 i l := by
  obtain ⟨j, hj'⟩ := j; obtain rfl : j = _ := hj
  obtain ⟨l, hl'⟩ := l; obtain rfl : _ = l := hl
  refine Finset.sum_congr rfl fun k _ => ?_
  rw [weights_at x2 k h d hd]
  rfl

theorem query_eq : queryTile (truncf .bf16 x0 bitsLt_bf16_f32) (weights x2) (cosines x5) (minus x5) (plus x5) = Cert.Reference22Ideal.Rows.query x0 x2 x5 := by
  funext q
  obtain ⟨i, j, rfl⟩ : ∃ i j, q = ix2 i j := ⟨q 0, q 1, funext fun k => by fin_cases k <;> rfl⟩
  obtain ⟨h, d, rfl⟩ : ∃ (h : Fin 16) (d : Fin 256), j = ⟨h.1 * 256 + d.1, by omega⟩ :=
    ⟨⟨j.1 / 256, by omega⟩, ⟨j.1 % 256, by omega⟩, Fin.ext (by dsimp only; omega)⟩
  refine Eq.trans ?_ (Cert.Reference22Ideal.Rows.query_fold x0 x2 x5 i h d).symm
  by_cases h1 : d.1 < 128
  · rw [Cert.Reference22Ideal.Rows.query_nope x0 x2 x5 i h d h1]
    refine (query_even _ _ _ _ _ _ i ⟨h.1 * 256 + d.1, by omega⟩ rfl rfl (by dsimp only; omega)).trans ?_
    rw [dot_to x0 x2 i h d (by omega) _ rfl ⟨h.1 * 192 + d.1, by omega⟩ rfl]
  · refine (query_odd _ _ _ _ _ _ i ⟨h.1 * 256 + d.1, by omega⟩ ⟨d.1 - 128, by omega⟩ ⟨h.1 * 256 + (128 + (d.1 - 128 + 32) % 128), by omega⟩
      ⟨h.1 * 256 + (128 + (d.1 - 128 + 96) % 128), by omega⟩ rfl rfl (by dsimp only; omega) (by dsimp only; omega) (by dsimp only; omega) (by dsimp only; omega)).trans ?_
    by_cases h2 : d.1 < 160
    · rw [Cert.Reference22Ideal.Rows.query_low x0 x2 x5 i h d (by omega) h2, cosines_low x5 i ⟨d.1 - 128, by omega⟩ (by dsimp only; omega) ⟨d.1 - 128, by omega⟩ rfl,
        minus_low x5 i ⟨d.1 - 128, by omega⟩ (by dsimp only; omega) ⟨d.1 - 128, by omega⟩ rfl, plus_low x5 i ⟨d.1 - 128, by omega⟩ (by dsimp only; omega),
        dot_to x0 x2 i h d (by omega) ⟨h.1 * 256 + d.1, by omega⟩ rfl ⟨h.1 * 192 + d.1, by omega⟩ rfl,
        dot_to x0 x2 i h ⟨d.1 + 32, by omega⟩ (by dsimp only; omega) ⟨h.1 * 256 + (128 + (d.1 - 128 + 32) % 128), by omega⟩ (by dsimp only; omega) ⟨h.1 * 192 + (d.1 + 32), by omega⟩ rfl,
        mul_zero, add_zero, mul_neg, ← sub_eq_add_neg]
    · by_cases h3 : d.1 < 192
      · rw [Cert.Reference22Ideal.Rows.query_high x0 x2 x5 i h d (by omega) h3, cosines_high x5 i ⟨d.1 - 128, by omega⟩ (by dsimp only; omega) (by dsimp only; omega) ⟨d.1 - 128 - 32, by omega⟩ rfl,
          minus_rest x5 i ⟨d.1 - 128, by omega⟩ (by dsimp only; omega), plus_high x5 i ⟨d.1 - 128, by omega⟩ (by dsimp only; omega) (by dsimp only; omega) ⟨d.1 - 128 - 32, by omega⟩ rfl,
          dot_to x0 x2 i h d (by omega) ⟨h.1 * 256 + d.1, by omega⟩ rfl ⟨h.1 * 192 + d.1, by omega⟩ rfl,
          dot_to x0 x2 i h ⟨d.1 - 32, by omega⟩ (by dsimp only; omega) ⟨h.1 * 256 + (128 + (d.1 - 128 + 96) % 128), by omega⟩ (by dsimp only; omega) ⟨h.1 * 192 + (d.1 - 32), by omega⟩ rfl,
          mul_zero, add_zero]
      · rw [Cert.Reference22Ideal.Rows.query_rest x0 x2 x5 i h d (by omega), cosines_rest x5 i ⟨d.1 - 128, by omega⟩ (by dsimp only; omega),
          minus_rest x5 i ⟨d.1 - 128, by omega⟩ (by dsimp only; omega), plus_rest x5 i ⟨d.1 - 128, by omega⟩ (by dsimp only; omega),
          mul_zero, mul_zero, mul_zero, add_zero, add_zero, zero_mul]

theorem key_eq : keyTile (truncf .bf16 x1 bitsLt_bf16_f32) (truncf .bf16 x3 bitsLt_bf16_f32) (shared x4) (cosines x5) (minus x5) (plus x5) = Cert.Reference22Ideal.Rows.key x1 x3 x4 x5 := by
  funext q
  obtain ⟨i, j, rfl⟩ : ∃ i j, q = ix2 i j := ⟨q 0, q 1, funext fun k => by fin_cases k <;> rfl⟩
  obtain ⟨h, d, rfl⟩ : ∃ (h : Fin 16) (d : Fin 256), j = ⟨h.1 * 256 + d.1, by omega⟩ :=
    ⟨⟨j.1 / 256, by omega⟩, ⟨j.1 % 256, by omega⟩, Fin.ext (by dsimp only; omega)⟩
  refine Eq.trans ?_ (Cert.Reference22Ideal.Rows.key_fold x1 x3 x4 x5 i h d).symm
  by_cases h1 : d.1 < 128
  · rw [Cert.Reference22Ideal.Rows.key_nope x1 x3 x4 x5 i h d h1]
    exact key_even _ _ _ _ _ _ _ i ⟨h.1 * 256 + d.1, by omega⟩ rfl rfl (by dsimp only; omega)
  · refine (key_odd _ _ _ _ _ _ _ i ⟨d.1 - 128, by omega⟩ ⟨(d.1 - 128 + 32) % 128, by omega⟩ ⟨(d.1 - 128 + 96) % 128, by omega⟩ rfl
      (by change 128 ≤ (h.1 * 256 + d.1) % 256; omega) (by change _ = (h.1 * 256 + d.1) % 128; dsimp only; omega) (by change _ = ((h.1 * 256 + d.1) % 128 + 32) % 128; dsimp only; omega) (by change _ = ((h.1 * 256 + d.1) % 128 + 96) % 128; dsimp only; omega)).trans ?_
    by_cases h2 : d.1 < 160
    · rw [Cert.Reference22Ideal.Rows.key_low x1 x3 x4 x5 i h d (by omega) h2, cosines_low x5 i ⟨d.1 - 128, by omega⟩ (by dsimp only; omega) ⟨d.1 - 128, by omega⟩ rfl,
        minus_low x5 i ⟨d.1 - 128, by omega⟩ (by dsimp only; omega) ⟨d.1 - 128, by omega⟩ rfl, plus_low x5 i ⟨d.1 - 128, by omega⟩ (by dsimp only; omega),
        shared_at x4 i ⟨d.1 - 128, by omega⟩ (by dsimp only; omega) ⟨d.1 - 128, by omega⟩ rfl,
        shared_at x4 i ⟨(d.1 - 128 + 32) % 128, by omega⟩ (by dsimp only; omega) ⟨32 + (d.1 - 128), by omega⟩ (by dsimp only; omega),
        mul_zero, add_zero, mul_neg, ← sub_eq_add_neg]
    · by_cases h3 : d.1 < 192
      · rw [Cert.Reference22Ideal.Rows.key_high x1 x3 x4 x5 i h d (by omega) h3, cosines_high x5 i ⟨d.1 - 128, by omega⟩ (by dsimp only; omega) (by dsimp only; omega) ⟨d.1 - 128 - 32, by omega⟩ rfl,
          minus_rest x5 i ⟨d.1 - 128, by omega⟩ (by dsimp only; omega), plus_high x5 i ⟨d.1 - 128, by omega⟩ (by dsimp only; omega) (by dsimp only; omega) ⟨d.1 - 128 - 32, by omega⟩ rfl,
          shared_at x4 i ⟨d.1 - 128, by omega⟩ (by dsimp only; omega) ⟨32 + (d.1 - 128 - 32), by omega⟩ (by dsimp only; omega),
          shared_at x4 i ⟨(d.1 - 128 + 96) % 128, by omega⟩ (by dsimp only; omega) ⟨d.1 - 128 - 32, by omega⟩ (by dsimp only; omega),
          mul_zero, add_zero]
      · rw [Cert.Reference22Ideal.Rows.key_rest x1 x3 x4 x5 i h d (by omega), cosines_rest x5 i ⟨d.1 - 128, by omega⟩ (by dsimp only; omega),
          minus_rest x5 i ⟨d.1 - 128, by omega⟩ (by dsimp only; omega), plus_rest x5 i ⟨d.1 - 128, by omega⟩ (by dsimp only; omega),
          mul_zero, mul_zero, mul_zero, add_zero, add_zero]

theorem value_eq : valueTile (truncf .bf16 x1 bitsLt_bf16_f32) (truncf .bf16 x3 bitsLt_bf16_f32) = Cert.Reference22Ideal.Rows.value x1 x3 := by
  funext q
  obtain ⟨i, j, rfl⟩ : ∃ i j, q = ix2 i j := ⟨q 0, q 1, funext fun k => by fin_cases k <;> rfl⟩
  obtain ⟨h, d, rfl⟩ : ∃ (h : Fin 16) (d : Fin 128), j = ⟨h.1 * 128 + d.1, by omega⟩ :=
    ⟨⟨j.1 / 128, by omega⟩, ⟨j.1 % 128, by omega⟩, Fin.ext (by dsimp only; omega)⟩
  refine Eq.trans ?_ (Cert.Reference22Ideal.Rows.value_fold x1 x3 i h d).symm
  exact value_at _ _ _ i ⟨h.1 * 256 + 128 + d.1, by omega⟩ rfl (by change _ = (h.1 * 128 + d.1) / 128 * 256 + 128 + (h.1 * 128 + d.1) % 128; dsimp only; omega)

theorem final8 (c : Dev nD) : (dats m 0 c).arrAt 8 (cfgs 0).N = Cert.Reference22Ideal.Rows.query (m (c, main_arg0)) (m (c, main_arg2)) (m (c, main_arg5)) := by
  rw [written8, entry_v0, entry_v5, entry_v23, entry_v26, entry_v28]
  exact query_eq _ _ _

theorem final9 (c : Dev nD) : (dats m 0 c).arrAt 9 (cfgs 0).N = Cert.Reference22Ideal.Rows.key (m (c, main_arg1)) (m (c, main_arg3)) (m (c, main_arg4)) (m (c, main_arg5)) := by
  rw [written9, entry_v1, entry_v6, entry_v7, entry_v23, entry_v26, entry_v28]
  exact key_eq _ _ _ _

theorem final10 (c : Dev nD) : (dats m 0 c).arrAt 10 (cfgs 0).N = Cert.Reference22Ideal.Rows.value (m (c, main_arg1)) (m (c, main_arg3)) := by
  rw [written10, entry_v1, entry_v6]
  exact value_eq _ _

theorem reference_query (m' : (ℓ : Loc Cert.Reference22Ideal.nD Cert.Reference22Ideal.τ Cert.Reference22Ideal.sig) → Buf (Elt Ideal) ℓ) (c : Dev Cert.Reference22Ideal.nD) :
    Cert.Reference22Ideal.Value.res_main_v70 m' c = Cert.Reference22Ideal.Rows.query (m' (c, Cert.Reference22Ideal.main_arg0)) (m' (c, Cert.Reference22Ideal.main_arg2)) (m' (c, Cert.Reference22Ideal.main_arg5)) := rfl

theorem reference_key (m' : (ℓ : Loc Cert.Reference22Ideal.nD Cert.Reference22Ideal.τ Cert.Reference22Ideal.sig) → Buf (Elt Ideal) ℓ) (c : Dev Cert.Reference22Ideal.nD) :
    Cert.Reference22Ideal.Value.res_main_v75 m' c = Cert.Reference22Ideal.Rows.key (m' (c, Cert.Reference22Ideal.main_arg1)) (m' (c, Cert.Reference22Ideal.main_arg3)) (m' (c, Cert.Reference22Ideal.main_arg4)) (m' (c, Cert.Reference22Ideal.main_arg5)) := rfl

theorem algebraic : Cert.algebraic_Kernel22Ideal_Reference22Ideal := by
  pair_intro
  · run_from Cert.Kernel22Ideal.Value.run_blocks m g
  · run_from Cert.Reference22Ideal.Value.run m' g'
    · obtain ⟨h0, h1, h2, h3, h4, h5⟩ := hagree c
      refine (reference_query m' c).trans (Eq.trans ?_ (final8 m c).symm)
      exact congr (congr (congrArg Cert.Reference22Ideal.Rows.query h0) h2) h5
    · obtain ⟨h0, h1, h2, h3, h4, h5⟩ := hagree c
      refine (reference_key m' c).trans (Eq.trans ?_ (final9 m c).symm)
      exact congr (congr (congr (congrArg Cert.Reference22Ideal.Rows.key h1) h3) h4) h5
    · exact (final10 m c).symm

end Cert.Kernel22Ideal.Product

end
-- ==== Proof.NormReals.lean ====
module

public import proofs.«01_k».proof.Proof.Tables
public import proofs.«01_k».proof.Proof.Tile

/-!
The derivative of a norm's row over the extended reals: the kernels' form and the form of the reference agree at every
row, infinite entries included. The sum of the squares plus a positive number is a positive real or infinite; in the second case
the reciprocal root is zero and both forms vanish.
-/

@[expose] public section

noncomputable section

open Idealize.ShloMosaic

namespace Cert.NormRows

open Cert.Retention

theorem mul_add_coe {r : ℝ} (hr : 0 ≤ r) (a b : EReal) : (r : EReal) * (a + b) = r * a + r * b :=
  EReal.left_distrib_of_nonneg_of_ne_top (by exact_mod_cast hr) (EReal.coe_ne_top r) a b

/-- A factor that is a real number and not negative passes out of a sum. -/
theorem sum_mul_coe {ι : Type} (s : Finset ι) {r : ℝ} (hr : 0 ≤ r) (f : ι → EReal) : ∑ i ∈ s, (r : EReal) * f i = r * ∑ i ∈ s, f i := by
  classical
  induction s using Finset.induction_on with
  | empty => simp
  | insert a s ha ih => rw [Finset.sum_insert ha, Finset.sum_insert ha, ih, mul_add_coe hr]

theorem square_nonneg (x : EReal) : 0 ≤ x * x := by
  induction x using EReal.rec with
  | bot => simp
  | top => simp
  | coe x => rw [← EReal.coe_mul]; exact_mod_cast mul_self_nonneg x

theorem bits_2048 : Ideal.ofBits FTy.f32 0x45000000#32 = ((2048 : ℝ) : EReal) := by
  simp [Ideal.ofBits, Ideal.ieee, -EReal.coe_mul]
  norm_num

theorem bits_neg_half : Ideal.ofBits FTy.f32 0xBF000000#32 = ((-(1 / 2) : ℝ) : EReal) := by
  simp [Ideal.ofBits, Ideal.ieee, -EReal.coe_mul]
  norm_num

theorem bits_512 : Ideal.ofBits FTy.f32 0x44000000#32 = ((512 : ℝ) : EReal) := by
  simp [Ideal.ofBits, Ideal.ieee, -EReal.coe_mul]
  norm_num

/-- What the root is taken of: the mean of the squares plus a small number. -/
def spread {n : ℕ} (N : ℝ) (X : Fin n → EReal) : EReal := Ideal.div (∑ k, X k * X k) (N : EReal) + ((epsilon : ℝ) : EReal)

theorem spread_pos {n : ℕ} {N : ℝ} (hN : 0 < N) (X : Fin n → EReal) : 0 < spread N X := by
  unfold spread
  rw [Ideal.div_coe hN.ne']
  have h : 0 ≤ (∑ k, X k * X k) * ((1 / N : ℝ) : EReal) :=
    mul_nonneg (Finset.sum_nonneg fun k _ => square_nonneg _) (by exact_mod_cast (one_div_pos.mpr hN).le)
  have e : (0 : EReal) < ((epsilon : ℝ) : EReal) := by exact_mod_cast epsilon_pos
  exact lt_of_lt_of_le e (le_add_of_nonneg_left h)

/-- A norm's row's derivative as the kernels have it. -/
def derivative {n : ℕ} (N : ℝ) (X d : Fin n → EReal) (j : Fin n) : EReal :=
  Ideal.rsqrt (spread N X) * (d j - X j * Ideal.rsqrt (spread N X) * Ideal.div (∑ k, d k * (X k * Ideal.rsqrt (spread N X))) (N : EReal))

theorem twice (x : EReal) : x + x = ((2 : ℝ) : EReal) * x := by
  rw [← two_nsmul, EReal.nsmul_eq_mul]; rfl

/-- The two forms of a row's gradient, for any positive value under the root. -/
theorem gradient_of_pos {N : ℝ} (hN : 0 < N) {v : EReal} (hv : 0 < v) {n : ℕ} (X d : Fin n → EReal) (j : Fin n) :
    Ideal.rsqrt v * (d j - X j * Ideal.rsqrt v * Ideal.div (∑ k, d k * (X k * Ideal.rsqrt v)) (N : EReal))
      = d j * Ideal.rsqrt v
        + X j * Ideal.div ((∑ k, X k * d k) * (((-(1 / 2) : ℝ) : EReal) * Ideal.div (Ideal.rsqrt v) v)) (N : EReal)
        + Ideal.div ((∑ k, X k * d k) * (((-(1 / 2) : ℝ) : EReal) * Ideal.div (Ideal.rsqrt v) v)) (N : EReal) * X j := by
  induction v using EReal.rec with
  | bot => exact absurd hv (by simp)
  | top =>
    have h0 : Ideal.div 0 ⊤ = 0 := by simp [Ideal.div]
    simp [h0, Ideal.div_coe hN.ne']
  | coe v =>
    have hv' : 0 < v := by exact_mod_cast hv
    rw [rsqrt_pos hv', Ideal.div_coe hN.ne', Ideal.div_coe hN.ne', Ideal.div_coe hv'.ne']
    have hr : 0 < (Real.sqrt v)⁻¹ := inv_pos.mpr (Real.sqrt_pos.mpr hv')
    have hw : 1 / v = (Real.sqrt v)⁻¹ * (Real.sqrt v)⁻¹ := by
      rw [← mul_inv, Real.mul_self_sqrt hv'.le, one_div]
    rw [hw]
    generalize (Real.sqrt v)⁻¹ = r at hr ⊢
    generalize (1 / N : ℝ) = q
    have hs : ∑ k, d k * (X k * (r : EReal)) = (r : EReal) * ∑ k, X k * d k := by
      rw [← sum_mul_coe _ hr.le]
      exact Finset.sum_congr rfl fun k _ => by ac_rfl
    rw [hs]
    generalize ∑ k, X k * d k = T
    generalize X j = x
    rw [sub_eq_add_neg, mul_add_coe hr.le, add_assoc, mul_comm (T * _ * _) x, twice]
    refine congr (congrArg _ (mul_comm _ _)) ?_
    have e1 : (r : EReal) * -(x * r * (r * T * q)) = x * T * ((-(r * r * r * q) : ℝ) : EReal) := by
      simp only [EReal.coe_neg, EReal.coe_mul, mul_neg]
      exact congrArg _ (by ac_rfl)
    have e2 : ((2 : ℝ) : EReal) * (x * (T * (((-(1 / 2) : ℝ) : EReal) * (r * ((r * r : ℝ) : EReal))) * q))
        = x * T * ((2 * (-(1 / 2)) * (r * r * r * q) : ℝ) : EReal) := by
      simp only [EReal.coe_mul]
      ac_rfl
    rw [e1, e2]
    exact congrArg (fun y : ℝ => x * T * (y : EReal)) (by ring)

end Cert.NormRows

end
-- ==== Proof.NormGrad.lean ====
module

public import proofs.«01_k».proof.Proof.NormReals
public import proofs.«01_k».proof.Proof.Gen.Kernel33Ideal.Value
public import proofs.«01_k».proof.Proof.Gen.Reference33Ideal.Run
public import proofs.«01_k».proof.Defs
public import Idealize.ShloMosaic.Lib.Pipeline.ValueKit
public import Idealize.ShloMosaic.Lib.Pipeline.ReadBack

/-!
The gradient of a norm: each tile of the kernel's rows is a tile of one function of the rows, which is the derivative the
reference has, and the gradient of the gain is the sum of the tiles' sums.
-/

@[expose] public section

set_option maxRecDepth 16384

noncomputable section

open Idealize.ShloMosaic Idealize.ShloMosaic.TcCoe Idealize.ShloMosaic.Tactic Idealize.SL.Sem

namespace Cert.Kernel33Ideal.Product

open Cert.Kernel33Ideal Cert.Kernel33Ideal.Gen

variable (m : (ℓ : Loc nD τ sig) → Buf (Elt Ideal) ℓ)

/-- What the root is taken of, for each row. -/
abbrev under (x : FVec Ideal S4096x2048 .f32) : FVec Ideal S4096x1 .f32 :=
  addf (Host.divf (broadcastInDim S4096x1 ![0] Cert.Reference33Ideal.Gen.bcast_S4096_S4096x1_0 (Host.reduceAdd (mulf x x) (constant Cert.Reference33Ideal.S_ .f32 0x00000000#32) Cert.Reference33Ideal.Gen.reducesTo_S4096x2048_S4096_d1 Cert.Reference33Ideal.Gen.h_S_)) (broadcastInDim S4096x1 ![] Cert.Reference33Ideal.Gen.bcast_S_S4096x1 (constant Cert.Reference33Ideal.S_ .f32 0x45000000#32))) (broadcastInDim S4096x1 ![] Cert.Reference33Ideal.Gen.bcast_S_S4096x1 (constant Cert.Reference33Ideal.S_ .f32 0x358637BD#32))

/-- The reciprocal root mean square of each row. -/
abbrev factor (x : FVec Ideal S4096x2048 .f32) : FVec Ideal S4096x1 .f32 := Host.rsqrt (under x)

theorem entry_factor (c : Dev nD) : V m c main_v7 = factor (m (c, main_arg1)) := by
  simp only [V, hostOps0, List.flatten_cons, List.flatten_nil, List.append_nil, List.cons_append, List.nil_append]
  after_results
  all_goals rfl

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The gradient of the rows as the kernel has it. -/
def rows (dy x : FVec Ideal S4096x2048 .f32) (r : FVec Ideal S4096x1 .f32) (g : FVec Ideal S1x2048 .f32) (res : FVec Ideal S4096x2048 .f32) :
    FVec Ideal S4096x2048 .f32 :=
  fun q => r (ix2 (q 0) 0) * (dy (ix2 (q 0) (q 1)) * g (ix2 0 (q 1)) - x (ix2 (q 0) (q 1)) * r (ix2 (q 0) 0)
    * Ideal.div (∑ k : Fin 2048, dy (ix2 (q 0) k) * g (ix2 0 k) * (x (ix2 (q 0) k) * r (ix2 (q 0) 0))) (Ideal.ofBits .f32 0x45000000#32))
    + res (ix2 (q 0) (q 1))

theorem rows_at (dy x r g res q) : rows dy x r g res q = r (ix2 (q 0) 0) * (dy (ix2 (q 0) (q 1)) * g (ix2 0 (q 1)) - x (ix2 (q 0) (q 1)) * r (ix2 (q 0) 0)
    * Ideal.div (∑ k : Fin 2048, dy (ix2 (q 0) k) * g (ix2 0 k) * (x (ix2 (q 0) k) * r (ix2 (q 0) 0))) (Ideal.ofBits .f32 0x45000000#32))
    + res (ix2 (q 0) (q 1)) := rfl

theorem rows_ix2 (dy x r g res) (i : Fin 4096) (j : Fin 2048) : rows dy x r g res (ix2 i j) = r (ix2 i 0) * (dy (ix2 i j) * g (ix2 0 j) - x (ix2 i j) * r (ix2 i 0)
    * Ideal.div (∑ k : Fin 2048, dy (ix2 i k) * g (ix2 0 k) * (x (ix2 i k) * r (ix2 i 0))) (Ideal.ofBits .f32 0x45000000#32))
    + res (ix2 i j) := rfl

theorem point_rows (c : Dev nD) (t : Fin cfg0.N) (y) : k0_pay3 (iblk m c 2 t) (iblk m c 1 t) (iblk m c 0 t) (iblk m c 3 t) (iblk m c 4 t) y
    = rows (V m c main_arg0) (V m c main_arg1) (V m c main_v7) (V m c main_arg2) (V m c main_arg3) (((cfg0.win 5).blk t).view.emb y) := by
  refine Eq.trans ?_ (rows_at _ _ _ _ _ _).symm
  pointwise [k0_pay3, k0_pay2, k0_pay1]
  blk_point [iblk, idx t]

theorem kernel_rows (c : Dev nD) : (dats m 0 c).arrAt 5 (cfgs 0).N
    = rows (V m c main_arg0) (V m c main_arg1) (V m c main_v7) (V m c main_arg2) (V m c main_arg3) := by
  refine (dats m 0 c).arrAt_eq_of_covers 5 _ (by decide +kernel) fun t _ y => ?_
  blk_simp
  rw [after0_5]
  have ht : t.val < 8 := t.isLt
  by_cases h : t.val % 8 = 0
  · rw [outsAt0_A m c t h (by omega)]
    frame_out
    exact point_rows m c t y
  · rw [outsAt0_B m c t h (by omega)]
    frame_out
    exact point_rows m c t y

/-- The scaled sums of the rows in the reference. -/
abbrev inner (d x : FVec Ideal S4096x2048 .f32) : FVec Ideal S4096 .f32 :=
  Host.reduceAdd (Host.divf (mulf (shapeCast S4096x1 (Host.reduceAdd (mulf x d) (constant Cert.Reference33Ideal.S_ .f32 0x00000000#32) Cert.Reference33Ideal.Gen.reducesTo_S4096x2048_S4096_d1 Cert.Reference33Ideal.Gen.h_S_) Cert.Reference33Ideal.Gen.shapeCasts_S4096_S4096x1) (mulf (broadcastInDim S4096x1 ![] Cert.Reference33Ideal.Gen.bcast_S_S4096x1 (constant Cert.Reference33Ideal.S_ .f32 0xBF000000#32)) (Host.divf (factor x) (under x)))) (broadcastInDim S4096x1 ![] Cert.Reference33Ideal.Gen.bcast_S_S4096x1 (constant Cert.Reference33Ideal.S_ .f32 0x45000000#32))) (constant Cert.Reference33Ideal.S_ .f32 0x00000000#32) Cert.Reference33Ideal.Gen.reducesTo_S4096x1_S4096_d1 Cert.Reference33Ideal.Gen.h_S_

/-- The derivative of the norm's rows in the reference, at the gradient of the rows before the gain. -/
abbrev derived (d x : FVec Ideal S4096x2048 .f32) : FVec Ideal S4096x2048 .f32 :=
  addf (addf (mulf d (broadcastInDim S4096x2048 ![0, 1] Cert.Reference33Ideal.Gen.bcast_S4096x1_S4096x2048_0_1 (factor x)))
    (mulf x (broadcastInDim S4096x2048 ![0] Cert.Reference33Ideal.Gen.bcast_S4096_S4096x2048_0 (inner d x))))
    (mulf (broadcastInDim S4096x2048 ![0] Cert.Reference33Ideal.Gen.bcast_S4096_S4096x2048_0 (inner d x)) x)

/-- The gradient of the rows as the reference has it. -/
abbrev rowsOf (dy x : FVec Ideal S4096x2048 .f32) (g : FVec Ideal S1x2048 .f32) (res : FVec Ideal S4096x2048 .f32) : FVec Ideal S4096x2048 .f32 :=
  addf (derived (mulf dy (broadcastInDim S4096x2048 ![0, 1] Cert.Reference33Ideal.Gen.bcast_S1x2048_S4096x2048_0_1 g)) x) res

theorem factor_at (x : FVec Ideal S4096x2048 .f32) (i : Fin 4096) (j : Fin 1) : factor x (ix2 i j) = Ideal.rsqrt (NormRows.spread 2048 fun k : Fin 2048 => x (ix2 i k)) := by
  pointwise [factor, under]
  rw [NormRows.bits_2048, Cert.Retention.epsilon_coe]
  rfl

theorem derived_at (d x : FVec Ideal S4096x2048 .f32) (i : Fin 4096) (j : Fin 2048) : derived d x (ix2 i j)
    = NormRows.derivative 2048 (fun k : Fin 2048 => x (ix2 i k)) (fun k => d (ix2 i k)) j := by
  pointwise [derived, inner, factor, under]
  rw [NormRows.bits_2048, Cert.Retention.epsilon_coe, NormRows.bits_neg_half]
  simp only [Fin.sum_univ_one]
  exact (NormRows.gradient_of_pos (by norm_num) (NormRows.spread_pos (by norm_num) fun k : Fin 2048 => x (ix2 i k))
    (fun k => x (ix2 i k)) (fun k => d (ix2 i k)) j).symm

theorem plus_at (D res : FVec Ideal S4096x2048 .f32) (i : Fin 4096) (j : Fin 2048) : addf D res (ix2 i j) = D (ix2 i j) + res (ix2 i j) := by
  pointwise []

theorem times_at (D : FVec Ideal S4096x2048 .f32) (g : FVec Ideal S1x2048 .f32) (i : Fin 4096) (j : Fin 2048) :
    mulf D (broadcastInDim S4096x2048 ![0, 1] Cert.Reference33Ideal.Gen.bcast_S1x2048_S4096x2048_0_1 g) (ix2 i j) = D (ix2 i j) * g (ix2 0 j) := by
  pointwise []

theorem rows_eq (dy x : FVec Ideal S4096x2048 .f32) (g : FVec Ideal S1x2048 .f32) (res : FVec Ideal S4096x2048 .f32) :
    rows dy x (factor x) g res = rowsOf dy x g res := by
  funext q
  obtain ⟨i, j, rfl⟩ : ∃ i j, q = ix2 i j := ⟨q 0, q 1, funext fun k => by fin_cases k <;> rfl⟩
  refine (rows_ix2 _ _ _ _ _ _ _).trans (Eq.trans ?_ (plus_at _ _ i j).symm)
  rw [derived_at, factor_at, NormRows.bits_2048]
  exact congrArg (fun d : Fin 2048 → EReal => NormRows.derivative 2048 (fun k : Fin 2048 => x (ix2 i k)) d j + res (ix2 i j)) (funext fun k => (times_at dy g i k).symm)

theorem final_rows (c : Dev nD) : (dats m 0 c).arrAt 5 (cfgs 0).N = rowsOf (m (c, main_arg0)) (m (c, main_arg1)) (m (c, main_arg2)) (m (c, main_arg3)) := by
  rw [kernel_rows, entry_factor, V_main_arg0, V_main_arg1, V_main_arg2, V_main_arg3]
  exact rows_eq _ _ _ _

/-- One of the 8 tiles' sums, at a column. -/
def term (c : Dev nD) (t : Fin cfg0.N) (j : Fin 2048) : EReal :=
  ∑ k : Fin 512, (show FVec Ideal S512x2048 .f32 from iblk m c 0 t) (ix2 k j)
    * ((show FVec Ideal S512x2048 .f32 from iblk m c 1 t) (ix2 k j) * (show FVec Ideal S512x1 .f32 from iblk m c 2 t) (ix2 k 0))

theorem first_apply (r : FVec Ideal S512x1 .f32) (x d : FVec Ideal S512x2048 .f32) (j : Fin 2048) :
    k0_pay4 (F := Ideal) r x d (ix2 0 j) = ∑ k : Fin 512, d (ix2 k j) * (x (ix2 k j) * r (ix2 k 0)) := by
  pointwise [k0_pay4, k0_pay2, k0_pay1]

theorem next_apply (r : FVec Ideal S512x1 .f32) (x d : FVec Ideal S512x2048 .f32) (Z : FVec Ideal S1x2048 .f32) (j : Fin 2048) :
    k0_pay5 (F := Ideal) r x d Z (ix2 0 j) = Z (ix2 0 j) + ∑ k : Fin 512, d (ix2 k j) * (x (ix2 k j) * r (ix2 k 0)) := by
  pointwise [k0_pay5, k0_pay4, k0_pay2, k0_pay1]

theorem carried_A (c : Dev nD) (t : Fin cfg0.N) (h : t.val % 8 = 0) (j : Fin 2048) :
    (outsAt0 m c t.val t.isLt).2 (ix2 0 j) = term m c t j := by
  have ht : t.val < 8 := t.isLt
  rw [outsAt0_A m c t h (by omega)]
  frame_out
  exact first_apply _ _ _ j

theorem carried_B (c : Dev nD) (t : Fin cfg0.N) (h : ¬ t.val % 8 = 0) (j : Fin 2048) :
    (outsAt0 m c t.val t.isLt).2 (ix2 0 j) = (outsAt0 m c (t.val - 1) (by omega)).2 (ix2 0 j) + term m c t j := by
  rw [outsAt0_B m c t h (by omega)]
  frame_out
  try simp only [read_unread_whole]
  exact next_apply _ _ _ _ j

theorem summed (c : Dev nD) (t : Fin cfg0.N) (h : t.val % 8 = 7) (j : Fin 2048) :
    (outsAt0 m c t.val t.isLt).2 (ix2 0 j) = ∑ s : Fin 8, term m c ⟨8 * (t.val / 8) + s.val, Pipeline.run_point_lt_of_flush t h s⟩ j :=
  (Pipeline.eq_sum_fin_of_reset_step_apply_of_flush (M := EReal) (ι := Fin 2048)
    (fun n hn p => (outsAt0 m c n hn).2 (ix2 0 p)) 8 (fun _ => 0) (fun t p => term m c t p)
    (fun t h p => (carried_A m c t h p).trans (zero_add _).symm) (fun t h p => carried_B m c t h p) t h j).trans (zero_add _)

theorem term_eq (c : Dev nD) (t : Fin cfg0.N) (q : Fin 8) (hq : t.val = q.1) (j : Fin 2048) :
    term m c t j = ∑ k : Fin 512, (show FVec Ideal S4096x2048 .f32 from V m c main_arg0) (ix2 (⟨q.1 * 512 + k.1, by omega⟩ : Fin 4096) j)
      * ((show FVec Ideal S4096x2048 .f32 from V m c main_arg1) (ix2 (⟨q.1 * 512 + k.1, by omega⟩ : Fin 4096) j)
        * (show FVec Ideal S4096x1 .f32 from V m c main_v7) (ix2 (⟨q.1 * 512 + k.1, by omega⟩ : Fin 4096) 0)) := by
  unfold term
  blk_point [iblk, idx t]

/-- The gradient of the gain as the kernel has it. -/
def gain (dy x : FVec Ideal S4096x2048 .f32) (r : FVec Ideal S4096x1 .f32) : FVec Ideal S1x2048 .f32 :=
  fun q => ∑ k : Fin 4096, dy (ix2 k (q 1)) * (x (ix2 k (q 1)) * r (ix2 k 0))

theorem gain_at (dy x r q) : gain dy x r q = ∑ k : Fin 4096, dy (ix2 k (q 1)) * (x (ix2 k (q 1)) * r (ix2 k 0)) := rfl

theorem point_gain (c : Dev nD) (t : Fin cfg0.N) (h : t.val % 8 = 7) (j : Fin 2048) (dy x : FVec Ideal S4096x2048 .f32) (r : FVec Ideal S4096x1 .f32)
    (hd : V m c main_arg0 = dy) (hx : V m c main_arg1 = x) (hr : V m c main_v7 = r) :
    (outsAt0 m c t.val t.isLt).2 (ix2 0 j) = ∑ k : Fin 4096, dy (ix2 k j) * (x (ix2 k j) * r (ix2 k 0)) := by
  have ht : t.val < 8 := t.isLt
  refine (summed m c t h j).trans ?_
  refine Eq.trans (Fin.sum_fin_congr fun s => ?_) (Fin.sum_mul_add_congr (S := 8) (n := 512) (L := 4096)
    (f := fun k => dy (ix2 k j) * (x (ix2 k j) * r (ix2 k 0)))
    (F := fun s k => dy (ix2 ⟨s.1 * 512 + k.1, by omega⟩ j) * (x (ix2 ⟨s.1 * 512 + k.1, by omega⟩ j) * r (ix2 ⟨s.1 * 512 + k.1, by omega⟩ 0))) (fun s k hl => rfl))
  have hs := s.2
  refine (term_eq m c _ s (by simp only; omega) j).trans ?_
  rw [hd, hx, hr]

theorem kernel_gain (c : Dev nD) : (dats m 0 c).arrAt 6 (cfgs 0).N = gain (V m c main_arg0) (V m c main_arg1) (V m c main_v7) := by
  refine (dats m 0 c).arrAt_eq_of_covers 6 _ (by decide +kernel) fun t hf y => ?_
  blk_simp
  rw [after0_6]
  obtain ⟨i, j, rfl⟩ : ∃ (i : Fin 1) (j : Fin 2048), y = ix2 i j := ⟨y 0, y 1, funext fun k => by fin_cases k <;> rfl⟩
  obtain rfl : i = 0 := Subsingleton.elim _ _
  have e : ((cfg0.win 6).blk t).view.emb (ix2 0 j) = ix2 (0 : Fin 1) (j : Fin 2048) := by
    blk_ext [idx t]
  refine Eq.trans ?_ (congrArg (gain (V m c main_arg0) (V m c main_arg1) (V m c main_v7)) e.symm)
  exact point_gain m c t ((flush0_6 t).mp hf) j _ _ _ rfl rfl rfl

/-- The gradient of the gain as the reference has it. -/
abbrev gainOf (dy x : FVec Ideal S4096x2048 .f32) : FVec Ideal S1x2048 .f32 :=
  shapeCast S1x2048 (Host.reduceAdd (mulf (mulf x (broadcastInDim S4096x2048 ![0, 1] Cert.Reference33Ideal.Gen.bcast_S4096x1_S4096x2048_0_1 (factor x))) dy) (constant Cert.Reference33Ideal.S_ .f32 0x00000000#32) Cert.Reference33Ideal.Gen.reducesTo_S4096x2048_S2048_d0 Cert.Reference33Ideal.Gen.h_S_) Cert.Reference33Ideal.Gen.shapeCasts_S2048_S1x2048

theorem gain_eq (dy x : FVec Ideal S4096x2048 .f32) : gain dy x (factor x) = gainOf dy x := by
  funext q
  obtain ⟨i, j, rfl⟩ : ∃ i j, q = ix2 i j := ⟨q 0, q 1, funext fun k => by fin_cases k <;> rfl⟩
  refine (gain_at _ _ _ _).trans ?_
  generalize hr : factor x = r
  unfold gainOf
  rw [hr]
  pointwise []
  exact Finset.sum_congr rfl fun k _ => mul_comm _ _

theorem final_gain (c : Dev nD) : (dats m 0 c).arrAt 6 (cfgs 0).N = gainOf (m (c, main_arg0)) (m (c, main_arg1)) := by
  rw [kernel_gain, entry_factor, V_main_arg0, V_main_arg1]
  exact gain_eq _ _

theorem rowsOf_congr {dy dy' x x' : FVec Ideal S4096x2048 .f32} {g g' : FVec Ideal S1x2048 .f32} {res res' : FVec Ideal S4096x2048 .f32}
    (h0 : dy = dy') (h1 : x = x') (h2 : g = g') (h3 : res = res') : rowsOf dy x g res = rowsOf dy' x' g' res' := by
  subst h0 h1 h2 h3; rfl

theorem gainOf_congr {dy dy' x x' : FVec Ideal S4096x2048 .f32} (h0 : dy = dy') (h1 : x = x') : gainOf dy x = gainOf dy' x' := by
  subst h0 h1; rfl

theorem algebraic : Cert.algebraic_Kernel33Ideal_Reference33Ideal := by
  pair_intro
  · run_from Cert.Kernel33Ideal.Value.run_blocks m g
  · refine Idealize.ShloMosaic.θ_run_mono (Cert.Reference33Ideal.Value.run m' g') ?_
    intro r hr c
    obtain ⟨a0, a1, a2, a3⟩ := hagree c
    obtain ⟨h0, h1, h2⟩ := hr c
    refine ⟨h0.trans ((rowsOf_congr a0 a1 a2 a3).trans (final_rows m c).symm), ?_, h2⟩
    exact h1.trans ((gainOf_congr a0 a1).trans (final_gain m c).symm)

end Cert.Kernel33Ideal.Product

end
-- ==== Proof.FinalLoss.lean ====
module

public import proofs.«01_k».proof.Proof.NormGrad
public import proofs.«01_k».proof.Proof.Gen.Kernel34Ideal.Value
public import proofs.«01_k».proof.Proof.Gen.Reference34Ideal.Run
public import proofs.«01_k».proof.Defs
public import Idealize.ShloMosaic.Lib.Pipeline.ValueKit
public import Idealize.ShloMosaic.Lib.Pipeline.ReadBack

/-!
The loss over one device's rows and its gradients: row by row the kernel's tiles are the reference's rows, and the loss and the gain's
gradient are the sums of the tiles' sums.
-/

@[expose] public section

set_option maxRecDepth 16384

noncomputable section

open Idealize.ShloMosaic Idealize.ShloMosaic.TcCoe Idealize.ShloMosaic.Tactic Idealize.SL.Sem

namespace Cert.Kernel34Ideal.Product

open Cert.Kernel34Ideal Cert.Kernel34Ideal.Gen

variable (m : (ℓ : Loc nD τ sig) → Buf (Elt Ideal) ℓ)

theorem bits_2048th : Ideal.ofBits FTy.f32 0x3A000000#32 = ((1 / 2048 : ℝ) : EReal) := by
  simp [Ideal.ofBits, Ideal.ieee, -EReal.coe_mul]
  norm_num

theorem bits_4096th : Ideal.ofBits FTy.f32 0x39800000#32 = ((1 / 4096 : ℝ) : EReal) := by
  simp [Ideal.ofBits, Ideal.ieee, -EReal.coe_mul]
  norm_num

theorem bits_half : Ideal.ofBits FTy.f32 0x3F000000#32 = ((1 / 2 : ℝ) : EReal) := by
  simp [Ideal.ofBits, Ideal.ieee, -EReal.coe_mul]
  norm_num

/-- The difference of a normed row from its target. -/
def err (x g t : Fin 2048 → EReal) (j : Fin 2048) : EReal := x j * Ideal.rsqrt (NormRows.spread 2048 x) * g j - t j

/-- The gradient of the normed row. -/
def slope (x g t : Fin 2048 → EReal) (j : Fin 2048) : EReal := err x g t j * ((1 / 2048 : ℝ) : EReal)

/-- The sum of a row's squares. -/
def squares (x g t : Fin 2048 → EReal) : EReal := ∑ j, err x g t j * err x g t j

theorem normed_at (H : FVec Ideal S512x2048 .f32) (i : Fin 512) (j : Fin 2048) : k0_pay6 (F := Ideal) H (ix2 i j)
    = H (ix2 i j) * Ideal.rsqrt (NormRows.spread 2048 fun k : Fin 2048 => H (ix2 i k)) := by
  pointwise [k0_pay6, k0_pay5]
  rw [NormRows.bits_2048, Cert.Retention.epsilon_coe]
  rfl

theorem err_at (H : FVec Ideal S512x2048 .f32) (G : FVec Ideal S1x2048 .f32) (T : FVec Ideal S512x2048 .f32) (i : Fin 512) (j : Fin 2048) :
    k0_pay7 (F := Ideal) H G T (ix2 i j) = err (fun k => H (ix2 i k)) (fun k => G (ix2 0 k)) (fun k => T (ix2 i k)) j := by
  pointwise [k0_pay7, k0_pay6, k0_pay5]
  rw [NormRows.bits_2048, Cert.Retention.epsilon_coe]
  rfl

theorem slope_at (H : FVec Ideal S512x2048 .f32) (G : FVec Ideal S1x2048 .f32) (T : FVec Ideal S512x2048 .f32) (i : Fin 512) (j : Fin 2048) :
    k0_pay9 (F := Ideal) H G T (ix2 i j) = slope (fun k => H (ix2 i k)) (fun k => G (ix2 0 k)) (fun k => T (ix2 i k)) j := by
  unfold k0_pay9 slope
  rw [← err_at, ← bits_2048th]
  generalize k0_pay7 (F := Ideal) H G T = E
  pointwise []

theorem rows_at (H : FVec Ideal S512x2048 .f32) (G : FVec Ideal S1x2048 .f32) (T : FVec Ideal S512x2048 .f32) (i : Fin 512) (j : Fin 2048) :
    k0_pay10 (F := Ideal) H G T G (ix2 i j) = NormRows.derivative 2048 (fun k : Fin 2048 => H (ix2 i k))
      (fun k => slope (fun k => H (ix2 i k)) (fun k => G (ix2 0 k)) (fun k => T (ix2 i k)) k * G (ix2 0 k)) j := by
  have e : NormRows.derivative 2048 (fun k : Fin 2048 => H (ix2 i k))
      (fun k => slope (fun k => H (ix2 i k)) (fun k => G (ix2 0 k)) (fun k => T (ix2 i k)) k * G (ix2 0 k)) j
      = NormRows.derivative 2048 (fun k : Fin 2048 => H (ix2 i k)) (fun k => k0_pay9 (F := Ideal) H G T (ix2 i k) * G (ix2 0 k)) j :=
    congrArg (fun d => NormRows.derivative 2048 _ d j) (funext fun k => congrArg (· * G (ix2 0 k)) (slope_at H G T i k).symm)
  rw [e]
  unfold k0_pay10
  generalize k0_pay9 (F := Ideal) H G T = D
  pointwise [k0_pay6, k0_pay5, NormRows.derivative]
  rw [NormRows.bits_2048, Cert.Retention.epsilon_coe]
  rfl

theorem loss_at (H : FVec Ideal S512x2048 .f32) (G : FVec Ideal S1x2048 .f32) (T : FVec Ideal S512x2048 .f32) :
    k0_pay8 (F := Ideal) H G T (ix2 0 0) = ((1 / 4096 : ℝ) : EReal) * ∑ i : Fin 512, squares (fun k => H (ix2 i k)) (fun k => G (ix2 0 k)) (fun k => T (ix2 i k)) := by
  unfold squares
  simp only [← err_at]
  unfold k0_pay8
  generalize k0_pay7 (F := Ideal) H G T = E
  pointwise []
  rw [bits_4096th]

theorem gain_at (H : FVec Ideal S512x2048 .f32) (G : FVec Ideal S1x2048 .f32) (T : FVec Ideal S512x2048 .f32) (j : Fin 2048) :
    k0_pay2 (F := Ideal) (k0_pay6 (F := Ideal) H) (k0_pay9 (F := Ideal) H G T) (ix2 0 j)
      = ∑ i : Fin 512, slope (fun k => H (ix2 i k)) (fun k => G (ix2 0 k)) (fun k => T (ix2 i k)) j
        * (H (ix2 i j) * Ideal.rsqrt (NormRows.spread 2048 fun k : Fin 2048 => H (ix2 i k))) := by
  simp only [← slope_at, ← normed_at]
  generalize k0_pay9 (F := Ideal) H G T = D
  generalize k0_pay6 (F := Ideal) H = X
  pointwise [k0_pay2]

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem row_h (c : Dev nD) (t : Fin cfg0.N) (q : Fin 8) (hq : t.val = q.1) (i : Fin 512) (k : Fin 2048) : (show FVec Ideal S512x2048 .f32 from iblk m c 0 t) (ix2 i k)
    = (show FVec Ideal S4096x2048 .f32 from V m c main_arg0) (ix2 (⟨q.1 * 512 + i.1, by omega⟩ : Fin 4096) k) := by
  blk_point [iblk, idx t]

theorem row_g (c : Dev nD) (t : Fin cfg0.N) (k : Fin 2048) : (show FVec Ideal S1x2048 .f32 from iblk m c 1 t) (ix2 0 k)
    = (show FVec Ideal S1x2048 .f32 from V m c main_arg1) (ix2 0 k) := by
  blk_point [iblk, idx t]

theorem row_t (c : Dev nD) (t : Fin cfg0.N) (q : Fin 8) (hq : t.val = q.1) (i : Fin 512) (k : Fin 2048) : (show FVec Ideal S512x2048 .f32 from iblk m c 2 t) (ix2 i k)
    = (show FVec Ideal S4096x2048 .f32 from V m c main_arg2) (ix2 (⟨q.1 * 512 + i.1, by omega⟩ : Fin 4096) k) := by
  blk_point [iblk, idx t]

/-- The gradient of the rows. -/
def rows (h : FVec Ideal S4096x2048 .f32) (g : FVec Ideal S1x2048 .f32) (t : FVec Ideal S4096x2048 .f32) (i : Fin 4096) (j : Fin 2048) : EReal :=
  NormRows.derivative 2048 (fun k : Fin 2048 => h (ix2 i k))
    (fun k => slope (fun k => h (ix2 i k)) (fun k => g (ix2 0 k)) (fun k => t (ix2 i k)) k * g (ix2 0 k)) j

theorem point_rows (c : Dev nD) (t : Fin cfg0.N) (q : Fin 8) (hq : t.val = q.1) (i : Fin 512) (j : Fin 2048) :
    k0_pay10 (F := Ideal) (iblk m c 0 t) (iblk m c 1 t) (iblk m c 2 t) (iblk m c 1 t) (ix2 i j)
      = rows (V m c main_arg0) (V m c main_arg1) (V m c main_arg2) ⟨q.1 * 512 + i.1, by omega⟩ j := by
  refine (rows_at _ _ _ i j).trans ?_
  unfold rows
  simp only [row_h m c t q hq, row_g m c t, row_t m c t q hq]

theorem kernel_rows (c : Dev nD) : (dats m 0 c).arrAt 4 (cfgs 0).N
    = (fun q => rows (V m c main_arg0) (V m c main_arg1) (V m c main_arg2) (q 0) (q 1) : FVec Ideal S4096x2048 .f32) := by
  refine (dats m 0 c).arrAt_eq_of_covers 4 _ (by decide +kernel) fun t _ y => ?_
  blk_simp
  rw [after0_4]
  have ht : t.val < 8 := t.isLt
  obtain ⟨i, j, rfl⟩ : ∃ (i : Fin 512) (j : Fin 2048), y = ix2 i j := ⟨y 0, y 1, funext fun k => by fin_cases k <;> rfl⟩
  have e : ((cfg0.win 4).blk t).view.emb (ix2 i j) = ix2 (⟨t.val * 512 + i.1, by omega⟩ : Fin 4096) (j : Fin 2048) := by
    blk_ext [idx t]
  refine Eq.trans ?_ (congrArg (fun q : S4096x2048.Idx => rows (V m c main_arg0) (V m c main_arg1) (V m c main_arg2) (q 0) (q 1)) e.symm)
  by_cases h : t.val % 8 = 0
  · rw [outsAt0_A m c t h (by omega)]
    frame_out
    exact point_rows m c t ⟨t.val, ht⟩ rfl i j
  · rw [outsAt0_B m c t h (by omega)]
    frame_out
    exact point_rows m c t ⟨t.val, ht⟩ rfl i j

theorem kernel_copy (c : Dev nD) : (dats m 0 c).arrAt 5 (cfgs 0).N
    = (fun q => rows (V m c main_arg0) (V m c main_arg1) (V m c main_arg2) (q 0) (q 1) : FVec Ideal S4096x2048 .bf16) := by
  refine (dats m 0 c).arrAt_eq_of_covers 5 _ (by decide +kernel) fun t _ y => ?_
  blk_simp
  rw [after0_5]
  have ht : t.val < 8 := t.isLt
  obtain ⟨i, j, rfl⟩ : ∃ (i : Fin 512) (j : Fin 2048), y = ix2 i j := ⟨y 0, y 1, funext fun k => by fin_cases k <;> rfl⟩
  have e : ((cfg0.win 5).blk t).view.emb (ix2 i j) = ix2 (⟨t.val * 512 + i.1, by omega⟩ : Fin 4096) (j : Fin 2048) := by
    blk_ext [idx t]
  refine Eq.trans ?_ (congrArg (fun q : S4096x2048.Idx => rows (V m c main_arg0) (V m c main_arg1) (V m c main_arg2) (q 0) (q 1)) e.symm)
  by_cases h : t.val % 8 = 0
  · rw [outsAt0_A m c t h (by omega)]
    frame_out
    exact point_rows m c t ⟨t.val, ht⟩ rfl i j
  · rw [outsAt0_B m c t h (by omega)]
    frame_out
    exact point_rows m c t ⟨t.val, ht⟩ rfl i j

/-- One tile's part of the loss. -/
def part (c : Dev nD) (t : Fin cfg0.N) : EReal :=
  k0_pay8 (F := Ideal) (iblk m c 0 t) (iblk m c 1 t) (iblk m c 2 t) (ix2 0 0)

/-- One tile's part of the gain's gradient. -/
def term (c : Dev nD) (t : Fin cfg0.N) (j : Fin 2048) : EReal :=
  k0_pay2 (F := Ideal) (k0_pay6 (F := Ideal) (iblk m c 0 t)) (k0_pay9 (F := Ideal) (iblk m c 0 t) (iblk m c 1 t) (iblk m c 2 t)) (ix2 0 j)

theorem next_loss (A Z : FVec Ideal S1x1 .f32) : k0_pay3 (F := Ideal) A Z (ix2 0 0) = Z (ix2 0 0) + A (ix2 0 0) := by
  pointwise [k0_pay3]

theorem next_gain (X D : FVec Ideal S512x2048 .f32) (Z : FVec Ideal S1x2048 .f32) (j : Fin 2048) :
    k0_pay4 (F := Ideal) X D Z (ix2 0 j) = Z (ix2 0 j) + k0_pay2 (F := Ideal) X D (ix2 0 j) := by
  unfold k0_pay4
  generalize k0_pay2 (F := Ideal) X D = P
  pointwise []

theorem carried_A (c : Dev nD) (t : Fin cfg0.N) (h : t.val % 8 = 0) :
    (outsAt0 m c t.val t.isLt).1 (ix2 0 0) = part m c t ∧ ∀ j : Fin 2048, (outsAt0 m c t.val t.isLt).2.2.2 (ix2 0 j) = term m c t j := by
  have ht : t.val < 8 := t.isLt
  rw [outsAt0_A m c t h (by omega)]
  refine ⟨?_, fun j => ?_⟩
  · frame_out
    rfl
  · frame_out
    rfl

theorem carried_B (c : Dev nD) (t : Fin cfg0.N) (h : ¬ t.val % 8 = 0) :
    (outsAt0 m c t.val t.isLt).1 (ix2 0 0) = (outsAt0 m c (t.val - 1) (by omega)).1 (ix2 0 0) + part m c t
      ∧ ∀ j : Fin 2048, (outsAt0 m c t.val t.isLt).2.2.2 (ix2 0 j) = (outsAt0 m c (t.val - 1) (by omega)).2.2.2 (ix2 0 j) + term m c t j := by
  rw [outsAt0_B m c t h (by omega)]
  refine ⟨?_, fun j => ?_⟩
  · frame_out
    exact next_loss _ _
  · frame_out
    exact next_gain _ _ _ j

theorem summed_loss (c : Dev nD) (t : Fin cfg0.N) (h : t.val % 8 = 7) :
    (outsAt0 m c t.val t.isLt).1 (ix2 0 0) = ∑ s : Fin 8, part m c ⟨8 * (t.val / 8) + s.val, Pipeline.run_point_lt_of_flush t h s⟩ :=
  (Pipeline.eq_sum_fin_of_reset_step_apply_of_flush (M := EReal) (ι := Fin 1)
    (fun n hn _ => (outsAt0 m c n hn).1 (ix2 0 0)) 8 (fun _ => 0) (fun t _ => part m c t)
    (fun t h _ => (carried_A m c t h).1.trans (zero_add _).symm) (fun t h _ => (carried_B m c t h).1) t h 0).trans (zero_add _)

theorem summed_gain (c : Dev nD) (t : Fin cfg0.N) (h : t.val % 8 = 7) (j : Fin 2048) :
    (outsAt0 m c t.val t.isLt).2.2.2 (ix2 0 j) = ∑ s : Fin 8, term m c ⟨8 * (t.val / 8) + s.val, Pipeline.run_point_lt_of_flush t h s⟩ j :=
  (Pipeline.eq_sum_fin_of_reset_step_apply_of_flush (M := EReal) (ι := Fin 2048)
    (fun n hn p => (outsAt0 m c n hn).2.2.2 (ix2 0 p)) 8 (fun _ => 0) (fun t p => term m c t p)
    (fun t h p => ((carried_A m c t h).2 p).trans (zero_add _).symm) (fun t h p => (carried_B m c t h).2 p) t h j).trans (zero_add _)

/-- A sum over the 8 tiles' rows is the sum over all rows. -/
theorem regroup (f : Fin 4096 → EReal) : ∑ s : Fin 8, ∑ k : Fin 512, f ⟨s.1 * 512 + k.1, by omega⟩ = ∑ k : Fin 4096, f k :=
  Fin.sum_mul_add_congr (S := 8) (n := 512) (L := 4096) (f := f) (F := fun s k => f ⟨s.1 * 512 + k.1, by omega⟩) (fun s k hl => rfl)

/-- The loss over the rows. -/
def loss (h : FVec Ideal S4096x2048 .f32) (g : FVec Ideal S1x2048 .f32) (t : FVec Ideal S4096x2048 .f32) : EReal :=
  ((1 / 4096 : ℝ) : EReal) * ∑ i : Fin 4096, squares (fun k => h (ix2 i k)) (fun k => g (ix2 0 k)) (fun k => t (ix2 i k))

/-- The gradient of the gain. -/
def gain (h : FVec Ideal S4096x2048 .f32) (g : FVec Ideal S1x2048 .f32) (t : FVec Ideal S4096x2048 .f32) (j : Fin 2048) : EReal :=
  ∑ i : Fin 4096, slope (fun k => h (ix2 i k)) (fun k => g (ix2 0 k)) (fun k => t (ix2 i k)) j
    * (h (ix2 i j) * Ideal.rsqrt (NormRows.spread 2048 fun k : Fin 2048 => h (ix2 i k)))

theorem point_loss (c : Dev nD) (t : Fin cfg0.N) (h : t.val % 8 = 7) :
    (outsAt0 m c t.val t.isLt).1 (ix2 0 0) = loss (V m c main_arg0) (V m c main_arg1) (V m c main_arg2) := by
  have ht : t.val < 8 := t.isLt
  refine (summed_loss m c t h).trans ?_
  unfold loss
  rw [← regroup, ← NormRows.sum_mul_coe _ (by norm_num)]
  refine Fin.sum_fin_congr fun s => ?_
  have hs := s.2
  refine (loss_at _ _ _).trans ?_
  simp only [row_h m c ⟨8 * (t.val / 8) + s.val, Pipeline.run_point_lt_of_flush t h s⟩ s (by simp only; omega), row_g m c ⟨8 * (t.val / 8) + s.val, Pipeline.run_point_lt_of_flush t h s⟩,
    row_t m c ⟨8 * (t.val / 8) + s.val, Pipeline.run_point_lt_of_flush t h s⟩ s (by simp only; omega)]

theorem point_gain (c : Dev nD) (t : Fin cfg0.N) (h : t.val % 8 = 7) (j : Fin 2048) :
    (outsAt0 m c t.val t.isLt).2.2.2 (ix2 0 j) = gain (V m c main_arg0) (V m c main_arg1) (V m c main_arg2) j := by
  have ht : t.val < 8 := t.isLt
  refine (summed_gain m c t h j).trans ?_
  unfold gain
  rw [← regroup]
  refine Fin.sum_fin_congr fun s => ?_
  have hs := s.2
  refine (gain_at _ _ _ j).trans ?_
  simp only [row_h m c ⟨8 * (t.val / 8) + s.val, Pipeline.run_point_lt_of_flush t h s⟩ s (by simp only; omega), row_g m c ⟨8 * (t.val / 8) + s.val, Pipeline.run_point_lt_of_flush t h s⟩,
    row_t m c ⟨8 * (t.val / 8) + s.val, Pipeline.run_point_lt_of_flush t h s⟩ s (by simp only; omega)]

theorem kernel_loss (c : Dev nD) : (dats m 0 c).arrAt 3 (cfgs 0).N
    = (fun _ => loss (V m c main_arg0) (V m c main_arg1) (V m c main_arg2) : FVec Ideal S1x1 .f32) := by
  refine (dats m 0 c).arrAt_eq_of_covers 3 _ (by decide +kernel) fun t hf y => ?_
  blk_simp
  rw [after0_3]
  obtain ⟨i, j, rfl⟩ : ∃ (i : Fin 1) (j : Fin 1), y = ix2 i j := ⟨y 0, y 1, funext fun k => by fin_cases k <;> rfl⟩
  obtain rfl : i = 0 := Subsingleton.elim _ _
  obtain rfl : j = 0 := Subsingleton.elim _ _
  exact point_loss m c t ((flush0_3 t).mp hf)

theorem kernel_gain (c : Dev nD) : (dats m 0 c).arrAt 6 (cfgs 0).N
    = (fun q => gain (V m c main_arg0) (V m c main_arg1) (V m c main_arg2) (q 1) : FVec Ideal S1x2048 .f32) := by
  refine (dats m 0 c).arrAt_eq_of_covers 6 _ (by decide +kernel) fun t hf y => ?_
  blk_simp
  rw [after0_6]
  obtain ⟨i, j, rfl⟩ : ∃ (i : Fin 1) (j : Fin 2048), y = ix2 i j := ⟨y 0, y 1, funext fun k => by fin_cases k <;> rfl⟩
  obtain rfl : i = 0 := Subsingleton.elim _ _
  have e : ((cfg0.win 6).blk t).view.emb (ix2 0 j) = ix2 (0 : Fin 1) (j : Fin 2048) := by
    blk_ext [idx t]
  refine Eq.trans ?_ (congrArg (fun q : S1x2048.Idx => gain (V m c main_arg0) (V m c main_arg1) (V m c main_arg2) (q 1)) e.symm)
  exact point_gain m c t ((flush0_6 t).mp hf) j

/-- The differences in the reference. -/
abbrev errOf (h : FVec Ideal S4096x2048 .f32) (g : FVec Ideal S1x2048 .f32) (t : FVec Ideal S4096x2048 .f32) : FVec Ideal S4096x2048 .f32 :=
  subf (mulf (mulf h (broadcastInDim S4096x2048 ![0, 1] Cert.Reference34Ideal.Gen.bcast_S4096x1_S4096x2048_0_1 (Cert.Kernel33Ideal.Product.factor h))) (broadcastInDim S4096x2048 ![0, 1] Cert.Reference34Ideal.Gen.bcast_S1x2048_S4096x2048_0_1 g)) t

/-- The gradient of the normed rows in the reference, at the differences. -/
abbrev scaled (E : FVec Ideal S4096x2048 .f32) : FVec Ideal S4096x2048 .f32 :=
  mulf (broadcastInDim S4096x2048 ![0] Cert.Reference34Ideal.Gen.bcast_S4096_S4096x2048_0 (Host.divf (broadcastInDim Cert.Reference34Ideal.S4096 ![] Cert.Reference34Ideal.Gen.bcast_S_S4096 (mulf (constant Cert.Reference34Ideal.S_ .f32 0x3F000000#32) (constant Cert.Reference34Ideal.S_ .f32 0x3F800000#32))) (broadcastInDim Cert.Reference34Ideal.S4096 ![] Cert.Reference34Ideal.Gen.bcast_S_S4096 (constant Cert.Reference34Ideal.S_ .f32 0x45000000#32)))) (mulf (broadcastInDim S4096x2048 ![] Cert.Reference34Ideal.Gen.bcast_S_S4096x2048 (constant Cert.Reference34Ideal.S_ .f32 0x40000000#32)) E)

theorem err_eq (h g t) (i : Fin 4096) (j : Fin 2048) : errOf h g t (ix2 i j) = err (fun k => h (ix2 i k)) (fun k => g (ix2 0 k)) (fun k => t (ix2 i k)) j := by
  unfold err
  rw [← Cert.Kernel33Ideal.Product.factor_at h i 0]
  generalize hr : Cert.Kernel33Ideal.Product.factor h = r
  unfold errOf
  rw [hr]
  pointwise []

theorem scaled_at (E : FVec Ideal S4096x2048 .f32) (i : Fin 4096) (j : Fin 2048) : scaled E (ix2 i j) = E (ix2 i j) * ((1 / 2048 : ℝ) : EReal) := by
  pointwise [scaled]
  rw [bits_half, NormRows.bits_2048, Cert.Retention.bits_2, Ideal.div_coe (by norm_num)]
  generalize E (ix2 i j) = x
  have e : (((1 / 2 : ℝ) : EReal) * ((1 / 2048 : ℝ) : EReal)) * (((2 : ℝ) : EReal) * x) = x * ((1 / 2 * (1 / 2048) * 2 : ℝ) : EReal) := by
    simp only [EReal.coe_mul]
    ac_rfl
  first
    | (rw [mul_one, e]; exact congrArg (fun y : ℝ => x * (y : EReal)) (by norm_num))
    | (rw [e]; exact congrArg (fun y : ℝ => x * (y : EReal)) (by norm_num))

theorem slope_eq (h g t) (i : Fin 4096) (j : Fin 2048) : scaled (errOf h g t) (ix2 i j) = slope (fun k => h (ix2 i k)) (fun k => g (ix2 0 k)) (fun k => t (ix2 i k)) j :=
  (scaled_at _ i j).trans (congrArg (· * ((1 / 2048 : ℝ) : EReal)) (err_eq h g t i j))

/-- The gradient of the rows in the reference. -/
abbrev rowsOf (h : FVec Ideal S4096x2048 .f32) (g : FVec Ideal S1x2048 .f32) (t : FVec Ideal S4096x2048 .f32) : FVec Ideal S4096x2048 .f32 :=
  Cert.Kernel33Ideal.Product.derived (mulf (scaled (errOf h g t)) (broadcastInDim S4096x2048 ![0, 1] Cert.Reference34Ideal.Gen.bcast_S1x2048_S4096x2048_0_1 g)) h

theorem times_at (D : FVec Ideal S4096x2048 .f32) (g : FVec Ideal S1x2048 .f32) (i : Fin 4096) (j : Fin 2048) :
    mulf D (broadcastInDim S4096x2048 ![0, 1] Cert.Reference34Ideal.Gen.bcast_S1x2048_S4096x2048_0_1 g) (ix2 i j) = D (ix2 i j) * g (ix2 0 j) := by
  pointwise []

theorem rows_eq (h g t) : (fun q => rows h g t (q 0) (q 1) : FVec Ideal S4096x2048 .f32) = rowsOf h g t := by
  funext q
  obtain ⟨i, j, rfl⟩ : ∃ i j, q = ix2 i j := ⟨q 0, q 1, funext fun k => by fin_cases k <;> rfl⟩
  refine Eq.trans ?_ (Cert.Kernel33Ideal.Product.derived_at _ h i j).symm
  refine congrArg (fun d => NormRows.derivative 2048 (fun k : Fin 2048 => h (ix2 i k)) d j) (funext fun k => ?_)
  exact ((times_at _ g i k).trans (congrArg (· * g (ix2 0 k)) (slope_eq h g t i k))).symm

/-- The loss in the reference. -/
abbrev lossOf (h : FVec Ideal S4096x2048 .f32) (g : FVec Ideal S1x2048 .f32) (t : FVec Ideal S4096x2048 .f32) : FVec Ideal S1x1 .f32 :=
  shapeCast S1x1 (mulf (constant Cert.Reference34Ideal.S_ .f32 0x3F000000#32) (Host.reduceAdd (Host.divf (Host.reduceAdd (mulf (errOf h g t) (errOf h g t)) (constant Cert.Reference34Ideal.S_ .f32 0x00000000#32) Cert.Reference34Ideal.Gen.reducesTo_S4096x2048_S4096_d1 Cert.Reference34Ideal.Gen.h_S_) (broadcastInDim Cert.Reference34Ideal.S4096 ![] Cert.Reference34Ideal.Gen.bcast_S_S4096 (constant Cert.Reference34Ideal.S_ .f32 0x45000000#32))) (constant Cert.Reference34Ideal.S_ .f32 0x00000000#32) Cert.Reference34Ideal.Gen.reducesTo_S4096_S_d0 Cert.Reference34Ideal.Gen.h_S_)) Cert.Reference34Ideal.Gen.shapeCasts_S_S1x1

theorem loss_eq (h g t) : (fun _ => loss h g t : FVec Ideal S1x1 .f32) = lossOf h g t := by
  funext q
  obtain ⟨i, j, rfl⟩ : ∃ i j, q = ix2 i j := ⟨q 0, q 1, funext fun k => by fin_cases k <;> rfl⟩
  unfold loss squares
  simp only [← err_eq]
  unfold lossOf
  generalize errOf h g t = E
  pointwise []
  rw [bits_half, NormRows.bits_2048]
  simp only [Ideal.div_coe (show (2048 : ℝ) ≠ 0 by norm_num), mul_comm _ ((1 / 2048 : ℝ) : EReal)]
  rw [NormRows.sum_mul_coe _ (by norm_num), ← mul_assoc, ← EReal.coe_mul]
  exact congrArg (fun y : ℝ => (y : EReal) * _) (by norm_num)

/-- The gradient of the gain in the reference. -/
abbrev gainOf (h : FVec Ideal S4096x2048 .f32) (g : FVec Ideal S1x2048 .f32) (t : FVec Ideal S4096x2048 .f32) : FVec Ideal S1x2048 .f32 :=
  shapeCast S1x2048 (Host.reduceAdd (mulf (mulf h (broadcastInDim S4096x2048 ![0, 1] Cert.Reference34Ideal.Gen.bcast_S4096x1_S4096x2048_0_1 (Cert.Kernel33Ideal.Product.factor h))) (scaled (errOf h g t))) (constant Cert.Reference34Ideal.S_ .f32 0x00000000#32) Cert.Reference34Ideal.Gen.reducesTo_S4096x2048_S2048_d0 Cert.Reference34Ideal.Gen.h_S_) Cert.Reference34Ideal.Gen.shapeCasts_S2048_S1x2048

theorem gain_eq (h g t) : (fun q => gain h g t (q 1) : FVec Ideal S1x2048 .f32) = gainOf h g t := by
  refine Eq.trans ?_ (Cert.Kernel33Ideal.Product.gain_eq (scaled (errOf h g t)) h)
  funext q
  obtain ⟨i, j, rfl⟩ : ∃ i j, q = ix2 i j := ⟨q 0, q 1, funext fun k => by fin_cases k <;> rfl⟩
  refine Finset.sum_congr rfl fun k _ => ?_
  exact congr (congrArg (· * ·) (slope_eq h g t k j).symm) (congrArg (h (ix2 k j) * ·) (Cert.Kernel33Ideal.Product.factor_at h k 0).symm)

theorem congr_args {α : Type} (f : FVec Ideal S4096x2048 .f32 → FVec Ideal S1x2048 .f32 → FVec Ideal S4096x2048 .f32 → α)
    {h h' : FVec Ideal S4096x2048 .f32} {g g' : FVec Ideal S1x2048 .f32} {t t' : FVec Ideal S4096x2048 .f32}
    (h0 : h = h') (h1 : g = g') (h2 : t = t') : f h g t = f h' g' t' := by
  subst h0 h1 h2; rfl

theorem final_rows (c : Dev nD) : (dats m 0 c).arrAt 4 (cfgs 0).N = rowsOf (m (c, main_arg0)) (m (c, main_arg1)) (m (c, main_arg2)) := by
  rw [kernel_rows, V_main_arg0, V_main_arg1, V_main_arg2]
  exact rows_eq _ _ _

theorem final_copy (c : Dev nD) : (dats m 0 c).arrAt 5 (cfgs 0).N = (truncf .bf16 (rowsOf (m (c, main_arg0)) (m (c, main_arg1)) (m (c, main_arg2))) bitsLt_bf16_f32 : FVec Ideal S4096x2048 .bf16) := by
  rw [kernel_copy, V_main_arg0, V_main_arg1, V_main_arg2]
  exact rows_eq _ _ _

theorem final_loss (c : Dev nD) : (dats m 0 c).arrAt 3 (cfgs 0).N = lossOf (m (c, main_arg0)) (m (c, main_arg1)) (m (c, main_arg2)) := by
  rw [kernel_loss, V_main_arg0, V_main_arg1, V_main_arg2]
  exact loss_eq _ _ _

theorem final_gain (c : Dev nD) : (dats m 0 c).arrAt 6 (cfgs 0).N = gainOf (m (c, main_arg0)) (m (c, main_arg1)) (m (c, main_arg2)) := by
  rw [kernel_gain, V_main_arg0, V_main_arg1, V_main_arg2]
  exact gain_eq _ _ _

theorem algebraic : Cert.algebraic_Kernel34Ideal_Reference34Ideal := by
  pair_intro
  · run_from Cert.Kernel34Ideal.Value.run_blocks m g
  · refine Idealize.ShloMosaic.θ_run_mono (Cert.Reference34Ideal.Value.run m' g') ?_
    intro r hr c
    obtain ⟨a0, a1, a2⟩ := hagree c
    obtain ⟨h0, h1, h2, h3, h4⟩ := hr c
    refine ⟨h0.trans ((congr_args lossOf a0 a1 a2).trans (final_loss m c).symm), h1.trans (Eq.trans ?_ ((congr_args rowsOf a0 a1 a2).trans (final_rows m c).symm)),
      h2.trans (Eq.trans ?_ ((congr_args (fun h g t => (truncf .bf16 (rowsOf h g t) bitsLt_bf16_f32 : FVec Ideal S4096x2048 .bf16)) a0 a1 a2).trans (final_copy m c).symm)),
      h3.trans ((congr_args gainOf a0 a1 a2).trans (final_gain m c).symm), h4⟩
    · unfold Cert.Reference34Ideal.Value.res_main_v48
      rfl
    · unfold Cert.Reference34Ideal.Value.res_main_v50
      rfl

end Cert.Kernel34Ideal.Product

end
-- ==== Proof.lean ====
/- The certificate's claim, `Cert.Claim` (proofs.«01_k».proof.Defs): the two readings of the kernel run by the generated
   frame, the reference by its generated run, and their results equal by Proof.Equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Equation
public import proofs.«01_k».proof.Proof.HiddenGrad
public import proofs.«01_k».proof.Proof.DownWeights
public import proofs.«01_k».proof.Proof.InputGrad
public import proofs.«01_k».proof.Proof.UpWeights
public import proofs.«01_k».proof.Proof.InProjection
public import proofs.«01_k».proof.Proof.BranchOut
public import proofs.«01_k».proof.Proof.LowRankWeights
public import proofs.«01_k».proof.Proof.OutProjection
public import proofs.«01_k».proof.Proof.UpForward
public import proofs.«01_k».proof.Proof.DownForward
public import proofs.«01_k».proof.Proof.LowRankRows
public import proofs.«01_k».proof.Proof.QueryRows
public import proofs.«01_k».proof.Proof.InInput
public import proofs.«01_k».proof.Proof.QueryWeights
public import proofs.«01_k».proof.Proof.Merge
public import proofs.«01_k».proof.Proof.HeadsGrad
public import proofs.«01_k».proof.Proof.SharedKeys
public import proofs.«01_k».proof.Proof.Optimiser
public import proofs.«01_k».proof.Proof.Norms
public import proofs.«01_k».proof.Proof.Gains
public import proofs.«01_k».proof.Proof.GainsRun
public import proofs.«01_k».proof.Proof.GainsFloat
public import proofs.«01_k».proof.Proof.GainsClaim
public import proofs.«01_k».proof.Proof.AttentionRows
public import proofs.«01_k».proof.Proof.AttentionTiles
public import proofs.«01_k».proof.Proof.Attention
public import proofs.«01_k».proof.Proof.NormGrad
public import proofs.«01_k».proof.Proof.FinalLoss
public import Idealize.ShloMosaic.Adequacy
public import Idealize.ShloMosaic.Init

@[expose] public section

noncomputable section

namespace Cert.Proof

open Idealize.ShloMosaic Idealize.SL.Sem Cert.Kernel

/-- The reference runs, keeps its arguments and declares no semaphore. -/
theorem frame_reference : Cert.quiescent_ReferenceIdeal := fun m ρ _ =>
  θ_run_mono (Cert.ReferenceIdeal.Value.run (F := Ideal) m ρ) fun r h =>
    ⟨fun c => (h c).2.2, Idealize.ShloMosaic.sem_eq_zero_of_no_sems (by decide) r.2⟩

theorem frame_reference2 : Cert.quiescent_Reference2Ideal := fun m ρ _ =>
  θ_run_mono (Cert.Reference2Ideal.Value.run (F := Ideal) m ρ) fun r h =>
    ⟨fun c => (h c).2, Idealize.ShloMosaic.sem_eq_zero_of_no_sems (by decide) r.2⟩

theorem frame_reference3 : Cert.quiescent_Reference3Ideal := fun m ρ _ =>
  θ_run_mono (Cert.Reference3Ideal.Value.run (F := Ideal) m ρ) fun r h =>
    ⟨fun c => (h c).2, Idealize.ShloMosaic.sem_eq_zero_of_no_sems (by decide) r.2⟩

theorem frame_reference4 : Cert.quiescent_Reference4Ideal := fun m ρ _ =>
  θ_run_mono (Cert.Reference4Ideal.Value.run (F := Ideal) m ρ) fun r h =>
    ⟨fun c => (h c).2, Idealize.ShloMosaic.sem_eq_zero_of_no_sems (by decide) r.2⟩

theorem frame_reference5 : Cert.quiescent_Reference5Ideal := fun m ρ _ =>
  θ_run_mono (Cert.Reference5Ideal.Value.run (F := Ideal) m ρ) fun r h =>
    ⟨fun c => (h c).2, Idealize.ShloMosaic.sem_eq_zero_of_no_sems (by decide) r.2⟩

theorem frame_reference6 : Cert.quiescent_Reference6Ideal := fun m ρ _ =>
  θ_run_mono (Cert.Reference6Ideal.Value.run (F := Ideal) m ρ) fun r h =>
    ⟨fun c => (h c).2.2, Idealize.ShloMosaic.sem_eq_zero_of_no_sems (by decide) r.2⟩

theorem frame_reference7 : Cert.quiescent_Reference7Ideal := fun m ρ _ =>
  θ_run_mono (Cert.Reference7Ideal.Value.run (F := Ideal) m ρ) fun r h =>
    ⟨fun c => (h c).2, Idealize.ShloMosaic.sem_eq_zero_of_no_sems (by decide) r.2⟩

theorem frame_reference8 : Cert.quiescent_Reference8Ideal := fun m ρ _ =>
  θ_run_mono (Cert.Reference8Ideal.Value.run (F := Ideal) m ρ) fun r h =>
    ⟨fun c => (h c).2, Idealize.ShloMosaic.sem_eq_zero_of_no_sems (by decide) r.2⟩

theorem frame_reference9 : Cert.quiescent_Reference9Ideal := fun m ρ _ =>
  θ_run_mono (Cert.Reference9Ideal.Value.run (F := Ideal) m ρ) fun r h =>
    ⟨fun c => (h c).2, Idealize.ShloMosaic.sem_eq_zero_of_no_sems (by decide) r.2⟩

theorem frame_reference10 : Cert.quiescent_Reference10Ideal := fun m ρ _ =>
  θ_run_mono (Cert.Reference10Ideal.Value.run (F := Ideal) m ρ) fun r h =>
    ⟨fun c => (h c).2, Idealize.ShloMosaic.sem_eq_zero_of_no_sems (by decide) r.2⟩

theorem frame_reference11 : Cert.quiescent_Reference11Ideal := fun m ρ _ =>
  θ_run_mono (Cert.Reference11Ideal.Value.run (F := Ideal) m ρ) fun r h =>
    ⟨fun c => (h c).2, Idealize.ShloMosaic.sem_eq_zero_of_no_sems (by decide) r.2⟩

theorem frame_reference12 : Cert.quiescent_Reference12Ideal := fun m ρ _ =>
  θ_run_mono (Cert.Reference12Ideal.Value.run (F := Ideal) m ρ) fun r h =>
    ⟨fun c => (h c).2, Idealize.ShloMosaic.sem_eq_zero_of_no_sems (by decide) r.2⟩

theorem frame_reference13 : Cert.quiescent_Reference13Ideal := fun m ρ _ =>
  θ_run_mono (Cert.Reference13Ideal.Value.run (F := Ideal) m ρ) fun r h =>
    ⟨fun c => (h c).2, Idealize.ShloMosaic.sem_eq_zero_of_no_sems (by decide) r.2⟩

theorem frame_reference14 : Cert.quiescent_Reference14Ideal := fun m ρ _ =>
  θ_run_mono (Cert.Reference14Ideal.Value.run (F := Ideal) m ρ) fun r h =>
    ⟨fun c => (h c).2, Idealize.ShloMosaic.sem_eq_zero_of_no_sems (by decide) r.2⟩

theorem frame_reference15 : Cert.quiescent_Reference15Ideal := fun m ρ _ =>
  θ_run_mono (Cert.Reference15Ideal.Value.run (F := Ideal) m ρ) fun r h =>
    ⟨fun c => (h c).2, Idealize.ShloMosaic.sem_eq_zero_of_no_sems (by decide) r.2⟩

theorem frame_reference16 : Cert.quiescent_Reference16Ideal := fun m ρ _ =>
  θ_run_mono (Cert.Reference16Ideal.Value.run (F := Ideal) m ρ) fun r h =>
    ⟨fun c => (h c).2, Idealize.ShloMosaic.sem_eq_zero_of_no_sems (by decide) r.2⟩

theorem frame_reference17 : Cert.quiescent_Reference17Ideal := fun m ρ _ =>
  θ_run_mono (Cert.Reference17Ideal.Value.run (F := Ideal) m ρ) fun r h =>
    ⟨fun c => (h c).2, Idealize.ShloMosaic.sem_eq_zero_of_no_sems (by decide) r.2⟩

theorem frame_reference18 : Cert.quiescent_Reference18Ideal := fun m ρ _ =>
  θ_run_mono (Cert.Reference18Ideal.Value.run (F := Ideal) m ρ) fun r h =>
    ⟨fun c => (h c).2, Idealize.ShloMosaic.sem_eq_zero_of_no_sems (by decide) r.2⟩

theorem frame_reference19 : Cert.quiescent_Reference19Ideal := fun m ρ _ =>
  θ_run_mono (Cert.Reference19Ideal.Value.run (F := Ideal) m ρ) fun r h =>
    ⟨fun c => (h c).2.2, Idealize.ShloMosaic.sem_eq_zero_of_no_sems (by decide) r.2⟩

theorem frame_reference20 : Cert.quiescent_Reference20Ideal := fun m ρ _ =>
  θ_run_mono (Cert.Reference20Ideal.Value.run (F := Ideal) m ρ) fun r h =>
    ⟨fun c => (h c).2.2, Idealize.ShloMosaic.sem_eq_zero_of_no_sems (by decide) r.2⟩

theorem frame_reference21 : Cert.quiescent_Reference21Ideal := fun m ρ _ =>
  θ_run_mono (Cert.Reference21Ideal.Value.run (F := Ideal) m ρ) fun r h =>
    ⟨fun c => (h c).2.2, Idealize.ShloMosaic.sem_eq_zero_of_no_sems (by decide) r.2⟩

theorem frame_reference22 : Cert.quiescent_Reference22Ideal := fun m ρ _ =>
  θ_run_mono (Cert.Reference22Ideal.Value.run (F := Ideal) m ρ) fun r h =>
    ⟨fun c => (h c).2.2.2, Idealize.ShloMosaic.sem_eq_zero_of_no_sems (by decide) r.2⟩

theorem frame_reference23 : Cert.quiescent_Reference23Ideal := fun m ρ _ =>
  θ_run_mono (Cert.Reference23Ideal.Value.run (F := Ideal) m ρ) fun r h =>
    ⟨fun c => (h c).2, Idealize.ShloMosaic.sem_eq_zero_of_no_sems (by decide) r.2⟩

theorem frame_reference24 : Cert.quiescent_Reference24Ideal := fun m ρ _ =>
  θ_run_mono (Cert.Reference24Ideal.Value.run (F := Ideal) m ρ) fun r h =>
    ⟨fun c => (h c).2, Idealize.ShloMosaic.sem_eq_zero_of_no_sems (by decide) r.2⟩

theorem frame_reference25 : Cert.quiescent_Reference25Ideal := fun m ρ _ =>
  θ_run_mono (Cert.Reference25Ideal.Value.run (F := Ideal) m ρ) fun r h =>
    ⟨fun c => (h c).2.2.2.2, Idealize.ShloMosaic.sem_eq_zero_of_no_sems (by decide) r.2⟩

theorem frame_reference26 : Cert.quiescent_Reference26Ideal := fun m ρ _ =>
  θ_run_mono (Cert.Reference26Ideal.Value.run (F := Ideal) m ρ) fun r h =>
    ⟨fun c => (h c).2.2.2.2, Idealize.ShloMosaic.sem_eq_zero_of_no_sems (by decide) r.2⟩

theorem frame_reference27 : Cert.quiescent_Reference27Ideal := fun m ρ _ =>
  θ_run_mono (Cert.Reference27Ideal.Value.run (F := Ideal) m ρ) fun r h =>
    ⟨fun c => (h c).2.2.2.2, Idealize.ShloMosaic.sem_eq_zero_of_no_sems (by decide) r.2⟩

theorem frame_reference28 : Cert.quiescent_Reference28Ideal := fun m ρ _ =>
  θ_run_mono (Cert.Reference28Ideal.Value.run (F := Ideal) m ρ) fun r h =>
    ⟨fun c => (h c).2.2.2.2, Idealize.ShloMosaic.sem_eq_zero_of_no_sems (by decide) r.2⟩

theorem frame_reference29 : Cert.quiescent_Reference29Ideal := fun m ρ _ =>
  θ_run_mono (Cert.Reference29Ideal.Value.run (F := Ideal) m ρ) fun r h =>
    ⟨fun c => (h c).2.2.2.2, Idealize.ShloMosaic.sem_eq_zero_of_no_sems (by decide) r.2⟩

theorem frame_reference30 : Cert.quiescent_Reference30Ideal := fun m ρ _ =>
  θ_run_mono (Cert.Reference30Ideal.Value.run (F := Ideal) m ρ) fun r h =>
    ⟨fun c => (h c).2.2.2.2.2.2.2.2.2.2.2.2.2.2.2.2.2.2.2.2.2.2.2.2, Idealize.ShloMosaic.sem_eq_zero_of_no_sems (by decide) r.2⟩

theorem frame_reference31 : Cert.quiescent_Reference31Ideal := fun m ρ _ =>
  θ_run_mono (Cert.Reference31Ideal.Value.run (F := Ideal) m ρ) fun r h =>
    ⟨fun c => (h c).2.2, Idealize.ShloMosaic.sem_eq_zero_of_no_sems (by decide) r.2⟩

theorem frame_reference32 : Cert.quiescent_Reference32Ideal := fun m ρ _ =>
  θ_run_mono (Cert.Reference32Ideal.Value.run (F := Ideal) m ρ) fun r h =>
    ⟨fun c => (h c).2.2.2.2, Idealize.ShloMosaic.sem_eq_zero_of_no_sems (by decide) r.2⟩

theorem frame_reference33 : Cert.quiescent_Reference33Ideal := fun m ρ _ =>
  θ_run_mono (Cert.Reference33Ideal.Value.run (F := Ideal) m ρ) fun r h =>
    ⟨fun c => (h c).2.2, Idealize.ShloMosaic.sem_eq_zero_of_no_sems (by decide) r.2⟩

theorem frame_reference34 : Cert.quiescent_Reference34Ideal := fun m ρ _ =>
  θ_run_mono (Cert.Reference34Ideal.Value.run (F := Ideal) m ρ) fun r h =>
    ⟨fun c => (h c).2.2.2.2, Idealize.ShloMosaic.sem_eq_zero_of_no_sems (by decide) r.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Pre_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    fun m ρ _ => Cert.Kernel32.Gen.frame m ρ, fun m ρ _ => Cert.Kernel32Ideal.Gen.frame m ρ, frame_reference32,
    fun m ρ _ => Cert.Kernel33.Gen.frame m ρ, fun m ρ _ => Cert.Kernel33Ideal.Gen.frame m ρ, frame_reference33,
    fun m ρ _ => Cert.Kernel34.Gen.frame m ρ, fun m ρ _ => Cert.Kernel34Ideal.Gen.frame m ρ, frame_reference34,
    trivial, Cert.Equation.algebraic,
    trivial, Cert.Kernel2Ideal.Product.algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel7Ideal.Product.algebraic,
    trivial, Cert.Kernel8Ideal.Product.algebraic,
    trivial, Cert.Kernel9Ideal.Product.algebraic,
    trivial, Cert.Kernel10Ideal.Product.algebraic,
    trivial, Cert.Kernel11Ideal.Product.algebraic,
    trivial, Cert.Kernel12Ideal.Product.algebraic,
    trivial, Cert.Kernel13Ideal.Product.algebraic,
    trivial, Cert.Kernel14Ideal.Product.algebraic,
    trivial, Cert.Kernel15Ideal.Product.algebraic,
    trivial, Cert.Kernel16Ideal.Product.algebraic,
    trivial, Cert.Kernel17Ideal.Product.algebraic,
    trivial, Cert.Kernel18Ideal.Product.algebraic,
    trivial, Cert.Kernel19Ideal.Product.algebraic,
    trivial, Cert.Kernel20Ideal.Product.algebraic,
    trivial, Cert.Kernel21Ideal.Product.algebraic,
    trivial, Cert.Kernel22Ideal.Product.algebraic,
    trivial, Cert.Kernel23Ideal.Product.algebraic,
    trivial, Cert.Kernel24Ideal.Product.algebraic,
    trivial, Cert.Kernel25Ideal.Product.algebraic,
    trivial, Cert.Kernel26Ideal.Product.algebraic,
    trivial, Cert.Kernel27Ideal.Product.algebraic,
    trivial, Cert.Kernel28Ideal.Product.algebraic,
    trivial, Cert.Kernel29Ideal.Product.algebraic,
    trivial, Cert.Kernel30Ideal.Product.algebraic,
    trivial, Cert.Kernel31Ideal.Product.algebraic,
    trivial, Cert.Kernel32Ideal.Product.algebraic,
    trivial, Cert.Kernel33Ideal.Product.algebraic,
    trivial, Cert.Kernel34Ideal.Product.algebraic⟩

end Cert.Proof

end
